-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)) (v2 : (c : Dev Cert.KernelIdeal.nD) → Buf (Elt Ideal) ((c.tc : Thread Cert.KernelIdeal.nD Cert.KernelIdeal.τ).loc Cert.KernelIdeal.main_v65_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_v65_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_2)) (v3 : (c : Dev Cert.Kernel3Ideal.nD) → Buf (Elt Ideal) ((c.tc : Thread Cert.Kernel3Ideal.nD Cert.Kernel3Ideal.τ).loc Cert.Kernel3Ideal.main_v19_3)) (v4 : (c : Dev Cert.Kernel3Ideal.nD) → Buf (Elt Ideal) ((c.tc : Thread Cert.Kernel3Ideal.nD Cert.Kernel3Ideal.τ).loc Cert.Kernel3Ideal.main_v19_4)) (v5 : (c : Dev Cert.Kernel3Ideal.nD) → Buf (Elt Ideal) ((c.tc : Thread Cert.Kernel3Ideal.nD Cert.Kernel3Ideal.τ).loc Cert.Kernel3Ideal.main_v19_5)) (v6 : (c : Dev Cert.Kernel3Ideal.nD) → Buf (Elt Ideal) ((c.tc : Thread Cert.Kernel3Ideal.nD Cert.Kernel3Ideal.τ).loc Cert.Kernel3Ideal.main_v19_6)) (v7 : (c : Dev Cert.Kernel3Ideal.nD) → Buf (Elt Ideal) ((c.tc : Thread Cert.Kernel3Ideal.nD Cert.Kernel3Ideal.τ).loc Cert.Kernel3Ideal.main_v19_7)) (v8 : (c : Dev Cert.Kernel3Ideal.nD) → Buf (Elt Ideal) ((c.tc : Thread Cert.Kernel3Ideal.nD Cert.Kernel3Ideal.τ).loc Cert.Kernel3Ideal.main_v19_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_2) = v2 c
          ∧ r.2.mem ((c.tc : Thread Cert.Kernel3Ideal.nD Cert.Kernel3Ideal.τ).loc Cert.Kernel3Ideal.main_v19_3) = v3 c
          ∧ r.2.mem ((c.tc : Thread Cert.Kernel3Ideal.nD Cert.Kernel3Ideal.τ).loc Cert.Kernel3Ideal.main_v19_4) = v4 c
          ∧ r.2.mem ((c.tc : Thread Cert.Kernel3Ideal.nD Cert.Kernel3Ideal.τ).loc Cert.Kernel3Ideal.main_v19_5) = v5 c
          ∧ r.2.mem ((c.tc : Thread Cert.Kernel3Ideal.nD Cert.Kernel3Ideal.τ).loc Cert.Kernel3Ideal.main_v19_6) = v6 c
          ∧ r.2.mem ((c.tc : Thread Cert.Kernel3Ideal.nD Cert.Kernel3Ideal.τ).loc Cert.Kernel3Ideal.main_v19_7) = v7 c
          ∧ r.2.mem ((c.tc : Thread Cert.Kernel3Ideal.nD Cert.Kernel3Ideal.τ).loc Cert.Kernel3Ideal.main_v19_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v68) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_v72) = v2 c
          ∧ r.2.mem ((c.tc : Thread Cert.Reference3Ideal.nD Cert.Reference3Ideal.τ).loc Cert.Reference3Ideal.main_v73) = v3 c
          ∧ r.2.mem ((c.tc : Thread Cert.Reference3Ideal.nD Cert.Reference3Ideal.τ).loc Cert.Reference3Ideal.main_v60) = v4 c
          ∧ r.2.mem ((c.tc : Thread Cert.Reference3Ideal.nD Cert.Reference3Ideal.τ).loc Cert.Reference3Ideal.main_v78) = v5 c
          ∧ r.2.mem ((c.tc : Thread Cert.Reference3Ideal.nD Cert.Reference3Ideal.τ).loc Cert.Reference3Ideal.main_v80) = v6 c
          ∧ r.2.mem ((c.tc : Thread Cert.Reference3Ideal.nD Cert.Reference3Ideal.τ).loc Cert.Reference3Ideal.main_v82) = v7 c
          ∧ r.2.mem ((c.tc : Thread Cert.Reference3Ideal.nD Cert.Reference3Ideal.τ).loc Cert.Reference3Ideal.main_v23) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)) →
    ∃ (v0 : (c : Dev Cert.Kernel4Ideal.nD) → Buf (Elt Ideal) ((c.tc : Thread Cert.Kernel4Ideal.nD Cert.Kernel4Ideal.τ).loc Cert.Kernel4Ideal.main_v103_0)) (v1 : (c : Dev Cert.Kernel4Ideal.nD) → Buf (Elt Ideal) ((c.tc : Thread Cert.Kernel4Ideal.nD Cert.Kernel4Ideal.τ).loc Cert.Kernel4Ideal.main_v103_1)) (v2 : (c : Dev Cert.Kernel4Ideal.nD) → Buf (Elt Ideal) ((c.tc : Thread Cert.Kernel4Ideal.nD Cert.Kernel4Ideal.τ).loc Cert.Kernel4Ideal.main_v103_2)) (v3 : (c : Dev Cert.Kernel4Ideal.nD) → Buf (Elt Ideal) ((c.tc : Thread Cert.Kernel4Ideal.nD Cert.Kernel4Ideal.τ).loc Cert.Kernel4Ideal.main_v103_3)) (v4 : (c : Dev Cert.Kernel4Ideal.nD) → Buf (Elt Ideal) ((c.tc : Thread Cert.Kernel4Ideal.nD Cert.Kernel4Ideal.τ).loc Cert.Kernel4Ideal.main_v103_4)) (v5 : (c : Dev Cert.Kernel4Ideal.nD) → Buf (Elt Ideal) ((c.tc : Thread Cert.Kernel4Ideal.nD Cert.Kernel4Ideal.τ).loc Cert.Kernel4Ideal.main_v103_5)) (v6 : (c : Dev Cert.Kernel4Ideal.nD) → Buf (Elt Ideal) ((c.tc : Thread Cert.Kernel4Ideal.nD Cert.Kernel4Ideal.τ).loc Cert.Kernel4Ideal.main_v103_6)) (v7 : (c : Dev Cert.Kernel4Ideal.nD) → Buf (Elt Ideal) ((c.tc : Thread Cert.Kernel4Ideal.nD Cert.Kernel4Ideal.τ).loc Cert.Kernel4Ideal.main_v103_7)) (v8 : (c : Dev Cert.Kernel4Ideal.nD) → Buf (Elt Ideal) ((c.tc : Thread Cert.Kernel4Ideal.nD Cert.Kernel4Ideal.τ).loc Cert.Kernel4Ideal.main_v103_8)) (v9 : (c : Dev Cert.Kernel4Ideal.nD) → Buf (Elt Ideal) ((c.tc : Thread Cert.Kernel4Ideal.nD Cert.Kernel4Ideal.τ).loc Cert.Kernel4Ideal.main_v103_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v103_0) = v0 c
          ∧ r.2.mem ((c.tc : Thread Cert.Kernel4Ideal.nD Cert.Kernel4Ideal.τ).loc Cert.Kernel4Ideal.main_v103_1) = v1 c
          ∧ r.2.mem ((c.tc : Thread Cert.Kernel4Ideal.nD Cert.Kernel4Ideal.τ).loc Cert.Kernel4Ideal.main_v103_2) = v2 c
          ∧ r.2.mem ((c.tc : Thread Cert.Kernel4Ideal.nD Cert.Kernel4Ideal.τ).loc Cert.Kernel4Ideal.main_v103_3) = v3 c
          ∧ r.2.mem ((c.tc : Thread Cert.Kernel4Ideal.nD Cert.Kernel4Ideal.τ).loc Cert.Kernel4Ideal.main_v103_4) = v4 c
          ∧ r.2.mem ((c.tc : Thread Cert.Kernel4Ideal.nD Cert.Kernel4Ideal.τ).loc Cert.Kernel4Ideal.main_v103_5) = v5 c
          ∧ r.2.mem ((c.tc : Thread Cert.Kernel4Ideal.nD Cert.Kernel4Ideal.τ).loc Cert.Kernel4Ideal.main_v103_6) = v6 c
          ∧ r.2.mem ((c.tc : Thread Cert.Kernel4Ideal.nD Cert.Kernel4Ideal.τ).loc Cert.Kernel4Ideal.main_v103_7) = v7 c
          ∧ r.2.mem ((c.tc : Thread Cert.Kernel4Ideal.nD Cert.Kernel4Ideal.τ).loc Cert.Kernel4Ideal.main_v103_8) = v8 c
          ∧ r.2.mem ((c.tc : Thread Cert.Kernel4Ideal.nD Cert.Kernel4Ideal.τ).loc Cert.Kernel4Ideal.main_v103_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v154) = v0 c
          ∧ r.2.mem ((c.tc : Thread Cert.Reference4Ideal.nD Cert.Reference4Ideal.τ).loc Cert.Reference4Ideal.main_v155) = v1 c
          ∧ r.2.mem ((c.tc : Thread Cert.Reference4Ideal.nD Cert.Reference4Ideal.τ).loc Cert.Reference4Ideal.main_v156) = v2 c
          ∧ r.2.mem ((c.tc : Thread Cert.Reference4Ideal.nD Cert.Reference4Ideal.τ).loc Cert.Reference4Ideal.main_v157) = v3 c
          ∧ r.2.mem ((c.tc : Thread Cert.Reference4Ideal.nD Cert.Reference4Ideal.τ).loc Cert.Reference4Ideal.main_v160) = v4 c
          ∧ r.2.mem ((c.tc : Thread Cert.Reference4Ideal.nD Cert.Reference4Ideal.τ).loc Cert.Reference4Ideal.main_v161) = v5 c
          ∧ r.2.mem ((c.tc : Thread Cert.Reference4Ideal.nD Cert.Reference4Ideal.τ).loc Cert.Reference4Ideal.main_v162) = v6 c
          ∧ r.2.mem ((c.tc : Thread Cert.Reference4Ideal.nD Cert.Reference4Ideal.τ).loc Cert.Reference4Ideal.main_v163) = v7 c
          ∧ r.2.mem ((c.tc : Thread Cert.Reference4Ideal.nD Cert.Reference4Ideal.τ).loc Cert.Reference4Ideal.main_v164) = v8 c
          ∧ r.2.mem ((c.tc : Thread Cert.Reference4Ideal.nD Cert.Reference4Ideal.τ).loc Cert.Reference4Ideal.main_v165) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v21)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v65) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8x2048x512 : Shape := ⟨3, ![8, 2048, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S512x512 : Shape := ⟨2, ![512, 512]⟩
abbrev S2048x8x512 : Shape := ⟨3, ![2048, 8, 512]⟩
abbrev S16384x512 : Shape := ⟨2, ![16384, 512]⟩
abbrev S1x2048 : Shape := ⟨2, ![1, 2048]⟩
abbrev S2048 : Shape := ⟨1, ![2048]⟩
abbrev S32x32 : Shape := ⟨2, ![32, 32]⟩
abbrev S_ : Shape := ⟨0, ![]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S1x512 : Shape := ⟨2, ![1, 512]⟩
abbrev S8x2048 : Shape := ⟨2, ![8, 2048]⟩
abbrev S1024x512 : Shape := ⟨2, ![1024, 512]⟩
abbrev S1024x2048 : Shape := ⟨2, ![1024, 2048]⟩
abbrev S4x8x2048 : Shape := ⟨3, ![4, 8, 2048]⟩
abbrev S2x8x2048 : Shape := ⟨3, ![2, 8, 2048]⟩
abbrev S1x8x2048 : Shape := ⟨3, ![1, 8, 2048]⟩
abbrev S1024x256 : Shape := ⟨2, ![1024, 256]⟩
abbrev S256x1024 : Shape := ⟨2, ![256, 1024]⟩
abbrev S1024x1024 : Shape := ⟨2, ![1024, 1024]⟩
abbrev S1x8x512 : Shape := ⟨3, ![1, 8, 512]⟩
abbrev S8x512 : Shape := ⟨2, ![8, 512]⟩

abbrev nBuf : Space → Nat
  | .hbm => 82
  | .vmem => 19
  | .smem => 0
  | _ => 0

abbrev bufTy : (tb : Table) → Fin (tcTables nBuf tb) → BufTy
  | .hbm, ⟨0, _⟩ => ⟨S8x2048x512, .f32⟩
  | .hbm, ⟨1, _⟩ => ⟨S32x64, .f32⟩
  | .hbm, ⟨2, _⟩ => ⟨S32x64, .f32⟩
  | .hbm, ⟨3, _⟩ => ⟨S32, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S512, .f32⟩
  | .hbm, ⟨9, _⟩ => ⟨S512x512, .f32⟩
  | .hbm, ⟨10, _⟩ => ⟨S2048x8x512, .f32⟩
  | .hbm, ⟨11, _⟩ => ⟨S16384x512, .f32⟩
  | .hbm, ⟨12, _⟩ => ⟨S1x2048, .f32⟩
  | .hbm, ⟨13, _⟩ => ⟨S1x2048, .f32⟩
  | .hbm, ⟨14, _⟩ => ⟨S32x64, .f32⟩
  | .hbm, ⟨15, _⟩ => ⟨S2048, .f32⟩
  | .hbm, ⟨16, _⟩ => ⟨S1x2048, .f32⟩
  | .hbm, ⟨17, _⟩ => ⟨S32x16x64, .f32⟩
  | .hbm, ⟨18, _⟩ => ⟨S32x32, .i32⟩
  | .hbm, ⟨19, _⟩ => ⟨S32x32, .i32⟩
  | .hbm, ⟨20, _⟩ => ⟨S_, .i32⟩
  | .hbm, ⟨21, _⟩ => ⟨S32x32, .i32⟩
  | .hbm, ⟨22, _⟩ => ⟨S32x32, .i32⟩
  | .hbm, ⟨23, _⟩ => ⟨S32x32, .i1⟩
  | .hbm, ⟨24, _⟩ => ⟨S32x32, .f32⟩
  | .hbm, ⟨25, _⟩ => ⟨S32x16x1x64, .f32⟩
  | .hbm, ⟨26, _⟩ => ⟨S32x1x32x1, .f32⟩
  | .hbm, ⟨27, _⟩ => ⟨S32x16x32x64, .f32⟩
  | .hbm, ⟨28, _⟩ => ⟨S32x16x32x64, .f32⟩
  | .hbm, ⟨29, _⟩ => ⟨S32x16x32x64, .f32⟩
  | .hbm, ⟨30, _⟩ => ⟨S512x2048, .f32⟩
  | .hbm, ⟨31, _⟩ => ⟨S512x2048, .bf16⟩
  | .hbm, ⟨32, _⟩ => ⟨S32x16x64, .f32⟩
  | .hbm, ⟨33, _⟩ => ⟨S32x32, .i32⟩
  | .hbm, ⟨34, _⟩ => ⟨S32x32, .i32⟩
  | .hbm, ⟨35, _⟩ => ⟨S_, .i32⟩
  | .hbm, ⟨36, _⟩ => ⟨S32x32, .i32⟩
  | .hbm, ⟨37, _⟩ => ⟨S32x32, .i32⟩
  | .hbm, ⟨38, _⟩ => ⟨S32x32, .i1⟩
  | .hbm, ⟨39, _⟩ => ⟨S32x32, .f32⟩
  | .hbm, ⟨40, _⟩ => ⟨S32x16x1x64, .f32⟩
  | .hbm, ⟨41, _⟩ => ⟨S32x1x32x1, .f32⟩
  | .hbm, ⟨42, _⟩ => ⟨S32x16x32x64, .f32⟩
  | .hbm, ⟨43, _⟩ => ⟨S32x16x32x64, .f32⟩
  | .hbm, ⟨44, _⟩ => ⟨S32x16x32x64, .f32⟩
  | .hbm, ⟨45, _⟩ => ⟨S512x2048, .f32⟩
  | .hbm, ⟨46, _⟩ => ⟨S512x2048, .bf16⟩
  | .hbm, ⟨47, _⟩ => ⟨S32x64x16, .f32⟩
  | .hbm, ⟨48, _⟩ => ⟨S32x32, .i32⟩
  | .hbm, ⟨49, _⟩ => ⟨S32x32, .i32⟩
  | .hbm, ⟨50, _⟩ => ⟨S_, .i32⟩
  | .hbm, ⟨51, _⟩ => ⟨S32x32, .i32⟩
  | .hbm, ⟨52, _⟩ => ⟨S32x32, .i32⟩
  | .hbm, ⟨53, _⟩ => ⟨S32x32, .i1⟩
  | .hbm, ⟨54, _⟩ => ⟨S32x32, .f32⟩
  | .hbm, ⟨55, _⟩ => ⟨S32x64x1x16, .f32⟩
  | .hbm, ⟨56, _⟩ => ⟨S32x1x32x1, .f32⟩
  | .hbm, ⟨57, _⟩ => ⟨S32x64x32x16, .f32⟩
  | .hbm, ⟨58, _⟩ => ⟨S32x64x32x16, .f32⟩
  | .hbm, ⟨59, _⟩ => ⟨S32x64x32x16, .f32⟩
  | .hbm, ⟨60, _⟩ => ⟨S2048x512, .f32⟩
  | .hbm, ⟨61, _⟩ => ⟨S2048x512, .bf16⟩
  | .hbm, ⟨62, _⟩ => ⟨S32x64x16, .f32⟩
  | .hbm, ⟨63, _⟩ => ⟨S32x32, .i32⟩
  | .hbm, ⟨64, _⟩ => ⟨S32x32, .i32⟩
  | .hbm, ⟨65, _⟩ => ⟨S_, .i32⟩
  | .hbm, ⟨66, _⟩ => ⟨S32x32, .i32⟩
  | .hbm, ⟨67, _⟩ => ⟨S32x32, .i32⟩
  | .hbm, ⟨68, _⟩ => ⟨S32x32, .i1⟩
  | .hbm, ⟨69, _⟩ => ⟨S32x32, .f32⟩
  | .hbm, ⟨70, _⟩ => ⟨S32x64x1x16, .f32⟩
  | .hbm, ⟨71, _⟩ => ⟨S32x1x32x1, .f32⟩
  | .hbm, ⟨72, _⟩ => ⟨S32x64x32x16, .f32⟩
  | .hbm, ⟨73, _⟩ => ⟨S32x64x32x16, .f32⟩
  | .hbm, ⟨74, _⟩ => ⟨S32x64x32x16, .f32⟩
  | .hbm, ⟨75, _⟩ => ⟨S2048x512, .f32⟩
  | .hbm, ⟨76, _⟩ => ⟨S2048x512, .bf16⟩
  | .hbm, ⟨77, _⟩ => ⟨S1x512, .f32⟩
  | .hbm, ⟨78, _⟩ => ⟨S512x512, .bf16⟩
  | .hbm, ⟨79, _⟩ => ⟨S16384x512, .f32⟩
  | .hbm, ⟨80, _⟩ => ⟨S8x2048, .f32⟩
  | .hbm, ⟨81, _⟩ => ⟨S8x2048, .f32⟩
  | .local _ .vmem, ⟨0, _⟩ => ⟨S1024x512, .f32⟩
  | .local _ .vmem, ⟨1, _⟩ => ⟨S1024x512, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S512x512, .bf16⟩
  | .local _ .vmem, ⟨11, _⟩ => ⟨S1024x512, .f32⟩
  | .local _ .vmem, ⟨12, _⟩ => ⟨S1024x512, .f32⟩
  | .local _ .vmem, ⟨13, _⟩ => ⟨S8x2048, .f32⟩
  | .local _ .vmem, ⟨14, _⟩ => ⟨S8x2048, .f32⟩
  | .local _ .vmem, ⟨15, _⟩ => ⟨S1024x2048, .f32⟩
  | .local _ .vmem, ⟨16, _⟩ => ⟨S1024x2048, .f32⟩
  | .local _ .vmem, ⟨17, _⟩ => ⟨S4x8x2048, .f32⟩
  | .local _ .vmem, ⟨18, _⟩ => ⟨S2x8x2048, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_1 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_2 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65_0 : Ref sig .tc := ⟨.hbm, 79, rfl⟩
abbrev main_v65_1 : Ref sig .tc := ⟨.hbm, 80, rfl⟩
abbrev main_v65_2 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_34 : BitVec 32 := 0#32
  let c128_i32 : BitVec 32 := 128#32
  let v46 : BitVec 32 := Scalar.addi c0_i32_34 c128_i32
  let c1_i32 : BitVec 32 := 1#32
  ⟨c0_i32_34, v46, c1_i32⟩
def k0_mult1 (k0_t1 : Fin k0_t1_loop.trips) : BitVec 32 :=
  let c0_i32_34 : BitVec 32 := 0#32
  let c1_i32 : BitVec 32 := 1#32
  let arg18 : BitVec 32 := Scf.iv c0_i32_34 c1_i32 k0_t1
  let c8_i32 : BitVec 32 := 8#32
  let v170 : BitVec 32 := Scalar.muli arg18 c8_i32
  v170
def k0_off1 (k0_t1 : Fin k0_t1_loop.trips) : Fin 2 → Nat :=
  let c0_i32_34 : BitVec 32 := 0#32
  let c1_i32 : BitVec 32 := 1#32
  let arg18 : BitVec 32 := Scf.iv c0_i32_34 c1_i32 k0_t1
  let c8_i32 : BitVec 32 := 8#32
  let v170 : BitVec 32 := Scalar.muli arg18 c8_i32
  let v171 : BitVec 32 := v170
  let v172 : Index := Scalar.indexCast v171
  let c0_163 : Index := 0#32
  ![v172.toNat, 0]
@[reducible] def k0_t2_loop : Scf.Loop 32 :=
  let c0_i32_59 : BitVec 32 := 0#32
  let c128_i32_60 : BitVec 32 := 128#32
  let v66 : BitVec 32 := Scalar.addi c0_i32_59 c128_i32_60
  let c1_i32_61 : BitVec 32 := 1#32
  ⟨c0_i32_59, v66, c1_i32_61⟩
def k0_mult2 (k0_t2 : Fin k0_t2_loop.trips) : BitVec 32 :=
  let c0_i32_59 : BitVec 32 := 0#32
  let c1_i32_61 : BitVec 32 := 1#32
  let arg18 : BitVec 32 := Scf.iv c0_i32_59 c1_i32_61 k0_t2
  let c8_i32 : BitVec 32 := 8#32
  let v170 : BitVec 32 := Scalar.muli arg18 c8_i32
  v170
def k0_off2 (k0_t2 : Fin k0_t2_loop.trips) : Fin 2 → Nat :=
  let c0_i32_59 : BitVec 32 := 0#32
  let c1_i32_61 : BitVec 32 := 1#32
  let arg18 : BitVec 32 := Scf.iv c0_i32_59 c1_i32_61 k0_t2
  let c8_i32 : BitVec 32 := 8#32
  let v170 : BitVec 32 := Scalar.muli arg18 c8_i32
  let v171 : BitVec 32 := v170
  let v172 : Index := Scalar.indexCast v171
  let c512_163 : Index := 512#32
  ![v172.toNat, 512]
@[reducible] def k0_t3_loop : Scf.Loop 32 :=
  let c0_i32_87 : BitVec 32 := 0#32
  let c128_i32_88 : BitVec 32 := 128#32
  let v86 : BitVec 32 := Scalar.addi c0_i32_87 c128_i32_88
  let c1_i32_89 : BitVec 32 := 1#32
  ⟨c0_i32_87, v86, c1_i32_89⟩
def k0_mult3 (k0_t3 : Fin k0_t3_loop.trips) : BitVec 32 :=
  let c0_i32_87 : BitVec 32 := 0#32
  let c1_i32_89 : BitVec 32 := 1#32
  let arg18 : BitVec 32 := Scf.iv c0_i32_87 c1_i32_89 k0_t3
  let c8_i32 : BitVec 32 := 8#32
  let v170 : BitVec 32 := Scalar.muli arg18 c8_i32
  v170
def k0_off3 (k0_t3 : Fin k0_t3_loop.trips) : Fin 2 → Nat :=
  let c0_i32_87 : BitVec 32 := 0#32
  let c1_i32_89 : BitVec 32 := 1#32
  let arg18 : BitVec 32 := Scf.iv c0_i32_87 c1_i32_89 k0_t3
  let c8_i32 : BitVec 32 := 8#32
  let v170 : BitVec 32 := Scalar.muli arg18 c8_i32
  let v171 : BitVec 32 := v170
  let v172 : Index := Scalar.indexCast v171
  let c1024_163 : Index := 1024#32
  ![v172.toNat, 1024]
@[reducible] def k0_t4_loop : Scf.Loop 32 :=
  let c0_i32_114 : BitVec 32 := 0#32
  let c128_i32_115 : BitVec 32 := 128#32
  let v106 : BitVec 32 := Scalar.addi c0_i32_114 c128_i32_115
  let c1_i32_116 : BitVec 32 := 1#32
  ⟨c0_i32_114, v106, c1_i32_116⟩
def k0_mult4 (k0_t4 : Fin k0_t4_loop.trips) : BitVec 32 :=
  let c0_i32_114 : BitVec 32 := 0#32
  let c1_i32_116 : BitVec 32 := 1#32
  let arg18 : BitVec 32 := Scf.iv c0_i32_114 c1_i32_116 k0_t4
  let c8_i32 : BitVec 32 := 8#32
  let v170 : BitVec 32 := Scalar.muli arg18 c8_i32
  v170
def k0_off4 (k0_t4 : Fin k0_t4_loop.trips) : Fin 2 → Nat :=
  let c0_i32_114 : BitVec 32 := 0#32
  let c1_i32_116 : BitVec 32 := 1#32
  let arg18 : BitVec 32 := Scf.iv c0_i32_114 c1_i32_116 k0_t4
  let c8_i32 : BitVec 32 := 8#32
  let v170 : BitVec 32 := Scalar.muli arg18 c8_i32
  let v171 : BitVec 32 := v170
  let v172 : Index := Scalar.indexCast v171
  let c1536_163 : Index := 1536#32
  ![v172.toNat, 1536]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8x2048x512 : Shape := ⟨3, ![8, 2048, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S512x512 : Shape := ⟨2, ![512, 512]⟩
abbrev S32x1 : Shape := ⟨2, ![32, 1]⟩
abbrev S_ : Shape := ⟨0, ![]⟩
abbrev S8x2048x32x16 : Shape := ⟨4, ![8, 2048, 32, 16]⟩
abbrev S32x64x8x2048 : Shape := ⟨4, ![32, 64, 8, 2048]⟩
abbrev S8x2048x32x64 : Shape := ⟨4, ![8, 2048, 32, 64]⟩
abbrev S1x1x32x64 : Shape := ⟨4, ![1, 1, 32, 64]⟩
abbrev S8x32x64 : Shape := ⟨3, ![8, 32, 64]⟩
abbrev S2048x8x32x64 : Shape := ⟨4, ![2048, 8, 32, 64]⟩
abbrev S1x8x32x64 : Shape := ⟨4, ![1, 8, 32, 64]⟩
abbrev S1x32x64 : Shape := ⟨3, ![1, 32, 64]⟩
abbrev S32x2048x8x16 : Shape := ⟨4, ![32, 2048, 8, 16]⟩
abbrev S2048x8x32x16 : Shape := ⟨4, ![2048, 8, 32, 16]⟩
abbrev S2048x8x512 : Shape := ⟨3, ![2048, 8, 512]⟩
abbrev S1x1x512 : Shape := ⟨3, ![1, 1, 512]⟩
abbrev S16384x512 : Shape := ⟨2, ![16384, 512]⟩
abbrev S8x2048 : Shape := ⟨2, ![8, 2048]⟩

abbrev nBuf : Space → Nat
  | .hbm => 153
  | .vmem => 0
  | .smem => 0
  | _ => 0

abbrev hbmTy0_0 (i : Nat) : BufTy := match i % 128 with
  | 0 => ⟨S8x2048x512, .f32⟩
  | 1 => ⟨S32x64, .f32⟩
  | 2 => ⟨S32x64, .f32⟩
  | 3 => ⟨S32, .f32⟩
  | 4 => ⟨S32x64x16, .f32⟩
  | 5 => ⟨S32x64x16, .f32⟩
  | 6 => ⟨S32x16x64, .f32⟩
  | 7 => ⟨S32x16x64, .f32⟩
  | 8 => ⟨S512, .f32⟩
  | 9 => ⟨S512x512, .f32⟩
  | 10 => ⟨S32, .f32⟩
  | 11 => ⟨S32x1, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S_, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S8x2048x32x16, .f32⟩
  | 36 => ⟨S32x64x8x2048, .f32⟩
  | 37 => ⟨S8x2048x32x64, .f32⟩
  | 38 => ⟨S32x64x8x2048, .f32⟩
  | 39 => ⟨S8x2048x32x64, .f32⟩
  | 40 => ⟨S1x1x32x64, .f32⟩
  | 41 => ⟨S8x2048x32x64, .f32⟩
  | 42 => ⟨S8x2048x32x64, .f32⟩
  | 43 => ⟨S1x1x32x64, .f32⟩
  | 44 => ⟨S8x2048x32x64, .f32⟩
  | 45 => ⟨S8x2048x32x64, .f32⟩
  | 46 => ⟨S8x2048x32x64, .f32⟩
  | 47 => ⟨S1x1x32x64, .f32⟩
  | 48 => ⟨S8x2048x32x64, .f32⟩
  | 49 => ⟨S8x2048x32x64, .f32⟩
  | 50 => ⟨S1x1x32x64, .f32⟩
  | 51 => ⟨S8x2048x32x64, .f32⟩
  | 52 => ⟨S8x2048x32x64, .f32⟩
  | 53 => ⟨S8x2048x32x64, .f32⟩
  | 54 => ⟨S_, .f32⟩
  | 55 => ⟨S8x32x64, .f32⟩
  | 56 => ⟨S2048x8x32x64, .f32⟩
  | 57 => ⟨S2048x8x32x64, .f32⟩
  | 58 => ⟨S_, .f32⟩
  | 59 => ⟨S2048x8x32x64, .f32⟩
  | 60 => ⟨S_, .f32⟩
  | 61 => ⟨S2048x8x32x64, .f32⟩
  | 62 => ⟨S_, .i32⟩
  | 63 => ⟨S2048x8x32x64, .f32⟩
  | 64 => ⟨S2048x8x32x64, .f32⟩
  | 65 => ⟨S32x64, .f32⟩
  | 66 => ⟨S32x64, .f32⟩
  | 67 => ⟨S_, .i32⟩
  | 68 => ⟨S8x32x64, .f32⟩
  | 69 => ⟨S8x32x64, .f32⟩
  | 70 => ⟨S2048x8x32x64, .f32⟩
  | 71 => ⟨S2048x8x32x64, .f32⟩
  | 72 => ⟨S_, .i32⟩
  | 73 => ⟨S_, .i1⟩
  | 74 => ⟨S_, .i32⟩
  | 75 => ⟨S_, .i32⟩
  | 76 => ⟨S_, .i32⟩
  | 77 => ⟨S1x8x32x64, .f32⟩
  | 78 => ⟨S8x32x64, .f32⟩
  | 79 => ⟨S_, .i32⟩
  | 80 => ⟨S_, .i32⟩
  | 81 => ⟨S_, .i32⟩
  | 82 => ⟨S1x8x32x64, .f32⟩
  | 83 => ⟨S8x32x64, .f32⟩
  | 84 => ⟨S1x32x64, .f32⟩
  | 85 => ⟨S8x32x64, .f32⟩
  | 86 => ⟨S8x32x64, .f32⟩
  | 87 => ⟨S1x32x64, .f32⟩
  | 88 => ⟨S8x32x64, .f32⟩
  | 89 => ⟨S8x32x64, .f32⟩
  | 90 => ⟨S8x32x64, .f32⟩
  | 91 => ⟨S8x32x64, .f32⟩
  | 92 => ⟨S1x32x64, .f32⟩
  | 93 => ⟨S8x32x64, .f32⟩
  | 94 => ⟨S8x32x64, .f32⟩
  | 95 => ⟨S1x32x64, .f32⟩
  | 96 => ⟨S8x32x64, .f32⟩
  | 97 => ⟨S8x32x64, .f32⟩
  | 98 => ⟨S8x32x64, .f32⟩
  | 99 => ⟨S8x32x64, .f32⟩
  | 100 => ⟨S1x8x32x64, .f32⟩
  | 101 => ⟨S_, .i32⟩
  | 102 => ⟨S_, .i32⟩
  | 103 => ⟨S_, .i32⟩
  | 104 => ⟨S2048x8x32x64, .f32⟩
  | 105 => ⟨S1x8x32x64, .f32⟩
  | 106 => ⟨S_, .i32⟩
  | 107 => ⟨S_, .i32⟩
  | 108 => ⟨S_, .i32⟩
  | 109 => ⟨S2048x8x32x64, .f32⟩
  | 110 => ⟨S_, .i32⟩
  | 111 => ⟨S_, .i32⟩
  | 112 => ⟨S32x2048x8x16, .f32⟩
  | 113 => ⟨S2048x8x32x16, .f32⟩
  | 114 => ⟨S32x2048x8x16, .f32⟩
  | 115 => ⟨S2048x8x32x16, .f32⟩
  | 116 => ⟨S2048x8x32x16, .f32⟩
  | 117 => ⟨S2048x8x512, .f32⟩
  | 118 => ⟨S2048x8x512, .f32⟩
  | 119 => ⟨S1x1x512, .f32⟩
  | 120 => ⟨S2048x8x512, .f32⟩
  | 121 => ⟨S2048x8x512, .f32⟩
  | 122 => ⟨S2048x8x512, .f32⟩
  | 123 => ⟨S2048x8x512, .f32⟩
  | 124 => ⟨S2048x8x512, .f32⟩
  | 125 => ⟨S_, .f32⟩
  | 126 => ⟨S2048x8x512, .f32⟩
  | 127 => ⟨S2048x8x512, .f32⟩
  | _ => ⟨S8x2048x512, .f32⟩

abbrev hbmTy0_1 (i : Nat) : BufTy := match i % 128 with
  | 0 => ⟨S2048x8x512, .f32⟩
  | 1 => ⟨S_, .f32⟩
  | 2 => ⟨S2048x8x512, .f32⟩
  | 3 => ⟨S2048x8x512, .f32⟩
  | 4 => ⟨S2048x8x512, .f32⟩
  | 5 => ⟨S_, .f32⟩
  | 6 => ⟨S2048x8x512, .f32⟩
  | 7 => ⟨S2048x8x512, .f32⟩
  | 8 => ⟨S_, .f32⟩
  | 9 => ⟨S2048x8x512, .f32⟩
  | 10 => ⟨S2048x8x512, .f32⟩
  | 11 => ⟨S2048x8x512, .f32⟩
  | 12 => ⟨S2048x8x512, .f32⟩
  | 13 => ⟨S2048x8x512, .f32⟩
  | 14 => ⟨S2048x8x512, .f32⟩
  | 15 => ⟨S_, .f32⟩
  | 16 => ⟨S2048x8x512, .f32⟩
  | 17 => ⟨S2048x8x512, .f32⟩
  | 18 => ⟨S_, .f32⟩
  | 19 => ⟨S2048x8x512, .f32⟩
  | 20 => ⟨S2048x8x512, .f32⟩
  | 21 => ⟨S2048x8x512, .f32⟩
  | 22 => ⟨S16384x512, .f32⟩
  | 23 => ⟨S8x2048, .f32⟩
  | 24 => ⟨S8x2048, .f32⟩
  | _ => ⟨S8x2048x512, .f32⟩

abbrev hbmTy (i : Nat) : BufTy := match i / 128 with
  | 0 => hbmTy0_0 i
  | 1 => hbmTy0_1 i
  | _ => ⟨S8x2048x512, .f32⟩

abbrev bufTy : (tb : Table) → Fin (tcTables nBuf tb) → BufTy
  | .hbm, ⟨i, _⟩ => hbmTy i
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_1 : Ref sig .tc := ⟨.hbm, 58, rfl⟩
abbrev main_v46 : Ref sig .tc := ⟨.hbm, 59, rfl⟩
abbrev main_cst_2 : Ref sig .tc := ⟨.hbm, 60, rfl⟩
abbrev main_v47 : Ref sig .tc := ⟨.hbm, 61, rfl⟩
abbrev main_c : Ref sig .tc := ⟨.hbm, 62, rfl⟩
abbrev main_v48_0 : Ref sig .tc := ⟨.hbm, 63, rfl⟩
abbrev main_v48_1 : Ref sig .tc := ⟨.hbm, 64, rfl⟩
abbrev main_v48_2 : Ref sig .tc := ⟨.hbm, 65, rfl⟩
abbrev main_v48_3 : Ref sig .tc := ⟨.hbm, 66, rfl⟩
abbrev main_v48_4 : Ref sig .tc := ⟨.hbm, 67, rfl⟩
abbrev main_v48_5 : Ref sig .tc := ⟨.hbm, 68, rfl⟩
abbrev main_v48_6 : Ref sig .tc := ⟨.hbm, 69, rfl⟩
abbrev main_v48_7 : Ref sig .tc := ⟨.hbm, 70, rfl⟩
abbrev main_v48_8 : Ref sig .tc := ⟨.hbm, 71, rfl⟩
abbrev main_while0c_c_17 : Ref sig .tc := ⟨.hbm, 72, rfl⟩
abbrev main_while0c_v84 : Ref sig .tc := ⟨.hbm, 73, rfl⟩
abbrev main_while0b_call0_c : Ref sig .tc := ⟨.hbm, 74, rfl⟩
abbrev main_while0b_call0_c_0 : Ref sig .tc := ⟨.hbm, 75, rfl⟩
abbrev main_while0b_call0_c_1 : Ref sig .tc := ⟨.hbm, 76, rfl⟩
abbrev main_while0b_call0_v0 : Ref sig .tc := ⟨.hbm, 77, rfl⟩
abbrev main_while0b_v84 : Ref sig .tc := ⟨.hbm, 78, rfl⟩
abbrev main_while0b_call1_c : Ref sig .tc := ⟨.hbm, 79, rfl⟩
abbrev main_while0b_call1_c_0 : Ref sig .tc := ⟨.hbm, 80, rfl⟩
abbrev main_while0b_call1_c_1 : Ref sig .tc := ⟨.hbm, 81, rfl⟩
abbrev main_while0b_call1_v0 : Ref sig .tc := ⟨.hbm, 82, rfl⟩
abbrev main_while0b_v85 : Ref sig .tc := ⟨.hbm, 83, rfl⟩
abbrev main_while0b_v86 : Ref sig .tc := ⟨.hbm, 84, rfl⟩
abbrev main_while0b_v87 : Ref sig .tc := ⟨.hbm, 85, rfl⟩
abbrev main_while0b_v88 : Ref sig .tc := ⟨.hbm, 86, rfl⟩
abbrev main_while0b_v89 : Ref sig .tc := ⟨.hbm, 87, rfl⟩
abbrev main_while0b_v90 : Ref sig .tc := ⟨.hbm, 88, rfl⟩
abbrev main_while0b_v91 : Ref sig .tc := ⟨.hbm, 89, rfl⟩
abbrev main_while0b_v92 : Ref sig .tc := ⟨.hbm, 90, rfl⟩
abbrev main_while0b_v93 : Ref sig .tc := ⟨.hbm, 91, rfl⟩
abbrev main_while0b_v94 : Ref sig .tc := ⟨.hbm, 92, rfl⟩
abbrev main_while0b_v95 : Ref sig .tc := ⟨.hbm, 93, rfl⟩
abbrev main_while0b_v96 : Ref sig .tc := ⟨.hbm, 94, rfl⟩
abbrev main_while0b_v97 : Ref sig .tc := ⟨.hbm, 95, rfl⟩
abbrev main_while0b_v98 : Ref sig .tc := ⟨.hbm, 96, rfl⟩
abbrev main_while0b_v99 : Ref sig .tc := ⟨.hbm, 97, rfl⟩
abbrev main_while0b_v100 : Ref sig .tc := ⟨.hbm, 98, rfl⟩
abbrev main_while0b_v101 : Ref sig .tc := ⟨.hbm, 99, rfl⟩
abbrev main_while0b_call2_v0 : Ref sig .tc := ⟨.hbm, 100, rfl⟩
abbrev main_while0b_call2_c : Ref sig .tc := ⟨.hbm, 101, rfl⟩
abbrev main_while0b_call2_c_0 : Ref sig .tc := ⟨.hbm, 102, rfl⟩
abbrev main_while0b_call2_c_1 : Ref sig .tc := ⟨.hbm, 103, rfl⟩
abbrev main_while0b_v102 : Ref sig .tc := ⟨.hbm, 104, rfl⟩
abbrev main_while0b_call3_v0 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_c_1 : Ref sig .tc := ⟨.hbm, 108, rfl⟩
abbrev main_while0b_v103 : Ref sig .tc := ⟨.hbm, 109, rfl⟩
abbrev main_while0b_c_17 : Ref sig .tc := ⟨.hbm, 110, rfl⟩
abbrev main_while0b_v104 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_cst_3 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_cst_4 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_cst_5 : Ref sig .tc := ⟨.hbm, 133, rfl⟩
abbrev main_v68 : Ref sig .tc := ⟨.hbm, 134, rfl⟩
abbrev main_v69 : Ref sig .tc := ⟨.hbm, 135, rfl⟩
abbrev main_cst_6 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_cst_7 : Ref sig .tc := ⟨.hbm, 143, rfl⟩
abbrev main_v76 : Ref sig .tc := ⟨.hbm, 144, rfl⟩
abbrev main_v77 : Ref sig .tc := ⟨.hbm, 145, rfl⟩
abbrev main_cst_8 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8x2048x1024 : Shape := ⟨3, ![8, 2048, 1024]⟩
abbrev S8x512x2048 : Shape := ⟨3, ![8, 512, 2048]⟩
abbrev S8x2048x512 : Shape := ⟨3, ![8, 2048, 512]⟩
abbrev S1024 : Shape := ⟨1, ![1024]⟩
abbrev S1024x8200 : Shape := ⟨2, ![1024, 8200]⟩
abbrev S512x1024 : Shape := ⟨2, ![512, 1024]⟩
abbrev S1024x1024 : Shape := ⟨2, ![1024, 1024]⟩
abbrev S8200x1024 : Shape := ⟨2, ![8200, 1024]⟩
abbrev S4608x1024 : Shape := ⟨2, ![4608, 1024]⟩
abbrev S1x512x1024 : Shape := ⟨3, ![1, 512, 1024]⟩
abbrev S3x512x1024 : Shape := ⟨3, ![3, 512, 1024]⟩
abbrev S1x1024 : Shape := ⟨2, ![1, 1024]⟩
abbrev S1x512x512 : Shape := ⟨3, ![1, 512, 512]⟩
abbrev S512 : Shape := ⟨1, ![512]⟩
abbrev S512x1 : Shape := ⟨2, ![512, 1]⟩
abbrev S512x512 : Shape := ⟨2, ![512, 512]⟩

abbrev nBuf : Space → Nat
  | .hbm => 27
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x512x2048, .f32⟩
  | .hbm, ⟨2, _⟩ => ⟨S8x512x2048, .f32⟩
  | .hbm, ⟨3, _⟩ => ⟨S8x2048x512, .f32⟩
  | .hbm, ⟨4, _⟩ => ⟨S1024, .f32⟩
  | .hbm, ⟨5, _⟩ => ⟨S1024x8200, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8200x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S4608x1024, .f32⟩
  | .hbm, ⟨18, _⟩ => ⟨S4608x1024, .bf16⟩
  | .hbm, ⟨19, _⟩ => ⟨S1x512x1024, .f32⟩
  | .hbm, ⟨20, _⟩ => ⟨S1x512x1024, .f32⟩
  | .hbm, ⟨21, _⟩ => ⟨S1x512x1024, .f32⟩
  | .hbm, ⟨22, _⟩ => ⟨S3x512x1024, .f32⟩
  | .hbm, ⟨23, _⟩ => ⟨S3x512x1024, .bf16⟩
  | .hbm, ⟨24, _⟩ => ⟨S1x1024, .f32⟩
  | .hbm, ⟨25, _⟩ => ⟨S1024x1024, .bf16⟩
  | .hbm, ⟨26, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x1024, .f32⟩
  | .local _ .vmem, ⟨9, _⟩ => ⟨S4608x1024, .bf16⟩
  | .local _ .vmem, ⟨10, _⟩ => ⟨S3x512x1024, .bf16⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4608x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x2048x1024 : Shape := ⟨3, ![8, 2048, 1024]⟩
abbrev S8x512x2048 : Shape := ⟨3, ![8, 512, 2048]⟩
abbrev S8x2048x512 : Shape := ⟨3, ![8, 2048, 512]⟩
abbrev S1024 : Shape := ⟨1, ![1024]⟩
abbrev S1024x8200 : Shape := ⟨2, ![1024, 8200]⟩
abbrev S512x1024 : Shape := ⟨2, ![512, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8200 : Shape := ⟨3, ![8, 2048, 8200]⟩
abbrev S8x2048x8 : Shape := ⟨3, ![8, 2048, 8]⟩

abbrev nBuf : Space → Nat
  | .hbm => 107
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x512x2048, .f32⟩
  | .hbm, ⟨2, _⟩ => ⟨S8x512x2048, .f32⟩
  | .hbm, ⟨3, _⟩ => ⟨S8x2048x512, .f32⟩
  | .hbm, ⟨4, _⟩ => ⟨S1024, .f32⟩
  | .hbm, ⟨5, _⟩ => ⟨S1024x8200, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8x2048x512, .f32⟩
  | .hbm, ⟨11, _⟩ => ⟨S8x2048x512, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x8200, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S8x2048x8, .f32⟩
  | .hbm, ⟨33, _⟩ => ⟨S8x2048x512, .f32⟩
  | .hbm, ⟨34, _⟩ => ⟨S8x2048x512, .f32⟩
  | .hbm, ⟨35, _⟩ => ⟨S8x2048x512, .f32⟩
  | .hbm, ⟨36, _⟩ => ⟨S8x2048x512, .f32⟩
  | .hbm, ⟨37, _⟩ => ⟨S8x2048x512, .f32⟩
  | .hbm, ⟨38, _⟩ => ⟨S8x2048x512, .f32⟩
  | .hbm, ⟨39, _⟩ => ⟨S8x2048x512, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x512, .f32⟩
  | .hbm, ⟨44, _⟩ => ⟨S8x2048x512, .f32⟩
  | .hbm, ⟨45, _⟩ => ⟨S_, .f32⟩
  | .hbm, ⟨46, _⟩ => ⟨S8x2048x512, .f32⟩
  | .hbm, ⟨47, _⟩ => ⟨S8x2048x512, .f32⟩
  | .hbm, ⟨48, _⟩ => ⟨S_, .f32⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S8x2048x512, .f32⟩
  | .hbm, ⟨53, _⟩ => ⟨S8x2048x512, .f32⟩
  | .hbm, ⟨54, _⟩ => ⟨S8x2048x512, .f32⟩
  | .hbm, ⟨55, _⟩ => ⟨S_, .f32⟩
  | .hbm, ⟨56, _⟩ => ⟨S8x2048x512, .f32⟩
  | .hbm, ⟨57, _⟩ => ⟨S8x2048x512, .f32⟩
  | .hbm, ⟨58, _⟩ => ⟨S_, .f32⟩
  | .hbm, ⟨59, _⟩ => ⟨S8x2048x512, .f32⟩
  | .hbm, ⟨60, _⟩ => ⟨S8x2048x512, .f32⟩
  | .hbm, ⟨61, _⟩ => ⟨S8x2048x512, .f32⟩
  | .hbm, ⟨62, _⟩ => ⟨S8x2048x512, .f32⟩
  | .hbm, ⟨63, _⟩ => ⟨S8x2048x512, .f32⟩
  | .hbm, ⟨64, _⟩ => ⟨S8x2048x512, .f32⟩
  | .hbm, ⟨65, _⟩ => ⟨S_, .f32⟩
  | .hbm, ⟨66, _⟩ => ⟨S8x2048x512, .f32⟩
  | .hbm, ⟨67, _⟩ => ⟨S8x2048x512, .f32⟩
  | .hbm, ⟨68, _⟩ => ⟨S_, .f32⟩
  | .hbm, ⟨69, _⟩ => ⟨S8x2048x512, .f32⟩
  | .hbm, ⟨70, _⟩ => ⟨S8x2048x512, .f32⟩
  | .hbm, ⟨71, _⟩ => ⟨S8x2048x512, .f32⟩
  | .hbm, ⟨72, _⟩ => ⟨S8x2048x512, .f32⟩
  | .hbm, ⟨73, _⟩ => ⟨S8x2048x1024, .f32⟩
  | .hbm, ⟨74, _⟩ => ⟨S8x2048x1024, .f32⟩
  | .hbm, ⟨75, _⟩ => ⟨S_, .f32⟩
  | .hbm, ⟨76, _⟩ => ⟨S8x2048x1024, .f32⟩
  | .hbm, ⟨77, _⟩ => ⟨S8x2048x1024, .f32⟩
  | .hbm, ⟨78, _⟩ => ⟨S_, .f32⟩
  | .hbm, ⟨79, _⟩ => ⟨S8x2048x1024, .f32⟩
  | .hbm, ⟨80, _⟩ => ⟨S8x2048x1024, .f32⟩
  | .hbm, ⟨81, _⟩ => ⟨S8x2048x1024, .f32⟩
  | .hbm, ⟨82, _⟩ => ⟨S8x2048x1024, .f32⟩
  | .hbm, ⟨83, _⟩ => ⟨S8x2048x1024, .f32⟩
  | .hbm, ⟨84, _⟩ => ⟨S8x2048x1024, .f32⟩
  | .hbm, ⟨85, _⟩ => ⟨S_, .f32⟩
  | .hbm, ⟨86, _⟩ => ⟨S8x2048x1024, .f32⟩
  | .hbm, ⟨87, _⟩ => ⟨S8x2048x1024, .f32⟩
  | .hbm, ⟨88, _⟩ => ⟨S_, .f32⟩
  | .hbm, ⟨89, _⟩ => ⟨S8x2048x1024, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S8x2048x1024, .f32⟩
  | .hbm, ⟨94, _⟩ => ⟨S8x2048x1024, .f32⟩
  | .hbm, ⟨95, _⟩ => ⟨S8x2048x1024, .f32⟩
  | .hbm, ⟨96, _⟩ => ⟨S_, .f32⟩
  | .hbm, ⟨97, _⟩ => ⟨S8x2048x1024, .f32⟩
  | .hbm, ⟨98, _⟩ => ⟨S8x2048x1024, .f32⟩
  | .hbm, ⟨99, _⟩ => ⟨S_, .f32⟩
  | .hbm, ⟨100, _⟩ => ⟨S8x2048x1024, .f32⟩
  | .hbm, ⟨101, _⟩ => ⟨S8x2048x1024, .f32⟩
  | .hbm, ⟨102, _⟩ => ⟨S8x2048x1024, .f32⟩
  | .hbm, ⟨103, _⟩ => ⟨S8x2048x1024, .f32⟩
  | .hbm, ⟨104, _⟩ => ⟨S8x2048x1024, .f32⟩
  | .hbm, ⟨105, _⟩ => ⟨S8x2048x1024, .f32⟩
  | .hbm, ⟨106, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v30 : Ref sig .tc := ⟨.hbm, 51, rfl⟩
abbrev main_v31 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v32 : Ref sig .tc := ⟨.hbm, 61, rfl⟩
abbrev main_v33 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_2 : Ref sig .tc := ⟨.hbm, 75, rfl⟩
abbrev main_v38 : Ref sig .tc := ⟨.hbm, 76, rfl⟩
abbrev main_v39 : Ref sig .tc := ⟨.hbm, 77, rfl⟩
abbrev main_cst_3 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_4 : Ref sig .tc := ⟨.hbm, 85, rfl⟩
abbrev main_v46 : Ref sig .tc := ⟨.hbm, 86, rfl⟩
abbrev main_v47 : Ref sig .tc := ⟨.hbm, 87, rfl⟩
abbrev main_cst_5 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_6 : Ref sig .tc := ⟨.hbm, 96, rfl⟩
abbrev main_v55 : Ref sig .tc := ⟨.hbm, 97, rfl⟩
abbrev main_v56 : Ref sig .tc := ⟨.hbm, 98, rfl⟩
abbrev main_cst_7 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x8200 : Shape := ⟨2, ![1024, 8200]⟩
abbrev S8 : Shape := ⟨1, ![8]⟩
abbrev S64 : Shape := ⟨1, ![64]⟩
abbrev S8200x1024 : Shape := ⟨2, ![8200, 1024]⟩
abbrev S512x1024 : Shape := ⟨2, ![512, 1024]⟩
abbrev S3584x1024 : Shape := ⟨2, ![3584, 1024]⟩
abbrev S8x1024 : Shape := ⟨2, ![8, 1024]⟩
abbrev S_ : Shape := ⟨0, ![]⟩
abbrev S120x1024 : Shape := ⟨2, ![120, 1024]⟩
abbrev S128x1024 : Shape := ⟨2, ![128, 1024]⟩
abbrev S1x1024 : Shape := ⟨2, ![1, 1024]⟩
abbrev S8x1 : Shape := ⟨2, ![8, 1]⟩
abbrev S1x8 : Shape := ⟨2, ![1, 8]⟩
abbrev S64x1 : Shape := ⟨2, ![64, 1]⟩
abbrev S8x512x2048 : Shape := ⟨3, ![8, 512, 2048]⟩
abbrev S8x8x2048 : Shape := ⟨3, ![8, 8, 2048]⟩
abbrev S8x2048x8 : Shape := ⟨3, ![8, 2048, 8]⟩
abbrev S8x2048x512 : Shape := ⟨3, ![8, 2048, 512]⟩
abbrev S1x512x1024 : Shape := ⟨3, ![1, 512, 1024]⟩
abbrev S1x512x512 : Shape := ⟨3, ![1, 512, 512]⟩
abbrev S1x8x512 : Shape := ⟨3, ![1, 8, 512]⟩
abbrev S1x512x8 : Shape := ⟨3, ![1, 512, 8]⟩
abbrev S512 : Shape := ⟨1, ![512]⟩
abbrev S512x1 : Shape := ⟨2, ![512, 1]⟩
abbrev S512x512 : Shape := ⟨2, ![512, 512]⟩
abbrev S8x64x512 : Shape := ⟨3, ![8, 64, 512]⟩
abbrev S8x512 : Shape := ⟨2, ![8, 512]⟩
abbrev S8x1x512 : Shape := ⟨3, ![8, 1, 512]⟩
abbrev S1x64x1 : Shape := ⟨3, ![1, 64, 1]⟩
abbrev S128x512 : Shape := ⟨2, ![128, 512]⟩
abbrev S512x128 : Shape := ⟨2, ![512, 128]⟩
abbrev S512x8 : Shape := ⟨2, ![512, 8]⟩

abbrev nBuf : Space → Nat
  | .hbm => 35
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x8200, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S8200x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S3584x1024, .f32⟩
  | .hbm, ⟨15, _⟩ => ⟨S3584x1024, .bf16⟩
  | .hbm, ⟨16, _⟩ => ⟨S8x1024, .f32⟩
  | .hbm, ⟨17, _⟩ => ⟨S_, .f32⟩
  | .hbm, ⟨18, _⟩ => ⟨S120x1024, .f32⟩
  | .hbm, ⟨19, _⟩ => ⟨S128x1024, .f32⟩
  | .hbm, ⟨20, _⟩ => ⟨S128x1024, .bf16⟩
  | .hbm, ⟨21, _⟩ => ⟨S1x1024, .f32⟩
  | .hbm, ⟨22, _⟩ => ⟨S8x1, .f32⟩
  | .hbm, ⟨23, _⟩ => ⟨S1x8, .f32⟩
  | .hbm, ⟨24, _⟩ => ⟨S64x1, .f32⟩
  | .hbm, ⟨25, _⟩ => ⟨S64x1, .f32⟩
  | .hbm, ⟨26, _⟩ => ⟨S8x512x2048, .bf16⟩
  | .hbm, ⟨27, _⟩ => ⟨S8x512x2048, .f32⟩
  | .hbm, ⟨28, _⟩ => ⟨S8x512x2048, .f32⟩
  | .hbm, ⟨29, _⟩ => ⟨S8x8x2048, .f32⟩
  | .hbm, ⟨30, _⟩ => ⟨S8x2048x8, .f32⟩
  | .hbm, ⟨31, _⟩ => ⟨S8x512x2048, .bf16⟩
  | .hbm, ⟨32, _⟩ => ⟨S8x512x2048, .f32⟩
  | .hbm, ⟨33, _⟩ => ⟨S8x512x2048, .f32⟩
  | .hbm, ⟨34, _⟩ => ⟨S8x2048x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S3584x1024, .bf16⟩
  | .local _ .vmem, ⟨4, _⟩ => ⟨S128x1024, .bf16⟩
  | .local _ .vmem, ⟨5, _⟩ => ⟨S8x1, .f32⟩
  | .local _ .vmem, ⟨6, _⟩ => ⟨S1x8, .f32⟩
  | .local _ .vmem, ⟨7, _⟩ => ⟨S64x1, .f32⟩
  | .local _ .vmem, ⟨8, _⟩ => ⟨S64x1, .f32⟩
  | .local _ .vmem, ⟨9, _⟩ => ⟨S1x512x512, .bf16⟩
  | .local _ .vmem, ⟨10, _⟩ => ⟨S1x512x512, .bf16⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x8x512, .f32⟩
  | .local _ .vmem, ⟨16, _⟩ => ⟨S1x8x512, .f32⟩
  | .local _ .vmem, ⟨17, _⟩ => ⟨S1x512x8, .f32⟩
  | .local _ .vmem, ⟨18, _⟩ => ⟨S1x512x8, .f32⟩
  | .local _ .vmem, ⟨19, _⟩ => ⟨S1x512x512, .bf16⟩
  | .local _ .vmem, ⟨20, _⟩ => ⟨S1x512x512, .bf16⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev main_v19_2 : Ref sig .tc := ⟨.hbm, 28, rfl⟩
abbrev main_v19_3 : Ref sig .tc := ⟨.hbm, 29, rfl⟩
abbrev main_v19_4 : Ref sig .tc := ⟨.hbm, 30, rfl⟩
abbrev main_v19_5 : Ref sig .tc := ⟨.hbm, 31, rfl⟩
abbrev main_v19_6 : Ref sig .tc := ⟨.hbm, 32, rfl⟩
abbrev main_v19_7 : Ref sig .tc := ⟨.hbm, 33, rfl⟩
abbrev main_v19_8 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x2048x1024 : Shape := ⟨3, ![8, 2048, 1024]⟩
abbrev S1024 : Shape := ⟨1, ![1024]⟩
abbrev S1024x8200 : Shape := ⟨2, ![1024, 8200]⟩
abbrev S8 : Shape := ⟨1, ![8]⟩
abbrev S64 : Shape := ⟨1, ![64]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x8200 : Shape := ⟨3, ![8, 2048, 8200]⟩
abbrev S8x2048x512 : Shape := ⟨3, ![8, 2048, 512]⟩
abbrev S8x2048x8 : Shape := ⟨3, ![8, 2048, 8]⟩
abbrev S8x2048x8x64 : Shape := ⟨4, ![8, 2048, 8, 64]⟩
abbrev S8x2048x8x1 : Shape := ⟨4, ![8, 2048, 8, 1]⟩
abbrev S1x1x1x64 : Shape := ⟨4, ![1, 1, 1, 64]⟩
abbrev S1x1x8 : Shape := ⟨3, ![1, 1, 8]⟩
abbrev S8x8x64x2048 : Shape := ⟨4, ![8, 8, 64, 2048]⟩
abbrev S8x512x2048 : Shape := ⟨3, ![8, 512, 2048]⟩
abbrev S8x8x2048 : Shape := ⟨3, ![8, 8, 2048]⟩

abbrev nBuf : Space → Nat
  | .hbm => 115
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x8200, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x8200, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x8, .f32⟩
  | .hbm, ⟨27, _⟩ => ⟨S8x2048x512, .f32⟩
  | .hbm, ⟨28, _⟩ => ⟨S8x2048x512, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S8x2048x512, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x8x64, .f32⟩
  | .hbm, ⟨38, _⟩ => ⟨S8x2048x8x64, .f32⟩
  | .hbm, ⟨39, _⟩ => ⟨S_, .f32⟩
  | .hbm, ⟨40, _⟩ => ⟨S8x2048x8, .f32⟩
  | .hbm, ⟨41, _⟩ => ⟨S8x2048x8x1, .f32⟩
  | .hbm, ⟨42, _⟩ => ⟨S_, .f32⟩
  | .hbm, ⟨43, _⟩ => ⟨S8x2048x8x1, .f32⟩
  | .hbm, ⟨44, _⟩ => ⟨S8x2048x8x1, .f32⟩
  | .hbm, ⟨45, _⟩ => ⟨S_, .f32⟩
  | .hbm, ⟨46, _⟩ => ⟨S8x2048x8x1, .f32⟩
  | .hbm, ⟨47, _⟩ => ⟨S8x2048x8x1, .f32⟩
  | .hbm, ⟨48, _⟩ => ⟨S8x2048x8x1, .f32⟩
  | .hbm, ⟨49, _⟩ => ⟨S8x2048x8x64, .f32⟩
  | .hbm, ⟨50, _⟩ => ⟨S8x2048x8x64, .f32⟩
  | .hbm, ⟨51, _⟩ => ⟨S1x1x1x64, .f32⟩
  | .hbm, ⟨52, _⟩ => ⟨S8x2048x8x64, .f32⟩
  | .hbm, ⟨53, _⟩ => ⟨S8x2048x8x64, .f32⟩
  | .hbm, ⟨54, _⟩ => ⟨S8x2048x8x64, .f32⟩
  | .hbm, ⟨55, _⟩ => ⟨S8x2048x8x64, .f32⟩
  | .hbm, ⟨56, _⟩ => ⟨S_, .f32⟩
  | .hbm, ⟨57, _⟩ => ⟨S8x2048x8, .f32⟩
  | .hbm, ⟨58, _⟩ => ⟨S8x2048x8x1, .f32⟩
  | .hbm, ⟨59, _⟩ => ⟨S_, .f32⟩
  | .hbm, ⟨60, _⟩ => ⟨S8x2048x8x1, .f32⟩
  | .hbm, ⟨61, _⟩ => ⟨S8x2048x8x1, .f32⟩
  | .hbm, ⟨62, _⟩ => ⟨S_, .f32⟩
  | .hbm, ⟨63, _⟩ => ⟨S8x2048x8x1, .f32⟩
  | .hbm, ⟨64, _⟩ => ⟨S8x2048x8x1, .f32⟩
  | .hbm, ⟨65, _⟩ => ⟨S8x2048x8x1, .f32⟩
  | .hbm, ⟨66, _⟩ => ⟨S8x2048x8x64, .f32⟩
  | .hbm, ⟨67, _⟩ => ⟨S8x2048x8x64, .f32⟩
  | .hbm, ⟨68, _⟩ => ⟨S1x1x1x64, .f32⟩
  | .hbm, ⟨69, _⟩ => ⟨S8x2048x8x64, .f32⟩
  | .hbm, ⟨70, _⟩ => ⟨S8x2048x8x64, .f32⟩
  | .hbm, ⟨71, _⟩ => ⟨S8x2048x8x64, .f32⟩
  | .hbm, ⟨72, _⟩ => ⟨S1x1x8, .f32⟩
  | .hbm, ⟨73, _⟩ => ⟨S8x2048x8, .f32⟩
  | .hbm, ⟨74, _⟩ => ⟨S8x2048x8, .f32⟩
  | .hbm, ⟨75, _⟩ => ⟨S8x2048x8, .f32⟩
  | .hbm, ⟨76, _⟩ => ⟨S_, .f32⟩
  | .hbm, ⟨77, _⟩ => ⟨S8x2048x8, .f32⟩
  | .hbm, ⟨78, _⟩ => ⟨S8x2048x8, .f32⟩
  | .hbm, ⟨79, _⟩ => ⟨S8x2048x8, .f32⟩
  | .hbm, ⟨80, _⟩ => ⟨S8x2048x8, .f32⟩
  | .hbm, ⟨81, _⟩ => ⟨S8x2048x8, .i1⟩
  | .hbm, ⟨82, _⟩ => ⟨S8x2048x8, .f32⟩
  | .hbm, ⟨83, _⟩ => ⟨S8x2048x8, .f32⟩
  | .hbm, ⟨84, _⟩ => ⟨S8x2048x8, .f32⟩
  | .hbm, ⟨85, _⟩ => ⟨S8x2048x8, .f32⟩
  | .hbm, ⟨86, _⟩ => ⟨S8x2048x8, .f32⟩
  | .hbm, ⟨87, _⟩ => ⟨S8x2048x8, .f32⟩
  | .hbm, ⟨88, _⟩ => ⟨S8x2048x8, .f32⟩
  | .hbm, ⟨89, _⟩ => ⟨S8x2048x8, .f32⟩
  | .hbm, ⟨90, _⟩ => ⟨S8x2048x8, .f32⟩
  | .hbm, ⟨91, _⟩ => ⟨S8x2048x8x64, .f32⟩
  | .hbm, ⟨92, _⟩ => ⟨S8x2048x8x64, .f32⟩
  | .hbm, ⟨93, _⟩ => ⟨S8x2048x8x64, .f32⟩
  | .hbm, ⟨94, _⟩ => ⟨S8x8x64x2048, .f32⟩
  | .hbm, ⟨95, _⟩ => ⟨S8x512x2048, .f32⟩
  | .hbm, ⟨96, _⟩ => ⟨S_, .f32⟩
  | .hbm, ⟨97, _⟩ => ⟨S8x512x2048, .f32⟩
  | .hbm, ⟨98, _⟩ => ⟨S8x512x2048, .f32⟩
  | .hbm, ⟨99, _⟩ => ⟨S8x512x2048, .bf16⟩
  | .hbm, ⟨100, _⟩ => ⟨S8x8x64x2048, .f32⟩
  | .hbm, ⟨101, _⟩ => ⟨S8x512x2048, .f32⟩
  | .hbm, ⟨102, _⟩ => ⟨S8x8x64x2048, .f32⟩
  | .hbm, ⟨103, _⟩ => ⟨S8x512x2048, .f32⟩
  | .hbm, ⟨104, _⟩ => ⟨S8x8x2048, .f32⟩
  | .hbm, ⟨105, _⟩ => ⟨S8x8x64x2048, .f32⟩
  | .hbm, ⟨106, _⟩ => ⟨S8x512x2048, .f32⟩
  | .hbm, ⟨107, _⟩ => ⟨S_, .f32⟩
  | .hbm, ⟨108, _⟩ => ⟨S8x512x2048, .f32⟩
  | .hbm, ⟨109, _⟩ => ⟨S8x512x2048, .f32⟩
  | .hbm, ⟨110, _⟩ => ⟨S8x512x2048, .bf16⟩
  | .hbm, ⟨111, _⟩ => ⟨S8x8x64x2048, .f32⟩
  | .hbm, ⟨112, _⟩ => ⟨S8x512x2048, .f32⟩
  | .hbm, ⟨113, _⟩ => ⟨S8x8x64x2048, .f32⟩
  | .hbm, ⟨114, _⟩ => ⟨S8x512x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call0_v0 : Ref sig .tc := ⟨.hbm, 75, rfl⟩
abbrev main_call0_call0_cst : Ref sig .tc := ⟨.hbm, 76, rfl⟩
abbrev main_call0_call0_v0 : Ref sig .tc := ⟨.hbm, 77, rfl⟩
abbrev main_call0_call0_v1 : Ref sig .tc := ⟨.hbm, 78, rfl⟩
abbrev main_call0_call0_v2 : Ref sig .tc := ⟨.hbm, 79, rfl⟩
abbrev main_call0_call0_v3 : Ref sig .tc := ⟨.hbm, 80, rfl⟩
abbrev main_call0_call0_v4 : Ref sig .tc := ⟨.hbm, 81, rfl⟩
abbrev main_call0_call0_v5 : Ref sig .tc := ⟨.hbm, 82, rfl⟩
abbrev main_call0_call0_v6 : Ref sig .tc := ⟨.hbm, 83, rfl⟩
abbrev main_call0_call0_v7 : Ref sig .tc := ⟨.hbm, 84, rfl⟩
abbrev main_call0_call0_v8 : Ref sig .tc := ⟨.hbm, 85, rfl⟩
abbrev main_call0_call0_v9 : Ref sig .tc := ⟨.hbm, 86, rfl⟩
abbrev main_call0_call0_v10 : Ref sig .tc := ⟨.hbm, 87, rfl⟩
abbrev main_call0_call0_v11 : Ref sig .tc := ⟨.hbm, 88, rfl⟩
abbrev main_call0_v1 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_8 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_9 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]
-- ==== Kernel4.lean ====
abbrev S32x1x1024 : Shape := ⟨3, ![32, 1, 1024]⟩
abbrev S1024 : Shape := ⟨1, ![1024]⟩
abbrev S1024x8200 : Shape := ⟨2, ![1024, 8200]⟩
abbrev S8 : Shape := ⟨1, ![8]⟩
abbrev S64 : Shape := ⟨1, ![64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S512x512 : Shape := ⟨2, ![512, 512]⟩
abbrev S32x32x64 : Shape := ⟨3, ![32, 32, 64]⟩
abbrev S8200x1024 : Shape := ⟨2, ![8200, 1024]⟩
abbrev S512x1024 : Shape := ⟨2, ![512, 1024]⟩
abbrev S3584x1024 : Shape := ⟨2, ![3584, 1024]⟩
abbrev S8x1024 : Shape := ⟨2, ![8, 1024]⟩
abbrev S_ : Shape := ⟨0, ![]⟩
abbrev S120x1024 : Shape := ⟨2, ![120, 1024]⟩
abbrev S128x1024 : Shape := ⟨2, ![128, 1024]⟩
abbrev S8x64x64 : Shape := ⟨3, ![8, 64, 64]⟩
abbrev S8x8 : Shape := ⟨2, ![8, 8]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S32x1024 : Shape := ⟨2, ![32, 1024]⟩
abbrev S1x1024 : Shape := ⟨2, ![1, 1024]⟩
abbrev S1x8 : Shape := ⟨2, ![1, 8]⟩
abbrev S1x64 : Shape := ⟨2, ![1, 64]⟩
abbrev S8x64 : Shape := ⟨2, ![8, 64]⟩
abbrev S1x512 : Shape := ⟨2, ![1, 512]⟩
abbrev S1x2048 : Shape := ⟨2, ![1, 2048]⟩
abbrev S2048 : Shape := ⟨1, ![2048]⟩
abbrev S32x32 : Shape := ⟨2, ![32, 32]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S32x2048 : Shape := ⟨2, ![32, 2048]⟩
abbrev S32x512 : Shape := ⟨2, ![32, 512]⟩
abbrev S32x8 : Shape := ⟨2, ![32, 8]⟩
abbrev S32x1 : Shape := ⟨2, ![32, 1]⟩
abbrev S32x128 : Shape := ⟨2, ![32, 128]⟩
abbrev S1024x256 : Shape := ⟨2, ![1024, 256]⟩
abbrev S32x256 : Shape := ⟨2, ![32, 256]⟩

abbrev nBuf : Space → Nat
  | .hbm => 137
  | .vmem => 29
  | .smem => 0
  | _ => 0

abbrev hbmTy0_0 (i : Nat) : BufTy := match i % 128 with
  | 0 => ⟨S32x1x1024, .f32⟩
  | 1 => ⟨S1024, .f32⟩
  | 2 => ⟨S1024x8200, .f32⟩
  | 3 => ⟨S8, .f32⟩
  | 4 => ⟨S64, .f32⟩
  | 5 => ⟨S64, .f32⟩
  | 6 => ⟨S32x64, .f32⟩
  | 7 => ⟨S32x64, .f32⟩
  | 8 => ⟨S32, .f32⟩
  | 9 => ⟨S32x64x16, .f32⟩
  | 10 => ⟨S32x64x16, .f32⟩
  | 11 => ⟨S32x16x64, .f32⟩
  | 12 => ⟨S32x16x64, .f32⟩
  | 13 => ⟨S512, .f32⟩
  | 14 => ⟨S512x512, .f32⟩
  | 15 => ⟨S32x32x64, .f32⟩
  | 16 => ⟨S32x32x64, .f32⟩
  | 17 => ⟨S8200x1024, .f32⟩
  | 18 => ⟨S512x1024, .f32⟩
  | 19 => ⟨S512x1024, .f32⟩
  | 20 => ⟨S512x1024, .f32⟩
  | 21 => ⟨S512x1024, .f32⟩
  | 22 => ⟨S512x1024, .f32⟩
  | 23 => ⟨S512x1024, .f32⟩
  | 24 => ⟨S512x1024, .f32⟩
  | 25 => ⟨S3584x1024, .f32⟩
  | 26 => ⟨S3584x1024, .bf16⟩
  | 27 => ⟨S8x1024, .f32⟩
  | 28 => ⟨S_, .f32⟩
  | 29 => ⟨S120x1024, .f32⟩
  | 30 => ⟨S128x1024, .f32⟩
  | 31 => ⟨S128x1024, .bf16⟩
  | 32 => ⟨S_, .f32⟩
  | 33 => ⟨S8x64x64, .f32⟩
  | 34 => ⟨S8x8, .i32⟩
  | 35 => ⟨S8x8, .i32⟩
  | 36 => ⟨S_, .i32⟩
  | 37 => ⟨S8x8, .i32⟩
  | 38 => ⟨S8x8, .i32⟩
  | 39 => ⟨S8x8, .i1⟩
  | 40 => ⟨S8x8, .f32⟩
  | 41 => ⟨S8x64x1x64, .f32⟩
  | 42 => ⟨S8x1x8x1, .f32⟩
  | 43 => ⟨S8x64x8x64, .f32⟩
  | 44 => ⟨S8x64x8x64, .f32⟩
  | 45 => ⟨S8x64x8x64, .f32⟩
  | 46 => ⟨S512x512, .f32⟩
  | 47 => ⟨S32x1024, .f32⟩
  | 48 => ⟨S1x1024, .f32⟩
  | 49 => ⟨S1x8, .f32⟩
  | 50 => ⟨S1x64, .f32⟩
  | 51 => ⟨S8x64, .f32⟩
  | 52 => ⟨S512, .f32⟩
  | 53 => ⟨S1x512, .f32⟩
  | 54 => ⟨S1x64, .f32⟩
  | 55 => ⟨S8x64, .f32⟩
  | 56 => ⟨S512, .f32⟩
  | 57 => ⟨S1x512, .f32⟩
  | 58 => ⟨S1x2048, .f32⟩
  | 59 => ⟨S1x2048, .f32⟩
  | 60 => ⟨S32x64, .f32⟩
  | 61 => ⟨S2048, .f32⟩
  | 62 => ⟨S1x2048, .f32⟩
  | 63 => ⟨S32x16x64, .f32⟩
  | 64 => ⟨S32x32, .i32⟩
  | 65 => ⟨S32x32, .i32⟩
  | 66 => ⟨S_, .i32⟩
  | 67 => ⟨S32x32, .i32⟩
  | 68 => ⟨S32x32, .i32⟩
  | 69 => ⟨S32x32, .i1⟩
  | 70 => ⟨S32x32, .f32⟩
  | 71 => ⟨S32x16x1x64, .f32⟩
  | 72 => ⟨S32x1x32x1, .f32⟩
  | 73 => ⟨S32x16x32x64, .f32⟩
  | 74 => ⟨S32x16x32x64, .f32⟩
  | 75 => ⟨S32x16x32x64, .f32⟩
  | 76 => ⟨S512x2048, .f32⟩
  | 77 => ⟨S512x2048, .bf16⟩
  | 78 => ⟨S32x16x64, .f32⟩
  | 79 => ⟨S32x32, .i32⟩
  | 80 => ⟨S32x32, .i32⟩
  | 81 => ⟨S_, .i32⟩
  | 82 => ⟨S32x32, .i32⟩
  | 83 => ⟨S32x32, .i32⟩
  | 84 => ⟨S32x32, .i1⟩
  | 85 => ⟨S32x32, .f32⟩
  | 86 => ⟨S32x16x1x64, .f32⟩
  | 87 => ⟨S32x1x32x1, .f32⟩
  | 88 => ⟨S32x16x32x64, .f32⟩
  | 89 => ⟨S32x16x32x64, .f32⟩
  | 90 => ⟨S32x16x32x64, .f32⟩
  | 91 => ⟨S512x2048, .f32⟩
  | 92 => ⟨S512x2048, .bf16⟩
  | 93 => ⟨S32x64x16, .f32⟩
  | 94 => ⟨S32x32, .i32⟩
  | 95 => ⟨S32x32, .i32⟩
  | 96 => ⟨S_, .i32⟩
  | 97 => ⟨S32x32, .i32⟩
  | 98 => ⟨S32x32, .i32⟩
  | 99 => ⟨S32x32, .i1⟩
  | 100 => ⟨S32x32, .f32⟩
  | 101 => ⟨S32x64x1x16, .f32⟩
  | 102 => ⟨S32x1x32x1, .f32⟩
  | 103 => ⟨S32x64x32x16, .f32⟩
  | 104 => ⟨S32x64x32x16, .f32⟩
  | 105 => ⟨S32x64x32x16, .f32⟩
  | 106 => ⟨S2048x512, .f32⟩
  | 107 => ⟨S2048x512, .bf16⟩
  | 108 => ⟨S32x64x16, .f32⟩
  | 109 => ⟨S32x32, .i32⟩
  | 110 => ⟨S32x32, .i32⟩
  | 111 => ⟨S_, .i32⟩
  | 112 => ⟨S32x32, .i32⟩
  | 113 => ⟨S32x32, .i32⟩
  | 114 => ⟨S32x32, .i1⟩
  | 115 => ⟨S32x32, .f32⟩
  | 116 => ⟨S32x64x1x16, .f32⟩
  | 117 => ⟨S32x1x32x1, .f32⟩
  | 118 => ⟨S32x64x32x16, .f32⟩
  | 119 => ⟨S32x64x32x16, .f32⟩
  | 120 => ⟨S32x64x32x16, .f32⟩
  | 121 => ⟨S2048x512, .f32⟩
  | 122 => ⟨S2048x512, .bf16⟩
  | 123 => ⟨S1x512, .f32⟩
  | 124 => ⟨S512x512, .bf16⟩
  | 125 => ⟨S32x2048, .f32⟩
  | 126 => ⟨S32x2048, .f32⟩
  | 127 => ⟨S32x512, .f32⟩
  | _ => ⟨S32x1x1024, .f32⟩

abbrev hbmTy0_1 (i : Nat) : BufTy := match i % 128 with
  | 0 => ⟨S32x512, .f32⟩
  | 1 => ⟨S32x512, .f32⟩
  | 2 => ⟨S32x8, .f32⟩
  | 3 => ⟨S32x512, .f32⟩
  | 4 => ⟨S32x512, .f32⟩
  | 5 => ⟨S32x512, .f32⟩
  | 6 => ⟨S32x512, .f32⟩
  | 7 => ⟨S32x2048, .f32⟩
  | 8 => ⟨S32x2048, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | .local _ .vmem, ⟨0, _⟩ => ⟨S32x1024, .f32⟩
  | .local _ .vmem, ⟨1, _⟩ => ⟨S1x1024, .f32⟩
  | .local _ .vmem, ⟨2, _⟩ => ⟨S3584x1024, .bf16⟩
  | .local _ .vmem, ⟨3, _⟩ => ⟨S128x1024, .bf16⟩
  | .local _ .vmem, ⟨4, _⟩ => ⟨S1x8, .f32⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S512x2048, .bf16⟩
  | .local _ .vmem, ⟨12, _⟩ => ⟨S512x2048, .bf16⟩
  | .local _ .vmem, ⟨13, _⟩ => ⟨S2048x512, .bf16⟩
  | .local _ .vmem, ⟨14, _⟩ => ⟨S2048x512, .bf16⟩
  | .local _ .vmem, ⟨15, _⟩ => ⟨S1x512, .f32⟩
  | .local _ .vmem, ⟨16, _⟩ => ⟨S512x512, .bf16⟩
  | .local _ .vmem, ⟨17, _⟩ => ⟨S32x2048, .f32⟩
  | .local _ .vmem, ⟨18, _⟩ => ⟨S32x2048, .f32⟩
  | .local _ .vmem, ⟨19, _⟩ => ⟨S32x512, .f32⟩
  | .local _ .vmem, ⟨20, _⟩ => ⟨S32x512, .f32⟩
  | .local _ .vmem, ⟨21, _⟩ => ⟨S32x512, .f32⟩
  | .local _ .vmem, ⟨22, _⟩ => ⟨S32x8, .f32⟩
  | .local _ .vmem, ⟨23, _⟩ => ⟨S32x512, .f32⟩
  | .local _ .vmem, ⟨24, _⟩ => ⟨S32x512, .f32⟩
  | .local _ .vmem, ⟨25, _⟩ => ⟨S32x512, .f32⟩
  | .local _ .vmem, ⟨26, _⟩ => ⟨S32x512, .f32⟩
  | .local _ .vmem, ⟨27, _⟩ => ⟨S32x2048, .f32⟩
  | .local _ .vmem, ⟨28, _⟩ => ⟨S32x2048, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_1 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_2 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_3 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_c_4 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103_0 : Ref sig .tc := ⟨.hbm, 127, rfl⟩
abbrev main_v103_1 : Ref sig .tc := ⟨.hbm, 128, rfl⟩
abbrev main_v103_2 : Ref sig .tc := ⟨.hbm, 129, rfl⟩
abbrev main_v103_3 : Ref sig .tc := ⟨.hbm, 130, rfl⟩
abbrev main_v103_4 : Ref sig .tc := ⟨.hbm, 131, rfl⟩
abbrev main_v103_5 : Ref sig .tc := ⟨.hbm, 132, rfl⟩
abbrev main_v103_6 : Ref sig .tc := ⟨.hbm, 133, rfl⟩
abbrev main_v103_7 : Ref sig .tc := ⟨.hbm, 134, rfl⟩
abbrev main_v103_8 : Ref sig .tc := ⟨.hbm, 135, rfl⟩
abbrev main_v103_9 : Ref sig .tc := ⟨.hbm, 136, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2048x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S32x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S32x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S32x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S32x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S32x8 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S32x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S32x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S32x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S32x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S32x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S32x2048 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
-- ==== Reference4Ideal.lean ====
abbrev S32x1x1024 : Shape := ⟨3, ![32, 1, 1024]⟩
abbrev S1024 : Shape := ⟨1, ![1024]⟩
abbrev S1024x8200 : Shape := ⟨2, ![1024, 8200]⟩
abbrev S8 : Shape := ⟨1, ![8]⟩
abbrev S64 : Shape := ⟨1, ![64]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S512x512 : Shape := ⟨2, ![512, 512]⟩
abbrev S32x32x64 : Shape := ⟨3, ![32, 32, 64]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x8200 : Shape := ⟨3, ![32, 1, 8200]⟩
abbrev S32x1x512 : Shape := ⟨3, ![32, 1, 512]⟩
abbrev S32x1x8 : Shape := ⟨3, ![32, 1, 8]⟩
abbrev S32x1x8x64 : Shape := ⟨4, ![32, 1, 8, 64]⟩
abbrev S32x1x8x1 : Shape := ⟨4, ![32, 1, 8, 1]⟩
abbrev S1x1x1x64 : Shape := ⟨4, ![1, 1, 1, 64]⟩
abbrev S1x1x8 : Shape := ⟨3, ![1, 1, 8]⟩
abbrev S32x1x32x16 : Shape := ⟨4, ![32, 1, 32, 16]⟩
abbrev S32x64x32x1 : Shape := ⟨4, ![32, 64, 32, 1]⟩
abbrev S32x1x32x64 : Shape := ⟨4, ![32, 1, 32, 64]⟩
abbrev S1x1x32x64 : Shape := ⟨4, ![1, 1, 32, 64]⟩
abbrev S32x32x1x16 : Shape := ⟨4, ![32, 32, 1, 16]⟩
abbrev S1x1x512 : Shape := ⟨3, ![1, 1, 512]⟩
abbrev S32x512 : Shape := ⟨2, ![32, 512]⟩
abbrev S32x8 : Shape := ⟨2, ![32, 8]⟩
abbrev S32x2048 : Shape := ⟨2, ![32, 2048]⟩

abbrev nBuf : Space → Nat
  | .hbm => 216
  | .vmem => 0
  | .smem => 0
  | _ => 0

abbrev hbmTy0_0 (i : Nat) : BufTy := match i % 128 with
  | 0 => ⟨S32x1x1024, .f32⟩
  | 1 => ⟨S1024, .f32⟩
  | 2 => ⟨S1024x8200, .f32⟩
  | 3 => ⟨S8, .f32⟩
  | 4 => ⟨S64, .f32⟩
  | 5 => ⟨S64, .f32⟩
  | 6 => ⟨S32x64, .f32⟩
  | 7 => ⟨S32x64, .f32⟩
  | 8 => ⟨S32, .f32⟩
  | 9 => ⟨S32x64x16, .f32⟩
  | 10 => ⟨S32x64x16, .f32⟩
  | 11 => ⟨S32x16x64, .f32⟩
  | 12 => ⟨S32x16x64, .f32⟩
  | 13 => ⟨S512, .f32⟩
  | 14 => ⟨S512x512, .f32⟩
  | 15 => ⟨S32x32x64, .f32⟩
  | 16 => ⟨S32x32x64, .f32⟩
  | 17 => ⟨S32x1x1024, .f32⟩
  | 18 => ⟨S_, .f32⟩
  | 19 => ⟨S32x1, .f32⟩
  | 20 => ⟨S32x1x1, .f32⟩
  | 21 => ⟨S_, .f32⟩
  | 22 => ⟨S32x1x1, .f32⟩
  | 23 => ⟨S32x1x1, .f32⟩
  | 24 => ⟨S_, .f32⟩
  | 25 => ⟨S32x1x1, .f32⟩
  | 26 => ⟨S32x1x1, .f32⟩
  | 27 => ⟨S32x1x1, .f32⟩
  | 28 => ⟨S32x1x1024, .f32⟩
  | 29 => ⟨S32x1x1024, .f32⟩
  | 30 => ⟨S1x1x1024, .f32⟩
  | 31 => ⟨S32x1x1024, .f32⟩
  | 32 => ⟨S32x1x1024, .f32⟩
  | 33 => ⟨S32x1x8200, .f32⟩
  | 34 => ⟨S32x1x512, .f32⟩
  | 35 => ⟨S32x1x512, .f32⟩
  | 36 => ⟨S32x1x512, .f32⟩
  | 37 => ⟨S32x1x8, .f32⟩
  | 38 => ⟨S32x1x512, .f32⟩
  | 39 => ⟨S32x1x512, .f32⟩
  | 40 => ⟨S32x1x512, .f32⟩
  | 41 => ⟨S32x1x512, .f32⟩
  | 42 => ⟨S32x1x512, .f32⟩
  | 43 => ⟨S32x1x512, .f32⟩
  | 44 => ⟨S32x1x512, .f32⟩
  | 45 => ⟨S32x1x1024, .f32⟩
  | 46 => ⟨S32x1x1024, .f32⟩
  | 47 => ⟨S32x1x1024, .f32⟩
  | 48 => ⟨S32x1x8x64, .f32⟩
  | 49 => ⟨S32x1x8x64, .f32⟩
  | 50 => ⟨S_, .f32⟩
  | 51 => ⟨S32x1x8, .f32⟩
  | 52 => ⟨S32x1x8x1, .f32⟩
  | 53 => ⟨S_, .f32⟩
  | 54 => ⟨S32x1x8x1, .f32⟩
  | 55 => ⟨S32x1x8x1, .f32⟩
  | 56 => ⟨S_, .f32⟩
  | 57 => ⟨S32x1x8x1, .f32⟩
  | 58 => ⟨S32x1x8x1, .f32⟩
  | 59 => ⟨S32x1x8x1, .f32⟩
  | 60 => ⟨S32x1x8x64, .f32⟩
  | 61 => ⟨S32x1x8x64, .f32⟩
  | 62 => ⟨S1x1x1x64, .f32⟩
  | 63 => ⟨S32x1x8x64, .f32⟩
  | 64 => ⟨S32x1x8x64, .f32⟩
  | 65 => ⟨S32x1x8x64, .f32⟩
  | 66 => ⟨S32x1x8x64, .f32⟩
  | 67 => ⟨S_, .f32⟩
  | 68 => ⟨S32x1x8, .f32⟩
  | 69 => ⟨S32x1x8x1, .f32⟩
  | 70 => ⟨S_, .f32⟩
  | 71 => ⟨S32x1x8x1, .f32⟩
  | 72 => ⟨S32x1x8x1, .f32⟩
  | 73 => ⟨S_, .f32⟩
  | 74 => ⟨S32x1x8x1, .f32⟩
  | 75 => ⟨S32x1x8x1, .f32⟩
  | 76 => ⟨S32x1x8x1, .f32⟩
  | 77 => ⟨S32x1x8x64, .f32⟩
  | 78 => ⟨S32x1x8x64, .f32⟩
  | 79 => ⟨S1x1x1x64, .f32⟩
  | 80 => ⟨S32x1x8x64, .f32⟩
  | 81 => ⟨S32x1x8x64, .f32⟩
  | 82 => ⟨S32x1x8x64, .f32⟩
  | 83 => ⟨S1x1x8, .f32⟩
  | 84 => ⟨S32x1x8, .f32⟩
  | 85 => ⟨S32x1x8, .f32⟩
  | 86 => ⟨S32x1x8, .f32⟩
  | 87 => ⟨S_, .f32⟩
  | 88 => ⟨S32x1x8, .f32⟩
  | 89 => ⟨S32x1x8, .f32⟩
  | 90 => ⟨S32x1x8, .f32⟩
  | 91 => ⟨S32x1x8, .f32⟩
  | 92 => ⟨S32x1x8, .i1⟩
  | 93 => ⟨S32x1x8, .f32⟩
  | 94 => ⟨S32x1x8, .f32⟩
  | 95 => ⟨S32x1x8, .f32⟩
  | 96 => ⟨S32x1x8, .f32⟩
  | 97 => ⟨S32x1x8, .f32⟩
  | 98 => ⟨S32x1x8, .f32⟩
  | 99 => ⟨S32x1x8, .f32⟩
  | 100 => ⟨S32x1x8, .f32⟩
  | 101 => ⟨S32x1x8, .f32⟩
  | 102 => ⟨S32x1x8x64, .f32⟩
  | 103 => ⟨S32x1x8x64, .f32⟩
  | 104 => ⟨S32x1x8x64, .f32⟩
  | 105 => ⟨S32, .f32⟩
  | 106 => ⟨S32x1, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S_, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x1x1024, .f32⟩

abbrev hbmTy0_1 (i : Nat) : BufTy := match i % 128 with
  | 0 => ⟨S32x64, .f32⟩
  | 1 => ⟨S32x64, .f32⟩
  | 2 => ⟨S32x1x32x16, .f32⟩
  | 3 => ⟨S32x64x32x1, .f32⟩
  | 4 => ⟨S32x1x32x64, .f32⟩
  | 5 => ⟨S32x64x32x1, .f32⟩
  | 6 => ⟨S32x1x32x64, .f32⟩
  | 7 => ⟨S1x1x32x64, .f32⟩
  | 8 => ⟨S32x1x32x64, .f32⟩
  | 9 => ⟨S32x1x32x64, .f32⟩
  | 10 => ⟨S1x1x32x64, .f32⟩
  | 11 => ⟨S32x1x32x64, .f32⟩
  | 12 => ⟨S32x1x32x64, .f32⟩
  | 13 => ⟨S32x1x32x64, .f32⟩
  | 14 => ⟨S1x1x32x64, .f32⟩
  | 15 => ⟨S32x1x32x64, .f32⟩
  | 16 => ⟨S32x1x32x64, .f32⟩
  | 17 => ⟨S1x1x32x64, .f32⟩
  | 18 => ⟨S32x1x32x64, .f32⟩
  | 19 => ⟨S32x1x32x64, .f32⟩
  | 20 => ⟨S32x1x32x64, .f32⟩
  | 21 => ⟨S32x1x32x64, .f32⟩
  | 22 => ⟨S32x1x32x64, .f32⟩
  | 23 => ⟨S32x1x32x64, .f32⟩
  | 24 => ⟨S32x1x32x64, .f32⟩
  | 25 => ⟨S32x1x32x64, .f32⟩
  | 26 => ⟨S32x1x32x64, .f32⟩
  | 27 => ⟨S32x1x32x64, .f32⟩
  | 28 => ⟨S32x1x32x64, .f32⟩
  | 29 => ⟨S32x1x32x64, .f32⟩
  | 30 => ⟨S32x1x32x64, .f32⟩
  | 31 => ⟨S32x1x32x64, .f32⟩
  | 32 => ⟨S32x1x32x64, .f32⟩
  | 33 => ⟨S32x32x1x16, .f32⟩
  | 34 => ⟨S32x1x32x16, .f32⟩
  | 35 => ⟨S32x32x1x16, .f32⟩
  | 36 => ⟨S32x1x32x16, .f32⟩
  | 37 => ⟨S32x1x32x16, .f32⟩
  | 38 => ⟨S32x1x512, .f32⟩
  | 39 => ⟨S1x1x512, .f32⟩
  | 40 => ⟨S32x1x512, .f32⟩
  | 41 => ⟨S32x1x512, .f32⟩
  | 42 => ⟨S32x1x512, .f32⟩
  | 43 => ⟨S32x1x512, .f32⟩
  | 44 => ⟨S32x1x512, .f32⟩
  | 45 => ⟨S_, .f32⟩
  | 46 => ⟨S32x1x512, .f32⟩
  | 47 => ⟨S32x1x512, .f32⟩
  | 48 => ⟨S32x1x512, .f32⟩
  | 49 => ⟨S_, .f32⟩
  | 50 => ⟨S32x1x512, .f32⟩
  | 51 => ⟨S32x1x512, .f32⟩
  | 52 => ⟨S32x1x512, .f32⟩
  | 53 => ⟨S_, .f32⟩
  | 54 => ⟨S32x1x512, .f32⟩
  | 55 => ⟨S32x1x512, .f32⟩
  | 56 => ⟨S_, .f32⟩
  | 57 => ⟨S32x1x512, .f32⟩
  | 58 => ⟨S32x1x512, .f32⟩
  | 59 => ⟨S32x1x512, .f32⟩
  | 60 => ⟨S32x1x512, .f32⟩
  | 61 => ⟨S32x1x512, .f32⟩
  | 62 => ⟨S32x1x512, .f32⟩
  | 63 => ⟨S_, .f32⟩
  | 64 => ⟨S32x1x512, .f32⟩
  | 65 => ⟨S32x1x512, .f32⟩
  | 66 => ⟨S_, .f32⟩
  | 67 => ⟨S32x1x512, .f32⟩
  | 68 => ⟨S32x1x512, .f32⟩
  | 69 => ⟨S32x1x512, .f32⟩
  | 70 => ⟨S32x32x64, .f32⟩
  | 71 => ⟨S32x32x64, .f32⟩
  | 72 => ⟨S32x512, .f32⟩
  | 73 => ⟨S_, .f32⟩
  | 74 => ⟨S32x512, .f32⟩
  | 75 => ⟨S32x512, .f32⟩
  | 76 => ⟨S32x512, .f32⟩
  | 77 => ⟨S32x512, .f32⟩
  | 78 => ⟨S32x8, .f32⟩
  | 79 => ⟨S32x512, .f32⟩
  | 80 => ⟨S_, .f32⟩
  | 81 => ⟨S32x512, .f32⟩
  | 82 => ⟨S32x512, .f32⟩
  | 83 => ⟨S32x512, .f32⟩
  | 84 => ⟨S32x512, .f32⟩
  | 85 => ⟨S32x512, .f32⟩
  | 86 => ⟨S32x2048, .f32⟩
  | 87 => ⟨S32x2048, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call0_v0 : Ref sig .tc := ⟨.hbm, 86, rfl⟩
abbrev main_call0_call0_cst : Ref sig .tc := ⟨.hbm, 87, rfl⟩
abbrev main_call0_call0_v0 : Ref sig .tc := ⟨.hbm, 88, rfl⟩
abbrev main_call0_call0_v1 : Ref sig .tc := ⟨.hbm, 89, rfl⟩
abbrev main_call0_call0_v2 : Ref sig .tc := ⟨.hbm, 90, rfl⟩
abbrev main_call0_call0_v3 : Ref sig .tc := ⟨.hbm, 91, rfl⟩
abbrev main_call0_call0_v4 : Ref sig .tc := ⟨.hbm, 92, rfl⟩
abbrev main_call0_call0_v5 : Ref sig .tc := ⟨.hbm, 93, rfl⟩
abbrev main_call0_call0_v6 : Ref sig .tc := ⟨.hbm, 94, rfl⟩
abbrev main_call0_call0_v7 : Ref sig .tc := ⟨.hbm, 95, rfl⟩
abbrev main_call0_call0_v8 : Ref sig .tc := ⟨.hbm, 96, rfl⟩
abbrev main_call0_call0_v9 : Ref sig .tc := ⟨.hbm, 97, rfl⟩
abbrev main_call0_call0_v10 : Ref sig .tc := ⟨.hbm, 98, rfl⟩
abbrev main_call0_call0_v11 : Ref sig .tc := ⟨.hbm, 99, rfl⟩
abbrev main_call0_v1 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_8 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_9 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_10 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_cst_11 : Ref sig .tc := ⟨.hbm, 181, rfl⟩
abbrev main_v137 : Ref sig .tc := ⟨.hbm, 182, rfl⟩
abbrev main_v138 : Ref sig .tc := ⟨.hbm, 183, rfl⟩
abbrev main_cst_12 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_13 : Ref sig .tc := ⟨.hbm, 191, rfl⟩
abbrev main_v145 : Ref sig .tc := ⟨.hbm, 192, rfl⟩
abbrev main_v146 : Ref sig .tc := ⟨.hbm, 193, rfl⟩
abbrev main_cst_14 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_15 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_16 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩

abbrev nD : Nat := 1
abbrev τ : Topo := Topo.v7x

variable {F : FTy → Type} [FloatOps F]
-- ==== Kernel5.lean ====
abbrev S32x1x1024 : Shape := ⟨3, ![32, 1, 1024]⟩
abbrev S32x512 : Shape := ⟨2, ![32, 512]⟩
abbrev S1024 : Shape := ⟨1, ![1024]⟩
abbrev S1024x8200 : Shape := ⟨2, ![1024, 8200]⟩
abbrev S512x1024 : Shape := ⟨2, ![512, 1024]⟩
abbrev S1024x1024 : Shape := ⟨2, ![1024, 1024]⟩
abbrev S8200x1024 : Shape := ⟨2, ![8200, 1024]⟩
abbrev S4608x1024 : Shape := ⟨2, ![4608, 1024]⟩
abbrev S1x512x1024 : Shape := ⟨3, ![1, 512, 1024]⟩
abbrev S3x512x1024 : Shape := ⟨3, ![3, 512, 1024]⟩
abbrev S32x1024 : Shape := ⟨2, ![32, 1024]⟩
abbrev S1x32x1024 : Shape := ⟨3, ![1, 32, 1024]⟩
abbrev S1x32x512 : Shape := ⟨3, ![1, 32, 512]⟩
abbrev S1x1024 : Shape := ⟨2, ![1, 1024]⟩
abbrev S32 : Shape := ⟨1, ![32]⟩
abbrev S32x1 : Shape := ⟨2, ![32, 1]⟩

abbrev nBuf : Space → Nat
  | .hbm => 32
  | .vmem => 9
  | .smem => 0
  | _ => 0

abbrev bufTy : (tb : Table) → Fin (tcTables nBuf tb) → BufTy
  | .hbm, ⟨0, _⟩ => ⟨S32x1x1024, .f32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S1024, .f32⟩
  | .hbm, ⟨5, _⟩ => ⟨S1024x8200, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S8200x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S4608x1024, .f32⟩
  | .hbm, ⟨18, _⟩ => ⟨S4608x1024, .bf16⟩
  | .hbm, ⟨19, _⟩ => ⟨S1x512x1024, .f32⟩
  | .hbm, ⟨20, _⟩ => ⟨S1x512x1024, .f32⟩
  | .hbm, ⟨21, _⟩ => ⟨S1x512x1024, .f32⟩
  | .hbm, ⟨22, _⟩ => ⟨S3x512x1024, .f32⟩
  | .hbm, ⟨23, _⟩ => ⟨S3x512x1024, .bf16⟩
  | .hbm, ⟨24, _⟩ => ⟨S32x1024, .f32⟩
  | .hbm, ⟨25, _⟩ => ⟨S1x32x1024, .f32⟩
  | .hbm, ⟨26, _⟩ => ⟨S1x32x512, .f32⟩
  | .hbm, ⟨27, _⟩ => ⟨S1x32x512, .f32⟩
  | .hbm, ⟨28, _⟩ => ⟨S1x32x512, .f32⟩
  | .hbm, ⟨29, _⟩ => ⟨S1x1024, .f32⟩
  | .hbm, ⟨30, _⟩ => ⟨S1024x1024, .bf16⟩
  | .hbm, ⟨31, _⟩ => ⟨S1x32x1024, .f32⟩
  | .local _ .vmem, ⟨0, _⟩ => ⟨S1x32x1024, .f32⟩
  | .local _ .vmem, ⟨1, _⟩ => ⟨S1x32x512, .f32⟩
  | .local _ .vmem, ⟨2, _⟩ => ⟨S1x32x512, .f32⟩
  | .local _ .vmem, ⟨3, _⟩ => ⟨S1x32x512, .f32⟩
  | .local _ .vmem, ⟨4, _⟩ => ⟨S1x1024, .f32⟩
  | .local _ .vmem, ⟨5, _⟩ => ⟨S4608x1024, .bf16⟩
  | .local _ .vmem, ⟨6, _⟩ => ⟨S3x512x1024, .bf16⟩
  | .local _ .vmem, ⟨7, _⟩ => ⟨S1024x1024, .bf16⟩
  | .local _ .vmem, ⟨8, _⟩ => ⟨S1x32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4608x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== Reference5Ideal.lean ====
abbrev S32x1x1024 : Shape := ⟨3, ![32, 1, 1024]⟩
abbrev S32x512 : Shape := ⟨2, ![32, 512]⟩
abbrev S1024 : Shape := ⟨1, ![1024]⟩
abbrev S1024x8200 : Shape := ⟨2, ![1024, 8200]⟩
abbrev S512x1024 : Shape := ⟨2, ![512, 1024]⟩
abbrev S1024x1024 : Shape := ⟨2, ![1024, 1024]⟩
abbrev S32x1x512 : Shape := ⟨3, ![32, 1, 512]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x8200 : Shape := ⟨3, ![32, 1, 8200]⟩
abbrev S32x1x8 : Shape := ⟨3, ![32, 1, 8]⟩
abbrev S1x32x1024 : Shape := ⟨3, ![1, 32, 1024]⟩

abbrev nBuf : Space → Nat
  | .hbm => 109
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S32x512, .f32⟩
  | .hbm, ⟨2, _⟩ => ⟨S32x512, .f32⟩
  | .hbm, ⟨3, _⟩ => ⟨S32x512, .f32⟩
  | .hbm, ⟨4, _⟩ => ⟨S1024, .f32⟩
  | .hbm, ⟨5, _⟩ => ⟨S1024x8200, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S32x1x512, .f32⟩
  | .hbm, ⟨11, _⟩ => ⟨S32x1x512, .f32⟩
  | .hbm, ⟨12, _⟩ => ⟨S32x1x512, .f32⟩
  | .hbm, ⟨13, _⟩ => ⟨S32x1x1024, .f32⟩
  | .hbm, ⟨14, _⟩ => ⟨S_, .f32⟩
  | .hbm, ⟨15, _⟩ => ⟨S32x1, .f32⟩
  | .hbm, ⟨16, _⟩ => ⟨S32x1x1, .f32⟩
  | .hbm, ⟨17, _⟩ => ⟨S_, .f32⟩
  | .hbm, ⟨18, _⟩ => ⟨S32x1x1, .f32⟩
  | .hbm, ⟨19, _⟩ => ⟨S32x1x1, .f32⟩
  | .hbm, ⟨20, _⟩ => ⟨S_, .f32⟩
  | .hbm, ⟨21, _⟩ => ⟨S32x1x1, .f32⟩
  | .hbm, ⟨22, _⟩ => ⟨S32x1x1, .f32⟩
  | .hbm, ⟨23, _⟩ => ⟨S32x1x1, .f32⟩
  | .hbm, ⟨24, _⟩ => ⟨S32x1x1024, .f32⟩
  | .hbm, ⟨25, _⟩ => ⟨S32x1x1024, .f32⟩
  | .hbm, ⟨26, _⟩ => ⟨S1x1x1024, .f32⟩
  | .hbm, ⟨27, _⟩ => ⟨S32x1x1024, .f32⟩
  | .hbm, ⟨28, _⟩ => ⟨S32x1x1024, .f32⟩
  | .hbm, ⟨29, _⟩ => ⟨S32x1x8200, .f32⟩
  | .hbm, ⟨30, _⟩ => ⟨S32x1x512, .f32⟩
  | .hbm, ⟨31, _⟩ => ⟨S32x1x512, .f32⟩
  | .hbm, ⟨32, _⟩ => ⟨S32x1x512, .f32⟩
  | .hbm, ⟨33, _⟩ => ⟨S32x1x8, .f32⟩
  | .hbm, ⟨34, _⟩ => ⟨S32x1x512, .f32⟩
  | .hbm, ⟨35, _⟩ => ⟨S32x1x512, .f32⟩
  | .hbm, ⟨36, _⟩ => ⟨S32x1x512, .f32⟩
  | .hbm, ⟨37, _⟩ => ⟨S32x1x512, .f32⟩
  | .hbm, ⟨38, _⟩ => ⟨S32x1x512, .f32⟩
  | .hbm, ⟨39, _⟩ => ⟨S32x1x512, .f32⟩
  | .hbm, ⟨40, _⟩ => ⟨S32x1x512, .f32⟩
  | .hbm, ⟨41, _⟩ => ⟨S32x1x1024, .f32⟩
  | .hbm, ⟨42, _⟩ => ⟨S32x1x1024, .f32⟩
  | .hbm, ⟨43, _⟩ => ⟨S32x1x1024, .f32⟩
  | .hbm, ⟨44, _⟩ => ⟨S32x1x512, .f32⟩
  | .hbm, ⟨45, _⟩ => ⟨S32x1x512, .f32⟩
  | .hbm, ⟨46, _⟩ => ⟨S_, .f32⟩
  | .hbm, ⟨47, _⟩ => ⟨S32x1x512, .f32⟩
  | .hbm, ⟨48, _⟩ => ⟨S32x1x512, .f32⟩
  | .hbm, ⟨49, _⟩ => ⟨S_, .f32⟩
  | .hbm, ⟨50, _⟩ => ⟨S32x1x512, .f32⟩
  | .hbm, ⟨51, _⟩ => ⟨S32x1x512, .f32⟩
  | .hbm, ⟨52, _⟩ => ⟨S32x1x512, .f32⟩
  | .hbm, ⟨53, _⟩ => ⟨S32x1x512, .f32⟩
  | .hbm, ⟨54, _⟩ => ⟨S32x1x512, .f32⟩
  | .hbm, ⟨55, _⟩ => ⟨S32x1x512, .f32⟩
  | .hbm, ⟨56, _⟩ => ⟨S_, .f32⟩
  | .hbm, ⟨57, _⟩ => ⟨S32x1x512, .f32⟩
  | .hbm, ⟨58, _⟩ => ⟨S32x1x512, .f32⟩
  | .hbm, ⟨59, _⟩ => ⟨S_, .f32⟩
  | .hbm, ⟨60, _⟩ => ⟨S32x1x512, .f32⟩
  | .hbm, ⟨61, _⟩ => ⟨S32x1x512, .f32⟩
  | .hbm, ⟨62, _⟩ => ⟨S32x1x512, .f32⟩
  | .hbm, ⟨63, _⟩ => ⟨S32x1x512, .f32⟩
  | .hbm, ⟨64, _⟩ => ⟨S32x1x512, .f32⟩
  | .hbm, ⟨65, _⟩ => ⟨S32x1x512, .f32⟩
  | .hbm, ⟨66, _⟩ => ⟨S_, .f32⟩
  | .hbm, ⟨67, _⟩ => ⟨S32x1x512, .f32⟩
  | .hbm, ⟨68, _⟩ => ⟨S32x1x512, .f32⟩
  | .hbm, ⟨69, _⟩ => ⟨S_, .f32⟩
  | .hbm, ⟨70, _⟩ => ⟨S32x1x512, .f32⟩
  | .hbm, ⟨71, _⟩ => ⟨S32x1x512, .f32⟩
  | .hbm, ⟨72, _⟩ => ⟨S32x1x512, .f32⟩
  | .hbm, ⟨73, _⟩ => ⟨S32x1x512, .f32⟩
  | .hbm, ⟨74, _⟩ => ⟨S32x1x1024, .f32⟩
  | .hbm, ⟨75, _⟩ => ⟨S32x1x1024, .f32⟩
  | .hbm, ⟨76, _⟩ => ⟨S_, .f32⟩
  | .hbm, ⟨77, _⟩ => ⟨S32x1x1024, .f32⟩
  | .hbm, ⟨78, _⟩ => ⟨S32x1x1024, .f32⟩
  | .hbm, ⟨79, _⟩ => ⟨S_, .f32⟩
  | .hbm, ⟨80, _⟩ => ⟨S32x1x1024, .f32⟩
  | .hbm, ⟨81, _⟩ => ⟨S32x1x1024, .f32⟩
  | .hbm, ⟨82, _⟩ => ⟨S32x1x1024, .f32⟩
  | .hbm, ⟨83, _⟩ => ⟨S32x1x1024, .f32⟩
  | .hbm, ⟨84, _⟩ => ⟨S32x1x1024, .f32⟩
  | .hbm, ⟨85, _⟩ => ⟨S32x1x1024, .f32⟩
  | .hbm, ⟨86, _⟩ => ⟨S_, .f32⟩
  | .hbm, ⟨87, _⟩ => ⟨S32x1x1024, .f32⟩
  | .hbm, ⟨88, _⟩ => ⟨S32x1x1024, .f32⟩
  | .hbm, ⟨89, _⟩ => ⟨S_, .f32⟩
  | .hbm, ⟨90, _⟩ => ⟨S32x1x1024, .f32⟩
  | .hbm, ⟨91, _⟩ => ⟨S32x1x1024, .f32⟩
  | .hbm, ⟨92, _⟩ => ⟨S32x1x1024, .f32⟩
  | .hbm, ⟨93, _⟩ => ⟨S32x1x1024, .f32⟩
  | .hbm, ⟨94, _⟩ => ⟨S32x1x1024, .f32⟩
  | .hbm, ⟨95, _⟩ => ⟨S32x1x1024, .f32⟩
  | .hbm, ⟨96, _⟩ => ⟨S32x1x1024, .f32⟩
  | .hbm, ⟨97, _⟩ => ⟨S_, .f32⟩
  | .hbm, ⟨98, _⟩ => ⟨S32x1x1024, .f32⟩
  | .hbm, ⟨99, _⟩ => ⟨S32x1x1024, .f32⟩
  | .hbm, ⟨100, _⟩ => ⟨S_, .f32⟩
  | .hbm, ⟨101, _⟩ => ⟨S32x1x1024, .f32⟩
  | .hbm, ⟨102, _⟩ => ⟨S32x1x1024, .f32⟩
  | .hbm, ⟨103, _⟩ => ⟨S32x1x1024, .f32⟩
  | .hbm, ⟨104, _⟩ => ⟨S32x1x1024, .f32⟩
  | .hbm, ⟨105, _⟩ => ⟨S32x1x1024, .f32⟩
  | .hbm, ⟨106, _⟩ => ⟨S32x1x1024, .f32⟩
  | .hbm, ⟨107, _⟩ => ⟨S32x1x1024, .f32⟩
  | .hbm, ⟨108, _⟩ => ⟨S1x32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v31 : Ref sig .tc := ⟨.hbm, 52, rfl⟩
abbrev main_v32 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v33 : Ref sig .tc := ⟨.hbm, 62, rfl⟩
abbrev main_v34 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_2 : Ref sig .tc := ⟨.hbm, 76, rfl⟩
abbrev main_v39 : Ref sig .tc := ⟨.hbm, 77, rfl⟩
abbrev main_v40 : Ref sig .tc := ⟨.hbm, 78, rfl⟩
abbrev main_cst_3 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_4 : Ref sig .tc := ⟨.hbm, 86, rfl⟩
abbrev main_v47 : Ref sig .tc := ⟨.hbm, 87, rfl⟩
abbrev main_v48 : Ref sig .tc := ⟨.hbm, 88, rfl⟩
abbrev main_cst_5 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_6 : Ref sig .tc := ⟨.hbm, 97, rfl⟩
abbrev main_v56 : Ref sig .tc := ⟨.hbm, 98, rfl⟩
abbrev main_v57 : Ref sig .tc := ⟨.hbm, 99, rfl⟩
abbrev main_cst_7 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩

abbrev nD : Nat := 1
abbrev τ : Topo := Topo.v7x

variable {F : FTy → Type} [FloatOps F]
-- ==== Proof.SsmLoop.lean ====
module

public import proofs.«01_k».proof.Proof.Gen.KernelIdeal.Frame
public import proofs.«01_k».proof.Proof.Gen.KernelIdeal.Loops
public import Idealize.ShloMosaic.Lib.WritesUnit
public import Idealize.ShloMosaic.Lib.ValueIdxCore
public import Idealize.ShloMosaic.Lib.ValueLayout
public import Idealize.ShloMosaic.Lib.Pipeline.Value

@[expose] public section

set_option maxRecDepth 16384

noncomputable section

/-! What the four state loops of the state-space call's body compute, read element by element. -/
namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- The real part of one step of the recurrence. -/
def scR (p0 p1 p2 p3 hr hi xr xi : F .f32) : F .f32 :=
  FloatOps.addf (FloatOps.subf (FloatOps.mulf p0 hr) (FloatOps.mulf p1 hi)) (FloatOps.subf (FloatOps.mulf p2 xr) (FloatOps.mulf p3 xi))

/-- The imaginary part of one step of the recurrence. -/
def scI (p0 p1 p2 p3 hr hi xr xi : F .f32) : F .f32 :=
  FloatOps.addf (FloatOps.addf (FloatOps.mulf p0 hi) (FloatOps.mulf p1 hr)) (FloatOps.addf (FloatOps.mulf p2 xi) (FloatOps.mulf p3 xr))

/-- One state after `k` steps. -/
def hsE (p0 p1 p2 p3 h0 h1 : F .f32) (xr xi : ℕ → F .f32) : ℕ → F .f32 × F .f32
  | 0 => (h0, h1)
  | k + 1 =>
    (scR p0 p1 p2 p3 (hsE p0 p1 p2 p3 h0 h1 xr xi k).1 (hsE p0 p1 p2 p3 h0 h1 xr xi k).2 (xr k) (xi k),
     scI p0 p1 p2 p3 (hsE p0 p1 p2 p3 h0 h1 xr xi k).1 (hsE p0 p1 p2 p3 h0 h1 xr xi k).2 (xr k) (xi k))

/-- The index of row `r`, lane `n` of the input block. -/
abbrev rl (r n : ℕ) : S1024x2048.Idx := ix2 (Fin.ofNat 1024 r) (Fin.ofNat 2048 n)

/-- The states of one chunk of lanes. -/
def hsC (a b d e : FVec F S8x512 .f32) (init : FVec F S8x512 .f32 × FVec F S8x512 .f32) (q : ℕ) (X Y : FVec F S1024x2048 .f32) (j : S8x512.Idx) : ℕ → F .f32 × F .f32 :=
  hsE (a j) (b j) (d j) (e j) (init.1 j) (init.2 j) (fun k => X (rl (8 * k + (j 0).val) (512 * q + (j 1).val)))
    (fun k => Y (rl (8 * k + (j 0).val) (512 * q + (j 1).val)))

abbrev V8 (F : FTy → Type) [FloatOps F] := FVec F S8x512 .f32
abbrev Ps (F : FTy → Type) [FloatOps F] := List (View.Piece (Elt F) S1024x2048 .f32)

/-- Where chunk `q`'s first `k` rows of states have replaced the inputs. -/
def after (X Z : FVec F S1024x2048 .f32) (q k : ℕ) : FVec F S1024x2048 .f32 := fun y =>
  if (y 0).val < 8 * k ∧ 512 * q ≤ (y 1).val ∧ (y 1).val < 512 * q + 512 then Z y else X y

/-- The states laid out by rows. -/
def rowsOf (a b d e : V8 F) (init : V8 F × V8 F) (q : ℕ) (X Y : FVec F S1024x2048 .f32) : S1024x2048.Idx → F .f32 × F .f32 := fun y =>
  hsC a b d e init q X Y (ix2 (Fin.ofNat 8 (y 0).val) (Fin.ofNat 512 ((y 1).val - 512 * q))) ((y 0).val / 8 + 1)

theorem read_piece {v : View sig .tc .vmem S1024x2048 .f32} (G : v.ty.Contents (Elt F)) (L : Ps F) (off : Fin 2 → ℕ)
    (inb : ∀ a, off a + S8x512.size a ≤ S1024x2048.size a) (q k : ℕ) (hoff : off = ![8 * k, 512 * q]) (w : V8 F)
    (X Z : FVec F S1024x2048 .f32)
    (hw : ∀ (y : S1024x2048.Idx) (j : S8x512.Idx), (y 0).val = 8 * k + (j 0).val → (y 1).val = 512 * q + (j 1).val → w j = Z y)
    (hL : v.read (Elt F) (v.writes (Elt F) G L) = after X Z q k) :
    v.read (Elt F) (v.writes (Elt F) G ((⟨Rect.unit off S8x512.size inb, w⟩ : View.Piece (Elt F) S1024x2048 .f32) :: L)) = after X Z q (k + 1) := by
  funext y
  have h0 := idx2_lt0 y; have h1 := idx2_lt1 y
  by_cases hy : (8 * k ≤ (y 0).val ∧ (y 0).val < 8 * k + 8) ∧ (512 * q ≤ (y 1).val ∧ (y 1).val < 512 * q + 512)
  · obtain ⟨⟨ha, hb⟩, hc, hd⟩ := hy
    have e0 : (y 0).val = 8 * k + ((⟨(y 0).val - 8 * k, by omega⟩ : Fin 8)).val := by show _ = 8 * k + (_ - 8 * k); omega
    have e1 : (y 1).val = 512 * q + ((⟨(y 1).val - 512 * q, by omega⟩ : Fin 512)).val := by show _ = 512 * q + (_ - 512 * q); omega
    rw [View.read_writes_cons_unit_of_mem v G inb w L y (ix2 ⟨(y 0).val - 8 * k, by omega⟩ ⟨(y 1).val - 512 * q, by omega⟩) hoff
      (by intro a; match a with
          | ⟨0, _⟩ => exact e0
          | ⟨1, _⟩ => exact e1)]
    rw [hw y _ e0 e1]
    unfold after
    rw [if_pos ⟨by omega, hc, hd⟩]
  · have hne : v.read (Elt F) (v.writes (Elt F) G ((⟨Rect.unit off S8x512.size inb, w⟩ : View.Piece (Elt F) S1024x2048 .f32) :: L)) y
        = v.read (Elt F) (v.writes (Elt F) G L) y := by
      by_cases hr : 8 * k ≤ (y 0).val ∧ (y 0).val < 8 * k + 8
      · exact View.read_writes_cons_unit_of_not_mem v G inb w L y hoff 1 (by
          show (y 1).val < 512 * q ∨ 512 * q + 512 ≤ (y 1).val
          omega)
      · exact View.read_writes_cons_unit_of_not_mem v G inb w L y hoff 0 (by
          show (y 0).val < 8 * k ∨ 8 * k + 8 ≤ (y 0).val
          omega)
    rw [hne, hL]
    unfold after
    by_cases hp : (y 0).val < 8 * k ∧ 512 * q ≤ (y 1).val ∧ (y 1).val < 512 * q + 512
    · rw [if_pos hp, if_pos ⟨by omega, hp.2⟩]
    · rw [if_neg hp, if_neg (by omega)]

/-- A loop whose every trip takes eight rows of inputs to eight rows of states. -/
theorem loop_read {v14 v15 : View sig .tc .vmem S1024x2048 .f32} (a b d e : V8 F) (G14 : v14.ty.Contents (Elt F)) (G15 : v15.ty.Contents (Elt F))
    (init : V8 F × V8 F) (q : ℕ) (hq : q < 4) (st : ℕ → (V8 F × V8 F) × Ps F × Ps F) (off : ℕ → Fin 2 → ℕ)
    (inb : ∀ k, k < 128 → ∀ a, off k a + S8x512.size a ≤ S1024x2048.size a)
    (hoff : ∀ k, k < 128 → off k = ![8 * k, 512 * q])
    (RR II : ℕ → V8 F)
    (h0 : st 0 = (init, [], []))
    (hR : ∀ k (hk : k < 128) j, RR k j = scR (a j) (b j) (d j) (e j) ((st k).1.1 j) ((st k).1.2 j)
      (v14.read (Elt F) (v14.writes (Elt F) G14 (st k).2.1) ((Rect.unit (s := S1024x2048) (off k) S8x512.size (inb k hk)).toLoadRect.idx j))
      (v15.read (Elt F) (v15.writes (Elt F) G15 (st k).2.2) ((Rect.unit (s := S1024x2048) (off k) S8x512.size (inb k hk)).toLoadRect.idx j)))
    (hI : ∀ k (hk : k < 128) j, II k j = scI (a j) (b j) (d j) (e j) ((st k).1.1 j) ((st k).1.2 j)
      (v14.read (Elt F) (v14.writes (Elt F) G14 (st k).2.1) ((Rect.unit (s := S1024x2048) (off k) S8x512.size (inb k hk)).toLoadRect.idx j))
      (v15.read (Elt F) (v15.writes (Elt F) G15 (st k).2.2) ((Rect.unit (s := S1024x2048) (off k) S8x512.size (inb k hk)).toLoadRect.idx j)))
    (hs : ∀ k (hk : k < 128), st (k + 1) = ((RR k, II k),
      (⟨Rect.unit (off k) S8x512.size (inb k hk), RR k⟩ : View.Piece (Elt F) S1024x2048 .f32) :: (st k).2.1,
      (⟨Rect.unit (off k) S8x512.size (inb k hk), II k⟩ : View.Piece (Elt F) S1024x2048 .f32) :: (st k).2.2)) :
    ∀ k, k ≤ 128 →
      (st k).1 = (fun j => (hsC a b d e init q (v14.read (Elt F) G14) (v15.read (Elt F) G15) j k).1, fun j => (hsC a b d e init q (v14.read (Elt F) G14) (v15.read (Elt F) G15) j k).2)
      ∧ v14.read (Elt F) (v14.writes (Elt F) G14 (st k).2.1) = after (v14.read (Elt F) G14) (fun y => (rowsOf a b d e init q (v14.read (Elt F) G14) (v15.read (Elt F) G15) y).1) q k
      ∧ v15.read (Elt F) (v15.writes (Elt F) G15 (st k).2.2) = after (v15.read (Elt F) G15) (fun y => (rowsOf a b d e init q (v14.read (Elt F) G14) (v15.read (Elt F) G15) y).2) q k := by
  intro k
  induction k with
  | zero =>
    intro _
    rw [h0]
    refine ⟨rfl, ?_, ?_⟩
    · funext y; unfold after; rw [if_neg (by omega)]; rfl
    · funext y; unfold after; rw [if_neg (by omega)]; rfl
  | succ k ih =>
    intro hk
    obtain ⟨ih1, ih2, ih3⟩ := ih (by omega)
    have hk' : k < 128 := hk
    have hidx : ∀ j : S8x512.Idx, (Rect.unit (s := S1024x2048) (off k) S8x512.size (inb k hk')).toLoadRect.idx j = rl (8 * k + (j 0).val) (512 * q + (j 1).val) := by
      intro j
      have hj0 := idx2_lt0 j; have hj1 := idx2_lt1 j
      funext a
      match a with
      | ⟨0, _⟩ =>
        refine Fin.ext ?_
        show off k 0 + 1 * (j 0).val = (8 * k + (j 0).val) % 1024
        rw [hoff k hk']
        show 8 * k + 1 * (j 0).val = _
        rw [Nat.mod_eq_of_lt (by omega)]; omega
      | ⟨1, _⟩ =>
        refine Fin.ext ?_
        show off k 1 + 1 * (j 1).val = (512 * q + (j 1).val) % 2048
        rw [hoff k hk']
        show 512 * q + 1 * (j 1).val = _
        rw [Nat.mod_eq_of_lt (by omega)]; omega
    have hx14 : ∀ j : S8x512.Idx, v14.read (Elt F) (v14.writes (Elt F) G14 (st k).2.1) (rl (8 * k + (j 0).val) (512 * q + (j 1).val))
        = v14.read (Elt F) G14 (rl (8 * k + (j 0).val) (512 * q + (j 1).val)) := by
      intro j
      have hj0 := idx2_lt0 j
      rw [ih2]; unfold after
      rw [if_neg]
      rintro ⟨h, -⟩
      have h' : (8 * k + (j 0).val) % 1024 < 8 * k := h
      rw [Nat.mod_eq_of_lt (by omega)] at h'
      omega
    have hx15 : ∀ j : S8x512.Idx, v15.read (Elt F) (v15.writes (Elt F) G15 (st k).2.2) (rl (8 * k + (j 0).val) (512 * q + (j 1).val))
        = v15.read (Elt F) G15 (rl (8 * k + (j 0).val) (512 * q + (j 1).val)) := by
      intro j
      have hj0 := idx2_lt0 j
      rw [ih3]; unfold after
      rw [if_neg]
      rintro ⟨h, -⟩
      have h' : (8 * k + (j 0).val) % 1024 < 8 * k := h
      rw [Nat.mod_eq_of_lt (by omega)] at h'
      omega
    have hRR : RR k = fun j => (hsC a b d e init q (v14.read (Elt F) G14) (v15.read (Elt F) G15) j (k + 1)).1 := by
      funext j
      rw [hR k hk' j, hidx j, hx14 j, hx15 j, ih1]
      rfl
    have hII : II k = fun j => (hsC a b d e init q (v14.read (Elt F) G14) (v15.read (Elt F) G15) j (k + 1)).2 := by
      funext j
      rw [hI k hk' j, hidx j, hx14 j, hx15 j, ih1]
      rfl
    have hrow : ∀ (y : S1024x2048.Idx) (j : S8x512.Idx), (y 0).val = 8 * k + (j 0).val → (y 1).val = 512 * q + (j 1).val →
        hsC a b d e init q (v14.read (Elt F) G14) (v15.read (Elt F) G15) j (k + 1) = rowsOf a b d e init q (v14.read (Elt F) G14) (v15.read (Elt F) G15) y := by
      intro y j e0 e1
      have hj0 := idx2_lt0 j; have hj1 := idx2_lt1 j
      unfold rowsOf
      have hd : (y 0).val / 8 = k := by omega
      have hj : (ix2 (Fin.ofNat 8 (y 0).val) (Fin.ofNat 512 ((y 1).val - 512 * q)) : S8x512.Idx) = j := by
        rw [eq_ix2 j]
        congr 1
        · refine Fin.ext ?_; show (y 0).val % 8 = (j 0).val; omega
        · refine Fin.ext ?_; show ((y 1).val - 512 * q) % 512 = (j 1).val; omega
      rw [hd, hj]
    rw [hs k hk']
    refine ⟨by rw [hRR, hII], ?_, ?_⟩
    · exact read_piece G14 _ (off k) (inb k hk') q k (hoff k hk') (RR k) _ _ (fun y j e0 e1 => by rw [hRR, ← hrow y j e0 e1]) ih2
    · exact read_piece G15 _ (off k) (inb k hk') q k (hoff k hk') (II k) _ _ (fun y j e0 e1 => by rw [hII, ← hrow y j e0 e1]) ih3

section
variable (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole)

theorem trip1R (v30 : FVec F S1024x1024 .f32) (v34 v36 v38 v40 : Vec F S1x8x512 .f32) (k : Fin k0_t1_loop.trips) (acc : V8 F × V8 F) (f14 : BufTy.Contents (Elt F) arg14.view.ty) (f15 : BufTy.Contents (Elt F) arg15.view.ty) :
    tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 k acc f14 f15 = (k0_pay28 v34 v36 v38 v40 acc.1 acc.2 (View.readAt (Elt F) arg14.view (Rect.unit (s := S1024x2048) (k0_off1 k) S8x512.size (k0_off1_inb k)).toLoadRect f14) (View.readAt (Elt F) arg15.view (Rect.unit (s := S1024x2048) (k0_off1 k) S8x512.size (k0_off1_inb k)).toLoadRect f15), k0_pay29 v34 v36 v38 v40 acc.1 acc.2 (View.readAt (Elt F) arg14.view (Rect.unit (s := S1024x2048) (k0_off1 k) S8x512.size (k0_off1_inb k)).toLoadRect f14) (View.readAt (Elt F) arg15.view (Rect.unit (s := S1024x2048) (k0_off1 k) S8x512.size (k0_off1_inb k)).toLoadRect f15)) := by
  unfold tripR_k0_t1 trip_k0_t1; rfl

theorem trip1L (v30 : FVec F S1024x1024 .f32) (v34 v36 v38 v40 : Vec F S1x8x512 .f32) (k : Fin k0_t1_loop.trips) (acc : V8 F × V8 F) (f14 : BufTy.Contents (Elt F) arg14.view.ty) (f15 : BufTy.Contents (Elt F) arg15.view.ty) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 k acc f14 f15 = ([(⟨Rect.unit (s := S1024x2048) (k0_off1 k) S8x512.size (k0_off1_inb k), k0_pay30 v34 v36 v38 v40 acc.1 acc.2 (View.readAt (Elt F) arg14.view (Rect.unit (s := S1024x2048) (k0_off1 k) S8x512.size (k0_off1_inb k)).toLoadRect f14) (View.readAt (Elt F) arg15.view (Rect.unit (s := S1024x2048) (k0_off1 k) S8x512.size (k0_off1_inb k)).toLoadRect f15)⟩ : View.Piece (Elt F) S1024x2048 .f32)], [(⟨Rect.unit (s := S1024x2048) (k0_off1 k) S8x512.size (k0_off1_inb k), k0_pay31 v34 v36 v38 v40 acc.1 acc.2 (View.readAt (Elt F) arg14.view (Rect.unit (s := S1024x2048) (k0_off1 k) S8x512.size (k0_off1_inb k)).toLoadRect f14) (View.readAt (Elt F) arg15.view (Rect.unit (s := S1024x2048) (k0_off1 k) S8x512.size (k0_off1_inb k)).toLoadRect f15)⟩ : View.Piece (Elt F) S1024x2048 .f32)]) := by
  unfold tripL_k0_t1 trip_k0_t1; rfl

theorem trips1 : k0_t1_loop.trips = 128 := by decide +kernel

theorem off1 (k : Fin k0_t1_loop.trips) : k0_off1 k = ![8 * k.val, 512 * 0] := by
  have h : ∀ k : Fin 128, k0_off1 (k.cast trips1.symm) = ![8 * k.val, 512 * 0] := by decide +kernel
  exact h (k.cast trips1)

theorem loop1 (v30 : FVec F S1024x1024 .f32) (v34 v36 v38 v40 : Vec F S1x8x512 .f32) (G14 : BufTy.Contents (Elt F) arg14.view.ty) (G15 : BufTy.Contents (Elt F) arg15.view.ty) (init : V8 F × V8 F) :
    (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init (Scf.trips k0_t1_loop.lb k0_t1_loop.ub k0_t1_loop.st)).1
        = (fun j => (hsC (k0_pay22 v34) (k0_pay23 v36) (k0_pay24 v38) (k0_pay25 v40) init 0 (arg14.view.read (Elt F) G14) (arg15.view.read (Elt F) G15) j 128).1, fun j => (hsC (k0_pay22 v34) (k0_pay23 v36) (k0_pay24 v38) (k0_pay25 v40) init 0 (arg14.view.read (Elt F) G14) (arg15.view.read (Elt F) G15) j 128).2)
      ∧ arg14.view.read (Elt F) (arg14.view.writes (Elt F) G14 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init (Scf.trips k0_t1_loop.lb k0_t1_loop.ub k0_t1_loop.st)).2.1)
        = after (arg14.view.read (Elt F) G14) (fun y => (rowsOf (k0_pay22 v34) (k0_pay23 v36) (k0_pay24 v38) (k0_pay25 v40) init 0 (arg14.view.read (Elt F) G14) (arg15.view.read (Elt F) G15) y).1) 0 128
      ∧ arg15.view.read (Elt F) (arg15.view.writes (Elt F) G15 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init (Scf.trips k0_t1_loop.lb k0_t1_loop.ub k0_t1_loop.st)).2.2)
        = after (arg15.view.read (Elt F) G15) (fun y => (rowsOf (k0_pay22 v34) (k0_pay23 v36) (k0_pay24 v38) (k0_pay25 v40) init 0 (arg14.view.read (Elt F) G14) (arg15.view.read (Elt F) G15) y).2) 0 128 := by
  have ht : Scf.trips k0_t1_loop.lb k0_t1_loop.ub k0_t1_loop.st = 128 := trips1
  rw [ht]
  have hf : ∀ k, k < 128 → k < k0_t1_loop.trips := fun k hk => trips1.symm ▸ hk
  let kk : ℕ → Fin k0_t1_loop.trips := fun k => if h : k < 128 then ⟨k, hf k h⟩ else ⟨0, hf 0 (by omega)⟩
  have hkk : ∀ k (h : k < 128), kk k = ⟨k, hf k h⟩ := fun k h => dif_pos h
  refine loop_read (v14 := arg14.view) (v15 := arg15.view) (k0_pay22 v34) (k0_pay23 v36) (k0_pay24 v38) (k0_pay25 v40) G14 G15 init 0 (by omega) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init) (fun k => k0_off1 (kk k)) (fun k _ => k0_off1_inb (kk k))
    (fun k hk => by show k0_off1 (kk k) = _; rw [hkk k hk, off1])
    (fun k => (tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 (kk k) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init k).1 (arg14.view.writes (Elt F) G14 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init k).2.1) (arg15.view.writes (Elt F) G15 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init k).2.2)).1)
    (fun k => (tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 (kk k) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init k).1 (arg14.view.writes (Elt F) G14 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init k).2.1) (arg15.view.writes (Elt F) G15 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init k).2.2)).2)
    rfl ?_ ?_ ?_ 128 le_rfl
  · intro k hk j
    rw [trip1R]; rfl
  · intro k hk j
    rw [trip1R]; rfl
  · intro k hk
    have hv : (kk k).val = k := by rw [hkk k hk]
    have h := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init (kk k)
    rw [trip1L, hv] at h
    have hR := trip1R c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 (kk k) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init k).1 (arg14.view.writes (Elt F) G14 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init k).2.1) (arg15.view.writes (Elt F) G15 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init k).2.2)
    refine h.trans (congrArg₂ Prod.mk rfl (congrArg₂ Prod.mk ?_ ?_))
    · exact congrArg (fun w => (⟨Rect.unit (s := S1024x2048) (k0_off1 (kk k)) S8x512.size (k0_off1_inb (kk k)), w⟩ : View.Piece (Elt F) S1024x2048 .f32) :: (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init k).2.1)
        ((shapeCast_self _ _).trans (congrArg Prod.fst hR).symm)
    · exact congrArg (fun w => (⟨Rect.unit (s := S1024x2048) (k0_off1 (kk k)) S8x512.size (k0_off1_inb (kk k)), w⟩ : View.Piece (Elt F) S1024x2048 .f32) :: (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v30 v34 v36 v38 v40 G14 G15 init k).2.2)
        ((shapeCast_self _ _).trans (congrArg Prod.snd hR).symm)
end

section
variable (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole)

theorem trip2R (v55 : FVec F S8x512 .f32) (v56 v58 v60 : Vec F S1x8x512 .f32) (k : Fin k0_t2_loop.trips) (acc : V8 F × V8 F) (f14 : BufTy.Contents (Elt F) arg14.view.ty) (f15 : BufTy.Contents (Elt F) arg15.view.ty) :
    tripR_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 k acc f14 f15 = (k0_pay40 v55 v56 v58 v60 acc.1 acc.2 (View.readAt (Elt F) arg14.view (Rect.unit (s := S1024x2048) (k0_off2 k) S8x512.size (k0_off2_inb k)).toLoadRect f14) (View.readAt (Elt F) arg15.view (Rect.unit (s := S1024x2048) (k0_off2 k) S8x512.size (k0_off2_inb k)).toLoadRect f15), k0_pay41 v55 v56 v58 v60 acc.1 acc.2 (View.readAt (Elt F) arg14.view (Rect.unit (s := S1024x2048) (k0_off2 k) S8x512.size (k0_off2_inb k)).toLoadRect f14) (View.readAt (Elt F) arg15.view (Rect.unit (s := S1024x2048) (k0_off2 k) S8x512.size (k0_off2_inb k)).toLoadRect f15)) := by
  unfold tripR_k0_t2 trip_k0_t2; rfl

theorem trip2L (v55 : FVec F S8x512 .f32) (v56 v58 v60 : Vec F S1x8x512 .f32) (k : Fin k0_t2_loop.trips) (acc : V8 F × V8 F) (f14 : BufTy.Contents (Elt F) arg14.view.ty) (f15 : BufTy.Contents (Elt F) arg15.view.ty) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 k acc f14 f15 = ([(⟨Rect.unit (s := S1024x2048) (k0_off2 k) S8x512.size (k0_off2_inb k), k0_pay42 v55 v56 v58 v60 acc.1 acc.2 (View.readAt (Elt F) arg14.view (Rect.unit (s := S1024x2048) (k0_off2 k) S8x512.size (k0_off2_inb k)).toLoadRect f14) (View.readAt (Elt F) arg15.view (Rect.unit (s := S1024x2048) (k0_off2 k) S8x512.size (k0_off2_inb k)).toLoadRect f15)⟩ : View.Piece (Elt F) S1024x2048 .f32)], [(⟨Rect.unit (s := S1024x2048) (k0_off2 k) S8x512.size (k0_off2_inb k), k0_pay43 v55 v56 v58 v60 acc.1 acc.2 (View.readAt (Elt F) arg14.view (Rect.unit (s := S1024x2048) (k0_off2 k) S8x512.size (k0_off2_inb k)).toLoadRect f14) (View.readAt (Elt F) arg15.view (Rect.unit (s := S1024x2048) (k0_off2 k) S8x512.size (k0_off2_inb k)).toLoadRect f15)⟩ : View.Piece (Elt F) S1024x2048 .f32)]) := by
  unfold tripL_k0_t2 trip_k0_t2; rfl

theorem trips2 : k0_t2_loop.trips = 128 := by decide +kernel

theorem off2 (k : Fin k0_t2_loop.trips) : k0_off2 k = ![8 * k.val, 512 * 1] := by
  have h : ∀ k : Fin 128, k0_off2 (k.cast trips2.symm) = ![8 * k.val, 512 * 1] := by decide +kernel
  exact h (k.cast trips2)

theorem loop2 (v55 : FVec F S8x512 .f32) (v56 v58 v60 : Vec F S1x8x512 .f32) (G14 : BufTy.Contents (Elt F) arg14.view.ty) (G15 : BufTy.Contents (Elt F) arg15.view.ty) (init : V8 F × V8 F) :
    (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init (Scf.trips k0_t2_loop.lb k0_t2_loop.ub k0_t2_loop.st)).1
        = (fun j => (hsC (v55) (k0_pay35 v56) (k0_pay36 v58) (k0_pay37 v60) init 1 (arg14.view.read (Elt F) G14) (arg15.view.read (Elt F) G15) j 128).1, fun j => (hsC (v55) (k0_pay35 v56) (k0_pay36 v58) (k0_pay37 v60) init 1 (arg14.view.read (Elt F) G14) (arg15.view.read (Elt F) G15) j 128).2)
      ∧ arg14.view.read (Elt F) (arg14.view.writes (Elt F) G14 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init (Scf.trips k0_t2_loop.lb k0_t2_loop.ub k0_t2_loop.st)).2.1)
        = after (arg14.view.read (Elt F) G14) (fun y => (rowsOf (v55) (k0_pay35 v56) (k0_pay36 v58) (k0_pay37 v60) init 1 (arg14.view.read (Elt F) G14) (arg15.view.read (Elt F) G15) y).1) 1 128
      ∧ arg15.view.read (Elt F) (arg15.view.writes (Elt F) G15 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init (Scf.trips k0_t2_loop.lb k0_t2_loop.ub k0_t2_loop.st)).2.2)
        = after (arg15.view.read (Elt F) G15) (fun y => (rowsOf (v55) (k0_pay35 v56) (k0_pay36 v58) (k0_pay37 v60) init 1 (arg14.view.read (Elt F) G14) (arg15.view.read (Elt F) G15) y).2) 1 128 := by
  have ht : Scf.trips k0_t2_loop.lb k0_t2_loop.ub k0_t2_loop.st = 128 := trips2
  rw [ht]
  have hf : ∀ k, k < 128 → k < k0_t2_loop.trips := fun k hk => trips2.symm ▸ hk
  let kk : ℕ → Fin k0_t2_loop.trips := fun k => if h : k < 128 then ⟨k, hf k h⟩ else ⟨0, hf 0 (by omega)⟩
  have hkk : ∀ k (h : k < 128), kk k = ⟨k, hf k h⟩ := fun k h => dif_pos h
  refine loop_read (v14 := arg14.view) (v15 := arg15.view) (v55) (k0_pay35 v56) (k0_pay36 v58) (k0_pay37 v60) G14 G15 init 1 (by omega) (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init) (fun k => k0_off2 (kk k)) (fun k _ => k0_off2_inb (kk k))
    (fun k hk => by show k0_off2 (kk k) = _; rw [hkk k hk, off2])
    (fun k => (tripR_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 (kk k) (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init k).1 (arg14.view.writes (Elt F) G14 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init k).2.1) (arg15.view.writes (Elt F) G15 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init k).2.2)).1)
    (fun k => (tripR_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 (kk k) (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init k).1 (arg14.view.writes (Elt F) G14 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init k).2.1) (arg15.view.writes (Elt F) G15 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init k).2.2)).2)
    rfl ?_ ?_ ?_ 128 le_rfl
  · intro k hk j
    rw [trip2R]; rfl
  · intro k hk j
    rw [trip2R]; rfl
  · intro k hk
    have hv : (kk k).val = k := by rw [hkk k hk]
    have h := st_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init (kk k)
    rw [trip2L, hv] at h
    have hR := trip2R c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 (kk k) (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init k).1 (arg14.view.writes (Elt F) G14 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init k).2.1) (arg15.view.writes (Elt F) G15 (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init k).2.2)
    refine h.trans (congrArg₂ Prod.mk rfl (congrArg₂ Prod.mk ?_ ?_))
    · exact congrArg (fun w => (⟨Rect.unit (s := S1024x2048) (k0_off2 (kk k)) S8x512.size (k0_off2_inb (kk k)), w⟩ : View.Piece (Elt F) S1024x2048 .f32) :: (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init k).2.1)
        ((shapeCast_self _ _).trans (congrArg Prod.fst hR).symm)
    · exact congrArg (fun w => (⟨Rect.unit (s := S1024x2048) (k0_off2 (kk k)) S8x512.size (k0_off2_inb (kk k)), w⟩ : View.Piece (Elt F) S1024x2048 .f32) :: (st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v55 v56 v58 v60 G14 G15 init k).2.2)
        ((shapeCast_self _ _).trans (congrArg Prod.snd hR).symm)
end

section
variable (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole)

theorem trip3R (v75 v77 v79 : FVec F S8x512 .f32) (v80 : Vec F S1x8x512 .f32) (k : Fin k0_t3_loop.trips) (acc : V8 F × V8 F) (f14 : BufTy.Contents (Elt F) arg14.view.ty) (f15 : BufTy.Contents (Elt F) arg15.view.ty) :
    tripR_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 k acc f14 f15 = (k0_pay52 v75 v77 v79 v80 acc.1 acc.2 (View.readAt (Elt F) arg14.view (Rect.unit (s := S1024x2048) (k0_off3 k) S8x512.size (k0_off3_inb k)).toLoadRect f14) (View.readAt (Elt F) arg15.view (Rect.unit (s := S1024x2048) (k0_off3 k) S8x512.size (k0_off3_inb k)).toLoadRect f15), k0_pay53 v75 v77 v79 v80 acc.1 acc.2 (View.readAt (Elt F) arg14.view (Rect.unit (s := S1024x2048) (k0_off3 k) S8x512.size (k0_off3_inb k)).toLoadRect f14) (View.readAt (Elt F) arg15.view (Rect.unit (s := S1024x2048) (k0_off3 k) S8x512.size (k0_off3_inb k)).toLoadRect f15)) := by
  unfold tripR_k0_t3 trip_k0_t3; rfl

theorem trip3L (v75 v77 v79 : FVec F S8x512 .f32) (v80 : Vec F S1x8x512 .f32) (k : Fin k0_t3_loop.trips) (acc : V8 F × V8 F) (f14 : BufTy.Contents (Elt F) arg14.view.ty) (f15 : BufTy.Contents (Elt F) arg15.view.ty) :
    tripL_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 k acc f14 f15 = ([(⟨Rect.unit (s := S1024x2048) (k0_off3 k) S8x512.size (k0_off3_inb k), k0_pay54 v75 v77 v79 v80 acc.1 acc.2 (View.readAt (Elt F) arg14.view (Rect.unit (s := S1024x2048) (k0_off3 k) S8x512.size (k0_off3_inb k)).toLoadRect f14) (View.readAt (Elt F) arg15.view (Rect.unit (s := S1024x2048) (k0_off3 k) S8x512.size (k0_off3_inb k)).toLoadRect f15)⟩ : View.Piece (Elt F) S1024x2048 .f32)], [(⟨Rect.unit (s := S1024x2048) (k0_off3 k) S8x512.size (k0_off3_inb k), k0_pay55 v75 v77 v79 v80 acc.1 acc.2 (View.readAt (Elt F) arg14.view (Rect.unit (s := S1024x2048) (k0_off3 k) S8x512.size (k0_off3_inb k)).toLoadRect f14) (View.readAt (Elt F) arg15.view (Rect.unit (s := S1024x2048) (k0_off3 k) S8x512.size (k0_off3_inb k)).toLoadRect f15)⟩ : View.Piece (Elt F) S1024x2048 .f32)]) := by
  unfold tripL_k0_t3 trip_k0_t3; rfl

theorem trips3 : k0_t3_loop.trips = 128 := by decide +kernel

theorem off3 (k : Fin k0_t3_loop.trips) : k0_off3 k = ![8 * k.val, 512 * 2] := by
  have h : ∀ k : Fin 128, k0_off3 (k.cast trips3.symm) = ![8 * k.val, 512 * 2] := by decide +kernel
  exact h (k.cast trips3)

theorem loop3 (v75 v77 v79 : FVec F S8x512 .f32) (v80 : Vec F S1x8x512 .f32) (G14 : BufTy.Contents (Elt F) arg14.view.ty) (G15 : BufTy.Contents (Elt F) arg15.view.ty) (init : V8 F × V8 F) :
    (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init (Scf.trips k0_t3_loop.lb k0_t3_loop.ub k0_t3_loop.st)).1
        = (fun j => (hsC (v75) (v77) (v79) (k0_pay49 v80) init 2 (arg14.view.read (Elt F) G14) (arg15.view.read (Elt F) G15) j 128).1, fun j => (hsC (v75) (v77) (v79) (k0_pay49 v80) init 2 (arg14.view.read (Elt F) G14) (arg15.view.read (Elt F) G15) j 128).2)
      ∧ arg14.view.read (Elt F) (arg14.view.writes (Elt F) G14 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init (Scf.trips k0_t3_loop.lb k0_t3_loop.ub k0_t3_loop.st)).2.1)
        = after (arg14.view.read (Elt F) G14) (fun y => (rowsOf (v75) (v77) (v79) (k0_pay49 v80) init 2 (arg14.view.read (Elt F) G14) (arg15.view.read (Elt F) G15) y).1) 2 128
      ∧ arg15.view.read (Elt F) (arg15.view.writes (Elt F) G15 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init (Scf.trips k0_t3_loop.lb k0_t3_loop.ub k0_t3_loop.st)).2.2)
        = after (arg15.view.read (Elt F) G15) (fun y => (rowsOf (v75) (v77) (v79) (k0_pay49 v80) init 2 (arg14.view.read (Elt F) G14) (arg15.view.read (Elt F) G15) y).2) 2 128 := by
  have ht : Scf.trips k0_t3_loop.lb k0_t3_loop.ub k0_t3_loop.st = 128 := trips3
  rw [ht]
  have hf : ∀ k, k < 128 → k < k0_t3_loop.trips := fun k hk => trips3.symm ▸ hk
  let kk : ℕ → Fin k0_t3_loop.trips := fun k => if h : k < 128 then ⟨k, hf k h⟩ else ⟨0, hf 0 (by omega)⟩
  have hkk : ∀ k (h : k < 128), kk k = ⟨k, hf k h⟩ := fun k h => dif_pos h
  refine loop_read (v14 := arg14.view) (v15 := arg15.view) (v75) (v77) (v79) (k0_pay49 v80) G14 G15 init 2 (by omega) (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init) (fun k => k0_off3 (kk k)) (fun k _ => k0_off3_inb (kk k))
    (fun k hk => by show k0_off3 (kk k) = _; rw [hkk k hk, off3])
    (fun k => (tripR_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 (kk k) (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init k).1 (arg14.view.writes (Elt F) G14 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init k).2.1) (arg15.view.writes (Elt F) G15 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init k).2.2)).1)
    (fun k => (tripR_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 (kk k) (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init k).1 (arg14.view.writes (Elt F) G14 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init k).2.1) (arg15.view.writes (Elt F) G15 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init k).2.2)).2)
    rfl ?_ ?_ ?_ 128 le_rfl
  · intro k hk j
    rw [trip3R]; rfl
  · intro k hk j
    rw [trip3R]; rfl
  · intro k hk
    have hv : (kk k).val = k := by rw [hkk k hk]
    have h := st_k0_t3_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init (kk k)
    rw [trip3L, hv] at h
    have hR := trip3R c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 (kk k) (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init k).1 (arg14.view.writes (Elt F) G14 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init k).2.1) (arg15.view.writes (Elt F) G15 (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init k).2.2)
    refine h.trans (congrArg₂ Prod.mk rfl (congrArg₂ Prod.mk ?_ ?_))
    · exact congrArg (fun w => (⟨Rect.unit (s := S1024x2048) (k0_off3 (kk k)) S8x512.size (k0_off3_inb (kk k)), w⟩ : View.Piece (Elt F) S1024x2048 .f32) :: (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init k).2.1)
        ((shapeCast_self _ _).trans (congrArg Prod.fst hR).symm)
    · exact congrArg (fun w => (⟨Rect.unit (s := S1024x2048) (k0_off3 (kk k)) S8x512.size (k0_off3_inb (kk k)), w⟩ : View.Piece (Elt F) S1024x2048 .f32) :: (st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v75 v77 v79 v80 G14 G15 init k).2.2)
        ((shapeCast_self _ _).trans (congrArg Prod.snd hR).symm)
end

section
variable (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole)

theorem trip4R (v95 v97 v99 v101 v103 : FVec F S8x512 .f32) (k : Fin k0_t4_loop.trips) (acc : V8 F × V8 F) (f14 : BufTy.Contents (Elt F) arg14.view.ty) (f15 : BufTy.Contents (Elt F) arg15.view.ty) :
    tripR_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 k acc f14 f15 = (k0_pay64 v95 v97 v99 v101 acc.1 acc.2 (View.readAt (Elt F) arg14.view (Rect.unit (s := S1024x2048) (k0_off4 k) S8x512.size (k0_off4_inb k)).toLoadRect f14) (View.readAt (Elt F) arg15.view (Rect.unit (s := S1024x2048) (k0_off4 k) S8x512.size (k0_off4_inb k)).toLoadRect f15), k0_pay65 v95 v97 v99 v101 acc.1 acc.2 (View.readAt (Elt F) arg14.view (Rect.unit (s := S1024x2048) (k0_off4 k) S8x512.size (k0_off4_inb k)).toLoadRect f14) (View.readAt (Elt F) arg15.view (Rect.unit (s := S1024x2048) (k0_off4 k) S8x512.size (k0_off4_inb k)).toLoadRect f15)) := by
  unfold tripR_k0_t4 trip_k0_t4; rfl

theorem trip4L (v95 v97 v99 v101 v103 : FVec F S8x512 .f32) (k : Fin k0_t4_loop.trips) (acc : V8 F × V8 F) (f14 : BufTy.Contents (Elt F) arg14.view.ty) (f15 : BufTy.Contents (Elt F) arg15.view.ty) :
    tripL_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 k acc f14 f15 = ([(⟨Rect.unit (s := S1024x2048) (k0_off4 k) S8x512.size (k0_off4_inb k), k0_pay66 v95 v97 v99 v101 acc.1 acc.2 (View.readAt (Elt F) arg14.view (Rect.unit (s := S1024x2048) (k0_off4 k) S8x512.size (k0_off4_inb k)).toLoadRect f14) (View.readAt (Elt F) arg15.view (Rect.unit (s := S1024x2048) (k0_off4 k) S8x512.size (k0_off4_inb k)).toLoadRect f15)⟩ : View.Piece (Elt F) S1024x2048 .f32)], [(⟨Rect.unit (s := S1024x2048) (k0_off4 k) S8x512.size (k0_off4_inb k), k0_pay67 v95 v97 v99 v101 acc.1 acc.2 (View.readAt (Elt F) arg14.view (Rect.unit (s := S1024x2048) (k0_off4 k) S8x512.size (k0_off4_inb k)).toLoadRect f14) (View.readAt (Elt F) arg15.view (Rect.unit (s := S1024x2048) (k0_off4 k) S8x512.size (k0_off4_inb k)).toLoadRect f15)⟩ : View.Piece (Elt F) S1024x2048 .f32)]) := by
  unfold tripL_k0_t4 trip_k0_t4; rfl

theorem trips4 : k0_t4_loop.trips = 128 := by decide +kernel

theorem off4 (k : Fin k0_t4_loop.trips) : k0_off4 k = ![8 * k.val, 512 * 3] := by
  have h : ∀ k : Fin 128, k0_off4 (k.cast trips4.symm) = ![8 * k.val, 512 * 3] := by decide +kernel
  exact h (k.cast trips4)

theorem loop4 (v95 v97 v99 v101 v103 : FVec F S8x512 .f32) (G14 : BufTy.Contents (Elt F) arg14.view.ty) (G15 : BufTy.Contents (Elt F) arg15.view.ty) (init : V8 F × V8 F) :
    (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init (Scf.trips k0_t4_loop.lb k0_t4_loop.ub k0_t4_loop.st)).1
        = (fun j => (hsC (v95) (v97) (v99) (v101) init 3 (arg14.view.read (Elt F) G14) (arg15.view.read (Elt F) G15) j 128).1, fun j => (hsC (v95) (v97) (v99) (v101) init 3 (arg14.view.read (Elt F) G14) (arg15.view.read (Elt F) G15) j 128).2)
      ∧ arg14.view.read (Elt F) (arg14.view.writes (Elt F) G14 (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init (Scf.trips k0_t4_loop.lb k0_t4_loop.ub k0_t4_loop.st)).2.1)
        = after (arg14.view.read (Elt F) G14) (fun y => (rowsOf (v95) (v97) (v99) (v101) init 3 (arg14.view.read (Elt F) G14) (arg15.view.read (Elt F) G15) y).1) 3 128
      ∧ arg15.view.read (Elt F) (arg15.view.writes (Elt F) G15 (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init (Scf.trips k0_t4_loop.lb k0_t4_loop.ub k0_t4_loop.st)).2.2)
        = after (arg15.view.read (Elt F) G15) (fun y => (rowsOf (v95) (v97) (v99) (v101) init 3 (arg14.view.read (Elt F) G14) (arg15.view.read (Elt F) G15) y).2) 3 128 := by
  have ht : Scf.trips k0_t4_loop.lb k0_t4_loop.ub k0_t4_loop.st = 128 := trips4
  rw [ht]
  have hf : ∀ k, k < 128 → k < k0_t4_loop.trips := fun k hk => trips4.symm ▸ hk
  let kk : ℕ → Fin k0_t4_loop.trips := fun k => if h : k < 128 then ⟨k, hf k h⟩ else ⟨0, hf 0 (by omega)⟩
  have hkk : ∀ k (h : k < 128), kk k = ⟨k, hf k h⟩ := fun k h => dif_pos h
  refine loop_read (v14 := arg14.view) (v15 := arg15.view) (v95) (v97) (v99) (v101) G14 G15 init 3 (by omega) (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init) (fun k => k0_off4 (kk k)) (fun k _ => k0_off4_inb (kk k))
    (fun k hk => by show k0_off4 (kk k) = _; rw [hkk k hk, off4])
    (fun k => (tripR_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 (kk k) (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init k).1 (arg14.view.writes (Elt F) G14 (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init k).2.1) (arg15.view.writes (Elt F) G15 (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init k).2.2)).1)
    (fun k => (tripR_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 (kk k) (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init k).1 (arg14.view.writes (Elt F) G14 (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init k).2.1) (arg15.view.writes (Elt F) G15 (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init k).2.2)).2)
    rfl ?_ ?_ ?_ 128 le_rfl
  · intro k hk j
    rw [trip4R]; rfl
  · intro k hk j
    rw [trip4R]; rfl
  · intro k hk
    have hv : (kk k).val = k := by rw [hkk k hk]
    have h := st_k0_t4_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init (kk k)
    rw [trip4L, hv] at h
    have hR := trip4R c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 (kk k) (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init k).1 (arg14.view.writes (Elt F) G14 (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init k).2.1) (arg15.view.writes (Elt F) G15 (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init k).2.2)
    refine h.trans (congrArg₂ Prod.mk rfl (congrArg₂ Prod.mk ?_ ?_))
    · exact congrArg (fun w => (⟨Rect.unit (s := S1024x2048) (k0_off4 (kk k)) S8x512.size (k0_off4_inb (kk k)), w⟩ : View.Piece (Elt F) S1024x2048 .f32) :: (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init k).2.1)
        ((shapeCast_self _ _).trans (congrArg Prod.fst hR).symm)
    · exact congrArg (fun w => (⟨Rect.unit (s := S1024x2048) (k0_off4 (kk k)) S8x512.size (k0_off4_inb (kk k)), w⟩ : View.Piece (Elt F) S1024x2048 .f32) :: (st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v95 v97 v99 v101 v103 G14 G15 init k).2.2)
        ((shapeCast_self _ _).trans (congrArg Prod.snd hR).symm)
end

end Cert.KernelIdeal.Ssm

end
-- ==== Proof.SsmRun.lean ====
module

public import proofs.«01_k».proof.Proof.Gen.KernelIdeal.Frame
public import proofs.«01_k».proof.Proof.Gen.KernelIdeal.Loops

@[expose] public section

set_option maxRecDepth 16384

noncomputable section

/-! The state-space call's body at one grid point, run over any scalar type. -/
namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A buffer holding what a list of stores leaves. -/
abbrev left {s : Shape} {e : EltTy} (c : Dev nD) (a : Memref sig .tc .vmem s e) (L : List (View.Piece (Elt F) s e)) : sProp 𝕄 :=
  iprop(∃ f, a.view.loc (c : Thread nD τ) ↦[a.view.set]{fullShare} a.view.writes (Elt F) f L)

/-- The body's condition: the first grid point. -/
abbrev atFirst (i : grid0.Coords) : Prop := (Scalar.cmpi .ne (Scalar.extui (Scalar.cmpi .eq (BitVec.ofNat 32 (i 0).val) 0#32)) 0#32) = 1#1

/-- A buffer holding something. -/
abbrev some' {s : Shape} {e : EltTy} (c : Dev nD) (a : Memref sig .tc .vmem s e) : sProp 𝕄 :=
  iprop(∃ d, owns (c : Thread nD τ) a fullShare d)

variable (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole)
  (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16)

set_option maxHeartbeats 6400000 in
/-- The run at a later point: the stores each buffer is left with. -/
def runB (hc : ¬atFirst i) (P : Vec F S4x8x2048 .f32) (H : Vec F S2x8x2048 .f32) :
    { L : List (View.Piece (Elt F) S1024x512 .f32) × List (View.Piece (Elt F) S8x2048 .f32) × List (View.Piece (Elt F) S8x2048 .f32) × List (View.Piece (Elt F) S1024x2048 .f32) × List (View.Piece (Elt F) S1024x2048 .f32) × List (View.Piece (Elt F) S4x8x2048 .f32) × List (View.Piece (Elt F) S2x8x2048 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ some' c arg11 ∗ some' c arg12 ∗ some' c arg13 ∗ some' c arg14 ∗ some' c arg15 ∗ owns (c : Thread nD τ) arg16 fullShare P ∗ owns (c : Thread nD τ) arg17 fullShare H
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ left c arg11 L.1 ∗ left c arg12 L.2.1 ∗ left c arg13 L.2.2.1 ∗ left c arg14 L.2.2.2.1 ∗ left c arg15 L.2.2.2.2.1 ∗ owns (c : Thread nD τ) arg16 fullShare P ∗ left c arg17 L.2.2.2.2.2.2) -∗ K ⟨⟩))
          ⊢ wp frame (wpE (defs₀ (F := F)) Variants.none c none) E (cc0_ssm_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_, ?_, ?_, ?_, [], ?_), fun E K => ?run⟩
  case run =>
    simp only [cc0_ssm_prompt_eq_skeleton]; unfold cc0_ssm_prompt_skel
    simp only [k0_part1_eq_skeleton, k0_part2_eq_skeleton, k0_part3_eq_skeleton, k0_part4_eq_skeleton, k0_part5_eq_skeleton, k0_part6_eq_skeleton, k0_part7_eq_skeleton]
    unfold some' left owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg16.eq_unread hf16
    obtain rfl := harg17.eq_unread hf17
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; isplitr; · ipureintro; exact harg16.read_unread _
      iexact H16
    iexists _; iexact H17

end Cert.KernelIdeal.Ssm

end
-- ==== Proof.SsmVal.lean ====
module

public import proofs.«01_k».proof.Proof.Gen.KernelIdeal.Frame
public import proofs.«01_k».proof.Proof.SsmLoop
public import proofs.«01_k».proof.Proof.SsmRun
public import Idealize.ShloMosaic.Lib.WholeRead

@[expose] public section

set_option maxRecDepth 16384

noncomputable section

/-! What the state-space call's body leaves in its buffers at one grid point. -/
namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- A block of a matrix at a row and a lane offset. -/
abbrev sub2 {n0 n1 m0 m1 : ℕ} [NeZero n0] [NeZero n1] {e : EltTy} (r c : ℕ) (x : Vec F ⟨2, ![n0, n1]⟩ e) : Vec F ⟨2, ![m0, m1]⟩ e :=
  fun j => x (ix2 (Fin.ofNat n0 (r + (j 0).val)) (Fin.ofNat n1 (c + (j 1).val)))

/-- The real inputs of the recurrence at one grid point. -/
def X0 (x1 : Vec F S1024x512 .f32) (x5 : Vec F S512x2048 .bf16) : FVec F S1024x2048 .f32 := fun y =>
  if (y 1).val < 1024 then k0_pay17 x1 (sub2 0 0 x5) (ix2 (y 0) (Fin.ofNat 1024 (y 1).val))
  else k0_pay18 x1 (sub2 256 1024 x5) (ix2 (y 0) (Fin.ofNat 1024 ((y 1).val - 1024)))

/-- The imaginary inputs of the recurrence at one grid point. -/
def Y0 (x1 : Vec F S1024x512 .f32) (x6 : Vec F S512x2048 .bf16) : FVec F S1024x2048 .f32 := fun y =>
  if (y 1).val < 1024 then k0_pay19 x1 (sub2 0 0 x6) (ix2 (y 0) (Fin.ofNat 1024 (y 1).val))
  else k0_pay21 (k0_pay20 x1 (sub2 256 1024 x6)) (ix2 (y 0) (Fin.ofNat 1024 ((y 1).val - 1024)))

/-- The state of batch `b`, lane `n` after `k` steps of one grid point. -/
def hsG (P : Vec F S4x8x2048 .f32) (H : Vec F S2x8x2048 .f32) (X Y : FVec F S1024x2048 .f32) (b n : ℕ) : ℕ → F .f32 × F .f32 :=
  hsE (P (ix3 0 (Fin.ofNat 8 b) (Fin.ofNat 2048 n))) (P (ix3 1 (Fin.ofNat 8 b) (Fin.ofNat 2048 n))) (P (ix3 2 (Fin.ofNat 8 b) (Fin.ofNat 2048 n)))
    (P (ix3 3 (Fin.ofNat 8 b) (Fin.ofNat 2048 n))) (H (ix3 0 (Fin.ofNat 8 b) (Fin.ofNat 2048 n))) (H (ix3 1 (Fin.ofNat 8 b) (Fin.ofNat 2048 n)))
    (fun k => X (rl (8 * k + b) n)) (fun k => Y (rl (8 * k + b) n))

/-- The real states of the whole block, one row per step and batch. -/
def XR (P : Vec F S4x8x2048 .f32) (H : Vec F S2x8x2048 .f32) (X Y : FVec F S1024x2048 .f32) : FVec F S1024x2048 .f32 := fun y =>
  (hsG P H X Y ((y 0).val % 8) (y 1).val ((y 0).val / 8 + 1)).1

/-- The imaginary states of the whole block. -/
def XI (P : Vec F S4x8x2048 .f32) (H : Vec F S2x8x2048 .f32) (X Y : FVec F S1024x2048 .f32) : FVec F S1024x2048 .f32 := fun y =>
  (hsG P H X Y ((y 0).val % 8) (y 1).val ((y 0).val / 8 + 1)).2

/-- The real state one grid point leaves. -/
def HRe (P : Vec F S4x8x2048 .f32) (H : Vec F S2x8x2048 .f32) (X Y : FVec F S1024x2048 .f32) : FVec F S8x2048 .f32 := fun y =>
  (hsG P H X Y (y 0).val (y 1).val 128).1

/-- The imaginary state one grid point leaves. -/
def HIm (P : Vec F S4x8x2048 .f32) (H : Vec F S2x8x2048 .f32) (X Y : FVec F S1024x2048 .f32) : FVec F S8x2048 .f32 := fun y =>
  (hsG P H X Y (y 0).val (y 1).val 128).2

/-- The state one grid point hands to the next. -/
def HN (P : Vec F S4x8x2048 .f32) (H : Vec F S2x8x2048 .f32) (X Y : FVec F S1024x2048 .f32) : FVec F S2x8x2048 .f32 := fun y =>
  if (y 0).val = 0 then HRe P H X Y (ix2 (y 1) (y 2)) else HIm P H X Y (ix2 (y 1) (y 2))

/-- The output block of one grid point. -/
def OUT (x1 : Vec F S1024x512 .f32) (x7 x8 : Vec F S2048x512 .bf16) (x9 : Vec F S1x512 .f32) (x10 : Vec F S512x512 .bf16) (R I : FVec F S1024x2048 .f32) : FVec F S1024x512 .f32 :=
  k0_pay77 (k0_pay70 x1) (k0_pay71 x9) (k0_pay73 I) (k0_pay74 R I (sub2 0 0 x7) (sub2 0 0 x8)) (k0_pay75 R) (k0_pay76 (sub2 1024 256 x7)) (sub2 1024 256 x8) x10

/-- The block after the first `q` chunks of lanes. -/
def mixed (Z X : FVec F S1024x2048 .f32) (q : ℕ) : FVec F S1024x2048 .f32 := fun y => if (y 1).val < 512 * q then Z y else X y

theorem mixed_lane (Z X : FVec F S1024x2048 .f32) (q r n : ℕ) (h : 512 * q ≤ n) (hn : n < 2048) : mixed Z X q (rl r n) = X (rl r n) := by
  unfold mixed
  rw [if_neg]
  show ¬ n % 2048 < 512 * q
  rw [Nat.mod_eq_of_lt hn]; omega

theorem mixed_zero (Z X : FVec F S1024x2048 .f32) : mixed Z X 0 = X := by
  funext y; unfold mixed; rw [if_neg (by omega)]

theorem mixed_four (Z X : FVec F S1024x2048 .f32) : mixed Z X 4 = Z := by
  funext y; have := idx2_lt1 y; unfold mixed; rw [if_pos (by omega)]

/-- A chunk's states are the model's, and its block becomes the next mixture. -/
theorem chunk_read (P : Vec F S4x8x2048 .f32) (H : Vec F S2x8x2048 .f32) (X Y : FVec F S1024x2048 .f32) (q : ℕ) (hq : q < 4)
    (a b d e : V8 F) (init : V8 F × V8 F)
    (ha : ∀ j : S8x512.Idx, a j = P (ix3 0 (j 0) (Fin.ofNat 2048 (512 * q + (j 1).val))))
    (hb : ∀ j : S8x512.Idx, b j = P (ix3 1 (j 0) (Fin.ofNat 2048 (512 * q + (j 1).val))))
    (hd : ∀ j : S8x512.Idx, d j = P (ix3 2 (j 0) (Fin.ofNat 2048 (512 * q + (j 1).val))))
    (he : ∀ j : S8x512.Idx, e j = P (ix3 3 (j 0) (Fin.ofNat 2048 (512 * q + (j 1).val))))
    (h0 : ∀ j : S8x512.Idx, init.1 j = H (ix3 0 (j 0) (Fin.ofNat 2048 (512 * q + (j 1).val))))
    (h1 : ∀ j : S8x512.Idx, init.2 j = H (ix3 1 (j 0) (Fin.ofNat 2048 (512 * q + (j 1).val))))
    (X' Y' : FVec F S1024x2048 .f32) (hX : X' = mixed (XR P H X Y) X q) (hY : Y' = mixed (XI P H X Y) Y q) :
    (∀ j k, hsC a b d e init q X' Y' j k = hsG P H X Y (j 0).val (512 * q + (j 1).val) k)
    ∧ after X' (fun y => (rowsOf a b d e init q X' Y' y).1) q 128 = mixed (XR P H X Y) X (q + 1)
    ∧ after Y' (fun y => (rowsOf a b d e init q X' Y' y).2) q 128 = mixed (XI P H X Y) Y (q + 1) := by
  have hc : ∀ j k, hsC a b d e init q X' Y' j k = hsG P H X Y (j 0).val (512 * q + (j 1).val) k := by
    intro j k
    have hj0 := idx2_lt0 j; have hj1 := idx2_lt1 j
    have e0 : Fin.ofNat 8 (j 0).val = j 0 := Fin.ext (Nat.mod_eq_of_lt hj0)
    unfold hsC hsG
    rw [ha, hb, hd, he, h0, h1, hX, hY]
    have ex : (fun k => mixed (XR P H X Y) X q (rl (8 * k + (j 0).val) (512 * q + (j 1).val))) = fun k => X (rl (8 * k + (j 0).val) (512 * q + (j 1).val)) :=
      funext fun k => mixed_lane _ _ _ _ _ (by omega) (by omega)
    have ey : (fun k => mixed (XI P H X Y) Y q (rl (8 * k + (j 0).val) (512 * q + (j 1).val))) = fun k => Y (rl (8 * k + (j 0).val) (512 * q + (j 1).val)) :=
      funext fun k => mixed_lane _ _ _ _ _ (by omega) (by omega)
    rw [ex, ey, e0]
  have hr : ∀ y : S1024x2048.Idx, 512 * q ≤ (y 1).val → (y 1).val < 512 * q + 512 →
      rowsOf a b d e init q X' Y' y = hsG P H X Y ((y 0).val % 8) (y 1).val ((y 0).val / 8 + 1) := by
    intro y hl hu
    unfold rowsOf
    rw [hc]
    have e0 : (ix2 (Fin.ofNat 8 (y 0).val) (Fin.ofNat 512 ((y 1).val - 512 * q)) : S8x512.Idx) 0 = Fin.ofNat 8 (y 0).val := rfl
    have e1 : 512 * q + ((ix2 (Fin.ofNat 8 (y 0).val) (Fin.ofNat 512 ((y 1).val - 512 * q)) : S8x512.Idx) 1).val = (y 1).val := by
      show 512 * q + ((y 1).val - 512 * q) % 512 = _
      omega
    rw [e1, e0]
    rfl
  refine ⟨hc, ?_, ?_⟩
  · funext y
    have hy0 := idx2_lt0 y
    unfold after mixed
    by_cases h : 512 * q ≤ (y 1).val ∧ (y 1).val < 512 * q + 512
    · rw [if_pos ⟨by omega, h⟩, if_pos (by omega)]; exact congrArg Prod.fst (hr y h.1 h.2)
    · rw [if_neg (by omega), hX]
      unfold mixed
      by_cases h2 : (y 1).val < 512 * q
      · rw [if_pos h2, if_pos (by omega)]
      · rw [if_neg h2, if_neg (by omega)]
  · funext y
    have hy0 := idx2_lt0 y
    unfold after mixed
    by_cases h : 512 * q ≤ (y 1).val ∧ (y 1).val < 512 * q + 512
    · rw [if_pos ⟨by omega, h⟩, if_pos (by omega)]; exact congrArg Prod.snd (hr y h.1 h.2)
    · rw [if_neg (by omega), hY]
      unfold mixed
      by_cases h2 : (y 1).val < 512 * q
      · rw [if_pos h2, if_pos (by omega)]
      · rw [if_neg h2, if_neg (by omega)]

/-- A load of a block of a whole rank-three buffer, its unit axis dropped. -/
theorem load_row {n0 : ℕ} [NeZero n0] {a : Memref sig .tc .vmem ⟨3, ![n0, 8, 2048]⟩ .f32} (h : a.IsWhole) (x : Vec F ⟨3, ![n0, 8, 2048]⟩ .f32) (r : Fin n0) (c : ℕ)
    (hc : c + 512 ≤ 2048) (inb : ∀ k, (![r.val, 0, c] : Fin 3 → ℕ) k + S1x8x512.size k ≤ (⟨3, ![n0, 8, 2048]⟩ : Shape).size k) (hs : S1x8x512.ShapeCasts S8x512) (j : S8x512.Idx) :
    shapeCast S8x512 (View.readAt (Elt F) a.view (Rect.unit (s := ⟨3, ![n0, 8, 2048]⟩) ![r.val, 0, c] S1x8x512.size inb).toLoadRect (h.unread x)) hs j
      = x (ix3 r (j 0) (Fin.ofNat 2048 (c + (j 1).val))) := by
  have hj0 := idx2_lt0 j; have hj1 := idx2_lt1 j
  obtain ⟨j0, j1, rfl⟩ : ∃ a b, j = ix2 a b := ⟨_, _, eq_ix2 j⟩
  rw [shapeCast_1ab_ab_apply]
  refine (Memref.IsWhole.readAt_unread h x _ _).trans (congrArg x ?_)
  funext k
  match k with
  | ⟨0, _⟩ => exact Fin.ext (by show r.val + 1 * 0 = r.val; omega)
  | ⟨1, _⟩ => exact Fin.ext (by show 0 + 1 * j0.val = j0.val; omega)
  | ⟨2, _⟩ =>
    refine Fin.ext ?_
    show c + 1 * j1.val = (c + j1.val) % 2048
    have : j1.val < 512 := j1.isLt
    rw [Nat.mod_eq_of_lt (by omega)]; omega

/-- A load of a block of a whole matrix. -/
theorem load_sub {n0 n1 m0 m1 : ℕ} [NeZero n0] [NeZero n1] {e : EltTy} {a : Memref sig .tc .vmem ⟨2, ![n0, n1]⟩ e} (h : a.IsWhole) (x : Vec F ⟨2, ![n0, n1]⟩ e) (r c : ℕ)
    (inb : ∀ k, (![r, c] : Fin 2 → ℕ) k + (![m0, m1] : Fin 2 → ℕ) k ≤ (⟨2, ![n0, n1]⟩ : Shape).size k) :
    View.readAt (Elt F) a.view (Rect.unit (s := ⟨2, ![n0, n1]⟩) ![r, c] ![m0, m1] inb).toLoadRect (h.unread x) = (sub2 r c x : Vec F ⟨2, ![m0, m1]⟩ e) := by
  funext j
  refine (Memref.IsWhole.readAt_unread h x _ _).trans (congrArg x ?_)
  have hr : r + m0 ≤ n0 := inb 0
  have hc : c + m1 ≤ n1 := inb 1
  have h0 : (j 0).val < m0 := (j 0).isLt
  have h1 : (j 1).val < m1 := (j 1).isLt
  funext k
  match k with
  | ⟨0, _⟩ =>
    refine Fin.ext ?_
    show r + 1 * (j 0).val = (r + (j 0).val) % n0
    rw [Nat.mod_eq_of_lt (by omega)]; omega
  | ⟨1, _⟩ =>
    refine Fin.ext ?_
    show c + 1 * (j 1).val = (c + (j 1).val) % n1
    rw [Nat.mod_eq_of_lt (by omega)]; omega

/-- A block as large as its matrix is the matrix. -/
theorem sub2_whole {n0 n1 : ℕ} [NeZero n0] [NeZero n1] {e : EltTy} (x : Vec F ⟨2, ![n0, n1]⟩ e) : (sub2 0 0 x : Vec F ⟨2, ![n0, n1]⟩ e) = x := by
  funext j
  refine congrArg x ?_
  have h0 : (j 0).val < n0 := (j 0).isLt
  have h1 : (j 1).val < n1 := (j 1).isLt
  funext k
  match k with
  | ⟨0, _⟩ => exact Fin.ext (by show (0 + (j 0).val) % n0 = (j 0).val; rw [Nat.zero_add]; exact Nat.mod_eq_of_lt h0)
  | ⟨1, _⟩ => exact Fin.ext (by show (0 + (j 1).val) % n1 = (j 1).val; rw [Nat.zero_add]; exact Nat.mod_eq_of_lt h1)

/-- Two halves of the lanes written one after the other. -/
theorem read_halves {v : View sig .tc .vmem S1024x2048 .f32} (G : v.ty.Contents (Elt F)) (L : Ps F) (w0 w1 : FVec F S1024x1024 .f32)
    (i0 : ∀ a, (![0, 0] : Fin 2 → ℕ) a + (![1024, 1024] : Fin 2 → ℕ) a ≤ S1024x2048.size a) (i1 : ∀ a, (![0, 1024] : Fin 2 → ℕ) a + (![1024, 1024] : Fin 2 → ℕ) a ≤ S1024x2048.size a)
    (y : S1024x2048.Idx) :
    v.read (Elt F) (v.writes (Elt F) G ((⟨Rect.unit ![0, 1024] ![1024, 1024] i1, w1⟩ : View.Piece (Elt F) S1024x2048 .f32) :: (⟨Rect.unit ![0, 0] ![1024, 1024] i0, w0⟩ : View.Piece (Elt F) S1024x2048 .f32) :: L)) y
      = if (y 1).val < 1024 then w0 (ix2 (y 0) (Fin.ofNat 1024 (y 1).val)) else w1 (ix2 (y 0) (Fin.ofNat 1024 ((y 1).val - 1024))) := by
  have hy0 := idx2_lt0 y; have hy1 := idx2_lt1 y
  by_cases hlt : (y 1).val < 1024
  · rw [if_pos hlt]
    refine (View.read_writes_cons_unit_of_not_mem v G i1 w1 _ y rfl 1 (Or.inl hlt)).trans ?_
    refine View.read_writes_cons_unit_of_mem v G i0 w0 L y _ rfl ?_
    intro a
    match a with
    | ⟨0, _⟩ => exact (Nat.zero_add _).symm
    | ⟨1, _⟩ => show (y 1).val = 0 + (y 1).val % 1024; omega
  · rw [if_neg hlt]
    refine View.read_writes_cons_unit_of_mem v G i1 w1 _ y _ rfl ?_
    intro a
    match a with
    | ⟨0, _⟩ => exact (Nat.zero_add _).symm
    | ⟨1, _⟩ => show (y 1).val = 1024 + ((y 1).val - 1024) % 1024; omega

section

/-- The stores of the real inputs. -/
def L14_0 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) : Ps F := [(⟨Rect.unit ![0, 1024] ![1024, 1024] inb_S1024x2048_S1024x1024_0_1024, k0_pay18 (View.readAt (Elt F) arg1.view (Rect.unit (s := S1024x512) ![0, 0] S1024x512.size inb_S1024x512_S1024x512_0_0).toLoadRect (harg1.unread x1)) (View.readAt (Elt F) arg5.view (Rect.unit (s := S512x2048) ![256, 1024] ![256, 1024] inb_S512x2048_S256x1024_256_1024).toLoadRect (harg5.unread x5))⟩ : View.Piece (Elt F) S1024x2048 .f32), (⟨Rect.unit ![0, 0] ![1024, 1024] inb_S1024x2048_S1024x1024_0_0, k0_pay17 (View.readAt (Elt F) arg1.view (Rect.unit (s := S1024x512) ![0, 0] S1024x512.size inb_S1024x512_S1024x512_0_0).toLoadRect (harg1.unread x1)) (View.readAt (Elt F) arg5.view (Rect.unit (s := S512x2048) ![0, 0] ![256, 1024] inb_S512x2048_S256x1024_0_0).toLoadRect (harg5.unread x5))⟩ : View.Piece (Elt F) S1024x2048 .f32)]

/-- The stores of the imaginary inputs. -/
def L15_0 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) : Ps F := [(⟨Rect.unit ![0, 1024] ![1024, 1024] inb_S1024x2048_S1024x1024_0_1024, k0_pay21 (k0_pay20 (View.readAt (Elt F) arg1.view (Rect.unit (s := S1024x512) ![0, 0] S1024x512.size inb_S1024x512_S1024x512_0_0).toLoadRect (harg1.unread x1)) (View.readAt (Elt F) arg6.view (Rect.unit (s := S512x2048) ![256, 1024] ![256, 1024] inb_S512x2048_S256x1024_256_1024).toLoadRect (harg6.unread x6)))⟩ : View.Piece (Elt F) S1024x2048 .f32), (⟨Rect.unit ![0, 0] ![1024, 1024] inb_S1024x2048_S1024x1024_0_0, k0_pay19 (View.readAt (Elt F) arg1.view (Rect.unit (s := S1024x512) ![0, 0] S1024x512.size inb_S1024x512_S1024x512_0_0).toLoadRect (harg1.unread x1)) (View.readAt (Elt F) arg6.view (Rect.unit (s := S512x2048) ![0, 0] ![256, 1024] inb_S512x2048_S256x1024_0_0).toLoadRect (harg6.unread x6))⟩ : View.Piece (Elt F) S1024x2048 .f32)]

/-- Chunk 0's loop. -/
def T1 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : (V8 F × V8 F) × Ps F × Ps F :=
  st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay20 (View.readAt (Elt F) arg1.view (Rect.unit (s := S1024x512) ![0, 0] S1024x512.size inb_S1024x512_S1024x512_0_0).toLoadRect (harg1.unread x1)) (View.readAt (Elt F) arg6.view (Rect.unit (s := S512x2048) ![256, 1024] ![256, 1024] inb_S512x2048_S256x1024_256_1024).toLoadRect (harg6.unread x6))) (View.readAt (Elt F) arg16.view (Rect.unit (s := S4x8x2048) ![0, 0, 0] S1x8x512.size inb_S4x8x2048_S1x8x512_0_0_0).toLoadRect (harg16.unread P)) (View.readAt (Elt F) arg16.view (Rect.unit (s := S4x8x2048) ![1, 0, 0] S1x8x512.size inb_S4x8x2048_S1x8x512_1_0_0).toLoadRect (harg16.unread P)) (View.readAt (Elt F) arg16.view (Rect.unit (s := S4x8x2048) ![2, 0, 0] S1x8x512.size inb_S4x8x2048_S1x8x512_2_0_0).toLoadRect (harg16.unread P)) (View.readAt (Elt F) arg16.view (Rect.unit (s := S4x8x2048) ![3, 0, 0] S1x8x512.size inb_S4x8x2048_S1x8x512_3_0_0).toLoadRect (harg16.unread P)) (arg14.view.writes (Elt F) arg14.view.junk (L14_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10)) (arg15.view.writes (Elt F) arg15.view.junk (L15_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10)) (k0_pay26 (View.readAt (Elt F) arg17.view (Rect.unit (s := S2x8x2048) ![0, 0, 0] S1x8x512.size inb_S2x8x2048_S1x8x512_0_0_0).toLoadRect (harg17.unread H)), k0_pay27 (View.readAt (Elt F) arg17.view (Rect.unit (s := S2x8x2048) ![1, 0, 0] S1x8x512.size inb_S2x8x2048_S1x8x512_1_0_0).toLoadRect (harg17.unread H))) (Scf.trips k0_t1_loop.lb k0_t1_loop.ub k0_t1_loop.st)

def L14_1 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : Ps F := (T1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.1 ++ L14_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10

def L15_1 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : Ps F := (T1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.2 ++ L15_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10

/-- Chunk 1's loop. -/
def T2 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : (V8 F × V8 F) × Ps F × Ps F :=
  st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay34 (View.readAt (Elt F) arg16.view (Rect.unit (s := S4x8x2048) ![0, 0, 512] S1x8x512.size inb_S4x8x2048_S1x8x512_0_0_512).toLoadRect (harg16.unread P))) (View.readAt (Elt F) arg16.view (Rect.unit (s := S4x8x2048) ![1, 0, 512] S1x8x512.size inb_S4x8x2048_S1x8x512_1_0_512).toLoadRect (harg16.unread P)) (View.readAt (Elt F) arg16.view (Rect.unit (s := S4x8x2048) ![2, 0, 512] S1x8x512.size inb_S4x8x2048_S1x8x512_2_0_512).toLoadRect (harg16.unread P)) (View.readAt (Elt F) arg16.view (Rect.unit (s := S4x8x2048) ![3, 0, 512] S1x8x512.size inb_S4x8x2048_S1x8x512_3_0_512).toLoadRect (harg16.unread P)) (arg14.view.writes (Elt F) arg14.view.junk (L14_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) (arg15.view.writes (Elt F) arg15.view.junk (L15_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) (k0_pay38 (View.readAt (Elt F) arg17.view (Rect.unit (s := S2x8x2048) ![0, 0, 512] S1x8x512.size inb_S2x8x2048_S1x8x512_0_0_512).toLoadRect (harg17.unread H)), k0_pay39 (View.readAt (Elt F) arg17.view (Rect.unit (s := S2x8x2048) ![1, 0, 512] S1x8x512.size inb_S2x8x2048_S1x8x512_1_0_512).toLoadRect (harg17.unread H))) (Scf.trips k0_t2_loop.lb k0_t2_loop.ub k0_t2_loop.st)

def L14_2 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : Ps F := (T2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.1 ++ L14_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H

def L15_2 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : Ps F := (T2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.2 ++ L15_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H

/-- Chunk 2's loop. -/
def T3 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : (V8 F × V8 F) × Ps F × Ps F :=
  st_k0_t3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay46 (View.readAt (Elt F) arg16.view (Rect.unit (s := S4x8x2048) ![0, 0, 1024] S1x8x512.size inb_S4x8x2048_S1x8x512_0_0_1024).toLoadRect (harg16.unread P))) (k0_pay47 (View.readAt (Elt F) arg16.view (Rect.unit (s := S4x8x2048) ![1, 0, 1024] S1x8x512.size inb_S4x8x2048_S1x8x512_1_0_1024).toLoadRect (harg16.unread P))) (k0_pay48 (View.readAt (Elt F) arg16.view (Rect.unit (s := S4x8x2048) ![2, 0, 1024] S1x8x512.size inb_S4x8x2048_S1x8x512_2_0_1024).toLoadRect (harg16.unread P))) (View.readAt (Elt F) arg16.view (Rect.unit (s := S4x8x2048) ![3, 0, 1024] S1x8x512.size inb_S4x8x2048_S1x8x512_3_0_1024).toLoadRect (harg16.unread P)) (arg14.view.writes (Elt F) arg14.view.junk (L14_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) (arg15.view.writes (Elt F) arg15.view.junk (L15_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) (k0_pay50 (View.readAt (Elt F) arg17.view (Rect.unit (s := S2x8x2048) ![0, 0, 1024] S1x8x512.size inb_S2x8x2048_S1x8x512_0_0_1024).toLoadRect (harg17.unread H)), k0_pay51 (View.readAt (Elt F) arg17.view (Rect.unit (s := S2x8x2048) ![1, 0, 1024] S1x8x512.size inb_S2x8x2048_S1x8x512_1_0_1024).toLoadRect (harg17.unread H))) (Scf.trips k0_t3_loop.lb k0_t3_loop.ub k0_t3_loop.st)

def L14_3 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : Ps F := (T3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.1 ++ L14_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H

def L15_3 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : Ps F := (T3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.2 ++ L15_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H

/-- Chunk 3's loop. -/
def T4 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : (V8 F × V8 F) × Ps F × Ps F :=
  st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay58 (View.readAt (Elt F) arg16.view (Rect.unit (s := S4x8x2048) ![0, 0, 1536] S1x8x512.size inb_S4x8x2048_S1x8x512_0_0_1536).toLoadRect (harg16.unread P))) (k0_pay59 (View.readAt (Elt F) arg16.view (Rect.unit (s := S4x8x2048) ![1, 0, 1536] S1x8x512.size inb_S4x8x2048_S1x8x512_1_0_1536).toLoadRect (harg16.unread P))) (k0_pay60 (View.readAt (Elt F) arg16.view (Rect.unit (s := S4x8x2048) ![2, 0, 1536] S1x8x512.size inb_S4x8x2048_S1x8x512_2_0_1536).toLoadRect (harg16.unread P))) (k0_pay61 (View.readAt (Elt F) arg16.view (Rect.unit (s := S4x8x2048) ![3, 0, 1536] S1x8x512.size inb_S4x8x2048_S1x8x512_3_0_1536).toLoadRect (harg16.unread P))) (k0_pay62 (View.readAt (Elt F) arg17.view (Rect.unit (s := S2x8x2048) ![0, 0, 1536] S1x8x512.size inb_S2x8x2048_S1x8x512_0_0_1536).toLoadRect (harg17.unread H))) (arg14.view.writes (Elt F) arg14.view.junk (L14_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) (arg15.view.writes (Elt F) arg15.view.junk (L15_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) (k0_pay62 (View.readAt (Elt F) arg17.view (Rect.unit (s := S2x8x2048) ![0, 0, 1536] S1x8x512.size inb_S2x8x2048_S1x8x512_0_0_1536).toLoadRect (harg17.unread H)), k0_pay63 (View.readAt (Elt F) arg17.view (Rect.unit (s := S2x8x2048) ![1, 0, 1536] S1x8x512.size inb_S2x8x2048_S1x8x512_1_0_1536).toLoadRect (harg17.unread H))) (Scf.trips k0_t4_loop.lb k0_t4_loop.ub k0_t4_loop.st)

def L14_4 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : Ps F := (T4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.1 ++ L14_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H

def L15_4 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : Ps F := (T4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.2 ++ L15_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H

theorem read14_0 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (G : arg14.view.ty.Contents (Elt F)) : arg14.view.read (Elt F) (arg14.view.writes (Elt F) G (L14_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10)) = X0 x1 x5 := by
  funext y
  unfold L14_0
  rw [read_halves, show (View.readAt (Elt F) arg1.view (Rect.unit (s := S1024x512) ![0, 0] S1024x512.size inb_S1024x512_S1024x512_0_0).toLoadRect (harg1.unread x1)) = x1 from (load_sub harg1 x1 0 0 _).trans (sub2_whole x1), load_sub harg5 x5 0 0, load_sub harg5 x5 256 1024]
  rfl

theorem read15_0 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (G : arg15.view.ty.Contents (Elt F)) : arg15.view.read (Elt F) (arg15.view.writes (Elt F) G (L15_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10)) = Y0 x1 x6 := by
  funext y
  unfold L15_0
  rw [read_halves, show (View.readAt (Elt F) arg1.view (Rect.unit (s := S1024x512) ![0, 0] S1024x512.size inb_S1024x512_S1024x512_0_0).toLoadRect (harg1.unread x1)) = x1 from (load_sub harg1 x1 0 0 _).trans (sub2_whole x1), load_sub harg6 x6 0 0, load_sub harg6 x6 256 1024]
  rfl

theorem chunk1 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) :
    (∀ j, ((T1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.1 j, (T1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.2 j) = hsG P H (X0 x1 x5) (Y0 x1 x6) (j 0).val (512 * 0 + (j 1).val) 128)
    ∧ arg14.view.read (Elt F) (arg14.view.writes (Elt F) arg14.view.junk (L14_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) = mixed (XR P H (X0 x1 x5) (Y0 x1 x6)) (X0 x1 x5) 1
    ∧ arg15.view.read (Elt F) (arg15.view.writes (Elt F) arg15.view.junk (L15_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) = mixed (XI P H (X0 x1 x5) (Y0 x1 x6)) (Y0 x1 x6) 1 := by
  obtain ⟨l1, l2, l3⟩ := loop1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay20 (View.readAt (Elt F) arg1.view (Rect.unit (s := S1024x512) ![0, 0] S1024x512.size inb_S1024x512_S1024x512_0_0).toLoadRect (harg1.unread x1)) (View.readAt (Elt F) arg6.view (Rect.unit (s := S512x2048) ![256, 1024] ![256, 1024] inb_S512x2048_S256x1024_256_1024).toLoadRect (harg6.unread x6))) (View.readAt (Elt F) arg16.view (Rect.unit (s := S4x8x2048) ![0, 0, 0] S1x8x512.size inb_S4x8x2048_S1x8x512_0_0_0).toLoadRect (harg16.unread P)) (View.readAt (Elt F) arg16.view (Rect.unit (s := S4x8x2048) ![1, 0, 0] S1x8x512.size inb_S4x8x2048_S1x8x512_1_0_0).toLoadRect (harg16.unread P)) (View.readAt (Elt F) arg16.view (Rect.unit (s := S4x8x2048) ![2, 0, 0] S1x8x512.size inb_S4x8x2048_S1x8x512_2_0_0).toLoadRect (harg16.unread P)) (View.readAt (Elt F) arg16.view (Rect.unit (s := S4x8x2048) ![3, 0, 0] S1x8x512.size inb_S4x8x2048_S1x8x512_3_0_0).toLoadRect (harg16.unread P)) (arg14.view.writes (Elt F) arg14.view.junk (L14_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10)) (arg15.view.writes (Elt F) arg15.view.junk (L15_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10)) (k0_pay26 (View.readAt (Elt F) arg17.view (Rect.unit (s := S2x8x2048) ![0, 0, 0] S1x8x512.size inb_S2x8x2048_S1x8x512_0_0_0).toLoadRect (harg17.unread H)), k0_pay27 (View.readAt (Elt F) arg17.view (Rect.unit (s := S2x8x2048) ![1, 0, 0] S1x8x512.size inb_S2x8x2048_S1x8x512_1_0_0).toLoadRect (harg17.unread H)))
  obtain ⟨c1, c2, c3⟩ := chunk_read P H (X0 x1 x5) (Y0 x1 x6) 0 (by omega) (k0_pay22 (View.readAt (Elt F) arg16.view (Rect.unit (s := S4x8x2048) ![0, 0, 0] S1x8x512.size inb_S4x8x2048_S1x8x512_0_0_0).toLoadRect (harg16.unread P))) (k0_pay23 (View.readAt (Elt F) arg16.view (Rect.unit (s := S4x8x2048) ![1, 0, 0] S1x8x512.size inb_S4x8x2048_S1x8x512_1_0_0).toLoadRect (harg16.unread P))) (k0_pay24 (View.readAt (Elt F) arg16.view (Rect.unit (s := S4x8x2048) ![2, 0, 0] S1x8x512.size inb_S4x8x2048_S1x8x512_2_0_0).toLoadRect (harg16.unread P))) (k0_pay25 (View.readAt (Elt F) arg16.view (Rect.unit (s := S4x8x2048) ![3, 0, 0] S1x8x512.size inb_S4x8x2048_S1x8x512_3_0_0).toLoadRect (harg16.unread P))) (k0_pay26 (View.readAt (Elt F) arg17.view (Rect.unit (s := S2x8x2048) ![0, 0, 0] S1x8x512.size inb_S2x8x2048_S1x8x512_0_0_0).toLoadRect (harg17.unread H)), k0_pay27 (View.readAt (Elt F) arg17.view (Rect.unit (s := S2x8x2048) ![1, 0, 0] S1x8x512.size inb_S2x8x2048_S1x8x512_1_0_0).toLoadRect (harg17.unread H)))
    (fun j => load_row harg16 P 0 0 (by omega) _ _ j) (fun j => load_row harg16 P 1 0 (by omega) _ _ j) (fun j => load_row harg16 P 2 0 (by omega) _ _ j) (fun j => load_row harg16 P 3 0 (by omega) _ _ j)
    (fun j => load_row harg17 H 0 0 (by omega) _ _ j) (fun j => load_row harg17 H 1 0 (by omega) _ _ j)
    _ _ ((read14_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 _).trans (mixed_zero _ _).symm) ((read15_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 _).trans (mixed_zero _ _).symm)
  refine ⟨fun j => ?_, ?_, ?_⟩
  · unfold T1
    rw [l1]
    exact c1 j 128
  · unfold L14_1
    rw [View.writes_append]
    exact l2.trans c2
  · unfold L15_1
    rw [View.writes_append]
    exact l3.trans c3

theorem chunk2 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) :
    (∀ j, ((T2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.1 j, (T2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.2 j) = hsG P H (X0 x1 x5) (Y0 x1 x6) (j 0).val (512 * 1 + (j 1).val) 128)
    ∧ arg14.view.read (Elt F) (arg14.view.writes (Elt F) arg14.view.junk (L14_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) = mixed (XR P H (X0 x1 x5) (Y0 x1 x6)) (X0 x1 x5) 2
    ∧ arg15.view.read (Elt F) (arg15.view.writes (Elt F) arg15.view.junk (L15_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) = mixed (XI P H (X0 x1 x5) (Y0 x1 x6)) (Y0 x1 x6) 2 := by
  obtain ⟨l1, l2, l3⟩ := loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay34 (View.readAt (Elt F) arg16.view (Rect.unit (s := S4x8x2048) ![0, 0, 512] S1x8x512.size inb_S4x8x2048_S1x8x512_0_0_512).toLoadRect (harg16.unread P))) (View.readAt (Elt F) arg16.view (Rect.unit (s := S4x8x2048) ![1, 0, 512] S1x8x512.size inb_S4x8x2048_S1x8x512_1_0_512).toLoadRect (harg16.unread P)) (View.readAt (Elt F) arg16.view (Rect.unit (s := S4x8x2048) ![2, 0, 512] S1x8x512.size inb_S4x8x2048_S1x8x512_2_0_512).toLoadRect (harg16.unread P)) (View.readAt (Elt F) arg16.view (Rect.unit (s := S4x8x2048) ![3, 0, 512] S1x8x512.size inb_S4x8x2048_S1x8x512_3_0_512).toLoadRect (harg16.unread P)) (arg14.view.writes (Elt F) arg14.view.junk (L14_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) (arg15.view.writes (Elt F) arg15.view.junk (L15_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) (k0_pay38 (View.readAt (Elt F) arg17.view (Rect.unit (s := S2x8x2048) ![0, 0, 512] S1x8x512.size inb_S2x8x2048_S1x8x512_0_0_512).toLoadRect (harg17.unread H)), k0_pay39 (View.readAt (Elt F) arg17.view (Rect.unit (s := S2x8x2048) ![1, 0, 512] S1x8x512.size inb_S2x8x2048_S1x8x512_1_0_512).toLoadRect (harg17.unread H)))
  obtain ⟨c1, c2, c3⟩ := chunk_read P H (X0 x1 x5) (Y0 x1 x6) 1 (by omega) (k0_pay34 (View.readAt (Elt F) arg16.view (Rect.unit (s := S4x8x2048) ![0, 0, 512] S1x8x512.size inb_S4x8x2048_S1x8x512_0_0_512).toLoadRect (harg16.unread P))) (k0_pay35 (View.readAt (Elt F) arg16.view (Rect.unit (s := S4x8x2048) ![1, 0, 512] S1x8x512.size inb_S4x8x2048_S1x8x512_1_0_512).toLoadRect (harg16.unread P))) (k0_pay36 (View.readAt (Elt F) arg16.view (Rect.unit (s := S4x8x2048) ![2, 0, 512] S1x8x512.size inb_S4x8x2048_S1x8x512_2_0_512).toLoadRect (harg16.unread P))) (k0_pay37 (View.readAt (Elt F) arg16.view (Rect.unit (s := S4x8x2048) ![3, 0, 512] S1x8x512.size inb_S4x8x2048_S1x8x512_3_0_512).toLoadRect (harg16.unread P))) (k0_pay38 (View.readAt (Elt F) arg17.view (Rect.unit (s := S2x8x2048) ![0, 0, 512] S1x8x512.size inb_S2x8x2048_S1x8x512_0_0_512).toLoadRect (harg17.unread H)), k0_pay39 (View.readAt (Elt F) arg17.view (Rect.unit (s := S2x8x2048) ![1, 0, 512] S1x8x512.size inb_S2x8x2048_S1x8x512_1_0_512).toLoadRect (harg17.unread H)))
    (fun j => load_row harg16 P 0 512 (by omega) _ _ j) (fun j => load_row harg16 P 1 512 (by omega) _ _ j) (fun j => load_row harg16 P 2 512 (by omega) _ _ j) (fun j => load_row harg16 P 3 512 (by omega) _ _ j)
    (fun j => load_row harg17 H 0 512 (by omega) _ _ j) (fun j => load_row harg17 H 1 512 (by omega) _ _ j)
    _ _ ((chunk1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.1) ((chunk1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.2)
  refine ⟨fun j => ?_, ?_, ?_⟩
  · unfold T2
    rw [l1]
    exact c1 j 128
  · unfold L14_2
    rw [View.writes_append]
    exact l2.trans c2
  · unfold L15_2
    rw [View.writes_append]
    exact l3.trans c3

theorem chunk3 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) :
    (∀ j, ((T3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.1 j, (T3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.2 j) = hsG P H (X0 x1 x5) (Y0 x1 x6) (j 0).val (512 * 2 + (j 1).val) 128)
    ∧ arg14.view.read (Elt F) (arg14.view.writes (Elt F) arg14.view.junk (L14_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) = mixed (XR P H (X0 x1 x5) (Y0 x1 x6)) (X0 x1 x5) 3
    ∧ arg15.view.read (Elt F) (arg15.view.writes (Elt F) arg15.view.junk (L15_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) = mixed (XI P H (X0 x1 x5) (Y0 x1 x6)) (Y0 x1 x6) 3 := by
  obtain ⟨l1, l2, l3⟩ := loop3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay46 (View.readAt (Elt F) arg16.view (Rect.unit (s := S4x8x2048) ![0, 0, 1024] S1x8x512.size inb_S4x8x2048_S1x8x512_0_0_1024).toLoadRect (harg16.unread P))) (k0_pay47 (View.readAt (Elt F) arg16.view (Rect.unit (s := S4x8x2048) ![1, 0, 1024] S1x8x512.size inb_S4x8x2048_S1x8x512_1_0_1024).toLoadRect (harg16.unread P))) (k0_pay48 (View.readAt (Elt F) arg16.view (Rect.unit (s := S4x8x2048) ![2, 0, 1024] S1x8x512.size inb_S4x8x2048_S1x8x512_2_0_1024).toLoadRect (harg16.unread P))) (View.readAt (Elt F) arg16.view (Rect.unit (s := S4x8x2048) ![3, 0, 1024] S1x8x512.size inb_S4x8x2048_S1x8x512_3_0_1024).toLoadRect (harg16.unread P)) (arg14.view.writes (Elt F) arg14.view.junk (L14_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) (arg15.view.writes (Elt F) arg15.view.junk (L15_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) (k0_pay50 (View.readAt (Elt F) arg17.view (Rect.unit (s := S2x8x2048) ![0, 0, 1024] S1x8x512.size inb_S2x8x2048_S1x8x512_0_0_1024).toLoadRect (harg17.unread H)), k0_pay51 (View.readAt (Elt F) arg17.view (Rect.unit (s := S2x8x2048) ![1, 0, 1024] S1x8x512.size inb_S2x8x2048_S1x8x512_1_0_1024).toLoadRect (harg17.unread H)))
  obtain ⟨c1, c2, c3⟩ := chunk_read P H (X0 x1 x5) (Y0 x1 x6) 2 (by omega) (k0_pay46 (View.readAt (Elt F) arg16.view (Rect.unit (s := S4x8x2048) ![0, 0, 1024] S1x8x512.size inb_S4x8x2048_S1x8x512_0_0_1024).toLoadRect (harg16.unread P))) (k0_pay47 (View.readAt (Elt F) arg16.view (Rect.unit (s := S4x8x2048) ![1, 0, 1024] S1x8x512.size inb_S4x8x2048_S1x8x512_1_0_1024).toLoadRect (harg16.unread P))) (k0_pay48 (View.readAt (Elt F) arg16.view (Rect.unit (s := S4x8x2048) ![2, 0, 1024] S1x8x512.size inb_S4x8x2048_S1x8x512_2_0_1024).toLoadRect (harg16.unread P))) (k0_pay49 (View.readAt (Elt F) arg16.view (Rect.unit (s := S4x8x2048) ![3, 0, 1024] S1x8x512.size inb_S4x8x2048_S1x8x512_3_0_1024).toLoadRect (harg16.unread P))) (k0_pay50 (View.readAt (Elt F) arg17.view (Rect.unit (s := S2x8x2048) ![0, 0, 1024] S1x8x512.size inb_S2x8x2048_S1x8x512_0_0_1024).toLoadRect (harg17.unread H)), k0_pay51 (View.readAt (Elt F) arg17.view (Rect.unit (s := S2x8x2048) ![1, 0, 1024] S1x8x512.size inb_S2x8x2048_S1x8x512_1_0_1024).toLoadRect (harg17.unread H)))
    (fun j => load_row harg16 P 0 1024 (by omega) _ _ j) (fun j => load_row harg16 P 1 1024 (by omega) _ _ j) (fun j => load_row harg16 P 2 1024 (by omega) _ _ j) (fun j => load_row harg16 P 3 1024 (by omega) _ _ j)
    (fun j => load_row harg17 H 0 1024 (by omega) _ _ j) (fun j => load_row harg17 H 1 1024 (by omega) _ _ j)
    _ _ ((chunk2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.1) ((chunk2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.2)
  refine ⟨fun j => ?_, ?_, ?_⟩
  · unfold T3
    rw [l1]
    exact c1 j 128
  · unfold L14_3
    rw [View.writes_append]
    exact l2.trans c2
  · unfold L15_3
    rw [View.writes_append]
    exact l3.trans c3

theorem chunk4 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) :
    (∀ j, ((T4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.1 j, (T4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.2 j) = hsG P H (X0 x1 x5) (Y0 x1 x6) (j 0).val (512 * 3 + (j 1).val) 128)
    ∧ arg14.view.read (Elt F) (arg14.view.writes (Elt F) arg14.view.junk (L14_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) = mixed (XR P H (X0 x1 x5) (Y0 x1 x6)) (X0 x1 x5) 4
    ∧ arg15.view.read (Elt F) (arg15.view.writes (Elt F) arg15.view.junk (L15_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) = mixed (XI P H (X0 x1 x5) (Y0 x1 x6)) (Y0 x1 x6) 4 := by
  obtain ⟨l1, l2, l3⟩ := loop4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay58 (View.readAt (Elt F) arg16.view (Rect.unit (s := S4x8x2048) ![0, 0, 1536] S1x8x512.size inb_S4x8x2048_S1x8x512_0_0_1536).toLoadRect (harg16.unread P))) (k0_pay59 (View.readAt (Elt F) arg16.view (Rect.unit (s := S4x8x2048) ![1, 0, 1536] S1x8x512.size inb_S4x8x2048_S1x8x512_1_0_1536).toLoadRect (harg16.unread P))) (k0_pay60 (View.readAt (Elt F) arg16.view (Rect.unit (s := S4x8x2048) ![2, 0, 1536] S1x8x512.size inb_S4x8x2048_S1x8x512_2_0_1536).toLoadRect (harg16.unread P))) (k0_pay61 (View.readAt (Elt F) arg16.view (Rect.unit (s := S4x8x2048) ![3, 0, 1536] S1x8x512.size inb_S4x8x2048_S1x8x512_3_0_1536).toLoadRect (harg16.unread P))) (k0_pay62 (View.readAt (Elt F) arg17.view (Rect.unit (s := S2x8x2048) ![0, 0, 1536] S1x8x512.size inb_S2x8x2048_S1x8x512_0_0_1536).toLoadRect (harg17.unread H))) (arg14.view.writes (Elt F) arg14.view.junk (L14_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) (arg15.view.writes (Elt F) arg15.view.junk (L15_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) (k0_pay62 (View.readAt (Elt F) arg17.view (Rect.unit (s := S2x8x2048) ![0, 0, 1536] S1x8x512.size inb_S2x8x2048_S1x8x512_0_0_1536).toLoadRect (harg17.unread H)), k0_pay63 (View.readAt (Elt F) arg17.view (Rect.unit (s := S2x8x2048) ![1, 0, 1536] S1x8x512.size inb_S2x8x2048_S1x8x512_1_0_1536).toLoadRect (harg17.unread H)))
  obtain ⟨c1, c2, c3⟩ := chunk_read P H (X0 x1 x5) (Y0 x1 x6) 3 (by omega) (k0_pay58 (View.readAt (Elt F) arg16.view (Rect.unit (s := S4x8x2048) ![0, 0, 1536] S1x8x512.size inb_S4x8x2048_S1x8x512_0_0_1536).toLoadRect (harg16.unread P))) (k0_pay59 (View.readAt (Elt F) arg16.view (Rect.unit (s := S4x8x2048) ![1, 0, 1536] S1x8x512.size inb_S4x8x2048_S1x8x512_1_0_1536).toLoadRect (harg16.unread P))) (k0_pay60 (View.readAt (Elt F) arg16.view (Rect.unit (s := S4x8x2048) ![2, 0, 1536] S1x8x512.size inb_S4x8x2048_S1x8x512_2_0_1536).toLoadRect (harg16.unread P))) (k0_pay61 (View.readAt (Elt F) arg16.view (Rect.unit (s := S4x8x2048) ![3, 0, 1536] S1x8x512.size inb_S4x8x2048_S1x8x512_3_0_1536).toLoadRect (harg16.unread P))) (k0_pay62 (View.readAt (Elt F) arg17.view (Rect.unit (s := S2x8x2048) ![0, 0, 1536] S1x8x512.size inb_S2x8x2048_S1x8x512_0_0_1536).toLoadRect (harg17.unread H)), k0_pay63 (View.readAt (Elt F) arg17.view (Rect.unit (s := S2x8x2048) ![1, 0, 1536] S1x8x512.size inb_S2x8x2048_S1x8x512_1_0_1536).toLoadRect (harg17.unread H)))
    (fun j => load_row harg16 P 0 1536 (by omega) _ _ j) (fun j => load_row harg16 P 1 1536 (by omega) _ _ j) (fun j => load_row harg16 P 2 1536 (by omega) _ _ j) (fun j => load_row harg16 P 3 1536 (by omega) _ _ j)
    (fun j => load_row harg17 H 0 1536 (by omega) _ _ j) (fun j => load_row harg17 H 1 1536 (by omega) _ _ j)
    _ _ ((chunk3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.1) ((chunk3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.2)
  refine ⟨fun j => ?_, ?_, ?_⟩
  · unfold T4
    rw [l1]
    exact c1 j 128
  · unfold L14_4
    rw [View.writes_append]
    exact l2.trans c2
  · unfold L15_4
    rw [View.writes_append]
    exact l3.trans c3

/-- The stores of the carried state. -/
def L17 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : List (View.Piece (Elt F) S2x8x2048 .f32) := [(⟨Rect.unit (s := S2x8x2048) ![1, 0, 1536] S1x8x512.size inb_S2x8x2048_S1x8x512_1_0_1536, k0_pay69 (T4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.2⟩ : View.Piece (Elt F) S2x8x2048 .f32), (⟨Rect.unit (s := S2x8x2048) ![0, 0, 1536] S1x8x512.size inb_S2x8x2048_S1x8x512_0_0_1536, k0_pay68 (T4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.1⟩ : View.Piece (Elt F) S2x8x2048 .f32), (⟨Rect.unit (s := S2x8x2048) ![1, 0, 1024] S1x8x512.size inb_S2x8x2048_S1x8x512_1_0_1024, k0_pay57 (T3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.2⟩ : View.Piece (Elt F) S2x8x2048 .f32), (⟨Rect.unit (s := S2x8x2048) ![0, 0, 1024] S1x8x512.size inb_S2x8x2048_S1x8x512_0_0_1024, k0_pay56 (T3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.1⟩ : View.Piece (Elt F) S2x8x2048 .f32), (⟨Rect.unit (s := S2x8x2048) ![1, 0, 512] S1x8x512.size inb_S2x8x2048_S1x8x512_1_0_512, k0_pay45 (T2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.2⟩ : View.Piece (Elt F) S2x8x2048 .f32), (⟨Rect.unit (s := S2x8x2048) ![0, 0, 512] S1x8x512.size inb_S2x8x2048_S1x8x512_0_0_512, k0_pay44 (T2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.1⟩ : View.Piece (Elt F) S2x8x2048 .f32), (⟨Rect.unit (s := S2x8x2048) ![1, 0, 0] S1x8x512.size inb_S2x8x2048_S1x8x512_1_0_0, k0_pay33 (T1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.2⟩ : View.Piece (Elt F) S2x8x2048 .f32), (⟨Rect.unit (s := S2x8x2048) ![0, 0, 0] S1x8x512.size inb_S2x8x2048_S1x8x512_0_0_0, k0_pay32 (T1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1.1⟩ : View.Piece (Elt F) S2x8x2048 .f32)]

theorem witness14 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (hc : ¬atFirst i) (P : Vec F S4x8x2048 .f32) (H : Vec F S2x8x2048 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc P H).1.2.2.2.1 = L14_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H := rfl

theorem witness15 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (hc : ¬atFirst i) (P : Vec F S4x8x2048 .f32) (H : Vec F S2x8x2048 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc P H).1.2.2.2.2.1 = L15_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H := rfl

theorem witness17 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (hc : ¬atFirst i) (P : Vec F S4x8x2048 .f32) (H : Vec F S2x8x2048 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc P H).1.2.2.2.2.2.2 = L17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H := rfl

/-- The store of the output block. -/
def L11 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : List (View.Piece (Elt F) S1024x512 .f32) :=
  [⟨Rect.unit (s := S1024x512) ![0, 0] S1024x512.size inb_S1024x512_S1024x512_0_0,
    k0_pay77 (k0_pay70 (View.readAt (Elt F) arg1.view (Rect.unit (s := S1024x512) ![0, 0] S1024x512.size inb_S1024x512_S1024x512_0_0).toLoadRect (harg1.unread x1))) (k0_pay71 (View.readAt (Elt F) arg9.view (Rect.unit (s := S1x512) ![0, 0] S1x512.size inb_S1x512_S1x512_0_0).toLoadRect (harg9.unread x9))) (k0_pay73 (View.readAt (Elt F) arg15.view (Rect.unit (s := S1024x2048) ![0, 0] S1024x2048.size inb_S1024x2048_S1024x2048_0_0).toLoadRect (arg15.view.writes (Elt F) arg15.view.junk (L15_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)))) (k0_pay74 (View.readAt (Elt F) arg14.view (Rect.unit (s := S1024x2048) ![0, 0] S1024x2048.size inb_S1024x2048_S1024x2048_0_0).toLoadRect (arg14.view.writes (Elt F) arg14.view.junk (L14_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H))) (View.readAt (Elt F) arg15.view (Rect.unit (s := S1024x2048) ![0, 0] S1024x2048.size inb_S1024x2048_S1024x2048_0_0).toLoadRect (arg15.view.writes (Elt F) arg15.view.junk (L15_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H))) (View.readAt (Elt F) arg7.view (Rect.unit (s := S2048x512) ![0, 0] ![1024, 256] inb_S2048x512_S1024x256_0_0).toLoadRect (harg7.unread x7)) (View.readAt (Elt F) arg8.view (Rect.unit (s := S2048x512) ![0, 0] ![1024, 256] inb_S2048x512_S1024x256_0_0).toLoadRect (harg8.unread x8))) (k0_pay75 (View.readAt (Elt F) arg14.view (Rect.unit (s := S1024x2048) ![0, 0] S1024x2048.size inb_S1024x2048_S1024x2048_0_0).toLoadRect (arg14.view.writes (Elt F) arg14.view.junk (L14_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)))) (k0_pay76 (View.readAt (Elt F) arg7.view (Rect.unit (s := S2048x512) ![1024, 256] ![1024, 256] inb_S2048x512_S1024x256_1024_256).toLoadRect (harg7.unread x7))) (View.readAt (Elt F) arg8.view (Rect.unit (s := S2048x512) ![1024, 256] ![1024, 256] inb_S2048x512_S1024x256_1024_256).toLoadRect (harg8.unread x8)) (View.readAt (Elt F) arg10.view (Rect.unit (s := S512x512) ![0, 0] S512x512.size inb_S512x512_S512x512_0_0).toLoadRect (harg10.unread x10))⟩]

theorem witness11 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (hc : ¬atFirst i) (P : Vec F S4x8x2048 .f32) (H : Vec F S2x8x2048 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc P H).1.1 = L11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H := rfl

/-- The stores of the two state outputs. -/
def L12 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : List (View.Piece (Elt F) S8x2048 .f32) :=
  [⟨Rect.unit (s := S8x2048) ![0, 0] S8x2048.size inb_S8x2048_S8x2048_0_0, k0_pay78 (View.readAt (Elt F) arg17.view (Rect.unit (s := S2x8x2048) ![0, 0, 0] S1x8x2048.size inb_S2x8x2048_S1x8x2048_0_0_0).toLoadRect (arg17.view.writes (Elt F) arg17.view.junk (L17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)))⟩]
def L13 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) : List (View.Piece (Elt F) S8x2048 .f32) :=
  [⟨Rect.unit (s := S8x2048) ![0, 0] S8x2048.size inb_S8x2048_S8x2048_0_0, k0_pay79 (View.readAt (Elt F) arg17.view (Rect.unit (s := S2x8x2048) ![1, 0, 0] S1x8x2048.size inb_S2x8x2048_S1x8x2048_1_0_0).toLoadRect (arg17.view.writes (Elt F) arg17.view.junk (L17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)))⟩]

theorem witness12 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (hc : ¬atFirst i) (P : Vec F S4x8x2048 .f32) (H : Vec F S2x8x2048 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc P H).1.2.1 = L12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H := rfl

theorem witness13 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (hc : ¬atFirst i) (P : Vec F S4x8x2048 .f32) (H : Vec F S2x8x2048 .f32) : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc P H).1.2.2.1 = L13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H := rfl

/-- A carried-state store at an index of its chunk. -/
theorem read17 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) (G : arg17.view.ty.Contents (Elt F)) (y : S2x8x2048.Idx) :
    arg17.view.read (Elt F) (arg17.view.writes (Elt F) G (L17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) y = HN P H (X0 x1 x5) (Y0 x1 x6) y := by
  obtain ⟨r, b, n, rfl⟩ : ∃ r b n, y = ix3 r b n := ⟨_, _, _, eq_ix3 y⟩
  have hr : r.val < 2 := r.isLt
  have hn : n.val < 2048 := n.isLt
  have key : ∀ (q : ℕ) (hq : 512 * q ≤ n.val ∧ n.val < 512 * q + 512) (w : FVec F S1x8x512 .f32) (L : List (View.Piece (Elt F) S2x8x2048 .f32)) (rr : ℕ)
      (inb : ∀ a, (![rr, 0, 512 * q] : Fin 3 → ℕ) a + S1x8x512.size a ≤ S2x8x2048.size a) (he : r.val = rr),
      arg17.view.read (Elt F) (arg17.view.writes (Elt F) G ((⟨Rect.unit (s := S2x8x2048) ![rr, 0, 512 * q] S1x8x512.size inb, w⟩ : View.Piece (Elt F) S2x8x2048 .f32) :: L)) (ix3 r b n)
        = w (ix3 0 b ⟨n.val - 512 * q, by omega⟩) := by
    intro q hq w L rr inb he
    refine View.read_writes_cons_unit_of_mem arg17.view G inb w L _ _ rfl ?_
    intro a
    match a with
    | ⟨0, _⟩ => show r.val = rr + 0; omega
    | ⟨1, _⟩ => show b.val = 0 + b.val; omega
    | ⟨2, _⟩ => show n.val = 512 * q + (n.val - 512 * q); omega
  have skip : ∀ (o : ℕ) (w : FVec F S1x8x512 .f32) (L : List (View.Piece (Elt F) S2x8x2048 .f32)) (rr : ℕ)
      (inb : ∀ a, (![rr, 0, o] : Fin 3 → ℕ) a + S1x8x512.size a ≤ S2x8x2048.size a) (_ : r.val ≠ rr ∨ ¬(o ≤ n.val ∧ n.val < o + 512)),
      arg17.view.read (Elt F) (arg17.view.writes (Elt F) G ((⟨Rect.unit (s := S2x8x2048) ![rr, 0, o] S1x8x512.size inb, w⟩ : View.Piece (Elt F) S2x8x2048 .f32) :: L)) (ix3 r b n)
        = arg17.view.read (Elt F) (arg17.view.writes (Elt F) G L) (ix3 r b n) := by
    intro o w L rr inb h
    by_cases hrr : r.val = rr
    · refine View.read_writes_cons_unit_of_not_mem arg17.view G inb w L _ rfl 2 ?_
      show n.val < o ∨ o + 512 ≤ n.val
      omega
    · refine View.read_writes_cons_unit_of_not_mem arg17.view G inb w L _ rfl 0 ?_
      show r.val < rr ∨ rr + 1 ≤ r.val
      omega
  have fin0 : ∀ (q : ℕ) (hq : 512 * q ≤ n.val ∧ n.val < 512 * q + 512) (T : V8 F × V8 F)
      (hT : ∀ j, (T.1 j, T.2 j) = hsG P H (X0 x1 x5) (Y0 x1 x6) (j 0).val (512 * q + (j 1).val) 128) (h0 : r.val = 0) (hs : S8x512.ShapeCasts S1x8x512),
      shapeCast S1x8x512 T.1 hs (ix3 0 b ⟨n.val - 512 * q, by omega⟩) = HN P H (X0 x1 x5) (Y0 x1 x6) (ix3 r b n) := by
    intro q hq T hT h0 hs
    rw [shapeCast_ab_1ab_apply]
    refine (congrArg Prod.fst (hT _)).trans ?_
    unfold HN
    rw [if_pos h0]
    show (hsG P H (X0 x1 x5) (Y0 x1 x6) b.val (512 * q + (n.val - 512 * q)) 128).1 = (hsG P H (X0 x1 x5) (Y0 x1 x6) b.val n.val 128).1
    rw [show 512 * q + (n.val - 512 * q) = n.val by omega]
  have fin1 : ∀ (q : ℕ) (hq : 512 * q ≤ n.val ∧ n.val < 512 * q + 512) (T : V8 F × V8 F)
      (hT : ∀ j, (T.1 j, T.2 j) = hsG P H (X0 x1 x5) (Y0 x1 x6) (j 0).val (512 * q + (j 1).val) 128) (h0 : ¬r.val = 0) (hs : S8x512.ShapeCasts S1x8x512),
      shapeCast S1x8x512 T.2 hs (ix3 0 b ⟨n.val - 512 * q, by omega⟩) = HN P H (X0 x1 x5) (Y0 x1 x6) (ix3 r b n) := by
    intro q hq T hT h0 hs
    rw [shapeCast_ab_1ab_apply]
    refine (congrArg Prod.snd (hT _)).trans ?_
    unfold HN
    rw [if_neg h0]
    show (hsG P H (X0 x1 x5) (Y0 x1 x6) b.val (512 * q + (n.val - 512 * q)) 128).2 = (hsG P H (X0 x1 x5) (Y0 x1 x6) b.val n.val 128).2
    rw [show 512 * q + (n.val - 512 * q) = n.val by omega]
  unfold L17
  by_cases h0 : r.val = 0
  · rcases (show (512 * 0 ≤ n.val ∧ n.val < 512 * 0 + 512) ∨ (512 * 1 ≤ n.val ∧ n.val < 512 * 1 + 512) ∨ (512 * 2 ≤ n.val ∧ n.val < 512 * 2 + 512) ∨ (512 * 3 ≤ n.val ∧ n.val < 512 * 3 + 512) by omega) with hq | hq | hq | hq
    · refine (skip 1536 _ _ 1 _ (by omega)).trans ?_
      refine (skip 1536 _ _ 0 _ (by omega)).trans ?_
      refine (skip 1024 _ _ 1 _ (by omega)).trans ?_
      refine (skip 1024 _ _ 0 _ (by omega)).trans ?_
      refine (skip 512 _ _ 1 _ (by omega)).trans ?_
      refine (skip 512 _ _ 0 _ (by omega)).trans ?_
      refine (skip 0 _ _ 1 _ (by omega)).trans ?_
      refine (key 0 hq _ _ 0 _ (by omega)).trans ?_
      exact fin0 0 hq (T1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 (chunk1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 h0 _
    · refine (skip 1536 _ _ 1 _ (by omega)).trans ?_
      refine (skip 1536 _ _ 0 _ (by omega)).trans ?_
      refine (skip 1024 _ _ 1 _ (by omega)).trans ?_
      refine (skip 1024 _ _ 0 _ (by omega)).trans ?_
      refine (skip 512 _ _ 1 _ (by omega)).trans ?_
      refine (key 1 hq _ _ 0 _ (by omega)).trans ?_
      exact fin0 1 hq (T2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 (chunk2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 h0 _
    · refine (skip 1536 _ _ 1 _ (by omega)).trans ?_
      refine (skip 1536 _ _ 0 _ (by omega)).trans ?_
      refine (skip 1024 _ _ 1 _ (by omega)).trans ?_
      refine (key 2 hq _ _ 0 _ (by omega)).trans ?_
      exact fin0 2 hq (T3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 (chunk3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 h0 _
    · refine (skip 1536 _ _ 1 _ (by omega)).trans ?_
      refine (key 3 hq _ _ 0 _ (by omega)).trans ?_
      exact fin0 3 hq (T4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 (chunk4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 h0 _
  · rcases (show (512 * 0 ≤ n.val ∧ n.val < 512 * 0 + 512) ∨ (512 * 1 ≤ n.val ∧ n.val < 512 * 1 + 512) ∨ (512 * 2 ≤ n.val ∧ n.val < 512 * 2 + 512) ∨ (512 * 3 ≤ n.val ∧ n.val < 512 * 3 + 512) by omega) with hq | hq | hq | hq
    · refine (skip 1536 _ _ 1 _ (by omega)).trans ?_
      refine (skip 1536 _ _ 0 _ (by omega)).trans ?_
      refine (skip 1024 _ _ 1 _ (by omega)).trans ?_
      refine (skip 1024 _ _ 0 _ (by omega)).trans ?_
      refine (skip 512 _ _ 1 _ (by omega)).trans ?_
      refine (skip 512 _ _ 0 _ (by omega)).trans ?_
      refine (key 0 hq _ _ 1 _ (by omega)).trans ?_
      exact fin1 0 hq (T1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 (chunk1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 h0 _
    · refine (skip 1536 _ _ 1 _ (by omega)).trans ?_
      refine (skip 1536 _ _ 0 _ (by omega)).trans ?_
      refine (skip 1024 _ _ 1 _ (by omega)).trans ?_
      refine (skip 1024 _ _ 0 _ (by omega)).trans ?_
      refine (key 1 hq _ _ 1 _ (by omega)).trans ?_
      exact fin1 1 hq (T2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 (chunk2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 h0 _
    · refine (skip 1536 _ _ 1 _ (by omega)).trans ?_
      refine (skip 1536 _ _ 0 _ (by omega)).trans ?_
      refine (key 2 hq _ _ 1 _ (by omega)).trans ?_
      exact fin1 2 hq (T3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 (chunk3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 h0 _
    · refine (key 3 hq _ _ 1 _ (by omega)).trans ?_
      exact fin1 3 hq (T4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 (chunk4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).1 h0 _

theorem load17 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) (r : Fin 2) (inb : ∀ a, (![r.val, 0, 0] : Fin 3 → ℕ) a + S1x8x2048.size a ≤ S2x8x2048.size a) (hs : S1x8x2048.ShapeCasts S8x2048) (j : S8x2048.Idx) :
    shapeCast S8x2048 (View.readAt (Elt F) arg17.view (Rect.unit (s := S2x8x2048) ![r.val, 0, 0] S1x8x2048.size inb).toLoadRect (arg17.view.writes (Elt F) arg17.view.junk (L17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H))) hs j
      = HN P H (X0 x1 x5) (Y0 x1 x6) (ix3 r (j 0) (j 1)) := by
  obtain ⟨j0, j1, rfl⟩ : ∃ a b, j = ix2 a b := ⟨_, _, eq_ix2 j⟩
  rw [shapeCast_1ab_ab_apply]
  refine (read17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H _ _).trans (congrArg _ ?_)
  funext k
  match k with
  | ⟨0, _⟩ => exact Fin.ext (by show r.val + 1 * 0 = r.val; omega)
  | ⟨1, _⟩ => exact Fin.ext (by show 0 + 1 * j0.val = j0.val; omega)
  | ⟨2, _⟩ => exact Fin.ext (by show 0 + 1 * j1.val = j1.val; omega)

theorem read12 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) (G : arg12.view.ty.Contents (Elt F)) : arg12.view.read (Elt F) (arg12.view.writes (Elt F) G (L12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) = HRe P H (X0 x1 x5) (Y0 x1 x6) := by
  funext y
  unfold L12
  refine (View.read_writes_cons_unit_of_mem arg12.view G _ _ [] y y rfl (fun a => by match a with | ⟨0, _⟩ => exact (Nat.zero_add _).symm | ⟨1, _⟩ => exact (Nat.zero_add _).symm)).trans ?_
  refine (load17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H 0 _ _ y).trans ?_
  exact (if_pos (show (0 : Fin 2).val = 0 from rfl)).trans (congrArg _ (eq_ix2 y).symm)

theorem read13 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) (G : arg13.view.ty.Contents (Elt F)) : arg13.view.read (Elt F) (arg13.view.writes (Elt F) G (L13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)) = HIm P H (X0 x1 x5) (Y0 x1 x6) := by
  funext y
  unfold L13
  refine (View.read_writes_cons_unit_of_mem arg13.view G _ _ [] y y rfl (fun a => by match a with | ⟨0, _⟩ => exact (Nat.zero_add _).symm | ⟨1, _⟩ => exact (Nat.zero_add _).symm)).trans ?_
  refine (load17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H 1 _ _ y).trans ?_
  exact (if_neg (show ¬ (1 : Fin 2).val = 0 by decide)).trans (congrArg _ (eq_ix2 y).symm)

theorem readAt_full {n0 n1 : ℕ} {e : EltTy} (v : View sig .tc .vmem ⟨2, ![n0, n1]⟩ e) (f : v.ty.Contents (Elt F)) (inb : ∀ a, (![0, 0] : Fin 2 → ℕ) a + (⟨2, ![n0, n1]⟩ : Shape).size a ≤ (⟨2, ![n0, n1]⟩ : Shape).size a) :
    View.readAt (Elt F) v (Rect.unit (s := ⟨2, ![n0, n1]⟩) ![0, 0] (⟨2, ![n0, n1]⟩ : Shape).size inb).toLoadRect f = v.read (Elt F) f := by
  funext j
  refine congrArg (v.read (Elt F) f) ?_
  funext k
  match k with
  | ⟨0, _⟩ => exact Fin.ext (by show 0 + 1 * (j 0).val = (j 0).val; omega)
  | ⟨1, _⟩ => exact Fin.ext (by show 0 + 1 * (j 1).val = (j 1).val; omega)

theorem read11 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (P : Vec F S4x8x2048 .f32) (H : Vec F S2x8x2048 .f32) (G : arg11.view.ty.Contents (Elt F)) : arg11.view.read (Elt F) (arg11.view.writes (Elt F) G (L11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H))
    = OUT x1 x7 x8 x9 x10 (XR P H (X0 x1 x5) (Y0 x1 x6)) (XI P H (X0 x1 x5) (Y0 x1 x6)) := by
  funext y
  unfold L11
  refine (View.read_writes_cons_unit_of_mem arg11.view G _ _ [] y y rfl (fun a => by match a with | ⟨0, _⟩ => exact (Nat.zero_add _).symm | ⟨1, _⟩ => exact (Nat.zero_add _).symm)).trans ?_
  rw [show (View.readAt (Elt F) arg1.view (Rect.unit (s := S1024x512) ![0, 0] S1024x512.size inb_S1024x512_S1024x512_0_0).toLoadRect (harg1.unread x1)) = x1 from (load_sub harg1 x1 0 0 _).trans (sub2_whole x1),
    show (View.readAt (Elt F) arg9.view (Rect.unit (s := S1x512) ![0, 0] S1x512.size inb_S1x512_S1x512_0_0).toLoadRect (harg9.unread x9)) = x9 from (load_sub harg9 x9 0 0 _).trans (sub2_whole x9),
    show (View.readAt (Elt F) arg10.view (Rect.unit (s := S512x512) ![0, 0] S512x512.size inb_S512x512_S512x512_0_0).toLoadRect (harg10.unread x10)) = x10 from (load_sub harg10 x10 0 0 _).trans (sub2_whole x10),
    show (View.readAt (Elt F) arg14.view (Rect.unit (s := S1024x2048) ![0, 0] S1024x2048.size inb_S1024x2048_S1024x2048_0_0).toLoadRect (arg14.view.writes (Elt F) arg14.view.junk (L14_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H))) = XR P H (X0 x1 x5) (Y0 x1 x6) from (readAt_full arg14.view _ _).trans (((chunk4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.1).trans (mixed_four _ _)),
    show (View.readAt (Elt F) arg15.view (Rect.unit (s := S1024x2048) ![0, 0] S1024x2048.size inb_S1024x2048_S1024x2048_0_0).toLoadRect (arg15.view.writes (Elt F) arg15.view.junk (L15_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H))) = XI P H (X0 x1 x5) (Y0 x1 x6) from (readAt_full arg15.view _ _).trans (((chunk4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H).2.2).trans (mixed_four _ _)),
    load_sub harg7 x7 0 0, load_sub harg8 x8 0 0, load_sub harg7 x7 1024 256, load_sub harg8 x8 1024 256]
  rfl

set_option maxHeartbeats 1600000 in
/-- The body at a point after the first, at the values it computes. -/
theorem body_spec (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (hc : ¬atFirst i) (P : Vec F S4x8x2048 .f32) (H : Vec F S2x8x2048 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ some' c arg11 ∗ some' c arg12 ∗ some' c arg13 ∗ some' c arg14 ∗ some' c arg15 ∗ owns (c : Thread nD τ) arg16 fullShare P ∗ owns (c : Thread nD τ) arg17 fullShare H
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (OUT x1 x7 x8 x9 x10 (XR P H (X0 x1 x5) (Y0 x1 x6)) (XI P H (X0 x1 x5) (Y0 x1 x6))) ∗ owns (c : Thread nD τ) arg12 fullShare (HRe P H (X0 x1 x5) (Y0 x1 x6)) ∗ owns (c : Thread nD τ) arg13 fullShare (HIm P H (X0 x1 x5) (Y0 x1 x6))
            ∗ some' c arg14 ∗ some' c arg15 ∗ owns (c : Thread nD τ) arg16 fullShare P ∗ owns (c : Thread nD τ) arg17 fullShare (HN P H (X0 x1 x5) (Y0 x1 x6))) -∗ K ⟨⟩))
      ⊢ wp frame (wpE (defs₀ (F := F)) Variants.none c none) E (cc0_ssm_prompt (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H1, H2, H3, H4, H5, H6, H7, H8, H9, H10, H11, H12, H13, H14, H15, H16, H17, Hk⟩
  iapply ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc P H).2 E K)
  rw [witness11, witness12, witness13, witness14, witness15, witness17]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, ⟨%f11, H11⟩, ⟨%f12, H12⟩, ⟨%f13, H13⟩, ⟨%f14, H14⟩, ⟨%f15, H15⟩, H16, ⟨%f17, H17⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold some' owns
  isplitl [H11]
  · iexists (arg11.view.writes (Elt F) f11 (L11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)); isplitr; · ipureintro; exact read11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H _
    iexact H11
  isplitl [H12]
  · iexists (arg12.view.writes (Elt F) f12 (L12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)); isplitr; · ipureintro; exact read12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H _
    iexact H12
  isplitl [H13]
  · iexists (arg13.view.writes (Elt F) f13 (L13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)); isplitr; · ipureintro; exact read13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H _
    iexact H13
  isplitl [H14]
  · iexists (arg14.view.read (Elt F) (arg14.view.writes (Elt F) f14 (L14_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H))); iexists (arg14.view.writes (Elt F) f14 (L14_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)); isplitr; · ipureintro; rfl
    iexact H14
  isplitl [H15]
  · iexists (arg15.view.read (Elt F) (arg15.view.writes (Elt F) f15 (L15_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H))); iexists (arg15.view.writes (Elt F) f15 (L15_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)); isplitr; · ipureintro; rfl
    iexact H15
  isplitl [H16]; · iexact H16
  iexists (arg17.view.writes (Elt F) f17 (L17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H)); isplitr; · ipureintro; exact funext (read17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 P H _)
  iexact H17

end

end Cert.KernelIdeal.Ssm

end
-- ==== Proof.SsmFirst.lean ====
module

public import proofs.«01_k».proof.Proof.Gen.KernelIdeal.Frame
public import proofs.«01_k».proof.Proof.SsmLoop
public import proofs.«01_k».proof.Proof.SsmVal
public import Idealize.ShloMosaic.Lib.WholeRead

@[expose] public section

set_option maxRecDepth 16384

noncomputable section

/-! The first grid point: the coefficients and the zero state are stored, then the body is a later point's. -/
namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- What the first grid point stores before it runs on: the coefficients and the zero state. -/
def initBlock (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) : Prog (TpuEff nD τ sig (Elt F) Λ₀ .tc) PUnit := do
  let ⟨v196, v211⟩ : Σ' (v196 : FVec F S1x2048 .f32), FVec F S1x8x2048 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
  Prog.lift (.store arg16 (Rect.unit (s := S4x8x2048) ![2, 0, 0] S1x8x2048.size inb_S4x8x2048_S1x8x2048_2_0_0) v211 Finset.univ (View.stores_vmem_bits_univ h_S1x8x2048 rfl) (.inl rfl))
  let v214 : Vec F S1x8x2048 .f32 ← Prog.lift (.load arg16 (Rect.unit (s := S4x8x2048) ![3, 0, 0] S1x8x2048.size inb_S4x8x2048_S1x8x2048_3_0_0).toLoadRect (View.loadsAt_vmem h_S1x8x2048))
  Prog.lift (.store arg16 (Rect.unit (s := S4x8x2048) ![3, 0, 0] S1x8x2048.size inb_S4x8x2048_S1x8x2048_3_0_0) (k0_pay14 v196) Finset.univ (View.stores_vmem_bits_univ h_S1x8x2048 rfl) (.inl rfl))
  let v218 : Vec F S2x8x2048 .f32 ← Prog.lift (.load arg17 (Rect.unit (s := S2x8x2048) ![0, 0, 0] S2x8x2048.size inb_S2x8x2048_S2x8x2048_0_0_0).toLoadRect (View.loadsAt_vmem h_S2x8x2048))
  Prog.lift (.store arg17 (Rect.unit (s := S2x8x2048) ![0, 0, 0] S2x8x2048.size inb_S2x8x2048_S2x8x2048_0_0_0) (k0_pay15 (F := F)) Finset.univ (View.stores_vmem_bits_univ h_S2x8x2048 rfl) (.inl rfl))
  pure ⟨⟩

theorem part3_coords (i i1 : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) : k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = k0_part3 (F := F) i1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  funext v30
  rw [k0_part3_eq_skeleton]; rfl

theorem part4_coords (i i1 : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) : k0_part4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = k0_part4 (F := F) i1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  funext v55
  rw [k0_part4_eq_skeleton]; rfl

theorem part5_coords (i i1 : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) : k0_part5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = k0_part5 (F := F) i1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  funext v75 v77 v79
  rw [k0_part5_eq_skeleton]; rfl

theorem part6_coords (i i1 : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) : k0_part6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = k0_part6 (F := F) i1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  funext v95 v97 v99 v101 v103
  rw [k0_part6_eq_skeleton]; rfl

theorem part7_coords (i i1 : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) : k0_part7 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = k0_part7 (F := F) i1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 := by
  funext v117 v119 v121 v130 v131 v133
  rw [k0_part7_eq_skeleton]; rfl

/-- The first point's body is the initial stores and then a later point's body. -/
theorem first_split (i i1 : grid0.Coords) (hc : atFirst i) (hc1 : ¬atFirst i1) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) :
    cc0_ssm_prompt (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = (initBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun _ => cc0_ssm_prompt (F := F) i1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
  have h2 : k0_part2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = (initBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun _ => k0_part2 (F := F) i1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) := by
    rw [k0_part2_eq_skeleton]
    unfold k0_part2_skel initBlock
    simp only [dif_pos hc, dif_neg hc1, bind_assoc, pure_bind]
  rw [cc0_ssm_prompt_eq_skeleton]
  unfold cc0_ssm_prompt_skel
  rw [h2, part3_coords i i1, part4_coords i i1, part5_coords i i1, part6_coords i i1, part7_coords i i1, bind_assoc]

/-- The coefficients of the recurrence, one row of the block each. -/
def P0 (x2 x3 x4 : Vec F S1x2048 .f32) : FVec F S4x8x2048 .f32 := fun y =>
  if (y 0).val = 0 then k0_pay11 x2 x3 x4 (ix3 0 (y 1) (y 2)) else if (y 0).val = 1 then k0_pay12 x2 x3 x4 (ix3 0 (y 1) (y 2))
  else if (y 0).val = 2 then k0_pay13 x2 x3 x4 (ix3 0 (y 1) (y 2)) else k0_pay14 (k0_pay10 x2 x3 x4) (ix3 0 (y 1) (y 2))

theorem rows_read {v : View sig .tc .vmem S4x8x2048 .f32} (G : v.ty.Contents (Elt F)) (w0 w1 w2 w3 : FVec F S1x8x2048 .f32)
    (i0 : ∀ a, (![0, 0, 0] : Fin 3 → ℕ) a + S1x8x2048.size a ≤ S4x8x2048.size a) (i1 : ∀ a, (![1, 0, 0] : Fin 3 → ℕ) a + S1x8x2048.size a ≤ S4x8x2048.size a)
    (i2 : ∀ a, (![2, 0, 0] : Fin 3 → ℕ) a + S1x8x2048.size a ≤ S4x8x2048.size a) (i3 : ∀ a, (![3, 0, 0] : Fin 3 → ℕ) a + S1x8x2048.size a ≤ S4x8x2048.size a) (y : S4x8x2048.Idx) :
    v.read (Elt F) (v.writes (Elt F) G [⟨Rect.unit (s := S4x8x2048) ![3, 0, 0] S1x8x2048.size i3, w3⟩, ⟨Rect.unit (s := S4x8x2048) ![2, 0, 0] S1x8x2048.size i2, w2⟩,
      ⟨Rect.unit (s := S4x8x2048) ![1, 0, 0] S1x8x2048.size i1, w1⟩, ⟨Rect.unit (s := S4x8x2048) ![0, 0, 0] S1x8x2048.size i0, w0⟩]) y
      = if (y 0).val = 0 then w0 (ix3 0 (y 1) (y 2)) else if (y 0).val = 1 then w1 (ix3 0 (y 1) (y 2)) else if (y 0).val = 2 then w2 (ix3 0 (y 1) (y 2)) else w3 (ix3 0 (y 1) (y 2)) := by
  have hy : (y 0).val < 4 := (y 0).isLt
  have key : ∀ (r : ℕ) (inb : ∀ a, (![r, 0, 0] : Fin 3 → ℕ) a + S1x8x2048.size a ≤ S4x8x2048.size a) (w : FVec F S1x8x2048 .f32) (L : List (View.Piece (Elt F) S4x8x2048 .f32)), (y 0).val = r →
      v.read (Elt F) (v.writes (Elt F) G ((⟨Rect.unit (s := S4x8x2048) ![r, 0, 0] S1x8x2048.size inb, w⟩ : View.Piece (Elt F) S4x8x2048 .f32) :: L)) y = w (ix3 0 (y 1) (y 2)) := by
    intro r inb w L hr
    refine View.read_writes_cons_unit_of_mem v G inb w L y _ rfl ?_
    intro a
    match a with
    | ⟨0, _⟩ => show (y 0).val = r + 0; omega
    | ⟨1, _⟩ => exact (Nat.zero_add _).symm
    | ⟨2, _⟩ => exact (Nat.zero_add _).symm
  have skip : ∀ (r : ℕ) (inb : ∀ a, (![r, 0, 0] : Fin 3 → ℕ) a + S1x8x2048.size a ≤ S4x8x2048.size a) (w : FVec F S1x8x2048 .f32) (L : List (View.Piece (Elt F) S4x8x2048 .f32)), (y 0).val ≠ r →
      v.read (Elt F) (v.writes (Elt F) G ((⟨Rect.unit (s := S4x8x2048) ![r, 0, 0] S1x8x2048.size inb, w⟩ : View.Piece (Elt F) S4x8x2048 .f32) :: L)) y = v.read (Elt F) (v.writes (Elt F) G L) y := by
    intro r inb w L hr
    refine View.read_writes_cons_unit_of_not_mem v G inb w L y rfl 0 ?_
    show (y 0).val < r ∨ r + 1 ≤ (y 0).val
    omega
  by_cases h0 : (y 0).val = 0
  · rw [if_pos h0]
    exact ((skip 3 _ _ _ (by omega)).trans ((skip 2 _ _ _ (by omega)).trans ((skip 1 _ _ _ (by omega)).trans (key 0 _ _ _ h0))))
  rw [if_neg h0]
  by_cases h1 : (y 0).val = 1
  · rw [if_pos h1]
    exact ((skip 3 _ _ _ (by omega)).trans ((skip 2 _ _ _ (by omega)).trans (key 1 _ _ _ h1)))
  rw [if_neg h1]
  by_cases h2 : (y 0).val = 2
  · rw [if_pos h2]
    exact ((skip 3 _ _ _ (by omega)).trans (key 2 _ _ _ h2))
  rw [if_neg h2]
  exact key 3 _ _ _ (by omega)

set_option maxHeartbeats 1600000 in
/-- The initial stores, run: where they leave the two buffers. -/
def runInit (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) : { L : List (View.Piece (Elt F) S4x8x2048 .f32) × List (View.Piece (Elt F) S2x8x2048 .f32) //
    ∀ (E : Set ℕ) (K : PUnit → sProp 𝕄),
      iprop(owns (c : Thread nD τ) arg2 fullShare x2 ∗ owns (c : Thread nD τ) arg3 fullShare x3 ∗ owns (c : Thread nD τ) arg4 fullShare x4 ∗ some' c arg16 ∗ some' c arg17
        ∗ (iprop(owns (c : Thread nD τ) arg2 fullShare x2 ∗ owns (c : Thread nD τ) arg3 fullShare x3 ∗ owns (c : Thread nD τ) arg4 fullShare x4 ∗ left c arg16 L.1 ∗ left c arg17 L.2) -∗ K ⟨⟩))
      ⊢ wp frame (wpE (defs₀ (F := F)) Variants.none c none) E (initBlock i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_), fun E K => ?run⟩
  case run =>
    unfold initBlock
    simp only [k0_part1_eq_skeleton]
    unfold some' left owns
    iintro ⟨⟨%f2, %hf2, H2⟩, ⟨%f3, %hf3, H3⟩, ⟨%f4, %hf4, H4⟩, ⟨%d16, %f16, -, H16⟩, ⟨%d17, %f17, -, H17⟩, Hk⟩
    obtain rfl := harg2.eq_unread hf2
    obtain rfl := harg3.eq_unread hf3
    obtain rfl := harg4.eq_unread hf4
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H16]
    · iexists _; iexact H16
    iexists _; iexact H17

theorem readI16 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (G : arg16.view.ty.Contents (Elt F)) : arg16.view.read (Elt F) (arg16.view.writes (Elt F) G (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10).1.1) = P0 x2 x3 x4 := by
  funext y
  refine (rows_read (v := arg16.view) G (k0_pay11 (View.readAt (Elt F) arg2.view (Rect.unit (s := S1x2048) ![0, 0] S1x2048.size inb_S1x2048_S1x2048_0_0).toLoadRect (harg2.unread x2)) (View.readAt (Elt F) arg3.view (Rect.unit (s := S1x2048) ![0, 0] S1x2048.size inb_S1x2048_S1x2048_0_0).toLoadRect (harg3.unread x3)) (View.readAt (Elt F) arg4.view (Rect.unit (s := S1x2048) ![0, 0] S1x2048.size inb_S1x2048_S1x2048_0_0).toLoadRect (harg4.unread x4))) (k0_pay12 (View.readAt (Elt F) arg2.view (Rect.unit (s := S1x2048) ![0, 0] S1x2048.size inb_S1x2048_S1x2048_0_0).toLoadRect (harg2.unread x2)) (View.readAt (Elt F) arg3.view (Rect.unit (s := S1x2048) ![0, 0] S1x2048.size inb_S1x2048_S1x2048_0_0).toLoadRect (harg3.unread x3)) (View.readAt (Elt F) arg4.view (Rect.unit (s := S1x2048) ![0, 0] S1x2048.size inb_S1x2048_S1x2048_0_0).toLoadRect (harg4.unread x4))) (k0_pay13 (View.readAt (Elt F) arg2.view (Rect.unit (s := S1x2048) ![0, 0] S1x2048.size inb_S1x2048_S1x2048_0_0).toLoadRect (harg2.unread x2)) (View.readAt (Elt F) arg3.view (Rect.unit (s := S1x2048) ![0, 0] S1x2048.size inb_S1x2048_S1x2048_0_0).toLoadRect (harg3.unread x3)) (View.readAt (Elt F) arg4.view (Rect.unit (s := S1x2048) ![0, 0] S1x2048.size inb_S1x2048_S1x2048_0_0).toLoadRect (harg4.unread x4))) (k0_pay14 (k0_pay10 (View.readAt (Elt F) arg2.view (Rect.unit (s := S1x2048) ![0, 0] S1x2048.size inb_S1x2048_S1x2048_0_0).toLoadRect (harg2.unread x2)) (View.readAt (Elt F) arg3.view (Rect.unit (s := S1x2048) ![0, 0] S1x2048.size inb_S1x2048_S1x2048_0_0).toLoadRect (harg3.unread x3)) (View.readAt (Elt F) arg4.view (Rect.unit (s := S1x2048) ![0, 0] S1x2048.size inb_S1x2048_S1x2048_0_0).toLoadRect (harg4.unread x4)))) _ _ _ _ y).trans ?_
  rw [show (View.readAt (Elt F) arg2.view (Rect.unit (s := S1x2048) ![0, 0] S1x2048.size inb_S1x2048_S1x2048_0_0).toLoadRect (harg2.unread x2)) = x2 from (load_sub harg2 x2 0 0 _).trans (sub2_whole x2), show (View.readAt (Elt F) arg3.view (Rect.unit (s := S1x2048) ![0, 0] S1x2048.size inb_S1x2048_S1x2048_0_0).toLoadRect (harg3.unread x3)) = x3 from (load_sub harg3 x3 0 0 _).trans (sub2_whole x3), show (View.readAt (Elt F) arg4.view (Rect.unit (s := S1x2048) ![0, 0] S1x2048.size inb_S1x2048_S1x2048_0_0).toLoadRect (harg4.unread x4)) = x4 from (load_sub harg4 x4 0 0 _).trans (sub2_whole x4)]
  rfl

theorem readI17 (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (G : arg17.view.ty.Contents (Elt F)) : arg17.view.read (Elt F) (arg17.view.writes (Elt F) G (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10).1.2) = k0_pay15 := by
  funext y
  refine View.read_writes_cons_unit_of_mem arg17.view G _ _ _ y y rfl ?_
  intro a
  match a with
  | ⟨0, _⟩ => exact (Nat.zero_add _).symm
  | ⟨1, _⟩ => exact (Nat.zero_add _).symm
  | ⟨2, _⟩ => exact (Nat.zero_add _).symm

/-- The body at the first point, at the values it computes. -/
theorem first_spec (c : Dev nD) (i : grid0.Coords) (arg1 : Memref sig .tc .vmem S1024x512 .f32) (harg1 : arg1.IsWhole) (arg2 : Memref sig .tc .vmem S1x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1024x512 .f32) (harg11 : arg11.IsWhole) (arg12 : Memref sig .tc .vmem S8x2048 .f32) (harg12 : arg12.IsWhole) (arg13 : Memref sig .tc .vmem S8x2048 .f32) (harg13 : arg13.IsWhole) (arg14 : Memref sig .tc .vmem S1024x2048 .f32) (harg14 : arg14.IsWhole) (arg15 : Memref sig .tc .vmem S1024x2048 .f32) (harg15 : arg15.IsWhole) (arg16 : Memref sig .tc .vmem S4x8x2048 .f32) (harg16 : arg16.IsWhole) (arg17 : Memref sig .tc .vmem S2x8x2048 .f32) (harg17 : arg17.IsWhole) (x1 : Vec F S1024x512 .f32) (x2 : Vec F S1x2048 .f32) (x3 : Vec F S1x2048 .f32) (x4 : Vec F S1x2048 .f32) (x5 : Vec F S512x2048 .bf16) (x6 : Vec F S512x2048 .bf16) (x7 : Vec F S2048x512 .bf16) (x8 : Vec F S2048x512 .bf16) (x9 : Vec F S1x512 .f32) (x10 : Vec F S512x512 .bf16) (hc : atFirst i) (i1 : grid0.Coords) (hc1 : ¬atFirst i1) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ some' c arg11 ∗ some' c arg12 ∗ some' c arg13 ∗ some' c arg14 ∗ some' c arg15 ∗ some' c arg16 ∗ some' c arg17
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (OUT x1 x7 x8 x9 x10 (XR (P0 x2 x3 x4) k0_pay15 (X0 x1 x5) (Y0 x1 x6)) (XI (P0 x2 x3 x4) k0_pay15 (X0 x1 x5) (Y0 x1 x6))) ∗ owns (c : Thread nD τ) arg12 fullShare (HRe (P0 x2 x3 x4) k0_pay15 (X0 x1 x5) (Y0 x1 x6)) ∗ owns (c : Thread nD τ) arg13 fullShare (HIm (P0 x2 x3 x4) k0_pay15 (X0 x1 x5) (Y0 x1 x6))
            ∗ some' c arg14 ∗ some' c arg15 ∗ owns (c : Thread nD τ) arg16 fullShare (P0 x2 x3 x4) ∗ owns (c : Thread nD τ) arg17 fullShare (HN (P0 x2 x3 x4) k0_pay15 (X0 x1 x5) (Y0 x1 x6))) -∗ K ⟨⟩))
      ⊢ wp frame (wpE (defs₀ (F := F)) Variants.none c none) E (cc0_ssm_prompt (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [first_split i i1 hc hc1, Sem.wp_bind]
  iintro ⟨H1, H2, H3, H4, H5, H6, H7, H8, H9, H10, H11, H12, H13, H14, H15, H16, H17, Hk⟩
  iapply ((runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10).2 E _)
  isplitl [H2]; · iexact H2
  isplitl [H3]; · iexact H3
  isplitl [H4]; · iexact H4
  isplitl [H16]; · iexact H16
  isplitl [H17]; · iexact H17
  iintro ⟨H2, H3, H4, ⟨%f16, H16⟩, ⟨%f17, H17⟩⟩
  iapply (body_spec c i1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc1 (P0 x2 x3 x4) k0_pay15 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns
    iexists (arg16.view.writes (Elt F) f16 (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10).1.1); isplitr; · ipureintro; exact readI16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 f16
    iexact H16
  isplitl [H17]
  · unfold owns
    iexists (arg17.view.writes (Elt F) f17 (runInit c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10).1.2); isplitr; · ipureintro; exact readI17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 f17
    iexact H17
  iexact Hk

end Cert.KernelIdeal.Ssm

end
-- ==== Proof.SsmFrame.lean ====
module

public import proofs.«01_k».proof.Proof.SsmFirst
public import Idealize.ShloMosaic.Lib.Claim

@[expose] public section

set_option maxRecDepth 16384

noncomputable section

/-! The launch: what each grid point leaves in the outputs, the state carried from one point to the next, the run and the frame. -/
namespace Cert.KernelIdeal.Ssm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point is the one numbered zero. -/
theorem atFirst_iff : ∀ t : Fin cfg0.N, atFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : t.val / 1 % 16 = t.val := by omega
    simp only [atFirst, e0, e1]
    word_cmp
   : ∀ t : Fin grid0.N, atFirst (grid0.coords t) ↔ t.val = 0)

/-- The grid point numbered `n`. -/
def pt (n : ℕ) : Fin cfg0.N := ⟨n % 16, Nat.lt_of_lt_of_eq (Nat.mod_lt _ (by decide)) N_0.symm⟩

theorem pt_val (t : Fin cfg0.N) : pt t.val = t :=
  Fin.ext (Nat.mod_eq_of_lt (Nat.lt_of_lt_of_eq t.isLt N_0))

/-- Input 0 at a grid point. -/
abbrev in0 (c : Dev nD) (t : Fin cfg0.N) : Vec F S1024x512 .f32 := iblk m c 0 t
/-- Input 1 at a grid point. -/
abbrev in1 (c : Dev nD) (t : Fin cfg0.N) : Vec F S1x2048 .f32 := iblk m c 1 t
/-- Input 2 at a grid point. -/
abbrev in2 (c : Dev nD) (t : Fin cfg0.N) : Vec F S1x2048 .f32 := iblk m c 2 t
/-- Input 3 at a grid point. -/
abbrev in3 (c : Dev nD) (t : Fin cfg0.N) : Vec F S1x2048 .f32 := iblk m c 3 t
/-- Input 4 at a grid point. -/
abbrev in4 (c : Dev nD) (t : Fin cfg0.N) : Vec F S512x2048 .bf16 := iblk m c 4 t
/-- Input 5 at a grid point. -/
abbrev in5 (c : Dev nD) (t : Fin cfg0.N) : Vec F S512x2048 .bf16 := iblk m c 5 t
/-- Input 6 at a grid point. -/
abbrev in6 (c : Dev nD) (t : Fin cfg0.N) : Vec F S2048x512 .bf16 := iblk m c 6 t
/-- Input 7 at a grid point. -/
abbrev in7 (c : Dev nD) (t : Fin cfg0.N) : Vec F S2048x512 .bf16 := iblk m c 7 t
/-- Input 8 at a grid point. -/
abbrev in8 (c : Dev nD) (t : Fin cfg0.N) : Vec F S1x512 .f32 := iblk m c 8 t
/-- Input 9 at a grid point. -/
abbrev in9 (c : Dev nD) (t : Fin cfg0.N) : Vec F S512x512 .bf16 := iblk m c 9 t

/-- The coefficients. -/
def PP (c : Dev nD) : FVec F S4x8x2048 .f32 := P0 (in1 m c (pt 0)) (in2 m c (pt 0)) (in3 m c (pt 0))

/-- The inputs of the recurrence at one grid point. -/
abbrev XX (c : Dev nD) (t : Fin cfg0.N) : FVec F S1024x2048 .f32 := X0 (in0 m c t) (in4 m c t)
abbrev YY (c : Dev nD) (t : Fin cfg0.N) : FVec F S1024x2048 .f32 := Y0 (in0 m c t) (in5 m c t)

/-- The state before grid point `n`. -/
def stH (c : Dev nD) : ℕ → FVec F S2x8x2048 .f32
  | 0 => k0_pay15
  | n + 1 => HN (PP m c) (stH c n) (XX m c (pt n)) (YY m c (pt n))

theorem stH_succ (c : Dev nD) (t : Fin cfg0.N) : stH m c (t.val + 1) = HN (PP m c) (stH m c t.val) (XX m c t) (YY m c t) := by
  rw [show stH m c (t.val + 1) = HN (PP m c) (stH m c t.val) (XX m c (pt t.val)) (YY m c (pt t.val)) from rfl, pt_val]

/-- What grid point `t` leaves in the three outputs. -/
def o10 (c : Dev nD) (t : Fin cfg0.N) : FVec F S1024x512 .f32 :=
  OUT (in0 m c t) (in6 m c t) (in7 m c t) (in8 m c t) (in9 m c t) (XR (PP m c) (stH m c t.val) (XX m c t) (YY m c t)) (XI (PP m c) (stH m c t.val) (XX m c t) (YY m c t))
def o11 (c : Dev nD) (t : Fin cfg0.N) : FVec F S8x2048 .f32 := HRe (PP m c) (stH m c t.val) (XX m c t) (YY m c t)
def o12 (c : Dev nD) (t : Fin cfg0.N) : FVec F S8x2048 .f32 := HIm (PP m c) (stH m c t.val) (XX m c t) (YY m c t)

/-- Each window's current staging memref at point `t`, as the pipeline passes it, and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x2048 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S1024x2048 .f32 := Memref.whole cc0_scratch0
abbrev scM0_1 : Memref sig .tc .vmem S1024x2048 .f32 := Memref.whole cc0_scratch1
abbrev scM0_2 : Memref sig .tc .vmem S4x8x2048 .f32 := Memref.whole cc0_scratch2
abbrev scM0_3 : Memref sig .tc .vmem S2x8x2048 .f32 := Memref.whole cc0_scratch3
/-- What the launch hands over, with the scratch as buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- Between points: the coefficients and the state in their buffers, the rest at anything. -/
def PhiS (c : Dev nD) : ℕ → sProp 𝕄
  | 0 => Pipeline.ΦA spec0 c
  | n + 1 => iprop(iprop((∃ d, owns (c : Thread nD τ) scM0_0 fullShare d) ∗ (∃ d, owns (c : Thread nD τ) scM0_1 fullShare d) ∗ owns (c : Thread nD τ) scM0_2 fullShare (PP m c) ∗ owns (c : Thread nD τ) scM0_3 fullShare (stH m c (n + 1))) ∗ (∃ r, prngReg c r))

theorem PhiS_pos (c : Dev nD) (n : ℕ) (hz : n ≠ 0) : PhiS m c n = iprop(iprop((∃ d, owns (c : Thread nD τ) scM0_0 fullShare d) ∗ (∃ d, owns (c : Thread nD τ) scM0_1 fullShare d) ∗ owns (c : Thread nD τ) scM0_2 fullShare (PP m c) ∗ owns (c : Thread nD τ) scM0_3 fullShare (stH m c n)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => o10 m c t
    | ⟨11, _⟩ => o11 m c t
    | ⟨12, _⟩ => o12 m c t
  Φ t := PhiS m c t.val
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiS m c t.val := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = o10 m c t := by dsimp only [dats]
theorem after0_11 (c : Dev nD) (t : Fin cfg0.N) : (dats m 0 c).after 11 t = o11 m c t := by dsimp only [dats]
theorem after0_12 (c : Dev nD) (t : Fin cfg0.N) : (dats m 0 c).after 12 t = o12 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12]
  rw [Phi_eq m c t.succ, Phi_eq m c t.castSucc, Fin.val_succ, Fin.val_castSucc, PhiS_pos m c (t.val + 1) (Nat.succ_ne_zero _), stH_succ]
  by_cases hz : t.val = 0
  · obtain rfl : t = pt 0 := by rw [← pt_val t, hz]
    rw [show PhiS m c (pt 0).val = Pipeline.ΦA spec0 c from rfl, PhiA0_eq]
    unfold o10 o11 o12
    rw [show stH m c (pt 0).val = k0_pay15 from rfl]
    unfold PP
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (first_spec c (grid0.coords (pt 0)) (ms0_0 (pt 0)) (hs0_0 (pt 0)) (ms0_1 (pt 0)) (hs0_1 (pt 0)) (ms0_2 (pt 0)) (hs0_2 (pt 0)) (ms0_3 (pt 0)) (hs0_3 (pt 0)) (ms0_4 (pt 0)) (hs0_4 (pt 0)) (ms0_5 (pt 0)) (hs0_5 (pt 0)) (ms0_6 (pt 0)) (hs0_6 (pt 0)) (ms0_7 (pt 0)) (hs0_7 (pt 0)) (ms0_8 (pt 0)) (hs0_8 (pt 0)) (ms0_9 (pt 0)) (hs0_9 (pt 0)) (ms0_10 (pt 0)) (hs0_10 (pt 0)) (ms0_11 (pt 0)) (hs0_11 (pt 0)) (ms0_12 (pt 0)) (hs0_12 (pt 0)) scM0_0 (Memref.isWhole_whole _) scM0_1 (Memref.isWhole_whole _) scM0_2 (Memref.isWhole_whole _) scM0_3 (Memref.isWhole_whole _) (in0 m c (pt 0)) (in1 m c (pt 0)) (in2 m c (pt 0)) (in3 m c (pt 0)) (in4 m c (pt 0)) (in5 m c (pt 0)) (in6 m c (pt 0)) (in7 m c (pt 0)) (in8 m c (pt 0)) (in9 m c (pt 0))
      ((atFirst_iff (pt 0)).mpr hz) (grid0.coords (pt 1)) (fun h => absurd ((atFirst_iff (pt 1)).mp h) (by decide)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [PhiS_pos m c t.val hz]
    unfold o10 o11 o12
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (body_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (in0 m c t) (in1 m c t) (in2 m c t) (in3 m c t) (in4 m c t) (in5 m c t) (in6 m c t) (in7 m c t) (in8 m c t) (in9 m c t)
      (fun h => hz ((atFirst_iff t).mp h)) (PP m c) (stH m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    iintro ⟨H0, H1, H2, H3, H4, H5, H6, H7, H8, H9, H10, H11, H12, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what holds before the first point. -/
theorem hin (c : Dev nD) : Pipeline.ΦA spec0 c ⊢ (dats m 0 c).Φ 0 := by
  rw [Phi_eq]
  exact Idealize.SL.BI.Entails.refl _

/-- After the last point the named contents are forgotten. -/
theorem hout (c : Dev nD) : (dats m 0 c).Φ (Fin.last cfg0.N) ⊢ Pipeline.ΦA spec0 c := by
  rw [Phi_eq, PhiS_pos m c _ (by rw [Fin.val_last]; have : cfg0.N = 16 := N_0; omega), PhiA0_eq]
  iintro ⟨⟨HS0, HS1, HS2, HS3⟩, Hg⟩
  isplitl [HS0 HS1 HS2 HS3]
  · isplitl [HS0]
    · iexact HS0
    isplitl [HS1]
    · iexact HS1
    isplitl [HS2]
    · iexists _; iexact HS2
    iexists _; iexact HS3
  iexact Hg

set_option backward.isDefEq.respectTransparency.types false in
/-- The launch: every run ends, with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Ssm

end
-- ==== Proof.SsmBits.lean ====
module

public import proofs.«01_k».proof.Defs
public import proofs.«01_k».proof.Proof.Gen.Kernel
public import proofs.«01_k».proof.Proof.SsmFrame

@[expose] public section

set_option maxHeartbeats 2000000

noncomputable section

/-! The printed kernel and its ideal form are the same text, so the one run serves both. -/
namespace Cert.KernelIdeal.Ssm

open Idealize.ShloMosaic Idealize.SL.Sem

theorem main_same : Cert.Kernel.main (F := Bits) = Cert.KernelIdeal.main (F := Bits) := rfl

theorem body_same : @Cert.Kernel.cc0_ssm_prompt Bits _ Cert.Kernel.Gen.facts = @Cert.KernelIdeal.cc0_ssm_prompt Bits _ Cert.KernelIdeal.Gen.facts := rfl

theorem table_same : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨l, hl⟩ := l
  cases l with
  | zero => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _) _) _) _) _) _) _) _) _) _) _) _) _
  | succ l => exact absurd hl (Nat.not_lt.2 (Nat.le_add_left _ _))

theorem defs_same : Cert.Kernel.defs (F := Bits) = Cert.KernelIdeal.defs (F := Bits) :=
  congrArg (Pipeline.defs Cert.KernelIdeal.pcfgs) table_same

theorem frame_bits : Cert.quiescent_Kernel := fun m ρ _ => by
  rw [defs_same, main_same]
  exact frame (F := Bits) m ρ

end Cert.KernelIdeal.Ssm

end
-- ==== Proof.SsmModel.lean ====
module

public import proofs.«01_k».proof.Proof.SsmLoop
public import Idealize.ShloMosaic.Lib.Pointwise

@[expose] public section

set_option maxRecDepth 16384

noncomputable section

/-! What the state-space layer computes, over the extended reals: the states of every batch, group and state number after
    each time, and the three results. Kernel and reference are both read as these. -/
namespace Cert.KernelIdeal.Ssm

open Idealize.ShloMosaic Idealize.ShloMosaic.TcCoe
open Idealize.SL Idealize.SL.Sem

/-- The decay's real part. -/
def lbR (a b t : EReal) : EReal := Ideal.exp (a * Ideal.exp t) * Ideal.cos (b * Ideal.exp t)
/-- The decay's imaginary part. -/
def lbI (a b t : EReal) : EReal := Ideal.exp (a * Ideal.exp t) * Ideal.sin (b * Ideal.exp t)
/-- The input coefficient's real part. -/
def cfR (a b t : EReal) : EReal := Ideal.div ((lbR a b t - 1) * a + lbI a b t * b) (a * a + b * b)
/-- The input coefficient's imaginary part. -/
def cfI (a b t : EReal) : EReal := Ideal.div (lbI a b t * a - (lbR a b t - 1) * b) (a * a + b * b)

/-- The gelu. -/
def gel (z : EReal) : EReal :=
  z * (Ideal.ofBits FTy.f32 1056964608#32 * (1 + Ideal.tanh (Ideal.ofBits FTy.f32 1061962282#32 * (z + Ideal.ofBits FTy.f32 1027024659#32 * (z * z * z)))))

/-- The gated unit: the gelu of a row times the logistic function of the row's product with one column. -/
def gate (z w : Fin 512 → EReal) (l : Fin 512) : EReal := gel (z l) * Ideal.logistic (∑ x, gel (z x) * w x)

/-- A sum whose terms vanish outside one block is the block's sum. -/
theorem sum_block {N B : ℕ} (hB : 0 < B) (q : ℕ) (hq : B * q + B ≤ N) (f : Fin N → EReal) (h0 : ∀ k : Fin N, k.val / B ≠ q → f k = 0) :
    ∑ k, f k = ∑ p : Fin B, f ⟨B * q + p.val, by have := p.isLt; omega⟩ := by
  refine (Fintype.sum_of_injective (fun p : Fin B => (⟨B * q + p.val, by have := p.isLt; omega⟩ : Fin N)) ?_ _ _ ?_ ?_).symm
  · intro p p' h
    have := congrArg Fin.val h
    exact Fin.ext (by simpa using this)
  · intro k hk
    refine h0 k fun h => hk ⟨⟨k.val % B, Nat.mod_lt _ hB⟩, Fin.ext ?_⟩
    show B * q + k.val % B = k.val
    rw [← h]; exact Nat.div_add_mod _ _
  · intro p; rfl

variable (u : FVec Ideal ⟨3, ![8, 2048, 512]⟩ .f32) (a1 a2 : FVec Ideal ⟨2, ![32, 64]⟩ .f32) (a3 : FVec Ideal ⟨1, ![32]⟩ .f32)
  (a4 a5 : FVec Ideal ⟨3, ![32, 64, 16]⟩ .f32) (a6 a7 : FVec Ideal ⟨3, ![32, 16, 64]⟩ .f32) (a8 : FVec Ideal ⟨1, ![512]⟩ .f32) (a9 : FVec Ideal ⟨2, ![512, 512]⟩ .f32)

/-- The projected input of batch `b`, group `g`, state `n` at time `T`. -/
def bu (w : FVec Ideal ⟨3, ![32, 64, 16]⟩ .f32) (b : Fin 8) (g : Fin 32) (n : Fin 64) (T : ℕ) : EReal :=
  ∑ p : Fin 16, u (ix3 b (Fin.ofNat 2048 T) ⟨16 * g.val + p.val, by omega⟩) * w (ix3 g n p)

/-- The state of batch `b`, group `g`, number `n` before time `T`. -/
def st (b : Fin 8) (g : Fin 32) (n : Fin 64) : ℕ → EReal × EReal :=
  hsE (F := Ideal) (lbR (a1 (ix2 g n)) (a2 (ix2 g n)) (a3 (ix1 g))) (lbI (a1 (ix2 g n)) (a2 (ix2 g n)) (a3 (ix1 g)))
    (cfR (a1 (ix2 g n)) (a2 (ix2 g n)) (a3 (ix1 g))) (cfI (a1 (ix2 g n)) (a2 (ix2 g n)) (a3 (ix1 g))) (0 : EReal) (0 : EReal) (bu u a4 b g n) (bu u a5 b g n)

/-- The mixed output of batch `b` at time `T`, channel `l`, before the gelu. -/
def zz (T : Fin 2048) (b : Fin 8) (l : Fin 512) : EReal :=
  ((∑ n : Fin 64, (st u a1 a2 a3 a4 a5 b ⟨l.val / 16, by omega⟩ n (T.val + 1)).1 * a6 (ix3 ⟨l.val / 16, by omega⟩ ⟨l.val % 16, by omega⟩ n))
    - ∑ n : Fin 64, (st u a1 a2 a3 a4 a5 b ⟨l.val / 16, by omega⟩ n (T.val + 1)).2 * a7 (ix3 ⟨l.val / 16, by omega⟩ ⟨l.val % 16, by omega⟩ n))
    + a8 (ix1 l) * u (ix3 b T l)

/-- The first result. -/
def res0 : FVec Ideal ⟨2, ![16384, 512]⟩ .f32 := fun j =>
  gate (zz u a1 a2 a3 a4 a5 a6 a7 a8 ⟨(j 0).val / 8, by have : (j 0).val < 16384 := (j 0).isLt; omega⟩ ⟨(j 0).val % 8, by omega⟩) (fun x => a9 (ix2 x (j 1))) (j 1)

/-- The second result: the real states at the end. -/
def res1 : FVec Ideal ⟨2, ![8, 2048]⟩ .f32 := fun j =>
  (st u a1 a2 a3 a4 a5 (j 0) ⟨(j 1).val / 64, by have : (j 1).val < 2048 := (j 1).isLt; omega⟩ ⟨(j 1).val % 64, by omega⟩ 2048).1

/-- The third result: the imaginary states at the end. -/
def res2 : FVec Ideal ⟨2, ![8, 2048]⟩ .f32 := fun j =>
  (st u a1 a2 a3 a4 a5 (j 0) ⟨(j 1).val / 64, by have : (j 1).val < 2048 := (j 1).isLt; omega⟩ ⟨(j 1).val % 64, by omega⟩ 2048).2

/-- The recurrence run in two stretches. -/
theorem hsE_add {F : FTy → Type} [FloatOps F] (p0 p1 p2 p3 h0 h1 : F .f32) (xr xi : ℕ → F .f32) (a k : ℕ) :
    hsE p0 p1 p2 p3 (hsE p0 p1 p2 p3 h0 h1 xr xi a).1 (hsE p0 p1 p2 p3 h0 h1 xr xi a).2 (fun i => xr (a + i)) (fun i => xi (a + i)) k
      = hsE p0 p1 p2 p3 h0 h1 xr xi (a + k) := by
  induction k with
  | zero => rfl
  | succ k ih =>
    show hsE p0 p1 p2 p3 _ _ _ _ (k + 1) = hsE p0 p1 p2 p3 h0 h1 xr xi ((a + k) + 1)
    simp only [hsE] at ih ⊢
    rw [ih]

/-- Only the inputs up to the step count. -/
theorem hsE_congr {F : FTy → Type} [FloatOps F] (p0 p1 p2 p3 h0 h1 : F .f32) (xr xi yr yi : ℕ → F .f32) (k : ℕ)
    (hr : ∀ i < k, xr i = yr i) (hi : ∀ i < k, xi i = yi i) :
    hsE p0 p1 p2 p3 h0 h1 xr xi k = hsE p0 p1 p2 p3 h0 h1 yr yi k := by
  induction k with
  | zero => rfl
  | succ k ih =>
    have := ih (fun i h => hr i (by omega)) (fun i h => hi i (by omega))
    simp only [hsE]
    rw [this, hr k (by omega), hi k (by omega)]

end Cert.KernelIdeal.Ssm

end
-- ==== Proof.SsmArr.lean ====
module

public import proofs.«01_k».proof.Proof.SsmFrame
public import Idealize.ShloMosaic.Lib.Pointwise
public import Idealize.ShloMosaic.Lib.Pipeline.ValueKit

@[expose] public section

set_option maxRecDepth 16384

noncomputable section

/-! What the region finds in its arrays: the host lines before it, read at an index. -/
namespace Cert.KernelIdeal.Ssm

open Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The unit matrix of the groups, as the host makes it. -/
def eye : FVec Ideal S32x32 .f32 :=
  uitofp .f32 (cmpi .eq (addi (iotaInDim S32x32 32 0) (broadcastInDim S32x32 ![] bcast_S_S32x32 (constantI S_ 32 0#32))) (iotaInDim S32x32 32 1))

/-- Blocks of channels against states on the diagonal. -/
def blkB (x : FVec Ideal S32x64x16 .f32) : FVec Ideal S512x2048 .bf16 :=
  truncf .bf16 (shapeCast S512x2048 (mulf
    (broadcastInDim S32x16x32x64 ![0, 1, 2, 3] bcast_S32x16x1x64_S32x16x32x64_0_1_2_3 (broadcastInDim S32x16x1x64 ![0, 1, 3] bcast_S32x16x64_S32x16x1x64_0_1_3 (transpose S32x16x64 [0, 2, 1] x transposes_S32x64x16_S32x16x64_0_2_1)))
    (broadcastInDim S32x16x32x64 ![0, 1, 2, 3] bcast_S32x1x32x1_S32x16x32x64_0_1_2_3 (broadcastInDim S32x1x32x1 ![0, 2] bcast_S32x32_S32x1x32x1_0_2 eye))) shapeCasts_S32x16x32x64_S512x2048) bitsLt_bf16_f32

/-- Blocks of states against channels on the diagonal. -/
def blkC (x : FVec Ideal S32x16x64 .f32) : FVec Ideal S2048x512 .bf16 :=
  truncf .bf16 (shapeCast S2048x512 (mulf
    (broadcastInDim S32x64x32x16 ![0, 1, 2, 3] bcast_S32x64x1x16_S32x64x32x16_0_1_2_3 (broadcastInDim S32x64x1x16 ![0, 1, 3] bcast_S32x64x16_S32x64x1x16_0_1_3 (transpose S32x64x16 [0, 2, 1] x transposes_S32x16x64_S32x64x16_0_2_1)))
    (broadcastInDim S32x64x32x16 ![0, 1, 2, 3] bcast_S32x1x32x1_S32x64x32x16_0_1_2_3 (broadcastInDim S32x1x32x1 ![0, 2] bcast_S32x32_S32x1x32x1_0_2 eye))) shapeCasts_S32x64x32x16_S2048x512) bitsLt_bf16_f32

/-- Argument 0 of the program. -/
abbrev ar0 (c : Dev nD) : FVec Ideal S8x2048x512 .f32 := m ((c.tc : Thread nD τ).loc main_arg0)

/-- Argument 1 of the program. -/
abbrev ar1 (c : Dev nD) : FVec Ideal S32x64 .f32 := m ((c.tc : Thread nD τ).loc main_arg1)

/-- Argument 2 of the program. -/
abbrev ar2 (c : Dev nD) : FVec Ideal S32x64 .f32 := m ((c.tc : Thread nD τ).loc main_arg2)

/-- Argument 3 of the program. -/
abbrev ar3 (c : Dev nD) : FVec Ideal S32 .f32 := m ((c.tc : Thread nD τ).loc main_arg3)

/-- Argument 4 of the program. -/
abbrev ar4 (c : Dev nD) : FVec Ideal S32x64x16 .f32 := m ((c.tc : Thread nD τ).loc main_arg4)

/-- Argument 5 of the program. -/
abbrev ar5 (c : Dev nD) : FVec Ideal S32x64x16 .f32 := m ((c.tc : Thread nD τ).loc main_arg5)

/-- Argument 6 of the program. -/
abbrev ar6 (c : Dev nD) : FVec Ideal S32x16x64 .f32 := m ((c.tc : Thread nD τ).loc main_arg6)

/-- Argument 7 of the program. -/
abbrev ar7 (c : Dev nD) : FVec Ideal S32x16x64 .f32 := m ((c.tc : Thread nD τ).loc main_arg7)

/-- Argument 8 of the program. -/
abbrev ar8 (c : Dev nD) : FVec Ideal S512 .f32 := m ((c.tc : Thread nD τ).loc main_arg8)

/-- Argument 9 of the program. -/
abbrev ar9 (c : Dev nD) : FVec Ideal S512x512 .f32 := m ((c.tc : Thread nD τ).loc main_arg9)

theorem V_v1 (c : Dev nD) : V m c main_v1 = shapeCast S16384x512 (transpose S2048x8x512 [1, 0, 2] (ar0 m c) transposes_S8x2048x512_S2048x8x512_1_0_2) shapeCasts_S2048x8x512_S16384x512 := by
  show StableHlo.after hostOps0 (fun b => m (c, b)) (Proc.devRef .tc main_v1) = _
  after_results
  try rfl

theorem V_v2 (c : Dev nD) : V m c main_v2 = shapeCast S1x2048 (ar1 m c) shapeCasts_S32x64_S1x2048 := by
  show StableHlo.after hostOps0 (fun b => m (c, b)) (Proc.devRef .tc main_v2) = _
  after_results
  try rfl

theorem V_v3 (c : Dev nD) : V m c main_v3 = shapeCast S1x2048 (ar2 m c) shapeCasts_S32x64_S1x2048 := by
  show StableHlo.after hostOps0 (fun b => m (c, b)) (Proc.devRef .tc main_v3) = _
  after_results
  try rfl

theorem V_v6 (c : Dev nD) : V m c main_v6 = broadcastInDim S1x2048 ![1] bcast_S2048_S1x2048_1 (shapeCast S2048 (broadcastInDim S32x64 ![0] bcast_S32_S32x64_0 (ar3 m c)) shapeCasts_S32x64_S2048) := by
  show StableHlo.after hostOps0 (fun b => m (c, b)) (Proc.devRef .tc main_v6) = _
  after_results
  try rfl

theorem V_v20 (c : Dev nD) : V m c main_v20 = blkB (ar4 m c) := by
  show StableHlo.after hostOps0 (fun b => m (c, b)) (Proc.devRef .tc main_v20) = _
  after_results
  try rfl

theorem V_v34 (c : Dev nD) : V m c main_v34 = blkB (ar5 m c) := by
  show StableHlo.after hostOps0 (fun b => m (c, b)) (Proc.devRef .tc main_v34) = _
  after_results
  try rfl

theorem V_v48 (c : Dev nD) : V m c main_v48 = blkC (ar6 m c) := by
  show StableHlo.after hostOps0 (fun b => m (c, b)) (Proc.devRef .tc main_v48) = _
  after_results
  try rfl

theorem V_v62 (c : Dev nD) : V m c main_v62 = blkC (ar7 m c) := by
  show StableHlo.after hostOps0 (fun b => m (c, b)) (Proc.devRef .tc main_v62) = _
  after_results
  try rfl

theorem V_v63 (c : Dev nD) : V m c main_v63 = broadcastInDim S1x512 ![1] bcast_S512_S1x512_1 (ar8 m c) := by
  show StableHlo.after hostOps0 (fun b => m (c, b)) (Proc.devRef .tc main_v63) = _
  after_results
  try rfl

theorem V_v64 (c : Dev nD) : V m c main_v64 = truncf .bf16 (ar9 m c) bitsLt_bf16_f32 := by
  show StableHlo.after hostOps0 (fun b => m (c, b)) (Proc.devRef .tc main_v64) = _
  after_results
  try rfl

theorem vix2 {n0 n1 : ℕ} (i : Fin n0) (j : Fin n1) : ValueIdx.ix2 i j = ix2 i j := by
  funext a; match a with
  | ⟨0, _⟩ => rfl
  | ⟨1, _⟩ => rfl

theorem vix3 {n0 n1 n2 : ℕ} (i : Fin n0) (j : Fin n1) (k : Fin n2) : ValueIdx.ix3 i j k = ix3 i j k := by
  funext a; match a with
  | ⟨0, _⟩ => rfl
  | ⟨1, _⟩ => rfl
  | ⟨2, _⟩ => rfl

theorem eye_apply (i j : Fin 32) : eye (ix2 i j) = if i = j then (1 : EReal) else 0 := by
  pointwise [eye]
  have h : (IntOp.cmpi CmpIPredicate.eq (IntOp.addi (BitVec.ofNat 32 i.val) 0#32) (BitVec.ofNat 32 j.val)) = if i = j then 1#1 else 0#1 := by
    revert i j; decide +kernel
  rw [h]
  split
  · show ((((1#1 : BitVec 1).toNat : ℕ) : ℝ) : EReal) = 1; simp
  · show ((((0#1 : BitVec 1).toNat : ℕ) : ℝ) : EReal) = 0; simp

theorem blkB_apply (x : FVec Ideal S32x64x16 .f32) (k : Fin 512) (n : Fin 2048) :
    blkB x (ix2 k n) = x (ix3 ⟨k.val / 16, by omega⟩ ⟨n.val % 64, by omega⟩ ⟨k.val % 16, by omega⟩) * eye (ix2 ⟨k.val / 16, by omega⟩ ⟨n.val / 64, by omega⟩) := by
  pointwise [blkB]

theorem blkC_apply (x : FVec Ideal S32x16x64 .f32) (k : Fin 512) (n : Fin 2048) :
    blkC x (ix2 n k) = x (ix3 ⟨n.val / 64, by omega⟩ ⟨k.val % 16, by omega⟩ ⟨n.val % 64, by omega⟩) * eye (ix2 ⟨n.val / 64, by omega⟩ ⟨k.val / 16, by omega⟩) := by
  pointwise [blkC]

theorem u_apply (u : FVec Ideal S8x2048x512 .f32) (r : Fin 16384) (l : Fin 512) :
   shapeCast S16384x512 (transpose S2048x8x512 [1, 0, 2] u transposes_S8x2048x512_S2048x8x512_1_0_2) shapeCasts_S2048x8x512_S16384x512 (ix2 r l)
     = u (ix3 ⟨r.val % 8, by omega⟩ ⟨r.val / 8, by omega⟩ l) := by
  pointwise

theorem lane_apply (u : FVec Ideal S32x64 .f32) (n : Fin 2048) :
   shapeCast S1x2048 u shapeCasts_S32x64_S1x2048 (ix2 0 n) = u (ix2 ⟨n.val / 64, by omega⟩ ⟨n.val % 64, by omega⟩) := by
  pointwise

theorem dt_apply (u : FVec Ideal S32 .f32) (n : Fin 2048) :
   broadcastInDim S1x2048 ![1] bcast_S2048_S1x2048_1 (shapeCast S2048 (broadcastInDim S32x64 ![0] bcast_S32_S32x64_0 u) shapeCasts_S32x64_S2048) (ix2 0 n) = u (ix1 ⟨n.val / 64, by omega⟩) := by
  pointwise

/-! The blocks the grid points see. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

theorem in0_apply (c : Dev nD) (t : Fin cfg0.N) (r : Fin 1024) (l : Fin 512) :
    in0 m c t (ix2 r l) = (V m c main_v1 : FVec Ideal S16384x512 .f32) (ix2 ⟨1024 * (t.val % 16) + r.val, by omega⟩ l) := by
  show V m c main_v1 (((cfg0.win 0).blk t).view.emb (ix2 r l)) = _
  refine congrArg (V m c main_v1) ?_
  have ht : t.val < 16 := Nat.lt_of_lt_of_eq t.isLt N_0
  funext a; match a with
  | ⟨0, _⟩ => refine Fin.ext ?_; blk_simp [idx0 t]; show t.val * 1024 + r.val = 1024 * (t.val % 16) + r.val; omega
  | ⟨1, _⟩ => refine Fin.ext ?_; blk_simp [idx0 t]

theorem in1_eq (c : Dev nD) (t : Fin cfg0.N) : in1 m c t = V m c main_v2 := by
  funext y
  show V m c main_v2 (((cfg0.win 1).blk t).view.emb y) = _
  refine congrArg (V m c main_v2) ?_
  funext a; match a with
  | ⟨0, _⟩ => refine Fin.ext ?_; blk_simp [idx1 t]
  | ⟨1, _⟩ => refine Fin.ext ?_; blk_simp [idx1 t]

theorem in2_eq (c : Dev nD) (t : Fin cfg0.N) : in2 m c t = V m c main_v3 := by
  funext y
  show V m c main_v3 (((cfg0.win 2).blk t).view.emb y) = _
  refine congrArg (V m c main_v3) ?_
  funext a; match a with
  | ⟨0, _⟩ => refine Fin.ext ?_; blk_simp [idx2 t]
  | ⟨1, _⟩ => refine Fin.ext ?_; blk_simp [idx2 t]

theorem in3_eq (c : Dev nD) (t : Fin cfg0.N) : in3 m c t = V m c main_v6 := by
  funext y
  show V m c main_v6 (((cfg0.win 3).blk t).view.emb y) = _
  refine congrArg (V m c main_v6) ?_
  funext a; match a with
  | ⟨0, _⟩ => refine Fin.ext ?_; blk_simp [idx3 t]
  | ⟨1, _⟩ => refine Fin.ext ?_; blk_simp [idx3 t]

theorem in4_eq (c : Dev nD) (t : Fin cfg0.N) : in4 m c t = V m c main_v20 := by
  funext y
  show V m c main_v20 (((cfg0.win 4).blk t).view.emb y) = _
  refine congrArg (V m c main_v20) ?_
  funext a; match a with
  | ⟨0, _⟩ => refine Fin.ext ?_; blk_simp [idx4 t]
  | ⟨1, _⟩ => refine Fin.ext ?_; blk_simp [idx4 t]

theorem in5_eq (c : Dev nD) (t : Fin cfg0.N) : in5 m c t = V m c main_v34 := by
  funext y
  show V m c main_v34 (((cfg0.win 5).blk t).view.emb y) = _
  refine congrArg (V m c main_v34) ?_
  funext a; match a with
  | ⟨0, _⟩ => refine Fin.ext ?_; blk_simp [idx5 t]
  | ⟨1, _⟩ => refine Fin.ext ?_; blk_simp [idx5 t]

theorem in6_eq (c : Dev nD) (t : Fin cfg0.N) : in6 m c t = V m c main_v48 := by
  funext y
  show V m c main_v48 (((cfg0.win 6).blk t).view.emb y) = _
  refine congrArg (V m c main_v48) ?_
  funext a; match a with
  | ⟨0, _⟩ => refine Fin.ext ?_; blk_simp [idx6 t]
  | ⟨1, _⟩ => refine Fin.ext ?_; blk_simp [idx6 t]

theorem in7_eq (c : Dev nD) (t : Fin cfg0.N) : in7 m c t = V m c main_v62 := by
  funext y
  show V m c main_v62 (((cfg0.win 7).blk t).view.emb y) = _
  refine congrArg (V m c main_v62) ?_
  funext a; match a with
  | ⟨0, _⟩ => refine Fin.ext ?_; blk_simp [idx7 t]
  | ⟨1, _⟩ => refine Fin.ext ?_; blk_simp [idx7 t]

theorem in8_eq (c : Dev nD) (t : Fin cfg0.N) : in8 m c t = V m c main_v63 := by
  funext y
  show V m c main_v63 (((cfg0.win 8).blk t).view.emb y) = _
  refine congrArg (V m c main_v63) ?_
  funext a; match a with
  | ⟨0, _⟩ => refine Fin.ext ?_; blk_simp [idx8 t]
  | ⟨1, _⟩ => refine Fin.ext ?_; blk_simp [idx8 t]

theorem in9_eq (c : Dev nD) (t : Fin cfg0.N) : in9 m c t = V m c main_v64 := by
  funext y
  show V m c main_v64 (((cfg0.win 9).blk t).view.emb y) = _
  refine congrArg (V m c main_v64) ?_
  funext a; match a with
  | ⟨0, _⟩ => refine Fin.ext ?_; blk_simp [idx9 t]
  | ⟨1, _⟩ => refine Fin.ext ?_; blk_simp [idx9 t]

end Cert.KernelIdeal.Ssm

end
-- ==== Proof.SsmPay.lean ====
module

public import proofs.«01_k».proof.Proof.SsmModel
public import proofs.«01_k».proof.Proof.SsmArr

@[expose] public section

set_option maxRecDepth 16384

noncomputable section

/-! The body's values over the extended reals, at an index. -/
namespace Cert.KernelIdeal.Ssm

open Cert.KernelIdeal.Gen
open Idealize.ShloMosaic Idealize.ShloMosaic.TcCoe Idealize.ShloMosaic.Tactic
open Idealize.SL Idealize.SL.Sem

theorem p11 (a b t : FVec Ideal S1x2048 .f32) (r : Fin 8) (n : Fin 2048) : k0_pay11 (F := Ideal) a b t (ix3 0 r n) = lbR (a (ix2 0 n)) (b (ix2 0 n)) (t (ix2 0 n)) := by
  pointwise [k0_pay11, k0_pay6, k0_pay5, k0_pay4, k0_pay3, k0_pay2, k0_pay1, lbR]
theorem p12 (a b t : FVec Ideal S1x2048 .f32) (r : Fin 8) (n : Fin 2048) : k0_pay12 (F := Ideal) a b t (ix3 0 r n) = lbI (a (ix2 0 n)) (b (ix2 0 n)) (t (ix2 0 n)) := by
  pointwise [k0_pay12, k0_pay7, k0_pay5, k0_pay4, k0_pay3, k0_pay2, k0_pay1, lbI]
theorem p13 (a b t : FVec Ideal S1x2048 .f32) (r : Fin 8) (n : Fin 2048) : k0_pay13 (F := Ideal) a b t (ix3 0 r n) = cfR (a (ix2 0 n)) (b (ix2 0 n)) (t (ix2 0 n)) := by
  pointwise [k0_pay13, k0_pay9, k0_pay8, k0_pay7, k0_pay6, k0_pay5, k0_pay4, k0_pay3, k0_pay2, k0_pay1, cfR, lbR, lbI]
theorem p14 (a b t : FVec Ideal S1x2048 .f32) (r : Fin 8) (n : Fin 2048) : k0_pay14 (F := Ideal) (k0_pay10 (F := Ideal) a b t) (ix3 0 r n) = cfI (a (ix2 0 n)) (b (ix2 0 n)) (t (ix2 0 n)) := by
  pointwise [k0_pay14, k0_pay10, k0_pay9, k0_pay8, k0_pay7, k0_pay6, k0_pay5, k0_pay4, k0_pay3, k0_pay2, k0_pay1, cfI, lbR, lbI]

theorem p15 (j : S2x8x2048.Idx) : k0_pay15 (F := Ideal) j = 0 := by
  obtain ⟨a, b, d, rfl⟩ : ∃ a b d, j = ix3 a b d := ⟨j 0, j 1, j 2, eq_ix3 j⟩
  pointwise [k0_pay15]

/-- The coefficient rows. -/
theorem P0_apply (a b t : FVec Ideal S1x2048 .f32) (q : Fin 4) (r : Fin 8) (n : Fin 2048) :
    P0 (F := Ideal) a b t (ix3 q r n) = if q.val = 0 then lbR (a (ix2 0 n)) (b (ix2 0 n)) (t (ix2 0 n)) else if q.val = 1 then lbI (a (ix2 0 n)) (b (ix2 0 n)) (t (ix2 0 n))
      else if q.val = 2 then cfR (a (ix2 0 n)) (b (ix2 0 n)) (t (ix2 0 n)) else cfI (a (ix2 0 n)) (b (ix2 0 n)) (t (ix2 0 n)) := by
  show (if q.val = 0 then k0_pay11 (F := Ideal) a b t (ValueIdx.ix3 0 r n) else if q.val = 1 then k0_pay12 (F := Ideal) a b t (ValueIdx.ix3 0 r n)
    else if q.val = 2 then k0_pay13 (F := Ideal) a b t (ValueIdx.ix3 0 r n) else k0_pay14 (F := Ideal) (k0_pay10 (F := Ideal) a b t) (ValueIdx.ix3 0 r n)) = _
  rw [vix3, p11, p12, p13, p14]

theorem p17 (x : FVec Ideal S1024x512 .f32) (w : FVec Ideal S256x1024 .bf16) (r : Fin 1024) (n : Fin 1024) :
    k0_pay17 (F := Ideal) x w (ix2 r n) = ∑ k : Fin 256, x (ix2 r ⟨k.val, by omega⟩) * w (ix2 k n) := by
  pointwise [k0_pay17, k0_pay16]
theorem p18 (x : FVec Ideal S1024x512 .f32) (w : FVec Ideal S256x1024 .bf16) (r : Fin 1024) (n : Fin 1024) :
    k0_pay18 (F := Ideal) x w (ix2 r n) = ∑ k : Fin 256, x (ix2 r ⟨256 + k.val, by omega⟩) * w (ix2 k n) := by
  pointwise [k0_pay18, k0_pay16]

theorem blkB_on (x : FVec Ideal S32x64x16 .f32) (k : Fin 512) (n : Fin 2048) (h : k.val / 16 = n.val / 64) :
    blkB x (ix2 k n) = x (ix3 ⟨n.val / 64, by omega⟩ ⟨n.val % 64, by omega⟩ ⟨k.val % 16, by omega⟩) := by
  rw [blkB_apply, eye_apply, if_pos (Fin.ext h), mul_one]
  exact congrArg x (congrArg (fun g => ix3 g _ _) (Fin.ext h))
theorem blkB_off (x : FVec Ideal S32x64x16 .f32) (k : Fin 512) (n : Fin 2048) (h : k.val / 16 ≠ n.val / 64) : blkB x (ix2 k n) = 0 := by
  rw [blkB_apply, eye_apply, if_neg (fun e => h (congrArg Fin.val e)), mul_zero]
theorem blkC_on (x : FVec Ideal S32x16x64 .f32) (k : Fin 512) (n : Fin 2048) (h : n.val / 64 = k.val / 16) :
    blkC x (ix2 n k) = x (ix3 ⟨k.val / 16, by omega⟩ ⟨k.val % 16, by omega⟩ ⟨n.val % 64, by omega⟩) := by
  rw [blkC_apply, eye_apply, if_pos (Fin.ext h), mul_one]
  exact congrArg x (congrArg (fun g => ix3 g _ _) (Fin.ext h))
theorem blkC_off (x : FVec Ideal S32x16x64 .f32) (k : Fin 512) (n : Fin 2048) (h : n.val / 64 ≠ k.val / 16) : blkC x (ix2 n k) = 0 := by
  rw [blkC_apply, eye_apply, if_neg (fun e => h (congrArg Fin.val e)), mul_zero]

/-- The lanes' inputs: one group's product. -/
def grp (x : FVec Ideal S1024x512 .f32) (a : FVec Ideal S32x64x16 .f32) (r : Fin 1024) (n : Fin 2048) : EReal :=
  ∑ p : Fin 16, x (ix2 r ⟨16 * (n.val / 64) + p.val, by omega⟩) * a (ix3 ⟨n.val / 64, by omega⟩ ⟨n.val % 64, by omega⟩ p)

theorem sub2_apply {n0 n1 m0 m1 : ℕ} [NeZero n0] [NeZero n1] {e : EltTy} (r c : ℕ) (x : Vec Ideal ⟨2, ![n0, n1]⟩ e) (i : Fin m0) (j : Fin m1)
    (hi : r + i.val < n0) (hj : c + j.val < n1) :
    (sub2 r c x : Vec Ideal ⟨2, ![m0, m1]⟩ e) (ix2 i j) = x (ix2 ⟨r + i.val, hi⟩ ⟨c + j.val, hj⟩) := by
  show x (ValueIdx.ix2 (Fin.ofNat n0 (r + i.val)) (Fin.ofNat n1 (c + j.val))) = _
  rw [vix2]
  exact congrArg x (congrArg₂ ix2 (Fin.ext (Nat.mod_eq_of_lt hi)) (Fin.ext (Nat.mod_eq_of_lt hj)))

theorem lo_half (x : FVec Ideal S1024x512 .f32) (a : FVec Ideal S32x64x16 .f32) (r : Fin 1024) (n : Fin 2048) (hn : n.val < 1024) :
    k0_pay17 (F := Ideal) x (sub2 0 0 (blkB a)) (ix2 r ⟨n.val, hn⟩) = grp x a r n := by
  rw [p17, sum_block (B := 16) (by omega) (n.val / 64) (by omega)]
  · refine Finset.sum_congr rfl fun p _ => ?_
    rw [sub2_apply (n0 := 512) (n1 := 2048) 0 0 _ _ _ (by show 0 + (16 * (n.val / 64) + p.val) < 512; omega) (by show 0 + n.val < 2048; omega),
      blkB_on _ _ _ (by show (0 + (16 * (n.val / 64) + p.val)) / 16 = (0 + n.val) / 64; omega)]
    refine congrArg₂ (· * ·) rfl (congrArg a ?_)
    funext z; match z with
    | ⟨0, _⟩ => exact Fin.ext (by show (0 + n.val) / 64 = n.val / 64; omega)
    | ⟨1, _⟩ => exact Fin.ext (by show (0 + n.val) % 64 = n.val % 64; omega)
    | ⟨2, _⟩ => exact Fin.ext (by show (0 + (16 * (n.val / 64) + p.val)) % 16 = p.val; omega)
  · intro k hk
    rw [sub2_apply (n0 := 512) (n1 := 2048) 0 0 _ _ _ (by omega) (by show 0 + n.val < 2048; omega),
      blkB_off _ _ _ (by show (0 + k.val) / 16 ≠ (0 + n.val) / 64; omega), mul_zero]

theorem hi_half (x : FVec Ideal S1024x512 .f32) (a : FVec Ideal S32x64x16 .f32) (r : Fin 1024) (n : Fin 2048) (hn : ¬ n.val < 1024) :
    k0_pay18 (F := Ideal) x (sub2 256 1024 (blkB a)) (ix2 r ⟨n.val - 1024, by omega⟩) = grp x a r n := by
  rw [p18, sum_block (B := 16) (by omega) (n.val / 64 - 16) (by omega)]
  · refine Finset.sum_congr rfl fun p _ => ?_
    rw [sub2_apply (n0 := 512) (n1 := 2048) 256 1024 _ _ _ (by show 256 + (16 * (n.val / 64 - 16) + p.val) < 512; omega) (by show 1024 + (n.val - 1024) < 2048; omega),
      blkB_on _ _ _ (by show (256 + (16 * (n.val / 64 - 16) + p.val)) / 16 = (1024 + (n.val - 1024)) / 64; omega)]
    refine congrArg₂ (· * ·) (congrArg x (congrArg₂ ix2 rfl (Fin.ext (by show 256 + (16 * (n.val / 64 - 16) + p.val) = 16 * (n.val / 64) + p.val; omega)))) (congrArg a ?_)
    funext z; match z with
    | ⟨0, _⟩ => exact Fin.ext (by show (1024 + (n.val - 1024)) / 64 = n.val / 64; omega)
    | ⟨1, _⟩ => exact Fin.ext (by show (1024 + (n.val - 1024)) % 64 = n.val % 64; omega)
    | ⟨2, _⟩ => exact Fin.ext (by show (256 + (16 * (n.val / 64 - 16) + p.val)) % 16 = p.val; omega)
  · intro k hk
    rw [sub2_apply (n0 := 512) (n1 := 2048) 256 1024 _ _ _ (by omega) (by show 1024 + (n.val - 1024) < 2048; omega),
      blkB_off _ _ _ (by show (256 + k.val) / 16 ≠ (1024 + (n.val - 1024)) / 64; omega), mul_zero]

theorem X0_apply (x : FVec Ideal S1024x512 .f32) (a : FVec Ideal S32x64x16 .f32) (r : Fin 1024) (n : Fin 2048) : X0 (F := Ideal) x (blkB a) (ix2 r n) = grp x a r n := by
  show (if n.val < 1024 then k0_pay17 (F := Ideal) x (sub2 0 0 (blkB a)) (ValueIdx.ix2 r (Fin.ofNat 1024 n.val))
    else k0_pay18 (F := Ideal) x (sub2 256 1024 (blkB a)) (ValueIdx.ix2 r (Fin.ofNat 1024 (n.val - 1024)))) = _
  by_cases hn : n.val < 1024
  · rw [if_pos hn, vix2, ← lo_half x a r n hn, show (Fin.ofNat 1024 n.val) = ⟨n.val, hn⟩ from Fin.ext (Nat.mod_eq_of_lt hn)]
  · rw [if_neg hn, vix2, ← hi_half x a r n hn, show (Fin.ofNat 1024 (n.val - 1024)) = ⟨n.val - 1024, by omega⟩ from Fin.ext (Nat.mod_eq_of_lt (by omega))]

theorem Y0_eq (x : FVec Ideal S1024x512 .f32) (w : FVec Ideal S512x2048 .bf16) : Y0 (F := Ideal) x w = X0 (F := Ideal) x w := by
  funext y
  unfold Y0 X0
  refine congrArg₂ (fun p q => if (y 1).val < 1024 then p else q) rfl ?_
  rw [show k0_pay21 (F := Ideal) (k0_pay20 (F := Ideal) x (sub2 256 1024 w)) = k0_pay18 (F := Ideal) x (sub2 256 1024 w) from rfl]

/-- The mixed output of a block. -/
def zK (x : FVec Ideal S1024x512 .f32) (a6 a7 : FVec Ideal S32x16x64 .f32) (x9 : FVec Ideal S1x512 .f32) (R I : FVec Ideal S1024x2048 .f32) (r : Fin 1024) (l : Fin 512) : EReal :=
  ((∑ n : Fin 64, R (ix2 r ⟨64 * (l.val / 16) + n.val, by omega⟩) * a6 (ix3 ⟨l.val / 16, by omega⟩ ⟨l.val % 16, by omega⟩ n))
    - ∑ n : Fin 64, I (ix2 r ⟨64 * (l.val / 16) + n.val, by omega⟩) * a7 (ix3 ⟨l.val / 16, by omega⟩ ⟨l.val % 16, by omega⟩ n))
    + x9 (ix2 0 l) * x (ix2 r l)

theorem out_lo (R : FVec Ideal S1024x2048 .f32) (a : FVec Ideal S32x16x64 .f32) (r : Fin 1024) (l : Fin 512) (hl : l.val < 256) :
    (∑ k : Fin 1024, R (ix2 r ⟨k.val, by omega⟩) * (sub2 0 0 (blkC a) : Vec Ideal ⟨2, ![1024, 256]⟩ .bf16) (ix2 k ⟨l.val, hl⟩))
      = ∑ n : Fin 64, R (ix2 r ⟨64 * (l.val / 16) + n.val, by omega⟩) * a (ix3 ⟨l.val / 16, by omega⟩ ⟨l.val % 16, by omega⟩ n) := by
  rw [sum_block (B := 64) (by omega) (l.val / 16) (by omega)]
  · refine Finset.sum_congr rfl fun p _ => ?_
    rw [sub2_apply (n0 := 2048) (n1 := 512) 0 0 _ _ _ (by show 0 + (64 * (l.val / 16) + p.val) < 2048; omega) (by show 0 + l.val < 512; omega),
      blkC_on _ _ _ (by show (0 + (64 * (l.val / 16) + p.val)) / 64 = (0 + l.val) / 16; omega)]
    refine congrArg₂ (· * ·) rfl (congrArg a ?_)
    funext z; match z with
    | ⟨0, _⟩ => exact Fin.ext (by show (0 + l.val) / 16 = l.val / 16; omega)
    | ⟨1, _⟩ => exact Fin.ext (by show (0 + l.val) % 16 = l.val % 16; omega)
    | ⟨2, _⟩ => exact Fin.ext (by show (0 + (64 * (l.val / 16) + p.val)) % 64 = p.val; omega)
  · intro k hk
    rw [sub2_apply (n0 := 2048) (n1 := 512) 0 0 _ _ _ (by omega) (by show 0 + l.val < 512; omega),
      blkC_off _ _ _ (by show (0 + k.val) / 64 ≠ (0 + l.val) / 16; omega), mul_zero]

theorem out_hi (R : FVec Ideal S1024x2048 .f32) (a : FVec Ideal S32x16x64 .f32) (r : Fin 1024) (l : Fin 512) (hl : ¬ l.val < 256) :
    (∑ k : Fin 1024, R (ix2 r ⟨1024 + k.val, by omega⟩) * (sub2 1024 256 (blkC a) : Vec Ideal ⟨2, ![1024, 256]⟩ .bf16) (ix2 k ⟨l.val - 256, by omega⟩))
      = ∑ n : Fin 64, R (ix2 r ⟨64 * (l.val / 16) + n.val, by omega⟩) * a (ix3 ⟨l.val / 16, by omega⟩ ⟨l.val % 16, by omega⟩ n) := by
  rw [sum_block (B := 64) (by omega) (l.val / 16 - 16) (by omega)]
  · refine Finset.sum_congr rfl fun p _ => ?_
    rw [sub2_apply (n0 := 2048) (n1 := 512) 1024 256 _ _ _ (by show 1024 + (64 * (l.val / 16 - 16) + p.val) < 2048; omega) (by show 256 + (l.val - 256) < 512; omega),
      blkC_on _ _ _ (by show (1024 + (64 * (l.val / 16 - 16) + p.val)) / 64 = (256 + (l.val - 256)) / 16; omega)]
    refine congrArg₂ (· * ·) (congrArg R (congrArg₂ ix2 rfl (Fin.ext (by show 1024 + (64 * (l.val / 16 - 16) + p.val) = 64 * (l.val / 16) + p.val; omega)))) (congrArg a ?_)
    funext z; match z with
    | ⟨0, _⟩ => exact Fin.ext (by show (256 + (l.val - 256)) / 16 = l.val / 16; omega)
    | ⟨1, _⟩ => exact Fin.ext (by show (256 + (l.val - 256)) % 16 = l.val % 16; omega)
    | ⟨2, _⟩ => exact Fin.ext (by show (1024 + (64 * (l.val / 16 - 16) + p.val)) % 64 = p.val; omega)
  · intro k hk
    rw [sub2_apply (n0 := 2048) (n1 := 512) 1024 256 _ _ _ (by omega) (by show 256 + (l.val - 256) < 512; omega),
      blkC_off _ _ _ (by show (1024 + k.val) / 64 ≠ (256 + (l.val - 256)) / 16; omega), mul_zero]

/-- The mixed output as the body makes it. -/
def mixK (a1 : FVec Ideal S1024x512 .f32) (a2 : FVec Ideal S1x512 .f32) (a3 : FVec Ideal S1024x2048 .bf16) (a4 : FVec Ideal S1024x256 .f32) (a5 : FVec Ideal S1024x1024 .bf16) (a6 a7 : FVec Ideal S1024x256 .bf16) : FVec Ideal S1024x512 .f32 :=
  addf (concatenate S1024x512 1 [⟨S1024x256, a4⟩, ⟨S1024x256, subf (matmul dot_S1024x1024_S1024x256_S1024x256_1_0_0_1_n_n none a5 a6 (constant S1024x256 .f32 0x00000000#32))
     (matmul dot_S1024x1024_S1024x256_S1024x256_1_0_0_1_n_n none (extractStridedSlice S1024x1024 ![0, 1024] a3 slices_S1024x2048_o0_1024_S1024x1024) (shapeCast S1024x256 a7 shapeCasts_S1024x256_S1024x256) (constant S1024x256 .f32 0x00000000#32))⟩] concatenates_S1024x256_S1024x256_S1024x512_d1) (mulf (broadcastTo S1024x512 a2 broadcasts_S1x512_S1024x512) a1)

theorem mixK_apply (x1 : FVec Ideal S1024x512 .f32) (x7a x7b x8a x8b : FVec Ideal S1024x256 .bf16) (x9 : FVec Ideal S1x512 .f32) (R I : FVec Ideal S1024x2048 .f32) (r : Fin 1024) (l : Fin 512) :
    mixK (k0_pay70 (F := Ideal) x1) (k0_pay71 (F := Ideal) x9) (k0_pay73 (F := Ideal) I) (k0_pay74 (F := Ideal) R I x7a x8a) (k0_pay75 (F := Ideal) R) (k0_pay76 (F := Ideal) x7b) x8b (ix2 r l)
      = (if h : l.val < 256 then (∑ k : Fin 1024, R (ix2 r ⟨k.val, by omega⟩) * x7a (ix2 k ⟨l.val, h⟩)) - ∑ k : Fin 1024, I (ix2 r ⟨k.val, by omega⟩) * x8a (ix2 k ⟨l.val, h⟩)
          else (∑ k : Fin 1024, R (ix2 r ⟨1024 + k.val, by omega⟩) * x7b (ix2 k ⟨l.val - 256, by omega⟩)) - ∑ k : Fin 1024, I (ix2 r ⟨1024 + k.val, by omega⟩) * x8b (ix2 k ⟨l.val - 256, by omega⟩))
        + x9 (ix2 0 l) * x1 (ix2 r l) := by
  pointwise [mixK, k0_pay70, k0_pay71, k0_pay72, k0_pay73, k0_pay74, k0_pay75, k0_pay76]

theorem p77 (a1 : FVec Ideal S1024x512 .f32) (a2 : FVec Ideal S1x512 .f32) (a3 : FVec Ideal S1024x2048 .bf16) (a4 : FVec Ideal S1024x256 .f32) (a5 : FVec Ideal S1024x1024 .bf16) (a6 a7 : FVec Ideal S1024x256 .bf16) (a8 : FVec Ideal S512x512 .bf16) (r : Fin 1024) (l : Fin 512) :
    k0_pay77 (F := Ideal) a1 a2 a3 a4 a5 a6 a7 a8 (ix2 r l) = gate (fun x => mixK a1 a2 a3 a4 a5 a6 a7 (ix2 r x)) (fun x => a8 (ix2 x l)) l := by
  generalize hZ : mixK a1 a2 a3 a4 a5 a6 a7 = Z
  unfold mixK at hZ
  unfold k0_pay77
  rw [hZ]
  pointwise [gate, gel]

/-- The output block. -/
theorem OUT_apply (x1 : FVec Ideal S1024x512 .f32) (a6 a7 : FVec Ideal S32x16x64 .f32) (x9 : FVec Ideal S1x512 .f32) (x10 : FVec Ideal S512x512 .bf16) (R I : FVec Ideal S1024x2048 .f32) (r : Fin 1024) (l : Fin 512) :
    OUT (F := Ideal) x1 (blkC a6) (blkC a7) x9 x10 R I (ix2 r l) = gate (zK x1 a6 a7 x9 R I r) (fun x => x10 (ix2 x l)) l := by
  unfold OUT
  rw [p77]
  refine congrArg (fun z => gate z (fun x => x10 (ix2 x l)) l) ?_
  funext x
  rw [mixK_apply]
  unfold zK
  by_cases h : x.val < 256
  · rw [dif_pos h, out_lo R a6 r x h, out_lo I a7 r x h]
  · rw [dif_neg h, out_hi R a6 r x h, out_hi I a7 r x h]

end Cert.KernelIdeal.Ssm

end
-- ==== Proof.SsmRes.lean ====
module

public import proofs.«01_k».proof.Proof.SsmPay
public import Idealize.ShloMosaic.Lib.Pipeline.ValueKit

@[expose] public section

set_option maxRecDepth 16384

noncomputable section

/-! The three arrays the launch leaves, as the layer's results. -/
namespace Cert.KernelIdeal.Ssm

open Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

/-- The state of batch `b`, lane `n` before time `T`. -/
def sT (b : Fin 8) (n : Fin 2048) : ℕ → EReal × EReal :=
  st (ar0 m c) (ar1 m c) (ar2 m c) (ar3 m c) (ar4 m c) (ar5 m c) b ⟨n.val / 64, by omega⟩ ⟨n.val % 64, by omega⟩

theorem in1_row (t : Fin cfg0.N) (n : Fin 2048) : in1 m c t (ix2 0 n) = ar1 m c (ix2 ⟨n.val / 64, by omega⟩ ⟨n.val % 64, by omega⟩) := by
  rw [in1_eq, V_v2]; exact lane_apply _ n
theorem in2_row (t : Fin cfg0.N) (n : Fin 2048) : in2 m c t (ix2 0 n) = ar2 m c (ix2 ⟨n.val / 64, by omega⟩ ⟨n.val % 64, by omega⟩) := by
  rw [in2_eq, V_v3]; exact lane_apply _ n
theorem in3_row (t : Fin cfg0.N) (n : Fin 2048) : in3 m c t (ix2 0 n) = ar3 m c (ix1 ⟨n.val / 64, by omega⟩) := by
  rw [in3_eq, V_v6]; exact dt_apply _ n
theorem in0_row (t : Fin cfg0.N) (r : Fin 1024) (l : Fin 512) (b : Fin 8) (T : Fin 2048) (hr : 1024 * t.val + r.val = 8 * T.val + b.val) :
    in0 m c t (ix2 r l) = ar0 m c (ix3 b T l) := by
  have ht : t.val < 16 := Nat.lt_of_lt_of_eq t.isLt N_0
  rw [in0_apply, V_v1, u_apply]
  refine congrArg (ar0 m c) (congrArg₂ (fun p q => ix3 p q l) (Fin.ext ?_) (Fin.ext ?_))
  · show (1024 * (t.val % 16) + r.val) % 8 = b.val; omega
  · show (1024 * (t.val % 16) + r.val) / 8 = T.val; omega

theorem grp_in0 (t : Fin cfg0.N) (a : FVec Ideal S32x64x16 .f32) (k : ℕ) (hk : k < 128) (b : Fin 8) (n : Fin 2048) :
    grp (in0 m c t) a ⟨8 * k + b.val, by omega⟩ n = bu (ar0 m c) a b ⟨n.val / 64, by omega⟩ ⟨n.val % 64, by omega⟩ (128 * t.val + k) := by
  have ht : t.val < 16 := Nat.lt_of_lt_of_eq t.isLt N_0
  unfold grp bu
  refine Finset.sum_congr rfl fun p _ => congrArg₂ (· * ·) ?_ rfl
  refine in0_row m c t _ _ b _ ?_
  show 1024 * t.val + (8 * k + b.val) = 8 * ((128 * t.val + k) % 2048) + b.val
  omega

theorem rl_eq (k : ℕ) (hk : k < 128) (b : Fin 8) (n : Fin 2048) : rl (8 * k + b.val) n.val = ix2 ⟨8 * k + b.val, by omega⟩ n := by
  show ValueIdx.ix2 (Fin.ofNat 1024 (8 * k + b.val)) (Fin.ofNat 2048 n.val) = _
  rw [vix2]
  exact congrArg₂ ix2 (Fin.ext (Nat.mod_eq_of_lt (by omega))) (Fin.ext (Nat.mod_eq_of_lt n.isLt))

theorem XX_row (t : Fin cfg0.N) (k : ℕ) (hk : k < 128) (b : Fin 8) (n : Fin 2048) :
    XX m c t (rl (8 * k + b.val) n.val) = bu (ar0 m c) (ar4 m c) b ⟨n.val / 64, by omega⟩ ⟨n.val % 64, by omega⟩ (128 * t.val + k) := by
  rw [rl_eq k hk, ← grp_in0 m c t (ar4 m c) k hk b n]
  unfold XX
  rw [in4_eq, V_v20]
  exact X0_apply _ _ _ _
theorem YY_row (t : Fin cfg0.N) (k : ℕ) (hk : k < 128) (b : Fin 8) (n : Fin 2048) :
    YY m c t (rl (8 * k + b.val) n.val) = bu (ar0 m c) (ar5 m c) b ⟨n.val / 64, by omega⟩ ⟨n.val % 64, by omega⟩ (128 * t.val + k) := by
  rw [rl_eq k hk, ← grp_in0 m c t (ar5 m c) k hk b n]
  unfold YY
  rw [in5_eq, V_v34, Y0_eq]
  exact X0_apply _ _ _ _

theorem PP_row (q : Fin 4) (b : Fin 8) (n : Fin 2048) :
    PP m c (ix3 q b n) = if q.val = 0 then lbR (ar1 m c (ix2 ⟨n.val / 64, by omega⟩ ⟨n.val % 64, by omega⟩)) (ar2 m c (ix2 ⟨n.val / 64, by omega⟩ ⟨n.val % 64, by omega⟩)) (ar3 m c (ix1 ⟨n.val / 64, by omega⟩))
      else if q.val = 1 then lbI (ar1 m c (ix2 ⟨n.val / 64, by omega⟩ ⟨n.val % 64, by omega⟩)) (ar2 m c (ix2 ⟨n.val / 64, by omega⟩ ⟨n.val % 64, by omega⟩)) (ar3 m c (ix1 ⟨n.val / 64, by omega⟩))
      else if q.val = 2 then cfR (ar1 m c (ix2 ⟨n.val / 64, by omega⟩ ⟨n.val % 64, by omega⟩)) (ar2 m c (ix2 ⟨n.val / 64, by omega⟩ ⟨n.val % 64, by omega⟩)) (ar3 m c (ix1 ⟨n.val / 64, by omega⟩))
      else cfI (ar1 m c (ix2 ⟨n.val / 64, by omega⟩ ⟨n.val % 64, by omega⟩)) (ar2 m c (ix2 ⟨n.val / 64, by omega⟩ ⟨n.val % 64, by omega⟩)) (ar3 m c (ix1 ⟨n.val / 64, by omega⟩)) := by
  unfold PP
  rw [P0_apply, in1_row, in2_row, in3_row]

/-- The recurrence of one grid point continues the whole recurrence. -/
theorem hsG_eq (t : Fin cfg0.N) (H : FVec Ideal S2x8x2048 .f32) (b : Fin 8) (n : Fin 2048)
    (h0 : H (ix3 0 b n) = (sT m c b n (128 * t.val)).1) (h1 : H (ix3 1 b n) = (sT m c b n (128 * t.val)).2) (k : ℕ) (hk : k ≤ 128) :
    hsG (F := Ideal) (PP m c) H (XX m c t) (YY m c t) b.val n.val k = sT m c b n (128 * t.val + k) := by
  unfold hsG
  rw [show Fin.ofNat 8 b.val = b from Fin.ext (Nat.mod_eq_of_lt b.isLt), show Fin.ofNat 2048 n.val = n from Fin.ext (Nat.mod_eq_of_lt n.isLt)]
  simp only [vix3]
  rw [h0, h1, PP_row, PP_row, PP_row, PP_row]
  rw [hsE_congr (F := Ideal) (k := k) (hr := fun i hi => XX_row m c t i (by omega) b n) (hi := fun i hi => YY_row m c t i (by omega) b n)]
  exact hsE_add (F := Ideal) _ _ _ _ _ _ (bu (ar0 m c) (ar4 m c) b ⟨n.val / 64, by omega⟩ ⟨n.val % 64, by omega⟩) (bu (ar0 m c) (ar5 m c) b ⟨n.val / 64, by omega⟩ ⟨n.val % 64, by omega⟩) (128 * t.val) k

theorem stH_eq (T : ℕ) (hT : T ≤ 16) (b : Fin 8) (n : Fin 2048) :
    stH m c T (ix3 0 b n) = (sT m c b n (128 * T)).1 ∧ stH m c T (ix3 1 b n) = (sT m c b n (128 * T)).2 := by
  induction T with
  | zero => exact ⟨p15 _, p15 _⟩
  | succ T ih =>
    have ht : T < cfg0.N := Nat.lt_of_lt_of_eq (by omega) N_0.symm
    have e := stH_succ m c ⟨T, ht⟩
    have hs := hsG_eq m c ⟨T, ht⟩ (stH m c T) b n (ih (by omega)).1 (ih (by omega)).2 128 (by omega)
    rw [show stH m c (T + 1) = _ from e]
    exact ⟨congrArg Prod.fst hs, congrArg Prod.snd hs⟩

/-- The states of a block. -/
theorem XR_row (t : Fin cfg0.N) (r : Fin 1024) (n : Fin 2048) (b : Fin 8) (T : ℕ) (hr : 1024 * t.val + r.val = 8 * T + b.val) :
    XR (F := Ideal) (PP m c) (stH m c t.val) (XX m c t) (YY m c t) (ix2 r n) = (sT m c b n (T + 1)).1
    ∧ XI (F := Ideal) (PP m c) (stH m c t.val) (XX m c t) (YY m c t) (ix2 r n) = (sT m c b n (T + 1)).2 := by
  have ht : t.val < 16 := Nat.lt_of_lt_of_eq t.isLt N_0
  have h := stH_eq m c t.val (by omega) b n
  have e := hsG_eq m c t (stH m c t.val) b n h.1 h.2 (r.val / 8 + 1) (by omega)
  rw [show 128 * t.val + (r.val / 8 + 1) = T + 1 by omega, show b.val = r.val % 8 by omega] at e
  exact ⟨congrArg Prod.fst e, congrArg Prod.snd e⟩

/-- The three results. -/
abbrev G0 : FVec Ideal S16384x512 .f32 := res0 (ar0 m c) (ar1 m c) (ar2 m c) (ar3 m c) (ar4 m c) (ar5 m c) (ar6 m c) (ar7 m c) (ar8 m c) (ar9 m c)
abbrev G1 : FVec Ideal S8x2048 .f32 := res1 (ar0 m c) (ar1 m c) (ar2 m c) (ar3 m c) (ar4 m c) (ar5 m c)
abbrev G2 : FVec Ideal S8x2048 .f32 := res2 (ar0 m c) (ar1 m c) (ar2 m c) (ar3 m c) (ar4 m c) (ar5 m c)

theorem d_row (t : Fin cfg0.N) (l : Fin 512) : in8 m c t (ix2 0 l) = ar8 m c (ix1 l) := by
  rw [in8_eq, V_v63]
  pointwise
theorem w_row (t : Fin cfg0.N) (x l : Fin 512) : in9 m c t (ix2 x l) = ar9 m c (ix2 x l) := by
  rw [in9_eq, V_v64]
  pointwise

theorem zK_eq (t : Fin cfg0.N) (r : Fin 1024) (b : Fin 8) (T : Fin 2048) (hr : 1024 * t.val + r.val = 8 * T.val + b.val) (l : Fin 512) :
    zK (in0 m c t) (ar6 m c) (ar7 m c) (in8 m c t) (XR (F := Ideal) (PP m c) (stH m c t.val) (XX m c t) (YY m c t)) (XI (F := Ideal) (PP m c) (stH m c t.val) (XX m c t) (YY m c t)) r l
      = zz (ar0 m c) (ar1 m c) (ar2 m c) (ar3 m c) (ar4 m c) (ar5 m c) (ar6 m c) (ar7 m c) (ar8 m c) T b l := by
  unfold zK zz
  rw [d_row, in0_row m c t r l b T hr]
  have hs : ∀ n : Fin 64, sT m c b ⟨64 * (l.val / 16) + n.val, by omega⟩ = st (ar0 m c) (ar1 m c) (ar2 m c) (ar3 m c) (ar4 m c) (ar5 m c) b ⟨l.val / 16, by omega⟩ n := by
    intro n
    unfold sT
    exact congrArg₂ (st (ar0 m c) (ar1 m c) (ar2 m c) (ar3 m c) (ar4 m c) (ar5 m c) b) (Fin.ext (by show (64 * (l.val / 16) + n.val) / 64 = l.val / 16; omega))
      (Fin.ext (by show (64 * (l.val / 16) + n.val) % 64 = n.val; omega))
  refine congrArg₂ (· + ·) (congrArg₂ (· - ·) (Finset.sum_congr rfl fun n _ => ?_) (Finset.sum_congr rfl fun n _ => ?_)) rfl
  · rw [(XR_row m c t r _ b T.val hr).1, hs]
  · rw [(XR_row m c t r _ b T.val hr).2, hs]

theorem o10_apply (t : Fin cfg0.N) (r : Fin 1024) (l : Fin 512) : o10 m c t (ix2 r l) = G0 m c (ix2 ⟨1024 * (t.val % 16) + r.val, by omega⟩ l) := by
  have ht : t.val < 16 := Nat.lt_of_lt_of_eq t.isLt N_0
  unfold o10
  rw [in6_eq, in7_eq, V_v48, V_v62]
  refine (OUT_apply _ _ _ _ _ _ _ r l).trans ?_
  show _ = gate (zz (ar0 m c) (ar1 m c) (ar2 m c) (ar3 m c) (ar4 m c) (ar5 m c) (ar6 m c) (ar7 m c) (ar8 m c)
    ⟨(1024 * (t.val % 16) + r.val) / 8, _⟩ ⟨(1024 * (t.val % 16) + r.val) % 8, _⟩) (fun x => ar9 m c (ix2 x l)) l
  refine congrArg₂ (fun z w => gate z w l) ?_ ?_
  · funext x
    exact zK_eq m c t r _ _ (by show 1024 * t.val + r.val = 8 * ((1024 * (t.val % 16) + r.val) / 8) + (1024 * (t.val % 16) + r.val) % 8; omega) x
  · funext x; exact w_row m c t x l

theorem o11_apply (t : Fin cfg0.N) (h : t.val % 16 = 15) (b : Fin 8) (n : Fin 2048) : o11 m c t (ix2 b n) = G1 m c (ix2 b n) ∧ o12 m c t (ix2 b n) = G2 m c (ix2 b n) := by
  have ht : t.val < 16 := Nat.lt_of_lt_of_eq t.isLt N_0
  have hh := stH_eq m c t.val (by omega) b n
  have e := hsG_eq m c t (stH m c t.val) b n hh.1 hh.2 128 (by omega)
  rw [show 128 * t.val + 128 = 2048 by omega] at e
  exact ⟨congrArg Prod.fst e, congrArg Prod.snd e⟩

theorem idx10 : ∀ t : Fin cfg0.N, win0_10.index t = ![t.val, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)

theorem final10 : (dats m 0 c).arrAt 10 cfg0.N = G0 m c := by
  refine (dats m 0 c).arrAt_eq_of_covers 10 _ (by decide +kernel) fun t hf y => ?_
  have ht : t.val < 16 := Nat.lt_of_lt_of_eq t.isLt N_0
  show (dats m 0 c).after 10 t y = _
  rw [after0_10]
  obtain ⟨r, l, rfl⟩ : ∃ (r : Fin 1024) (l : Fin 512), y = ix2 r l := ⟨y 0, y 1, eq_ix2 y⟩
  refine (o10_apply m c t r l).trans (congrArg (G0 m c) ?_)
  funext a; match a with
  | ⟨0, _⟩ => refine Fin.ext ?_; blk_simp [idx10 t]; show 1024 * (t.val % 16) + r.val = _; omega
  | ⟨1, _⟩ => refine Fin.ext ?_; blk_simp [idx10 t]

theorem final11 : (dats m 0 c).arrAt 11 cfg0.N = G1 m c := by
  refine (dats m 0 c).arrAt_eq_of_covers 11 _ (by decide +kernel) fun t hf y => ?_
  show (dats m 0 c).after 11 t y = _
  rw [after0_11]
  obtain ⟨r, l, rfl⟩ : ∃ (r : Fin 8) (l : Fin 2048), y = ix2 r l := ⟨y 0, y 1, eq_ix2 y⟩
  refine (o11_apply m c t ((flush0_11 t).mp hf) r l).1.trans (congrArg (G1 m c) ?_)
  funext a; match a with
  | ⟨0, _⟩ => refine Fin.ext ?_; blk_simp [idx11 t]
  | ⟨1, _⟩ => refine Fin.ext ?_; blk_simp [idx11 t]

theorem final12 : (dats m 0 c).arrAt 12 cfg0.N = G2 m c := by
  refine (dats m 0 c).arrAt_eq_of_covers 12 _ (by decide +kernel) fun t hf y => ?_
  show (dats m 0 c).after 12 t y = _
  rw [after0_12]
  obtain ⟨r, l, rfl⟩ : ∃ (r : Fin 8) (l : Fin 2048), y = ix2 r l := ⟨y 0, y 1, eq_ix2 y⟩
  refine (o11_apply m c t ((flush0_12 t).mp hf) r l).2.trans (congrArg (G2 m c) ?_)
  funext a; match a with
  | ⟨0, _⟩ => refine Fin.ext ?_; blk_simp [idx12 t]
  | ⟨1, _⟩ => refine Fin.ext ?_; blk_simp [idx12 t]

/-- The launch's run, with the three arrays. -/
theorem run_value (ρ : Dev nD → PrngReg) : θ_run defs (onTc (τ := τ) (main (F := Ideal))) ⟨m, fun _ => 0, ρ⟩ (fun r => ∀ c : Dev nD,
      r.2.mem ((c.tc : Thread nD τ).loc main_v65_0) = G0 m c
      ∧ r.2.mem ((c.tc : Thread nD τ).loc main_v65_1) = G1 m c
      ∧ r.2.mem ((c.tc : Thread nD τ).loc main_v65_2) = G2 m c) :=
  (θ_run defs _ _).mono (fun r h c => ⟨((h c).1 10).trans (final10 m c), ((h c).1 11).trans (final11 m c), ((h c).1 12).trans (final12 m c)⟩) (run_main m ρ)

end Cert.KernelIdeal.Ssm

end
-- ==== Proof.SsmRef.lean ====
module

public import proofs.«01_k».proof.Proof.SsmModel
public import proofs.«01_k».proof.Proof.Gen.ReferenceIdeal
public import proofs.«01_k».proof.Proof.Gen.ReferenceIdeal.Run
public import Idealize.ShloMosaic.Lib.Pointwise

@[expose] public section

set_option maxRecDepth 16384

noncomputable section

/-! The reference's loop and results, as the layer's results. -/
namespace Cert.ReferenceIdeal.Ssm

open Cert.ReferenceIdeal.Gen Cert.ReferenceIdeal.Value
open Cert.KernelIdeal.Ssm (lbR lbI cfR cfI gel gate bu st zz res0 res1 res2)
open Idealize.ShloMosaic Idealize.ShloMosaic.TcCoe Idealize.ShloMosaic.Tactic Idealize.ShloMosaic.StableHlo
open Idealize.SL Idealize.SL.Sem

/-- The step sizes, spread over the states. -/
def dtR (a3 : FVec Ideal S32 .f32) : FVec Ideal S32x64 .f32 :=
  broadcastInDim S32x64 ![0, 1] bcast_S32x1_S32x64_0_1 (broadcastInDim S32x1 ![0] bcast_S32_S32x1_0 (Host.exp a3))
/-- The decay. -/
def lR (a1 a2 : FVec Ideal S32x64 .f32) (a3 : FVec Ideal S32 .f32) : FVec Ideal S32x64 .f32 := mulf (Host.exp (mulf a1 (dtR a3))) (Host.cos (mulf a2 (dtR a3)))
def lI (a1 a2 : FVec Ideal S32x64 .f32) (a3 : FVec Ideal S32 .f32) : FVec Ideal S32x64 .f32 := mulf (Host.exp (mulf a1 (dtR a3))) (Host.sin (mulf a2 (dtR a3)))
def den (a1 a2 : FVec Ideal S32x64 .f32) : FVec Ideal S32x64 .f32 := addf (mulf a1 a1) (mulf a2 a2)
def nm1 (a1 a2 : FVec Ideal S32x64 .f32) (a3 : FVec Ideal S32 .f32) : FVec Ideal S32x64 .f32 :=
  subf (lR a1 a2 a3) (broadcastInDim S32x64 ![] bcast_S_S32x64 (constant S_ .f32 0x3F800000#32))
/-- The input coefficients. -/
def cR (a1 a2 : FVec Ideal S32x64 .f32) (a3 : FVec Ideal S32 .f32) : FVec Ideal S32x64 .f32 := Host.divf (addf (mulf (nm1 a1 a2 a3) a1) (mulf (lI a1 a2 a3) a2)) (den a1 a2)
def cI (a1 a2 : FVec Ideal S32x64 .f32) (a3 : FVec Ideal S32 .f32) : FVec Ideal S32x64 .f32 := Host.divf (subf (mulf (lI a1 a2 a3) a1) (mulf (nm1 a1 a2 a3) a2)) (den a1 a2)
/-- The projected inputs. -/
def prj (u : FVec Ideal S8x2048x512 .f32) (w : FVec Ideal S32x64x16 .f32) : FVec Ideal S8x2048x32x64 .f32 :=
  transpose S8x2048x32x64 [2, 3, 0, 1] (Host.dotGeneral dot_S32x64x16_S8x2048x32x16_S32x64x8x2048_2_3_1_01_0_2 none w (shapeCast S8x2048x32x16 u shapeCasts_S8x2048x512_S8x2048x32x16)) transposes_S32x64x8x2048_S8x2048x32x64_2_3_0_1
def bb (x : FVec Ideal S32x64 .f32) : FVec Ideal S8x2048x32x64 .f32 :=
  broadcastInDim S8x2048x32x64 ![0, 1, 2, 3] bcast_S1x1x32x64_S8x2048x32x64_0_1_2_3 (broadcastInDim S1x1x32x64 ![2, 3] bcast_S32x64_S1x1x32x64_2_3 x)
def xRe (u : FVec Ideal S8x2048x512 .f32) (a1 a2 : FVec Ideal S32x64 .f32) (a3 : FVec Ideal S32 .f32) (a4 a5 : FVec Ideal S32x64x16 .f32) : FVec Ideal S2048x8x32x64 .f32 :=
  transpose S2048x8x32x64 [1, 0, 2, 3] (subf (mulf (bb (cR a1 a2 a3)) (prj u a4)) (mulf (bb (cI a1 a2 a3)) (prj u a5))) transposes_S8x2048x32x64_S2048x8x32x64_1_0_2_3
def xIm (u : FVec Ideal S8x2048x512 .f32) (a1 a2 : FVec Ideal S32x64 .f32) (a3 : FVec Ideal S32 .f32) (a4 a5 : FVec Ideal S32x64x16 .f32) : FVec Ideal S2048x8x32x64 .f32 :=
  transpose S2048x8x32x64 [1, 0, 2, 3] (addf (mulf (bb (cR a1 a2 a3)) (prj u a5)) (mulf (bb (cI a1 a2 a3)) (prj u a4))) transposes_S8x2048x32x64_S2048x8x32x64_1_0_2_3

/-- One trip's start of the slice it reads. -/
abbrev startOf (k : IVec S_ 32) : Fin 4 → ℤ := fun i => (((![k, constantI S_ 32 0#32, constantI S_ 32 0#32, constantI S_ 32 0#32] : Fin 4 → IVec S_ 32)) i (Shape.Idx.first h_S_)).toInt
/-- One trip's states. -/
def nRe (lr li : FVec Ideal S32x64 .f32) (hr hi : FVec Ideal S8x32x64 .f32) (x : FVec Ideal S2048x8x32x64 .f32) (k : IVec S_ 32) : FVec Ideal S8x32x64 .f32 :=
  addf (subf (mulf (broadcastInDim S8x32x64 ![0, 1, 2] bcast_S1x32x64_S8x32x64_0_1_2 (broadcastInDim S1x32x64 ![1, 2] bcast_S32x64_S1x32x64_1_2 lr)) hr) (mulf (broadcastInDim S8x32x64 ![0, 1, 2] bcast_S1x32x64_S8x32x64_0_1_2 (broadcastInDim S1x32x64 ![1, 2] bcast_S32x64_S1x32x64_1_2 li)) hi)) (shapeCast S8x32x64 (Host.dynamicSlice S1x8x32x64 x (startOf k) sliceFits_S2048x8x32x64_S1x8x32x64) shapeCasts_S1x8x32x64_S8x32x64)
def nIm (lr li : FVec Ideal S32x64 .f32) (hr hi : FVec Ideal S8x32x64 .f32) (x : FVec Ideal S2048x8x32x64 .f32) (k : IVec S_ 32) : FVec Ideal S8x32x64 .f32 :=
  addf (addf (mulf (broadcastInDim S8x32x64 ![0, 1, 2] bcast_S1x32x64_S8x32x64_0_1_2 (broadcastInDim S1x32x64 ![1, 2] bcast_S32x64_S1x32x64_1_2 lr)) hi) (mulf (broadcastInDim S8x32x64 ![0, 1, 2] bcast_S1x32x64_S8x32x64_0_1_2 (broadcastInDim S1x32x64 ![1, 2] bcast_S32x64_S1x32x64_1_2 li)) hr)) (shapeCast S8x32x64 (Host.dynamicSlice S1x8x32x64 x (startOf k) sliceFits_S2048x8x32x64_S1x8x32x64) shapeCasts_S1x8x32x64_S8x32x64)
def nSt (s : FVec Ideal S2048x8x32x64 .f32) (h : FVec Ideal S8x32x64 .f32) (k : IVec S_ 32) : FVec Ideal S2048x8x32x64 .f32 :=
  Host.dynamicUpdateSlice s (broadcastInDim S1x8x32x64 ![1, 2, 3] bcast_S8x32x64_S1x8x32x64_1_2_3 h) (startOf k) updateFits_S2048x8x32x64_S1x8x32x64

theorem startOf_eq (T : ℕ) (hT : T < 2048) : startOf (fun _ => BitVec.ofNat 32 T) = ![(T : ℤ), 0, 0, 0] := by
  funext i
  match i with
  | ⟨0, _⟩ =>
    show (BitVec.ofNat 32 T).toInt = (T : ℤ)
    rw [BitVec.toInt_eq_toNat_of_lt (by rw [BitVec.toNat_ofNat]; omega), BitVec.toNat_ofNat]
    omega
  | ⟨1, _⟩ => rfl
  | ⟨2, _⟩ => rfl
  | ⟨3, _⟩ => rfl

theorem lR_apply (a1 a2 : FVec Ideal S32x64 .f32) (a3 : FVec Ideal S32 .f32) (g : Fin 32) (n : Fin 64) : lR a1 a2 a3 (ix2 g n) = lbR (a1 (ix2 g n)) (a2 (ix2 g n)) (a3 (ix1 g)) := by
  pointwise [lR, dtR, lbR]
theorem lI_apply (a1 a2 : FVec Ideal S32x64 .f32) (a3 : FVec Ideal S32 .f32) (g : Fin 32) (n : Fin 64) : lI a1 a2 a3 (ix2 g n) = lbI (a1 (ix2 g n)) (a2 (ix2 g n)) (a3 (ix1 g)) := by
  pointwise [lI, dtR, lbI]
theorem cR_apply (a1 a2 : FVec Ideal S32x64 .f32) (a3 : FVec Ideal S32 .f32) (g : Fin 32) (n : Fin 64) : cR a1 a2 a3 (ix2 g n) = cfR (a1 (ix2 g n)) (a2 (ix2 g n)) (a3 (ix1 g)) := by
  pointwise [cR, nm1, den, lR, lI, dtR, cfR, lbR, lbI]
theorem cI_apply (a1 a2 : FVec Ideal S32x64 .f32) (a3 : FVec Ideal S32 .f32) (g : Fin 32) (n : Fin 64) : cI a1 a2 a3 (ix2 g n) = cfI (a1 (ix2 g n)) (a2 (ix2 g n)) (a3 (ix1 g)) := by
  pointwise [cI, nm1, den, lR, lI, dtR, cfI, lbR, lbI]
theorem prj_apply (u : FVec Ideal S8x2048x512 .f32) (w : FVec Ideal S32x64x16 .f32) (b : Fin 8) (T : ℕ) (hT : T < 2048) (g : Fin 32) (n : Fin 64) :
    prj u w (ix4 b ⟨T, hT⟩ g n) = bu u w b g n T := by
  have e : prj u w (ix4 b ⟨T, hT⟩ g n) = ∑ p : Fin 16, w (ix3 g n p) * u (ix3 b ⟨T, hT⟩ ⟨16 * g.val + p.val, by omega⟩) := by
    pointwise [prj]
    exact Finset.sum_congr rfl fun p _ => congrArg₂ (· * ·) rfl (congrArg u (congrArg (ix3 b ⟨T, hT⟩) (Fin.ext (by show g.val * 16 + p.val = 16 * g.val + p.val; omega))))
  rw [e]
  unfold bu
  rw [show Fin.ofNat 2048 T = ⟨T, hT⟩ from Fin.ext (Nat.mod_eq_of_lt hT)]
  exact Finset.sum_congr rfl fun p _ => mul_comm _ _
theorem xRe_apply (u : FVec Ideal S8x2048x512 .f32) (a1 a2 : FVec Ideal S32x64 .f32) (a3 : FVec Ideal S32 .f32) (a4 a5 : FVec Ideal S32x64x16 .f32) (T : ℕ) (hT : T < 2048) (b : Fin 8) (g : Fin 32) (n : Fin 64) :
    xRe u a1 a2 a3 a4 a5 (ix4 ⟨T, hT⟩ b g n) = cfR (a1 (ix2 g n)) (a2 (ix2 g n)) (a3 (ix1 g)) * bu u a4 b g n T - cfI (a1 (ix2 g n)) (a2 (ix2 g n)) (a3 (ix1 g)) * bu u a5 b g n T := by
  rw [← cR_apply, ← cI_apply, ← prj_apply u a4 b T hT, ← prj_apply u a5 b T hT]
  pointwise [xRe, bb]
theorem xIm_apply (u : FVec Ideal S8x2048x512 .f32) (a1 a2 : FVec Ideal S32x64 .f32) (a3 : FVec Ideal S32 .f32) (a4 a5 : FVec Ideal S32x64x16 .f32) (T : ℕ) (hT : T < 2048) (b : Fin 8) (g : Fin 32) (n : Fin 64) :
    xIm u a1 a2 a3 a4 a5 (ix4 ⟨T, hT⟩ b g n) = cfR (a1 (ix2 g n)) (a2 (ix2 g n)) (a3 (ix1 g)) * bu u a5 b g n T + cfI (a1 (ix2 g n)) (a2 (ix2 g n)) (a3 (ix1 g)) * bu u a4 b g n T := by
  rw [← cR_apply, ← cI_apply, ← prj_apply u a4 b T hT, ← prj_apply u a5 b T hT]
  pointwise [xIm, bb]

theorem cs0 (T : ℕ) (hT : T < 2048) (h) : Host.clampedStart S2048x8x32x64 S1x8x32x64 h ![(T : ℤ), 0, 0, 0] 0 = T := Host.clampedStart_of_le h _ 0 T rfl (by show T + 1 ≤ 2048; omega)
theorem cs1 (T : ℕ) (h) : Host.clampedStart S2048x8x32x64 S1x8x32x64 h ![(T : ℤ), 0, 0, 0] 1 = 0 := Host.clampedStart_of_le h _ 1 0 rfl (by show 0 + 8 ≤ 8; omega)
theorem cs2 (T : ℕ) (h) : Host.clampedStart S2048x8x32x64 S1x8x32x64 h ![(T : ℤ), 0, 0, 0] 2 = 0 := Host.clampedStart_of_le h _ 2 0 rfl (by show 0 + 32 ≤ 32; omega)
theorem cs3 (T : ℕ) (h) : Host.clampedStart S2048x8x32x64 S1x8x32x64 h ![(T : ℤ), 0, 0, 0] 3 = 0 := Host.clampedStart_of_le h _ 3 0 rfl (by show 0 + 64 ≤ 64; omega)

theorem nRe_apply (lr li : FVec Ideal S32x64 .f32) (hr hi : FVec Ideal S8x32x64 .f32) (x : FVec Ideal S2048x8x32x64 .f32) (T : ℕ) (hT : T < 2048) (b : Fin 8) (g : Fin 32) (n : Fin 64) :
    nRe lr li hr hi x (fun _ => BitVec.ofNat 32 T) (ix3 b g n) = lr (ix2 g n) * hr (ix3 b g n) - li (ix2 g n) * hi (ix3 b g n) + x (ix4 ⟨T, hT⟩ b g n) := by
  unfold nRe
  rw [startOf_eq T hT]
  pointwise
  simp only [cs0 T hT, cs1 T, cs2 T, cs3 T, Nat.zero_add]
theorem nIm_apply (lr li : FVec Ideal S32x64 .f32) (hr hi : FVec Ideal S8x32x64 .f32) (x : FVec Ideal S2048x8x32x64 .f32) (T : ℕ) (hT : T < 2048) (b : Fin 8) (g : Fin 32) (n : Fin 64) :
    nIm lr li hr hi x (fun _ => BitVec.ofNat 32 T) (ix3 b g n) = lr (ix2 g n) * hi (ix3 b g n) + li (ix2 g n) * hr (ix3 b g n) + x (ix4 ⟨T, hT⟩ b g n) := by
  unfold nIm
  rw [startOf_eq T hT]
  pointwise
  simp only [cs0 T hT, cs1 T, cs2 T, cs3 T, Nat.zero_add]
theorem nSt_apply (s : FVec Ideal S2048x8x32x64 .f32) (h : FVec Ideal S8x32x64 .f32) (T : ℕ) (hT : T < 2048) (t : Fin 2048) (b : Fin 8) (g : Fin 32) (n : Fin 64) :
    nSt s h (fun _ => BitVec.ofNat 32 T) (ix4 t b g n) = if t.val = T then h (ix3 b g n) else s (ix4 t b g n) := by
  unfold nSt
  rw [startOf_eq T hT]
  pointwise
  simp only [cs0 T hT, cs1 T, cs2 T, cs3 T, Nat.zero_add, Nat.sub_zero, Nat.zero_le, and_true]
  by_cases e : t.val = T
  · rw [dif_pos ⟨by omega, by omega⟩, if_pos e]
  · rw [dif_neg (by omega), if_neg e]

/-- The mixed output before the gelu. -/
def mixR (s7 s8 : FVec Ideal S2048x8x32x64 .f32) (u : FVec Ideal S8x2048x512 .f32) (a6 a7 : FVec Ideal S32x16x64 .f32) (a8 : FVec Ideal S512 .f32) : FVec Ideal S2048x8x512 .f32 :=
  addf (shapeCast S2048x8x512 (subf (transpose S2048x8x32x16 [1, 2, 0, 3] (Host.dotGeneral dot_S2048x8x32x64_S32x16x64_S32x2048x8x16_3_2_01_1_2_0 none s7 a6) transposes_S32x2048x8x16_S2048x8x32x16_1_2_0_3) (transpose S2048x8x32x16 [1, 2, 0, 3] (Host.dotGeneral dot_S2048x8x32x64_S32x16x64_S32x2048x8x16_3_2_01_1_2_0 none s8 a7) transposes_S32x2048x8x16_S2048x8x32x16_1_2_0_3)) shapeCasts_S2048x8x32x16_S2048x8x512) (mulf (broadcastInDim S2048x8x512 ![0, 1, 2] bcast_S1x1x512_S2048x8x512_0_1_2 (broadcastInDim S1x1x512 ![2] bcast_S512_S1x1x512_2 a8)) (transpose S2048x8x512 [1, 0, 2] u transposes_S8x2048x512_S2048x8x512_1_0_2))
/-- The gated unit of it. -/
def outR (Y : FVec Ideal S2048x8x512 .f32) (a9 : FVec Ideal S512x512 .f32) : FVec Ideal S16384x512 .f32 :=
  shapeCast S16384x512 (mulf (mulf Y (mulf (broadcastInDim S2048x8x512 ![] bcast_S_S2048x8x512 (constant S_ .f32 0x3F000000#32)) (addf (broadcastInDim S2048x8x512 ![] bcast_S_S2048x8x512 (constant S_ .f32 0x3F800000#32)) (Host.tanh (mulf (broadcastInDim S2048x8x512 ![] bcast_S_S2048x8x512 (constant S_ .f32 0x3F4C422A#32)) (addf Y (mulf (broadcastInDim S2048x8x512 ![] bcast_S_S2048x8x512 (constant S_ .f32 0x3D372713#32)) (mulf (mulf Y Y) Y)))))))) (Host.divf (broadcastInDim S2048x8x512 ![] bcast_S_S2048x8x512 (constant S_ .f32 0x3F800000#32)) (addf (broadcastInDim S2048x8x512 ![] bcast_S_S2048x8x512 (constant S_ .f32 0x3F800000#32)) (Host.exp (Host.negf (Host.dotGeneral dot_S2048x8x512_S512x512_S2048x8x512_2_0_01_1_n_n none (mulf Y (mulf (broadcastInDim S2048x8x512 ![] bcast_S_S2048x8x512 (constant S_ .f32 0x3F000000#32)) (addf (broadcastInDim S2048x8x512 ![] bcast_S_S2048x8x512 (constant S_ .f32 0x3F800000#32)) (Host.tanh (mulf (broadcastInDim S2048x8x512 ![] bcast_S_S2048x8x512 (constant S_ .f32 0x3F4C422A#32)) (addf Y (mulf (broadcastInDim S2048x8x512 ![] bcast_S_S2048x8x512 (constant S_ .f32 0x3D372713#32)) (mulf (mulf Y Y) Y)))))))) a9)))))) shapeCasts_S2048x8x512_S16384x512

theorem mixR_apply (s7 s8 : FVec Ideal S2048x8x32x64 .f32) (u : FVec Ideal S8x2048x512 .f32) (a6 a7 : FVec Ideal S32x16x64 .f32) (a8 : FVec Ideal S512 .f32) (T : Fin 2048) (b : Fin 8) (l : Fin 512) :
    mixR s7 s8 u a6 a7 a8 (ix3 T b l) = ((∑ n : Fin 64, s7 (ix4 T b ⟨l.val / 16, by omega⟩ n) * a6 (ix3 ⟨l.val / 16, by omega⟩ ⟨l.val % 16, by omega⟩ n))
      - ∑ n : Fin 64, s8 (ix4 T b ⟨l.val / 16, by omega⟩ n) * a7 (ix3 ⟨l.val / 16, by omega⟩ ⟨l.val % 16, by omega⟩ n)) + a8 (ix1 l) * u (ix3 b T l) := by
  pointwise [mixR]

theorem outR_apply (Y : FVec Ideal S2048x8x512 .f32) (a9 : FVec Ideal S512x512 .f32) (r : Fin 16384) (l : Fin 512) :
    outR Y a9 (ix2 r l) = gate (fun x => Y (ix3 ⟨r.val / 8, by omega⟩ ⟨r.val % 8, by omega⟩ x)) (fun x => a9 (ix2 x l)) l := by
  pointwise [outR, gate, gel]
  rfl

variable (m : (ℓ : Loc nD τ sig) → Buf (Elt Ideal) ℓ) (c : Dev nD)
/-- Argument 0 of the program. -/
abbrev ar0 : FVec Ideal S8x2048x512 .f32 := m ((c.tc : Thread nD τ).loc main_arg0)
/-- Argument 1 of the program. -/
abbrev ar1 : FVec Ideal S32x64 .f32 := m ((c.tc : Thread nD τ).loc main_arg1)
/-- Argument 2 of the program. -/
abbrev ar2 : FVec Ideal S32x64 .f32 := m ((c.tc : Thread nD τ).loc main_arg2)
/-- Argument 3 of the program. -/
abbrev ar3 : FVec Ideal S32 .f32 := m ((c.tc : Thread nD τ).loc main_arg3)
/-- Argument 4 of the program. -/
abbrev ar4 : FVec Ideal S32x64x16 .f32 := m ((c.tc : Thread nD τ).loc main_arg4)
/-- Argument 5 of the program. -/
abbrev ar5 : FVec Ideal S32x64x16 .f32 := m ((c.tc : Thread nD τ).loc main_arg5)
/-- Argument 6 of the program. -/
abbrev ar6 : FVec Ideal S32x16x64 .f32 := m ((c.tc : Thread nD τ).loc main_arg6)
/-- Argument 7 of the program. -/
abbrev ar7 : FVec Ideal S32x16x64 .f32 := m ((c.tc : Thread nD τ).loc main_arg7)
/-- Argument 8 of the program. -/
abbrev ar8 : FVec Ideal S512 .f32 := m ((c.tc : Thread nD τ).loc main_arg8)
/-- Argument 9 of the program. -/
abbrev ar9 : FVec Ideal S512x512 .f32 := m ((c.tc : Thread nD τ).loc main_arg9)
/-- The states. -/
abbrev sR (b : Fin 8) (g : Fin 32) (n : Fin 64) : ℕ → EReal × EReal := st (ar0 m c) (ar1 m c) (ar2 m c) (ar3 m c) (ar4 m c) (ar5 m c) b g n

/-- The carried buffers before trip `T`. -/
structure At (T : ℕ) (W : Valuation τ sig (Elt Ideal)) : Prop where
  x0 : W (Proc.devRef .tc main_v48_0) = xRe (ar0 m c) (ar1 m c) (ar2 m c) (ar3 m c) (ar4 m c) (ar5 m c)
  x1 : W (Proc.devRef .tc main_v48_1) = xIm (ar0 m c) (ar1 m c) (ar2 m c) (ar3 m c) (ar4 m c) (ar5 m c)
  x2 : W (Proc.devRef .tc main_v48_2) = lR (ar1 m c) (ar2 m c) (ar3 m c)
  x3 : W (Proc.devRef .tc main_v48_3) = lI (ar1 m c) (ar2 m c) (ar3 m c)
  x4 : W (Proc.devRef .tc main_v48_4) = fun _ => BitVec.ofNat 32 T
  x5 : ∀ b g n, (W (Proc.devRef .tc main_v48_5) : FVec Ideal S8x32x64 .f32) (ix3 b g n) = (sR m c b g n T).1
  x6 : ∀ b g n, (W (Proc.devRef .tc main_v48_6) : FVec Ideal S8x32x64 .f32) (ix3 b g n) = (sR m c b g n T).2
  x7 : ∀ (t : Fin 2048) b g n, t.val < T → (W (Proc.devRef .tc main_v48_7) : FVec Ideal S2048x8x32x64 .f32) (ix4 t b g n) = (sR m c b g n (t.val + 1)).1
  x8 : ∀ (t : Fin 2048) b g n, t.val < T → (W (Proc.devRef .tc main_v48_8) : FVec Ideal S2048x8x32x64 .f32) (ix4 t b g n) = (sR m c b g n (t.val + 1)).2

theorem e0 : entryContents preI m c (Proc.devRef .tc main_v48_0) = xRe (ar0 m c) (ar1 m c) (ar2 m c) (ar3 m c) (ar4 m c) (ar5 m c) := by
  simp only [entryContents, afterL_cons, afterL_nil]; after_results; try rfl
theorem e1 : entryContents preI m c (Proc.devRef .tc main_v48_1) = xIm (ar0 m c) (ar1 m c) (ar2 m c) (ar3 m c) (ar4 m c) (ar5 m c) := by
  simp only [entryContents, afterL_cons, afterL_nil]; after_results; try rfl
theorem e2 : entryContents preI m c (Proc.devRef .tc main_v48_2) = lR (ar1 m c) (ar2 m c) (ar3 m c) := by
  simp only [entryContents, afterL_cons, afterL_nil]; after_results; try rfl
theorem e3 : entryContents preI m c (Proc.devRef .tc main_v48_3) = lI (ar1 m c) (ar2 m c) (ar3 m c) := by
  simp only [entryContents, afterL_cons, afterL_nil]; after_results; try rfl
theorem e5 : entryContents preI m c (Proc.devRef .tc main_v48_5) = broadcastInDim S8x32x64 ![] bcast_S_S8x32x64 (constant (F := Ideal) S_ .f32 0x00000000#32) := by
  simp only [entryContents, afterL_cons, afterL_nil]; after_results; try rfl
theorem e6 : entryContents preI m c (Proc.devRef .tc main_v48_6) = broadcastInDim S8x32x64 ![] bcast_S_S8x32x64 (constant (F := Ideal) S_ .f32 0x00000000#32) := by
  simp only [entryContents, afterL_cons, afterL_nil]; after_results; try rfl
theorem z_apply (b : Fin 8) (g : Fin 32) (n : Fin 64) : broadcastInDim S8x32x64 ![] bcast_S_S8x32x64 (constant (F := Ideal) S_ .f32 0x00000000#32) (ix3 b g n) = 0 := by
  pointwise

/-- The entry. -/
theorem at_zero : At m c 0 (entryContents preI m c) where
  x0 := e0 m c
  x1 := e1 m c
  x2 := e2 m c
  x3 := e3 m c
  x4 := ctr_entry m c
  x5 := fun b g n => by rw [e5]; exact z_apply b g n
  x6 := fun b g n => by rw [e6]; exact z_apply b g n
  x7 := fun t b g n h => absurd h (Nat.not_lt_zero _)
  x8 := fun t b g n h => absurd h (Nat.not_lt_zero _)

/-- A trip's new states. -/
theorem res_re (T : ℕ) (hT : T < 2048) (W : Valuation τ sig (Elt Ideal)) (h : At m c T W) (b : Fin 8) (g : Fin 32) (n : Fin 64) :
    (res_main_while0b_v93 W : FVec Ideal S8x32x64 .f32) (ix3 b g n) = (sR m c b g n (T + 1)).1 := by
  show nRe (W (Proc.devRef .tc main_v48_2)) (W (Proc.devRef .tc main_v48_3)) (W (Proc.devRef .tc main_v48_5)) (W (Proc.devRef .tc main_v48_6)) (W (Proc.devRef .tc main_v48_0)) (W (Proc.devRef .tc main_v48_4)) (ix3 b g n) = _
  rw [h.x4]
  refine (nRe_apply _ _ _ _ _ T hT b g n).trans ?_
  rw [h.x2, h.x3, h.x0, h.x5, h.x6, lR_apply, lI_apply, xRe_apply]
  rfl
theorem res_im (T : ℕ) (hT : T < 2048) (W : Valuation τ sig (Elt Ideal)) (h : At m c T W) (b : Fin 8) (g : Fin 32) (n : Fin 64) :
    (res_main_while0b_v101 W : FVec Ideal S8x32x64 .f32) (ix3 b g n) = (sR m c b g n (T + 1)).2 := by
  show nIm (W (Proc.devRef .tc main_v48_2)) (W (Proc.devRef .tc main_v48_3)) (W (Proc.devRef .tc main_v48_5)) (W (Proc.devRef .tc main_v48_6)) (W (Proc.devRef .tc main_v48_1)) (W (Proc.devRef .tc main_v48_4)) (ix3 b g n) = _
  rw [h.x4]
  refine (nIm_apply _ _ _ _ _ T hT b g n).trans ?_
  rw [h.x2, h.x3, h.x1, h.x5, h.x6, lR_apply, lI_apply, xIm_apply]
  rfl

/-- One trip. -/
theorem at_succ (T : ℕ) (hT : T < 2048) (W : Valuation τ sig (Elt Ideal)) (h : At m c T W) : At m c (T + 1) (STEP W) where
  x0 := (STEP_main_v48_0 W).trans h.x0
  x1 := (STEP_main_v48_1 W).trans h.x1
  x2 := (STEP_main_v48_2 W).trans h.x2
  x3 := (STEP_main_v48_3 W).trans h.x3
  x4 := by
    rw [STEP_main_v48_4]
    show addi (W (Proc.devRef .tc main_v48_4)) (constantI S_ 32 1#32) = _
    rw [h.x4]
    funext i
    exact (BitVec.ofNat_add T 1).symm
  x5 := fun b g n => by rw [STEP_main_v48_5]; exact res_re m c T hT W h b g n
  x6 := fun b g n => by rw [STEP_main_v48_6]; exact res_im m c T hT W h b g n
  x7 := fun t b g n ht => by
    rw [STEP_main_v48_7]
    show nSt (W (Proc.devRef .tc main_v48_7)) (res_main_while0b_v93 W) (W (Proc.devRef .tc main_v48_4)) (ix4 t b g n) = _
    rw [h.x4]
    refine (nSt_apply _ _ T hT t b g n).trans ?_
    by_cases e : t.val = T
    · rw [if_pos e, res_re m c T hT W h, e]
    · rw [if_neg e, h.x7 t b g n (by omega)]
  x8 := fun t b g n ht => by
    rw [STEP_main_v48_8]
    show nSt (W (Proc.devRef .tc main_v48_8)) (res_main_while0b_v101 W) (W (Proc.devRef .tc main_v48_4)) (ix4 t b g n) = _
    rw [h.x4]
    refine (nSt_apply _ _ T hT t b g n).trans ?_
    by_cases e : t.val = T
    · rw [if_pos e, res_im m c T hT W h, e]
    · rw [if_neg e, h.x8 t b g n (by omega)]

theorem at_iter : ∀ T ≤ 2048, At m c T (STEP^[T] (entryContents preI m c))
  | 0, _ => at_zero m c
  | T + 1, h => by
    rw [Function.iterate_succ_apply']
    exact at_succ m c T (by omega) _ (at_iter T (by omega))

/-- The three results. -/
theorem out0 : out_main_v81 (STEP^[2048] (entryContents preI m c)) = res0 (ar0 m c) (ar1 m c) (ar2 m c) (ar3 m c) (ar4 m c) (ar5 m c) (ar6 m c) (ar7 m c) (ar8 m c) (ar9 m c) := by
  have h := at_iter m c 2048 (le_refl _)
  have k0 := iter_main_arg0 m c 2048
  have k6 := iter_main_arg6 m c 2048
  have k7 := iter_main_arg7 m c 2048
  have k8 := iter_main_arg8 m c 2048
  have k9 := iter_main_arg9 m c 2048
  generalize STEP^[2048] (entryContents preI m c) = W at h k0 k6 k7 k8 k9
  show outR (mixR (W (Proc.devRef .tc main_v48_7)) (W (Proc.devRef .tc main_v48_8)) (W (Proc.devRef .tc main_arg0)) (W (Proc.devRef .tc main_arg6)) (W (Proc.devRef .tc main_arg7)) (W (Proc.devRef .tc main_arg8))) (W (Proc.devRef .tc main_arg9)) = _
  rw [k0, k6, k7, k8, k9]
  funext j
  obtain ⟨r, l, rfl⟩ : ∃ (r : Fin 16384) (l : Fin 512), j = ix2 r l := ⟨j 0, j 1, eq_ix2 j⟩
  rw [outR_apply]
  show _ = gate (zz (ar0 m c) (ar1 m c) (ar2 m c) (ar3 m c) (ar4 m c) (ar5 m c) (ar6 m c) (ar7 m c) (ar8 m c) ⟨r.val / 8, _⟩ ⟨r.val % 8, _⟩) (fun x => ar9 m c (ix2 x l)) l
  refine congrArg (fun z => gate z (fun x => ar9 m c (ix2 x l)) l) ?_
  funext x
  rw [mixR_apply]
  unfold zz
  refine congrArg₂ (· + ·) (congrArg₂ (· - ·) (Finset.sum_congr rfl fun n _ => ?_) (Finset.sum_congr rfl fun n _ => ?_)) rfl
  · exact congrArg₂ (· * ·) (h.x7 _ _ _ _ (by show r.val / 8 < 2048; omega)) rfl
  · exact congrArg₂ (· * ·) (h.x8 _ _ _ _ (by show r.val / 8 < 2048; omega)) rfl

theorem flat_apply (x : FVec Ideal S8x32x64 .f32) (b : Fin 8) (n : Fin 2048) : shapeCast S8x2048 x shapeCasts_S8x32x64_S8x2048 (ix2 b n) = x (ix3 b ⟨n.val / 64, by omega⟩ ⟨n.val % 64, by omega⟩) := by
  pointwise

theorem out1 : out_main_v82 (STEP^[2048] (entryContents preI m c)) = res1 (ar0 m c) (ar1 m c) (ar2 m c) (ar3 m c) (ar4 m c) (ar5 m c) := by
  have h := at_iter m c 2048 (le_refl _)
  generalize STEP^[2048] (entryContents preI m c) = W at h
  funext j
  obtain ⟨b, n, rfl⟩ : ∃ (b : Fin 8) (n : Fin 2048), j = ix2 b n := ⟨j 0, j 1, eq_ix2 j⟩
  exact (flat_apply (W (Proc.devRef .tc main_v48_5)) b n).trans (h.x5 _ _ _)

theorem out2 : out_main_v83 (STEP^[2048] (entryContents preI m c)) = res2 (ar0 m c) (ar1 m c) (ar2 m c) (ar3 m c) (ar4 m c) (ar5 m c) := by
  have h := at_iter m c 2048 (le_refl _)
  generalize STEP^[2048] (entryContents preI m c) = W at h
  funext j
  obtain ⟨b, n, rfl⟩ : ∃ (b : Fin 8) (n : Fin 2048), j = ix2 b n := ⟨j 0, j 1, eq_ix2 j⟩
  exact (flat_apply (W (Proc.devRef .tc main_v48_6)) b n).trans (h.x6 _ _ _)

end Cert.ReferenceIdeal.Ssm

end
-- ==== Proof.DpFrame.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

/-! The launch of the decoded rows' call: what its one grid point leaves in the ten outputs, the run and the frame. -/
namespace Cert.Kernel4Ideal.DecodePre

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 8000000 in
theorem V_args (c : Dev nD) : V m c main_arg0 = m ((c : Thread nD τ).loc main_arg0) ∧ V m c main_arg1 = m ((c : Thread nD τ).loc main_arg1) ∧ V m c main_arg2 = m ((c : Thread nD τ).loc main_arg2) ∧ V m c main_arg3 = m ((c : Thread nD τ).loc main_arg3) ∧ V m c main_arg4 = m ((c : Thread nD τ).loc main_arg4) ∧ V m c main_arg5 = m ((c : Thread nD τ).loc main_arg5) ∧ V m c main_arg6 = m ((c : Thread nD τ).loc main_arg6) ∧ V m c main_arg7 = m ((c : Thread nD τ).loc main_arg7) ∧ V m c main_arg8 = m ((c : Thread nD τ).loc main_arg8) ∧ V m c main_arg9 = m ((c : Thread nD τ).loc main_arg9) ∧ V m c main_arg10 = m ((c : Thread nD τ).loc main_arg10) ∧ V m c main_arg11 = m ((c : Thread nD τ).loc main_arg11) ∧ V m c main_arg12 = m ((c : Thread nD τ).loc main_arg12) ∧ V m c main_arg13 = m ((c : Thread nD τ).loc main_arg13) ∧ V m c main_arg14 = m ((c : Thread nD τ).loc main_arg14) ∧ V m c main_arg15 = m ((c : Thread nD τ).loc main_arg15) ∧ V m c main_arg16 = m ((c : Thread nD τ).loc main_arg16) := by
  refine ⟨?_, ?_, ?_, ?_, ?_, ?_, ?_, ?_, ?_, ?_, ?_, ?_, ?_, ?_, ?_, ?_, ?_⟩ <;>
  · refine StableHlo.after_of_forall_not_mem _ _ (List.forall_iff_forall_mem.mp ?_)
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r0_0 : Rect S32x1024 := Rect.unit (s := S32x1024) ![0, 0] S32x1024.size inb_S32x1024_S32x1024_0_0
abbrev r0_1 : Rect S1x1024 := Rect.unit (s := S1x1024) ![0, 0] S1x1024.size inb_S1x1024_S1x1024_0_0
abbrev r0_2 : Rect S3584x1024 := Rect.unit (s := S3584x1024) ![0, 0] S512x1024.size inb_S3584x1024_S512x1024_0_0
abbrev r0_3 : Rect S1x512 := Rect.unit (s := S1x512) ![0, 0] S1x512.size inb_S1x512_S1x512_0_0
abbrev r0_4 : Rect S512x512 := Rect.unit (s := S512x512) ![0, 0] S512x512.size inb_S512x512_S512x512_0_0
abbrev r0_5 : Rect S32x512 := Rect.unit (s := S32x512) ![0, 0] S32x512.size inb_S32x512_S32x512_0_0
abbrev r0_6 : Rect S3584x1024 := Rect.unit (s := S3584x1024) ![512, 0] S512x1024.size inb_S3584x1024_S512x1024_512_0
abbrev r0_7 : Rect S3584x1024 := Rect.unit (s := S3584x1024) ![1024, 0] S512x1024.size inb_S3584x1024_S512x1024_1024_0
abbrev r0_8 : Rect S128x1024 := Rect.unit (s := S128x1024) ![0, 0] S128x1024.size inb_S128x1024_S128x1024_0_0
abbrev r0_9 : Rect S1x8 := Rect.unit (s := S1x8) ![0, 0] S1x8.size inb_S1x8_S1x8_0_0
abbrev r0_10 : Rect S32x8 := Rect.unit (s := S32x8) ![0, 0] S32x8.size inb_S32x8_S32x8_0_0
abbrev r0_11 : Rect S3584x1024 := Rect.unit (s := S3584x1024) ![1536, 0] S512x1024.size inb_S3584x1024_S512x1024_1536_0
abbrev r0_12 : Rect S3584x1024 := Rect.unit (s := S3584x1024) ![2048, 0] S512x1024.size inb_S3584x1024_S512x1024_2048_0
abbrev r0_13 : Rect S3584x1024 := Rect.unit (s := S3584x1024) ![2560, 0] S512x1024.size inb_S3584x1024_S512x1024_2560_0
abbrev r0_14 : Rect S3584x1024 := Rect.unit (s := S3584x1024) ![3072, 0] S512x1024.size inb_S3584x1024_S512x1024_3072_0
abbrev r0_15 : Rect S1x2048 := Rect.unit (s := S1x2048) ![0, 0] S1x2048.size inb_S1x2048_S1x2048_0_0
abbrev r0_16 : Rect S512x2048 := Rect.unit (s := S512x2048) ![0, 0] S512x2048.size inb_S512x2048_S512x2048_0_0
abbrev r0_17 : Rect S32x2048 := Rect.unit (s := S32x2048) ![0, 0] S32x2048.size inb_S32x2048_S32x2048_0_0
abbrev r0_18 : Rect S2048x512 := Rect.unit (s := S2048x512) ![0, 0] S1024x256.size inb_S2048x512_S1024x256_0_0
abbrev r0_19 : Rect S2048x512 := Rect.unit (s := S2048x512) ![1024, 256] S1024x256.size inb_S2048x512_S1024x256_1024_256

def k0_pay32 (x0 : Vec F S32x1024 .f32) (x1 : Vec F S1x1024 .f32) : FVec F S32x1024 .bf16 :=
  k0_pay2 (View.ld x0 r0_0) (View.ld x1 r0_1)
def k0_pay33 (x0 : Vec F S32x1024 .f32) (x1 : Vec F S1x1024 .f32) (x2 : Vec F S3584x1024 .bf16) : FVec F S32x512 .f32 :=
  k0_pay11 (k0_pay32 x0 x1) (View.ld x2 r0_14)
def k0_pay34 (x8 : Vec F S1x2048 .f32) : FVec F S1x2048 .f32 :=
  k0_pay12 (View.ld x8 r0_15)
def k0_pay35 (x9 : Vec F S1x2048 .f32) : FVec F S1x2048 .f32 :=
  k0_pay13 (View.ld x9 r0_15)
def k0_pay36 (x8 : Vec F S1x2048 .f32) (x10 : Vec F S1x2048 .f32) : FVec F S1x2048 .f32 :=
  k0_pay15 (View.ld x8 r0_15) (View.ld x10 r0_15)
def k0_pay37 (x9 : Vec F S1x2048 .f32) (x10 : Vec F S1x2048 .f32) : FVec F S1x2048 .f32 :=
  k0_pay16 (View.ld x9 r0_15) (View.ld x10 r0_15)
def k0_pay38 (x8 : Vec F S1x2048 .f32) (x9 : Vec F S1x2048 .f32) (x10 : Vec F S1x2048 .f32) : FVec F S1x2048 .f32 :=
  k0_pay17 (View.ld x8 r0_15) (View.ld x9 r0_15) (View.ld x10 r0_15)
def k0_pay39 (x0 : Vec F S32x1024 .f32) (x1 : Vec F S1x1024 .f32) (x2 : Vec F S3584x1024 .bf16) (x8 : Vec F S1x2048 .f32) (x9 : Vec F S1x2048 .f32) (x10 : Vec F S1x2048 .f32) (x11 : Vec F S512x2048 .bf16) (x12 : Vec F S512x2048 .bf16) (x17 : Vec F S32x2048 .f32) (x18 : Vec F S32x2048 .f32) : FVec F S32x2048 .f32 :=
  k0_pay28 (k0_pay33 x0 x1 x2) (k0_pay34 x8) (k0_pay35 x9) (k0_pay36 x8 x10) (k0_pay37 x9 x10) (k0_pay38 x8 x9 x10) (View.ld x11 r0_16) (View.ld x12 r0_16) (View.ld x17 r0_17) (View.ld x18 r0_17)
def k0_pay40 (x0 : Vec F S32x1024 .f32) (x1 : Vec F S1x1024 .f32) (x2 : Vec F S3584x1024 .bf16) (x8 : Vec F S1x2048 .f32) (x9 : Vec F S1x2048 .f32) (x10 : Vec F S1x2048 .f32) (x11 : Vec F S512x2048 .bf16) (x12 : Vec F S512x2048 .bf16) (x17 : Vec F S32x2048 .f32) (x18 : Vec F S32x2048 .f32) : FVec F S32x2048 .f32 :=
  k0_pay29 (k0_pay33 x0 x1 x2) (k0_pay34 x8) (k0_pay35 x9) (k0_pay36 x8 x10) (k0_pay37 x9 x10) (k0_pay38 x8 x9 x10) (View.ld x11 r0_16) (View.ld x12 r0_16) (View.ld x17 r0_17) (View.ld x18 r0_17)

def out0_19 (x0 : Vec F S32x1024 .f32) (x1 : Vec F S1x1024 .f32) (x2 : Vec F S3584x1024 .bf16) (x5 : Vec F S1x512 .f32) (x7 : Vec F S512x512 .f32) : Vec F S32x512 .f32 :=
  View.canon [⟨r0_5, k0_pay3 (View.ld x0 r0_0) (View.ld x1 r0_1) (View.ld x2 r0_2) (View.ld x5 r0_3) (View.ld x7 r0_4)⟩]

theorem cover0_19 (p0 : Vec F S32x512 .f32) (y : S32x512.Idx) :
    ∃ pc ∈ ([⟨r0_5, p0⟩] : List (View.Piece (Elt F) S32x512 .f32)), y ∈ pc.1.set :=
  View.cover_of_tiled [⟨r0_5, p0⟩] S32x512.size (by rfl) y

def out0_20 (x0 : Vec F S32x1024 .f32) (x1 : Vec F S1x1024 .f32) (x2 : Vec F S3584x1024 .bf16) (x6 : Vec F S1x512 .f32) (x7 : Vec F S512x512 .f32) : Vec F S32x512 .f32 :=
  View.canon [⟨r0_5, k0_pay5 (k0_pay32 x0 x1) (k0_pay4 (View.ld x2 r0_6)) (constant S32x512 .f32 0x00000000#32) (View.ld x6 r0_3) (View.ld x7 r0_4)⟩]

theorem cover0_20 (p0 : Vec F S32x512 .f32) (y : S32x512.Idx) :
    ∃ pc ∈ ([⟨r0_5, p0⟩] : List (View.Piece (Elt F) S32x512 .f32)), y ∈ pc.1.set :=
  View.cover_of_tiled [⟨r0_5, p0⟩] S32x512.size (by rfl) y

def out0_21 (x0 : Vec F S32x1024 .f32) (x1 : Vec F S1x1024 .f32) (x2 : Vec F S3584x1024 .bf16) : Vec F S32x512 .f32 :=
  View.canon [⟨r0_5, k0_pay6 (k0_pay32 x0 x1) (View.ld x2 r0_7)⟩]

theorem cover0_21 (p0 : Vec F S32x512 .f32) (y : S32x512.Idx) :
    ∃ pc ∈ ([⟨r0_5, p0⟩] : List (View.Piece (Elt F) S32x512 .f32)), y ∈ pc.1.set :=
  View.cover_of_tiled [⟨r0_5, p0⟩] S32x512.size (by rfl) y

def out0_22 (x0 : Vec F S32x1024 .f32) (x1 : Vec F S1x1024 .f32) (x3 : Vec F S128x1024 .bf16) (x4 : Vec F S1x8 .f32) : Vec F S32x8 .f32 :=
  View.canon [⟨r0_10, k0_pay7 (k0_pay32 x0 x1) (View.ld x3 r0_8) (View.ld x4 r0_9)⟩]

theorem cover0_22 (p0 : Vec F S32x8 .f32) (y : S32x8.Idx) :
    ∃ pc ∈ ([⟨r0_10, p0⟩] : List (View.Piece (Elt F) S32x8 .f32)), y ∈ pc.1.set :=
  View.cover_of_tiled [⟨r0_10, p0⟩] S32x8.size (by rfl) y

def out0_23 (x0 : Vec F S32x1024 .f32) (x1 : Vec F S1x1024 .f32) (x2 : Vec F S3584x1024 .bf16) : Vec F S32x512 .f32 :=
  View.canon [⟨r0_5, k0_pay8 (k0_pay32 x0 x1) (View.ld x2 r0_11)⟩]

theorem cover0_23 (p0 : Vec F S32x512 .f32) (y : S32x512.Idx) :
    ∃ pc ∈ ([⟨r0_5, p0⟩] : List (View.Piece (Elt F) S32x512 .f32)), y ∈ pc.1.set :=
  View.cover_of_tiled [⟨r0_5, p0⟩] S32x512.size (by rfl) y

def out0_24 (x0 : Vec F S32x1024 .f32) (x1 : Vec F S1x1024 .f32) (x2 : Vec F S3584x1024 .bf16) : Vec F S32x512 .f32 :=
  View.canon [⟨r0_5, k0_pay9 (k0_pay32 x0 x1) (View.ld x2 r0_12)⟩]

theorem cover0_24 (p0 : Vec F S32x512 .f32) (y : S32x512.Idx) :
    ∃ pc ∈ ([⟨r0_5, p0⟩] : List (View.Piece (Elt F) S32x512 .f32)), y ∈ pc.1.set :=
  View.cover_of_tiled [⟨r0_5, p0⟩] S32x512.size (by rfl) y

def out0_25 (x0 : Vec F S32x1024 .f32) (x1 : Vec F S1x1024 .f32) (x2 : Vec F S3584x1024 .bf16) : Vec F S32x512 .f32 :=
  View.canon [⟨r0_5, k0_pay10 (k0_pay32 x0 x1) (View.ld x2 r0_13)⟩]

theorem cover0_25 (p0 : Vec F S32x512 .f32) (y : S32x512.Idx) :
    ∃ pc ∈ ([⟨r0_5, p0⟩] : List (View.Piece (Elt F) S32x512 .f32)), y ∈ pc.1.set :=
  View.cover_of_tiled [⟨r0_5, p0⟩] S32x512.size (by rfl) y

def out0_26 (x0 : Vec F S32x1024 .f32) (x1 : Vec F S1x1024 .f32) (x2 : Vec F S3584x1024 .bf16) (x8 : Vec F S1x2048 .f32) (x9 : Vec F S1x2048 .f32) (x10 : Vec F S1x2048 .f32) (x11 : Vec F S512x2048 .bf16) (x12 : Vec F S512x2048 .bf16) (x13 : Vec F S2048x512 .bf16) (x14 : Vec F S2048x512 .bf16) (x15 : Vec F S1x512 .f32) (x16 : Vec F S512x512 .bf16) (x17 : Vec F S32x2048 .f32) (x18 : Vec F S32x2048 .f32) : Vec F S32x512 .f32 :=
  View.canon [⟨r0_5, k0_pay1 (k0_pay30 (k0_pay33 x0 x1 x2) (k0_pay39 x0 x1 x2 x8 x9 x10 x11 x12 x17 x18) (k0_pay40 x0 x1 x2 x8 x9 x10 x11 x12 x17 x18) (View.ld x15 r0_3) (View.ld x13 r0_18) (View.ld x14 r0_18) (View.ld x13 r0_19) (View.ld x14 r0_19)) (k0_pay31 (k0_pay33 x0 x1 x2) (k0_pay39 x0 x1 x2 x8 x9 x10 x11 x12 x17 x18) (k0_pay40 x0 x1 x2 x8 x9 x10 x11 x12 x17 x18) (View.ld x15 r0_3) (View.ld x13 r0_18) (View.ld x14 r0_18) (View.ld x13 r0_19) (View.ld x14 r0_19)) (View.ld x16 r0_4)⟩]

theorem cover0_26 (p0 : Vec F S32x512 .f32) (y : S32x512.Idx) :
    ∃ pc ∈ ([⟨r0_5, p0⟩] : List (View.Piece (Elt F) S32x512 .f32)), y ∈ pc.1.set :=
  View.cover_of_tiled [⟨r0_5, p0⟩] S32x512.size (by rfl) y

def out0_27 (x0 : Vec F S32x1024 .f32) (x1 : Vec F S1x1024 .f32) (x2 : Vec F S3584x1024 .bf16) (x8 : Vec F S1x2048 .f32) (x9 : Vec F S1x2048 .f32) (x10 : Vec F S1x2048 .f32) (x11 : Vec F S512x2048 .bf16) (x12 : Vec F S512x2048 .bf16) (x17 : Vec F S32x2048 .f32) (x18 : Vec F S32x2048 .f32) : Vec F S32x2048 .f32 :=
  View.canon [⟨r0_17, k0_pay39 x0 x1 x2 x8 x9 x10 x11 x12 x17 x18⟩]

theorem cover0_27 (p0 : Vec F S32x2048 .f32) (y : S32x2048.Idx) :
    ∃ pc ∈ ([⟨r0_17, p0⟩] : List (View.Piece (Elt F) S32x2048 .f32)), y ∈ pc.1.set :=
  View.cover_of_tiled [⟨r0_17, p0⟩] S32x2048.size (by rfl) y

def out0_28 (x0 : Vec F S32x1024 .f32) (x1 : Vec F S1x1024 .f32) (x2 : Vec F S3584x1024 .bf16) (x8 : Vec F S1x2048 .f32) (x9 : Vec F S1x2048 .f32) (x10 : Vec F S1x2048 .f32) (x11 : Vec F S512x2048 .bf16) (x12 : Vec F S512x2048 .bf16) (x17 : Vec F S32x2048 .f32) (x18 : Vec F S32x2048 .f32) : Vec F S32x2048 .f32 :=
  View.canon [⟨r0_17, k0_pay40 x0 x1 x2 x8 x9 x10 x11 x12 x17 x18⟩]

theorem cover0_28 (p0 : Vec F S32x2048 .f32) (y : S32x2048.Idx) :
    ∃ pc ∈ ([⟨r0_17, p0⟩] : List (View.Piece (Elt F) S32x2048 .f32)), y ∈ pc.1.set :=
  View.cover_of_tiled [⟨r0_17, p0⟩] S32x2048.size (by rfl) y

set_option maxHeartbeats 1000000 in
theorem sound_kernel (c : Dev nD) (E : Set ℕ) (arg0 : Memref sig .tc .vmem S32x1024 .f32) (harg0 : arg0.IsWhole) (arg1 : Memref sig .tc .vmem S1x1024 .f32) (harg1 : arg1.IsWhole) (arg2 : Memref sig .tc .vmem S3584x1024 .bf16) (harg2 : arg2.IsWhole) (arg3 : Memref sig .tc .vmem S128x1024 .bf16) (harg3 : arg3.IsWhole) (arg4 : Memref sig .tc .vmem S1x8 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S512x2048 .bf16) (harg11 : arg11.IsWhole) (arg12 : Memref sig .tc .vmem S512x2048 .bf16) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S1x512 .f32) (harg15 : arg15.IsWhole) (arg16 : Memref sig .tc .vmem S512x512 .bf16) (harg16 : arg16.IsWhole) (arg17 : Memref sig .tc .vmem S32x2048 .f32) (harg17 : arg17.IsWhole) (arg18 : Memref sig .tc .vmem S32x2048 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S32x512 .f32) (harg21 : arg21.IsWhole) (arg22 : Memref sig .tc .vmem S32x8 .f32) (harg22 : arg22.IsWhole) (arg23 : Memref sig .tc .vmem S32x512 .f32) (harg23 : arg23.IsWhole) (arg24 : Memref sig .tc .vmem S32x512 .f32) (harg24 : arg24.IsWhole) (arg25 : Memref sig .tc .vmem S32x512 .f32) (harg25 : arg25.IsWhole) (arg26 : Memref sig .tc .vmem S32x512 .f32) (harg26 : arg26.IsWhole) (arg27 : Memref sig .tc .vmem S32x2048 .f32) (harg27 : arg27.IsWhole) (arg28 : Memref sig .tc .vmem S32x2048 .f32) (harg28 : arg28.IsWhole)
    (x0 : Vec F S32x1024 .f32) (x1 : Vec F S1x1024 .f32) (x2 : Vec F S3584x1024 .bf16) (x3 : Vec F S128x1024 .bf16) (x4 : Vec F S1x8 .f32) (x5 : Vec F S1x512 .f32) (x6 : Vec F S1x512 .f32) (x7 : Vec F S512x512 .f32) (x8 : Vec F S1x2048 .f32) (x9 : Vec F S1x2048 .f32) (x10 : Vec F S1x2048 .f32) (x11 : Vec F S512x2048 .bf16) (x12 : Vec F S512x2048 .bf16) (x13 : Vec F S2048x512 .bf16) (x14 : Vec F S2048x512 .bf16) (x15 : Vec F S1x512 .f32) (x16 : Vec F S512x512 .bf16) (x17 : Vec F S32x2048 .f32) (x18 : Vec F S32x2048 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare (out0_19 x0 x1 x2 x5 x7) ∗ owns (c : Thread nD τ) arg20 fullShare (out0_20 x0 x1 x2 x6 x7) ∗ owns (c : Thread nD τ) arg21 fullShare (out0_21 x0 x1 x2) ∗ owns (c : Thread nD τ) arg22 fullShare (out0_22 x0 x1 x3 x4) ∗ owns (c : Thread nD τ) arg23 fullShare (out0_23 x0 x1 x2) ∗ owns (c : Thread nD τ) arg24 fullShare (out0_24 x0 x1 x2) ∗ owns (c : Thread nD τ) arg25 fullShare (out0_25 x0 x1 x2) ∗ owns (c : Thread nD τ) arg26 fullShare (out0_26 x0 x1 x2 x8 x9 x10 x11 x12 x13 x14 x15 x16 x17 x18) ∗ owns (c : Thread nD τ) arg27 fullShare (out0_27 x0 x1 x2 x8 x9 x10 x11 x12 x17 x18) ∗ owns (c : Thread nD τ) arg28 fullShare (out0_28 x0 x1 x2 x8 x9 x10 x11 x12 x17 x18)) -∗ K ⟨⟩))
      ⊢ wp frame (wpE (defs₀ (F := F)) Variants.none c none) E (cc0_decode_pre arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_decode_pre_eq_skeleton]; unfold cc0_decode_pre_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8 hf9 hf10 hf11 hf12 hf13 hf14 hf15 hf16 hf17 hf18
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  iexists _; isplitr
  swap; · iexact H28
  ipureintro
  refine (View.read_writes_eq_canon _ _ _ (cover0_28 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => out0_19 (iblk m c 0 t) (iblk m c 1 t) (iblk m c 2 t) (iblk m c 5 t) (iblk m c 7 t)
    | ⟨20, _⟩ => out0_20 (iblk m c 0 t) (iblk m c 1 t) (iblk m c 2 t) (iblk m c 6 t) (iblk m c 7 t)
    | ⟨21, _⟩ => out0_21 (iblk m c 0 t) (iblk m c 1 t) (iblk m c 2 t)
    | ⟨22, _⟩ => out0_22 (iblk m c 0 t) (iblk m c 1 t) (iblk m c 3 t) (iblk m c 4 t)
    | ⟨23, _⟩ => out0_23 (iblk m c 0 t) (iblk m c 1 t) (iblk m c 2 t)
    | ⟨24, _⟩ => out0_24 (iblk m c 0 t) (iblk m c 1 t) (iblk m c 2 t)
    | ⟨25, _⟩ => out0_25 (iblk m c 0 t) (iblk m c 1 t) (iblk m c 2 t)
    | ⟨26, _⟩ => out0_26 (iblk m c 0 t) (iblk m c 1 t) (iblk m c 2 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    | ⟨27, _⟩ => out0_27 (iblk m c 0 t) (iblk m c 1 t) (iblk m c 2 t) (iblk m c 8 t) (iblk m c 9 t) (iblk m c 10 t) (iblk m c 11 t) (iblk m c 12 t) (iblk m c 17 t) (iblk m c 18 t)
    | ⟨28, _⟩ => out0_28 (iblk m c 0 t) (iblk m c 1 t) (iblk m c 2 t) (iblk m c 8 t) (iblk m c 9 t) (iblk m c 10 t) (iblk m c 11 t) (iblk m c 12 t) (iblk m c 17 t) (iblk m c 18 t)
    | ⟨_ + 29, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = out0_19 (iblk m c 0 t) (iblk m c 1 t) (iblk m c 2 t) (iblk m c 5 t) (iblk m c 7 t) := by dsimp only [dats]
theorem after0_20 (c : Dev nD) (t : Fin cfg0.N) : (dats m 0 c).after 20 t = out0_20 (iblk m c 0 t) (iblk m c 1 t) (iblk m c 2 t) (iblk m c 6 t) (iblk m c 7 t) := by dsimp only [dats]
theorem after0_21 (c : Dev nD) (t : Fin cfg0.N) : (dats m 0 c).after 21 t = out0_21 (iblk m c 0 t) (iblk m c 1 t) (iblk m c 2 t) := by dsimp only [dats]
theorem after0_22 (c : Dev nD) (t : Fin cfg0.N) : (dats m 0 c).after 22 t = out0_22 (iblk m c 0 t) (iblk m c 1 t) (iblk m c 3 t) (iblk m c 4 t) := by dsimp only [dats]
theorem after0_23 (c : Dev nD) (t : Fin cfg0.N) : (dats m 0 c).after 23 t = out0_23 (iblk m c 0 t) (iblk m c 1 t) (iblk m c 2 t) := by dsimp only [dats]
theorem after0_24 (c : Dev nD) (t : Fin cfg0.N) : (dats m 0 c).after 24 t = out0_24 (iblk m c 0 t) (iblk m c 1 t) (iblk m c 2 t) := by dsimp only [dats]
theorem after0_25 (c : Dev nD) (t : Fin cfg0.N) : (dats m 0 c).after 25 t = out0_25 (iblk m c 0 t) (iblk m c 1 t) (iblk m c 2 t) := by dsimp only [dats]
theorem after0_26 (c : Dev nD) (t : Fin cfg0.N) : (dats m 0 c).after 26 t = out0_26 (iblk m c 0 t) (iblk m c 1 t) (iblk m c 2 t) (iblk m c 8 t) (iblk m c 9 t) (iblk m c 10 t) (iblk m c 11 t) (iblk m c 12 t) (iblk m c 13 t) (iblk m c 14 t) (iblk m c 15 t) (iblk m c 16 t) (iblk m c 17 t) (iblk m c 18 t) := by dsimp only [dats]
theorem after0_27 (c : Dev nD) (t : Fin cfg0.N) : (dats m 0 c).after 27 t = out0_27 (iblk m c 0 t) (iblk m c 1 t) (iblk m c 2 t) (iblk m c 8 t) (iblk m c 9 t) (iblk m c 10 t) (iblk m c 11 t) (iblk m c 12 t) (iblk m c 17 t) (iblk m c 18 t) := by dsimp only [dats]
theorem after0_28 (c : Dev nD) (t : Fin cfg0.N) : (dats m 0 c).after 28 t = out0_28 (iblk m c 0 t) (iblk m c 1 t) (iblk m c 2 t) (iblk m c 8 t) (iblk m c 9 t) (iblk m c 10 t) (iblk m c 11 t) (iblk m c 12 t) (iblk m c 17 t) (iblk m c 18 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 1740000 in
theorem kept_of {r} (h : Pipeline.FramePost cfgs (dats m) 0 (V m) r) (c : Dev nD) : r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) := by
  obtain ⟨e0, e1, e2, e3, e4, e5, e6, e7, e8, e9, e10, e11, e12, e13, e14, e15, e16⟩ := V_args m c
  exact ⟨((h c).2 main_arg0 (Pipeline.mem_restRefs_of main_arg0 (by decide) (by decide))).trans e0, ((h c).2 main_arg1 (Pipeline.mem_restRefs_of main_arg1 (by decide) (by decide))).trans e1, ((h c).2 main_arg2 (Pipeline.mem_restRefs_of main_arg2 (by decide) (by decide))).trans e2, ((h c).2 main_arg3 (Pipeline.mem_restRefs_of main_arg3 (by decide) (by decide))).trans e3, ((h c).2 main_arg4 (Pipeline.mem_restRefs_of main_arg4 (by decide) (by decide))).trans e4, ((h c).2 main_arg5 (Pipeline.mem_restRefs_of main_arg5 (by decide) (by decide))).trans e5, ((h c).2 main_arg6 (Pipeline.mem_restRefs_of main_arg6 (by decide) (by decide))).trans e6, ((h c).2 main_arg7 (Pipeline.mem_restRefs_of main_arg7 (by decide) (by decide))).trans e7, ((h c).2 main_arg8 (Pipeline.mem_restRefs_of main_arg8 (by decide) (by decide))).trans e8, ((h c).2 main_arg9 (Pipeline.mem_restRefs_of main_arg9 (by decide) (by decide))).trans e9, ((h c).2 main_arg10 (Pipeline.mem_restRefs_of main_arg10 (by decide) (by decide))).trans e10, ((h c).2 main_arg11 (Pipeline.mem_restRefs_of main_arg11 (by decide) (by decide))).trans e11, ((h c).2 main_arg12 (Pipeline.mem_restRefs_of main_arg12 (by decide) (by decide))).trans e12, ((h c).2 main_arg13 (Pipeline.mem_restRefs_of main_arg13 (by decide) (by decide))).trans e13, ((h c).2 main_arg14 (Pipeline.mem_restRefs_of main_arg14 (by decide) (by decide))).trans e14, ((h c).2 main_arg15 (Pipeline.mem_restRefs_of main_arg15 (by decide) (by decide))).trans e15, ((h c).2 main_arg16 (Pipeline.mem_restRefs_of main_arg16 (by decide) (by decide))).trans e16⟩

/-- The program runs to the end, leaves what it is given, and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16)) ∧ r.2.sem = fun _ => 0) :=
  (θ_run defs _ _).mono (fun r h => ⟨kept_of m h.1, h.2⟩) (run_main_quiescent m ρ)

/-- What the run leaves in the results, by the windows' blocks, and the arguments unchanged. -/
theorem run_blocks : θ_run defs (onTc (τ := τ) (main (F := F))) ⟨m, fun _ => 0, ρ⟩ fun r => ∀ c : Dev nD,
      r.2.mem ((c : Thread nD τ).loc main_v103_0) = (dats m 0 c).arrAt 19 cfg0.N ∧ r.2.mem ((c : Thread nD τ).loc main_v103_1) = (dats m 0 c).arrAt 20 cfg0.N ∧ r.2.mem ((c : Thread nD τ).loc main_v103_2) = (dats m 0 c).arrAt 21 cfg0.N ∧ r.2.mem ((c : Thread nD τ).loc main_v103_3) = (dats m 0 c).arrAt 22 cfg0.N ∧ r.2.mem ((c : Thread nD τ).loc main_v103_4) = (dats m 0 c).arrAt 23 cfg0.N ∧ r.2.mem ((c : Thread nD τ).loc main_v103_5) = (dats m 0 c).arrAt 24 cfg0.N ∧ r.2.mem ((c : Thread nD τ).loc main_v103_6) = (dats m 0 c).arrAt 25 cfg0.N ∧ r.2.mem ((c : Thread nD τ).loc main_v103_7) = (dats m 0 c).arrAt 26 cfg0.N ∧ r.2.mem ((c : Thread nD τ).loc main_v103_8) = (dats m 0 c).arrAt 27 cfg0.N ∧ r.2.mem ((c : Thread nD τ).loc main_v103_9) = (dats m 0 c).arrAt 28 cfg0.N ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11) ∧ r.2.mem ((c : Thread nD τ).loc main_arg12) = m ((c : Thread nD τ).loc main_arg12) ∧ r.2.mem ((c : Thread nD τ).loc main_arg13) = m ((c : Thread nD τ).loc main_arg13) ∧ r.2.mem ((c : Thread nD τ).loc main_arg14) = m ((c : Thread nD τ).loc main_arg14) ∧ r.2.mem ((c : Thread nD τ).loc main_arg15) = m ((c : Thread nD τ).loc main_arg15) ∧ r.2.mem ((c : Thread nD τ).loc main_arg16) = m ((c : Thread nD τ).loc main_arg16) :=
  (θ_run defs _ _).mono (fun r h c => ⟨(h.1 c).1 19, (h.1 c).1 20, (h.1 c).1 21, (h.1 c).1 22, (h.1 c).1 23, (h.1 c).1 24, (h.1 c).1 25, (h.1 c).1 26, (h.1 c).1 27, (h.1 c).1 28, kept_of m h.1 c⟩) (run_main_quiescent m ρ)

end Cert.Kernel4Ideal.DecodePre
-- ==== Proof.DpBits.lean ====
module

public import proofs.«01_k».proof.Defs
public import proofs.«01_k».proof.Proof.Gen.Kernel4
public import proofs.«01_k».proof.Proof.DpFrame

@[expose] public section

set_option maxHeartbeats 2000000

noncomputable section

/-! The decoded rows' printed kernel and its ideal form are the same text, so the one run serves both. -/
namespace Cert.Kernel4Ideal.DecodePre

open Idealize.ShloMosaic Idealize.SL.Sem

theorem main_same : Cert.Kernel4.main (F := Bits) = Cert.Kernel4Ideal.main (F := Bits) := rfl

theorem body_same : @Cert.Kernel4.cc0_decode_pre Bits _ Cert.Kernel4.Gen.facts = @Cert.Kernel4Ideal.cc0_decode_pre Bits _ Cert.Kernel4Ideal.Gen.facts := rfl

theorem table_same : Cert.Kernel4.defs₀ (F := Bits) = Cert.Kernel4Ideal.defs₀ (F := Bits) := by
  unfold Cert.Kernel4.defs₀ Cert.Kernel4Ideal.defs₀
  refine congrArg Defs.onTc (funext fun l => funext fun a => ?_)
  obtain ⟨l, hl⟩ := l
  cases l with
  | zero => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _) _) _) _) _) _) _) _) _) _) _) _) _) _) _) _) _) _) _) _) _) _) _) _) _) _) _) _) _) _) _) _) _) _) _) _
  | succ l => exact absurd hl (Nat.not_lt.2 (Nat.le_add_left _ _))

theorem defs_same : Cert.Kernel4.defs (F := Bits) = Cert.Kernel4Ideal.defs (F := Bits) :=
  congrArg (Pipeline.defs Cert.Kernel4Ideal.pcfgs) table_same

theorem frame_bits4 : Cert.quiescent_Kernel4 := fun m ρ _ => by
  rw [defs_same, main_same]
  exact frame (F := Bits) m ρ

end Cert.Kernel4Ideal.DecodePre

end
-- ==== Proof.LayerModel.lean ====
module

public import Idealize.ShloMosaic.Lib.Pointwise

@[expose] public section

noncomputable section

/-! The layer's projections, gates and residual, on extended reals. -/
namespace Cert.Layer

open Idealize.ShloMosaic

/-- A row scaled to unit mean square, times a gain. -/
def rms (x g : Fin 1024 → EReal) (l : Fin 1024) : EReal :=
  x l * Ideal.rsqrt (Ideal.div (∑ k, x k * x k) (Ideal.ofBits .f32 1149239296#32) + Ideal.ofBits .f32 897988541#32) * g l

/-- One projected entry. -/
def dotp (h w : Fin 1024 → EReal) : EReal := ∑ k, h k * w k

/-- A gated branch, projected. -/
def branch (o z : Fin 512 → EReal) (w : Fin 512 → EReal) : EReal := ∑ k, o k * (z k * Ideal.logistic (z k)) * w k

/-- The three branches, gated and added. -/
def mixed (h : Fin 1024 → EReal) (w : Fin 8200 → Fin 1024 → EReal) (o₁ o₂ o₃ : Fin 512 → EReal) (b₁ b₂ b₃ : Fin 512 → Fin 1024 → EReal) (l : Fin 1024) : EReal :=
  Ideal.logistic (dotp h (w ⟨5128 + l.val, by omega⟩)) * branch o₁ (fun k => dotp h (w ⟨1544 + k.val, by omega⟩)) (fun k => b₁ k l)
  + Ideal.logistic (dotp h (w ⟨6152 + l.val, by omega⟩)) * branch o₂ (fun k => dotp h (w ⟨3592 + k.val, by omega⟩)) (fun k => b₂ k l)
  + Ideal.logistic (dotp h (w ⟨7176 + l.val, by omega⟩)) * branch o₃ (fun k => dotp h (w ⟨4616 + k.val, by omega⟩)) (fun k => b₃ k l)

/-- The layer's result at one place: the residual and the projected mix. -/
def merged (x g : Fin 1024 → EReal) (w : Fin 8200 → Fin 1024 → EReal) (o₁ o₂ o₃ : Fin 512 → EReal) (b₁ b₂ b₃ : Fin 512 → Fin 1024 → EReal) (wo : Fin 1024 → Fin 1024 → EReal) (l : Fin 1024) : EReal :=
  x l + ∑ k, mixed (rms x g) w o₁ o₂ o₃ b₁ b₂ b₃ k * wo k l

/-- The logarithm of the sigmoid, without overflow. -/
def lsig (z : EReal) : EReal := min z 0 - Ideal.log (1 + Ideal.exp (-(max z (-z))))

/-- A head's columns scaled to unit mean square, times a gain. -/
def hnorm (z : Fin 512 → EReal) (g : Fin 64 → EReal) (n : Fin 512) : EReal :=
  z n * Ideal.rsqrt (Ideal.div (∑ e : Fin 64, z ⟨n.val / 64 * 64 + e.val, by omega⟩ * z ⟨n.val / 64 * 64 + e.val, by omega⟩) (Ideal.ofBits .f32 1115684864#32) + Ideal.ofBits .f32 897988541#32) * g ⟨n.val % 64, by omega⟩

/-- Column `a + n` of the projection of a normalised row. -/
def pcol (x g : Fin 1024 → EReal) (w : Fin 8200 → Fin 1024 → EReal) (a : ℕ) (ha : a ≤ 7688) (n : Fin 512) : EReal := dotp (rms x g) (w ⟨a + n.val, by omega⟩)

/-- The decay's logarithm for head `n`. -/
def decay (x g : Fin 1024 → EReal) (w : Fin 8200 → Fin 1024 → EReal) (b : Fin 8 → EReal) (n : Fin 8) : EReal := lsig (dotp (rms x g) (w ⟨1536 + n.val, by omega⟩) + b n)

theorem dotp_comm (h w : Fin 1024 → EReal) : (∑ k, w k * h k) = dotp h w := Finset.sum_congr rfl fun _ _ => mul_comm _ _

theorem log_one_add_exp_ne_bot (w : EReal) : Ideal.log (1 + Ideal.exp w) ≠ ⊥ := by
  induction w with
  | bot =>
    rw [Ideal.exp_bot, add_zero, ← EReal.coe_one, Ideal.log_coe, if_neg (by norm_num)]
    exact EReal.coe_ne_bot _
  | top => rw [Ideal.exp_top, ← EReal.coe_one, EReal.coe_add_top, Ideal.log_top]; exact top_ne_bot
  | coe r =>
    rw [Ideal.exp_coe, ← EReal.coe_one, ← EReal.coe_add, Ideal.log_coe, if_neg (by have := Real.exp_pos r; linarith)]
    exact EReal.coe_ne_bot _

/-- The same as minus a soft maximum. -/
theorem neg_softplus (z : EReal) : -(max (-z) 0 + Ideal.log (1 + Ideal.exp (-(max (-z) z)))) = lsig z := by
  unfold lsig
  rw [max_comm (-z) z]
  have h0 : max (-z) 0 ≠ ⊥ := fun h => by
    have : (0 : EReal) ≤ ⊥ := h ▸ le_max_right (-z) 0
    exact absurd (le_bot_iff.mp this) EReal.zero_ne_bot
  rw [EReal.neg_add (.inl h0) (.inr (log_one_add_exp_ne_bot _))]
  congr 1
  rcases le_total z 0 with h | h
  · rw [max_eq_left (by simpa using EReal.neg_le_neg_iff.mpr h), min_eq_left h, neg_neg]
  · rw [max_eq_right (by simpa using EReal.neg_le_neg_iff.mpr h), min_eq_right h, neg_zero]

end Cert.Layer

end
-- ==== Proof.DpModel.lean ====
module

public import proofs.«01_k».proof.Proof.LayerModel
public import proofs.«01_k».proof.Proof.SsmModel

@[expose] public section

set_option maxRecDepth 16384

noncomputable section

/-! One decoded row of the layer: the means of its heads and one step of the state space. -/
namespace Cert.Layer

open Cert.KernelIdeal.Ssm (lbR lbI cfR cfI gate sum_block)
open Idealize.ShloMosaic

/-- One group's projected input. -/
def bup (u : Fin 512 → EReal) (w : Fin 32 → Fin 64 → Fin 16 → EReal) (g : Fin 32) (n : Fin 64) : EReal := ∑ p : Fin 16, u ⟨16 * g.val + p.val, by omega⟩ * w g n p

/-- The next state's real part. -/
def nxR (u : Fin 512 → EReal) (a₁ a₂ : Fin 32 → Fin 64 → EReal) (a₃ : Fin 32 → EReal) (b₁ b₂ : Fin 32 → Fin 64 → Fin 16 → EReal) (h₁ h₂ : Fin 32 → Fin 64 → EReal) (g : Fin 32) (n : Fin 64) : EReal :=
  cfR (a₁ g n) (a₂ g n) (a₃ g) * bup u b₁ g n - cfI (a₁ g n) (a₂ g n) (a₃ g) * bup u b₂ g n + lbR (a₁ g n) (a₂ g n) (a₃ g) * h₁ g n - lbI (a₁ g n) (a₂ g n) (a₃ g) * h₂ g n

/-- The next state's imaginary part. -/
def nxI (u : Fin 512 → EReal) (a₁ a₂ : Fin 32 → Fin 64 → EReal) (a₃ : Fin 32 → EReal) (b₁ b₂ : Fin 32 → Fin 64 → Fin 16 → EReal) (h₁ h₂ : Fin 32 → Fin 64 → EReal) (g : Fin 32) (n : Fin 64) : EReal :=
  cfR (a₁ g n) (a₂ g n) (a₃ g) * bup u b₂ g n + cfI (a₁ g n) (a₂ g n) (a₃ g) * bup u b₁ g n + lbR (a₁ g n) (a₂ g n) (a₃ g) * h₂ g n + lbI (a₁ g n) (a₂ g n) (a₃ g) * h₁ g n

/-- The mixed output of the states, before the gelu. -/
def ymix (u : Fin 512 → EReal) (R I : Fin 32 → Fin 64 → EReal) (c₁ c₂ : Fin 32 → Fin 16 → Fin 64 → EReal) (d : Fin 512 → EReal) (l : Fin 512) : EReal :=
  ((∑ n : Fin 64, R ⟨l.val / 16, by omega⟩ n * c₁ ⟨l.val / 16, by omega⟩ ⟨l.val % 16, by omega⟩ n) - ∑ n : Fin 64, I ⟨l.val / 16, by omega⟩ n * c₂ ⟨l.val / 16, by omega⟩ ⟨l.val % 16, by omega⟩ n) + d l * u l

theorem ofBits_64 : Ideal.ofBits .f32 1115684864#32 = ((64 : ℝ) : EReal) := by
  simp [Ideal.ofBits, Ideal.ieee, -EReal.coe_mul]; norm_num
theorem ofBits_64th : Ideal.ofBits .f32 0x3C800000#32 = ((64⁻¹ : ℝ) : EReal) := by
  simp [Ideal.ofBits, Ideal.ieee, -EReal.coe_mul]; norm_num

theorem sq_nonneg' (z : EReal) : 0 ≤ z * z := by
  rcases le_total 0 z with h | h
  · exact mul_nonneg h h
  · have := mul_nonneg (EReal.neg_nonneg.mpr h) (EReal.neg_nonneg.mpr h)
    rwa [neg_mul_neg] at this

theorem sum_scale {ι : Type} (s : Finset ι) (f : ι → EReal) (q : ℝ) (hq : 0 ≤ q) : (∑ i ∈ s, f i * (q : EReal)) = (∑ i ∈ s, f i) * (q : EReal) := by
  classical
  induction s using Finset.induction_on with
  | empty => simp
  | insert a s ha ih =>
    rw [Finset.sum_insert ha, Finset.sum_insert ha, ih, EReal.right_distrib_of_nonneg_of_ne_top (EReal.coe_nonneg.mpr hq) (EReal.coe_ne_top q)]

/-- The heads' squares, averaged by a product with a block matrix of sixty-fourths. -/
theorem head_mean (z : Fin 512 → EReal) (w : Fin 512 → EReal) (n : Fin 512) (h1 : ∀ k : Fin 512, k.val / 64 = n.val / 64 → w k = Ideal.ofBits .f32 0x3C800000#32) (h0 : ∀ k : Fin 512, k.val / 64 ≠ n.val / 64 → w k = 0) :
    (∑ k, z k * z k * w k) = Ideal.div (∑ e : Fin 64, z ⟨n.val / 64 * 64 + e.val, by omega⟩ * z ⟨n.val / 64 * 64 + e.val, by omega⟩) (Ideal.ofBits .f32 1115684864#32) := by
  rw [sum_block (B := 64) (by omega) (n.val / 64) (by omega) _ (fun k hk => by rw [h0 k hk, mul_zero])]
  rw [ofBits_64]
  unfold Ideal.div
  rw [if_neg (by exact_mod_cast (by norm_num : (64 : ℝ) ≠ 0)), ← EReal.coe_inv, ← sum_scale _ _ _ (by norm_num)]
  refine Finset.sum_congr rfl fun e _ => ?_
  rw [h1 _ (by show (64 * (n.val / 64) + e.val) / 64 = n.val / 64; omega), ofBits_64th]
  have e' : (⟨64 * (n.val / 64) + e.val, by omega⟩ : Fin 512) = ⟨n.val / 64 * 64 + e.val, by omega⟩ := Fin.ext (by show 64 * (n.val / 64) + e.val = n.val / 64 * 64 + e.val; omega)
  rw [e']

/-- A lane's group. -/
def lg (n : Fin 2048) : Fin 32 := ⟨n.val / 64, by omega⟩
/-- A lane's place in its group. -/
def ln (n : Fin 2048) : Fin 64 := ⟨n.val % 64, by omega⟩

end Cert.Layer

end
-- ==== Proof.DpRef.lean ====
module

public import proofs.«01_k».proof.Proof.DpModel
public import proofs.«01_k».proof.Proof.SsmRef
public import proofs.«01_k».proof.Proof.Gen.Reference4Ideal.Run

@[expose] public section

set_option maxRecDepth 16384

noncomputable section

/-! The reference of the decoded rows, as columns of the layer and one step of its state space. -/
namespace Cert.Reference4Ideal.DecodePre

open Cert.Reference4Ideal.Gen Cert.Reference4Ideal.Value Cert.Layer
open Cert.KernelIdeal.Ssm (lbR lbI cfR cfI gel gate)
open Cert.ReferenceIdeal.Ssm (lR lI cR cI lR_apply lI_apply cR_apply cI_apply)
open Idealize.ShloMosaic Idealize.ShloMosaic.TcCoe Idealize.ShloMosaic.Tactic Idealize.ShloMosaic.StableHlo
open Idealize.SL Idealize.SL.Sem

/-- The normalised rows. -/
def hn (x : FVec Ideal S32x1x1024 .f32) (g : FVec Ideal S1024 .f32) : FVec Ideal S32x1x1024 .f32 :=
  mulf (mulf x (broadcastInDim S32x1x1024 ![0, 1, 2] bcast_S32x1x1_S32x1x1024_0_1_2 (Host.rsqrt (addf (Host.divf (broadcastInDim S32x1x1 ![0, 1] bcast_S32x1_S32x1x1_0_1 (Host.reduceAdd (mulf x x) (constant S_ .f32 0x00000000#32) reducesTo_S32x1x1024_S32x1_d2 h_S_)) (broadcastInDim S32x1x1 ![] bcast_S_S32x1x1 (constant S_ .f32 0x44800000#32))) (broadcastInDim S32x1x1 ![] bcast_S_S32x1x1 (constant S_ .f32 0x358637BD#32))))))
    (broadcastInDim S32x1x1024 ![0, 1, 2] bcast_S1x1x1024_S32x1x1024_0_1_2 (broadcastInDim S1x1x1024 ![2] bcast_S1024_S1x1x1024_2 g))
/-- The projected columns. -/
def cols (h : FVec Ideal S32x1x1024 .f32) (w : FVec Ideal S1024x8200 .f32) : FVec Ideal S32x1x8200 .f32 := Host.dotGeneral dot_S32x1x1024_S1024x8200_S32x1x8200_2_0_01_1_n_n none h w
/-- Heads of columns. -/
def hd (z : FVec Ideal S32x1x512 .f32) : FVec Ideal S32x1x8x64 .f32 := shapeCast _ z shapeCasts_S32x1x512_S32x1x8x64
/-- Each head scaled to unit mean square. -/
def nrm (z : FVec Ideal S32x1x8x64 .f32) (g : FVec Ideal S64 .f32) : FVec Ideal S32x1x8x64 .f32 := (mulf (mulf z (broadcastInDim S32x1x8x64 ![0, 1, 2, 3] bcast_S32x1x8x1_S32x1x8x64_0_1_2_3 (Host.rsqrt (addf (Host.divf (broadcastInDim S32x1x8x1 ![0, 1, 2] bcast_S32x1x8_S32x1x8x1_0_1_2 (Host.reduceAdd (mulf z z) (constant S_ .f32 0x00000000#32) reducesTo_S32x1x8x64_S32x1x8_d3 h_S_)) (broadcastInDim S32x1x8x1 ![] bcast_S_S32x1x8x1 (constant S_ .f32 0x42800000#32))) (broadcastInDim S32x1x8x1 ![] bcast_S_S32x1x8x1 (constant S_ .f32 0x358637BD#32)))))) (broadcastInDim S32x1x8x64 ![0, 1, 2, 3] bcast_S1x1x1x64_S32x1x8x64_0_1_2_3 (broadcastInDim S1x1x1x64 ![3] bcast_S64_S1x1x1x64_3 g)))
/-- The logarithm of the sigmoid. -/
def lsR (z : FVec Ideal S32x1x8 .f32) : FVec Ideal S32x1x8 .f32 := Host.negf (select (cmpf .une (subf (Host.negf z) (broadcastInDim S32x1x8 ![] bcast_S_S32x1x8 (constant S_ .f32 0x00000000#32))) (subf (Host.negf z) (broadcastInDim S32x1x8 ![] bcast_S_S32x1x8 (constant S_ .f32 0x00000000#32)))) (addf (Host.negf z) (broadcastInDim S32x1x8 ![] bcast_S_S32x1x8 (constant S_ .f32 0x00000000#32))) (addf (maximumf (Host.negf z) (broadcastInDim S32x1x8 ![] bcast_S_S32x1x8 (constant S_ .f32 0x00000000#32))) (Host.log1p (Host.exp (Host.negf (Host.absf (subf (Host.negf z) (broadcastInDim S32x1x8 ![] bcast_S_S32x1x8 (constant S_ .f32 0x00000000#32)))))))))
/-- The columns of the decay. -/
def dec (C : FVec Ideal S32x1x8200 .f32) (a3 : FVec Ideal S8 .f32) : FVec Ideal S32x1x8 .f32 := (addf (extractStridedSlice S32x1x8 ![0, 0, 1536] C slices_S32x1x8200_S32x1x8_0_0_1536) (broadcastInDim S32x1x8 ![0, 1, 2] bcast_S1x1x8_S32x1x8_0_1_2 (broadcastInDim S1x1x8 ![2] bcast_S8_S1x1x8_2 a3)))

/-- One row a sequence. -/
def fl (z : FVec Ideal S32x1x8x64 .f32) : FVec Ideal S32x512 .f32 := shapeCast _ z shapeCasts_S32x1x8x64_S32x512
/-- Scaled. -/
def scl (z : FVec Ideal S32x512 .f32) : FVec Ideal S32x512 .f32 := mulf z (broadcastInDim S32x512 ![] bcast_S_S32x512 (constant S_ .f32 0x3E000000#32))

theorem hn_apply (x : FVec Ideal S32x1x1024 .f32) (g : FVec Ideal S1024 .f32) (b : Fin 32) (l : Fin 1024) : hn x g (ix3 b 0 l) = rms (fun k => x (ix3 b 0 k)) (fun k => g (ix1 k)) l := by
  pointwise [hn, rms]
theorem cols_apply (h : FVec Ideal S32x1x1024 .f32) (w : FVec Ideal S1024x8200 .f32) (b : Fin 32) (l : Fin 8200) : cols h w (ix3 b 0 l) = dotp (fun k => h (ix3 b 0 k)) (fun k => w (ix2 k l)) := by
  pointwise [cols, dotp]
theorem fl_hd (z : FVec Ideal S32x1x512 .f32) (b : Fin 32) (n : Fin 512) : fl (hd z) (ix2 b n) = z (ix3 b 0 n) := by
  pointwise [fl, hd]
theorem fl_nrm (z : FVec Ideal S32x1x512 .f32) (g : FVec Ideal S64 .f32) (b : Fin 32) (n : Fin 512) : fl (nrm (hd z) g) (ix2 b n) = hnorm (fun i => z (ix3 b 0 i)) (fun e => g (ix1 e)) n := by
  pointwise [fl, hd, nrm, hnorm]
theorem scl_apply (z : FVec Ideal S32x512 .f32) (b : Fin 32) (n : Fin 512) : scl z (ix2 b n) = z (ix2 b n) * Ideal.ofBits .f32 1040187392#32 := by
  pointwise [scl]
theorem lsR_apply (z : FVec Ideal S32x1x8 .f32) (b : Fin 32) (n : Fin 8) : lsR z (ix3 b 0 n) = lsig (z (ix3 b 0 n)) := by
  rw [← neg_softplus]
  pointwise [lsR]
  rw [if_neg (fun h => h rfl)]
  generalize z (ix3 b 0 n) = Z
  show -(max (-Z) 0 + Ideal.log (1 + Ideal.exp (-(max (-Z) (- -Z))))) = _
  rw [neg_neg]
theorem dec_apply (C : FVec Ideal S32x1x8200 .f32) (a : FVec Ideal S8 .f32) (b : Fin 32) (n : Fin 8) : dec C a (ix3 b 0 n) = C (ix3 b 0 ⟨1536 + n.val, by omega⟩) + a (ix1 n) := by
  pointwise [dec]
/-- The columns from 0. -/
def sl0 (C : FVec Ideal S32x1x8200 .f32) : FVec Ideal S32x1x512 .f32 := extractStridedSlice S32x1x512 ![0, 0, 0] C slices_S32x1x8200_S32x1x512_0_0_0
theorem sl0_apply (C : FVec Ideal S32x1x8200 .f32) (b : Fin 32) (n : Fin 512) : sl0 C (ix3 b 0 n) = C (ix3 b 0 ⟨0 + n.val, by omega⟩) := by
  pointwise [sl0]
/-- The columns from 512. -/
def sl512 (C : FVec Ideal S32x1x8200 .f32) : FVec Ideal S32x1x512 .f32 := extractStridedSlice S32x1x512 ![0, 0, 512] C slices_S32x1x8200_S32x1x512_0_0_512
theorem sl512_apply (C : FVec Ideal S32x1x8200 .f32) (b : Fin 32) (n : Fin 512) : sl512 C (ix3 b 0 n) = C (ix3 b 0 ⟨512 + n.val, by omega⟩) := by
  pointwise [sl512]
/-- The columns from 1024. -/
def sl1024 (C : FVec Ideal S32x1x8200 .f32) : FVec Ideal S32x1x512 .f32 := extractStridedSlice S32x1x512 ![0, 0, 1024] C slices_S32x1x8200_S32x1x512_0_0_1024
theorem sl1024_apply (C : FVec Ideal S32x1x8200 .f32) (b : Fin 32) (n : Fin 512) : sl1024 C (ix3 b 0 n) = C (ix3 b 0 ⟨1024 + n.val, by omega⟩) := by
  pointwise [sl1024]
/-- The columns from 2056. -/
def sl2056 (C : FVec Ideal S32x1x8200 .f32) : FVec Ideal S32x1x512 .f32 := extractStridedSlice S32x1x512 ![0, 0, 2056] C slices_S32x1x8200_S32x1x512_0_0_2056
theorem sl2056_apply (C : FVec Ideal S32x1x8200 .f32) (b : Fin 32) (n : Fin 512) : sl2056 C (ix3 b 0 n) = C (ix3 b 0 ⟨2056 + n.val, by omega⟩) := by
  pointwise [sl2056]
/-- The columns from 2568. -/
def sl2568 (C : FVec Ideal S32x1x8200 .f32) : FVec Ideal S32x1x512 .f32 := extractStridedSlice S32x1x512 ![0, 0, 2568] C slices_S32x1x8200_S32x1x512_0_0_2568
theorem sl2568_apply (C : FVec Ideal S32x1x8200 .f32) (b : Fin 32) (n : Fin 512) : sl2568 C (ix3 b 0 n) = C (ix3 b 0 ⟨2568 + n.val, by omega⟩) := by
  pointwise [sl2568]
/-- The columns from 3080. -/
def sl3080 (C : FVec Ideal S32x1x8200 .f32) : FVec Ideal S32x1x512 .f32 := extractStridedSlice S32x1x512 ![0, 0, 3080] C slices_S32x1x8200_S32x1x512_0_0_3080
theorem sl3080_apply (C : FVec Ideal S32x1x8200 .f32) (b : Fin 32) (n : Fin 512) : sl3080 C (ix3 b 0 n) = C (ix3 b 0 ⟨3080 + n.val, by omega⟩) := by
  pointwise [sl3080]
/-- The columns from 4104. -/
def sl4104 (C : FVec Ideal S32x1x8200 .f32) : FVec Ideal S32x1x512 .f32 := extractStridedSlice S32x1x512 ![0, 0, 4104] C slices_S32x1x8200_S32x1x512_0_0_4104
theorem sl4104_apply (C : FVec Ideal S32x1x8200 .f32) (b : Fin 32) (n : Fin 512) : sl4104 C (ix3 b 0 n) = C (ix3 b 0 ⟨4104 + n.val, by omega⟩) := by
  pointwise [sl4104]

/-- The projected inputs. -/
def prj (u : FVec Ideal S32x1x512 .f32) (w : FVec Ideal S32x64x16 .f32) : FVec Ideal S32x1x32x64 .f32 :=
  transpose S32x1x32x64 [2, 3, 0, 1] (Host.dotGeneral dot_S32x64x16_S32x1x32x16_S32x64x32x1_2_3_1_01_0_2 none w (shapeCast S32x1x32x16 u shapeCasts_S32x1x512_S32x1x32x16)) transposes_S32x64x32x1_S32x1x32x64_2_3_0_1
/-- Coefficients of the inputs. -/
def bb (x : FVec Ideal S32x64 .f32) : FVec Ideal S32x1x32x64 .f32 := (broadcastInDim S32x1x32x64 ![0, 1, 2, 3] bcast_S1x1x32x64_S32x1x32x64_0_1_2_3 (broadcastInDim S1x1x32x64 ![2, 3] bcast_S32x64_S1x1x32x64_2_3 x))
/-- Coefficients of the states. -/
def bs (x : FVec Ideal S32x64 .f32) : FVec Ideal S32x1x32x64 .f32 := broadcastInDim S32x1x32x64 ![2, 3] bcast_S32x64_S32x1x32x64_2_3 x
/-- The states before. -/
def hs (x : FVec Ideal S32x32x64 .f32) : FVec Ideal S32x1x32x64 .f32 := broadcastInDim S32x1x32x64 ![0, 2, 3] bcast_S32x32x64_S32x1x32x64_0_2_3 x
/-- The states after. -/
def nRe (lr li cr ci : FVec Ideal S32x64 .f32) (u : FVec Ideal S32x1x512 .f32) (b1 b2 : FVec Ideal S32x64x16 .f32) (h1 h2 : FVec Ideal S32x32x64 .f32) : FVec Ideal S32x1x32x64 .f32 :=
  subf (addf (subf (mulf (bb cr) (prj u b1)) (mulf (bb ci) (prj u b2))) (mulf (bs lr) (hs h1))) (mulf (bs li) (hs h2))
def nIm (lr li cr ci : FVec Ideal S32x64 .f32) (u : FVec Ideal S32x1x512 .f32) (b1 b2 : FVec Ideal S32x64x16 .f32) (h1 h2 : FVec Ideal S32x32x64 .f32) : FVec Ideal S32x1x32x64 .f32 :=
  addf (addf (addf (mulf (bb cr) (prj u b2)) (mulf (bb ci) (prj u b1))) (mulf (bs lr) (hs h2))) (mulf (bs li) (hs h1))
/-- The mixed output before the gelu. -/
def mixR (R I : FVec Ideal S32x1x32x64 .f32) (u : FVec Ideal S32x1x512 .f32) (c1 c2 : FVec Ideal S32x16x64 .f32) (d : FVec Ideal S512 .f32) : FVec Ideal S32x1x512 .f32 :=
  addf (shapeCast _ (subf (transpose S32x1x32x16 [1, 2, 0, 3] (Host.dotGeneral dot_S32x1x32x64_S32x16x64_S32x32x1x16_3_2_01_1_2_0 none R c1) transposes_S32x32x1x16_S32x1x32x16_1_2_0_3) (transpose S32x1x32x16 [1, 2, 0, 3] (Host.dotGeneral dot_S32x1x32x64_S32x16x64_S32x32x1x16_3_2_01_1_2_0 none I c2) transposes_S32x32x1x16_S32x1x32x16_1_2_0_3)) shapeCasts_S32x1x32x16_S32x1x512) (mulf (broadcastInDim S32x1x512 ![0, 1, 2] bcast_S1x1x512_S32x1x512_0_1_2 (broadcastInDim S1x1x512 ![2] bcast_S512_S1x1x512_2 d)) u)
/-- The gelu. -/
def geR (Y : FVec Ideal S32x1x512 .f32) : FVec Ideal S32x1x512 .f32 :=
  mulf Y (mulf (broadcastInDim S32x1x512 ![] bcast_S_S32x1x512 (constant S_ .f32 0x3F000000#32)) (addf (broadcastInDim S32x1x512 ![] bcast_S_S32x1x512 (constant S_ .f32 0x3F800000#32)) (Host.tanh (mulf (broadcastInDim S32x1x512 ![] bcast_S_S32x1x512 (constant S_ .f32 0x3F4C422A#32)) (addf Y (mulf (broadcastInDim S32x1x512 ![] bcast_S_S32x1x512 (constant S_ .f32 0x3D372713#32)) (mulf (mulf Y Y) Y)))))))
/-- The gated unit. -/
def outR (Z : FVec Ideal S32x1x512 .f32) (w : FVec Ideal S512x512 .f32) : FVec Ideal S32x512 .f32 :=
  shapeCast _ (mulf Z (Host.divf (broadcastInDim S32x1x512 ![] bcast_S_S32x1x512 (constant S_ .f32 0x3F800000#32)) (addf (broadcastInDim S32x1x512 ![] bcast_S_S32x1x512 (constant S_ .f32 0x3F800000#32)) (Host.exp (Host.negf (Host.dotGeneral dot_S32x1x512_S512x512_S32x1x512_2_0_01_1_n_n none Z w)))))) shapeCasts_S32x1x512_S32x512
/-- The states as one row a sequence. -/
def fs (z : FVec Ideal S32x1x32x64 .f32) : FVec Ideal S32x2048 .f32 := shapeCast _ (shapeCast S32x32x64 z shapeCasts_S32x1x32x64_S32x32x64) shapeCasts_S32x32x64_S32x2048

theorem prj_apply (u : FVec Ideal S32x1x512 .f32) (w : FVec Ideal S32x64x16 .f32) (b : Fin 32) (g : Fin 32) (n : Fin 64) :
    prj u w (ix4 b 0 g n) = bup (fun i => u (ix3 b 0 i)) (fun g n p => w (ix3 g n p)) g n := by
  have e : prj u w (ix4 b 0 g n) = ∑ p : Fin 16, w (ix3 g n p) * u (ix3 b 0 ⟨16 * g.val + p.val, by omega⟩) := by
    pointwise [prj]
    exact Finset.sum_congr rfl fun p _ => congrArg₂ (· * ·) rfl (congrArg u (congrArg (ix3 b 0) (Fin.ext (by show g.val * 16 + p.val = 16 * g.val + p.val; omega))))
  rw [e]
  exact Finset.sum_congr rfl fun p _ => mul_comm _ _
theorem nRe_apply (lr li cr ci : FVec Ideal S32x64 .f32) (u : FVec Ideal S32x1x512 .f32) (b1 b2 : FVec Ideal S32x64x16 .f32) (h1 h2 : FVec Ideal S32x32x64 .f32) (b g : Fin 32) (n : Fin 64) :
    nRe lr li cr ci u b1 b2 h1 h2 (ix4 b 0 g n) = cr (ix2 g n) * prj u b1 (ix4 b 0 g n) - ci (ix2 g n) * prj u b2 (ix4 b 0 g n) + lr (ix2 g n) * h1 (ix3 b g n) - li (ix2 g n) * h2 (ix3 b g n) := by
  unfold nRe
  generalize prj u b1 = p1
  generalize prj u b2 = p2
  pointwise [bb, bs, hs]
theorem nIm_apply (lr li cr ci : FVec Ideal S32x64 .f32) (u : FVec Ideal S32x1x512 .f32) (b1 b2 : FVec Ideal S32x64x16 .f32) (h1 h2 : FVec Ideal S32x32x64 .f32) (b g : Fin 32) (n : Fin 64) :
    nIm lr li cr ci u b1 b2 h1 h2 (ix4 b 0 g n) = cr (ix2 g n) * prj u b2 (ix4 b 0 g n) + ci (ix2 g n) * prj u b1 (ix4 b 0 g n) + lr (ix2 g n) * h2 (ix3 b g n) + li (ix2 g n) * h1 (ix3 b g n) := by
  unfold nIm
  generalize prj u b1 = p1
  generalize prj u b2 = p2
  pointwise [bb, bs, hs]
theorem mixR_apply (R I : FVec Ideal S32x1x32x64 .f32) (u : FVec Ideal S32x1x512 .f32) (c1 c2 : FVec Ideal S32x16x64 .f32) (d : FVec Ideal S512 .f32) (b : Fin 32) (l : Fin 512) :
    mixR R I u c1 c2 d (ix3 b 0 l) = ymix (fun i => u (ix3 b 0 i)) (fun g n => R (ix4 b 0 g n)) (fun g n => I (ix4 b 0 g n)) (fun g p n => c1 (ix3 g p n)) (fun g p n => c2 (ix3 g p n)) (fun l => d (ix1 l)) l := by
  pointwise [mixR, ymix]
theorem geR_apply (Y : FVec Ideal S32x1x512 .f32) (b : Fin 32) (l : Fin 512) : geR Y (ix3 b 0 l) = gel (Y (ix3 b 0 l)) := by
  pointwise [geR, gel]
theorem outR_apply (Z : FVec Ideal S32x1x512 .f32) (w : FVec Ideal S512x512 .f32) (Y : Fin 512 → EReal) (b : Fin 32) (l : Fin 512) (h : ∀ k, Z (ix3 b 0 k) = gel (Y k)) :
    outR Z w (ix2 b l) = gate Y (fun x => w (ix2 x l)) l := by
  pointwise [outR, gate]
  simp only [h]
  rfl
theorem fs_apply (z : FVec Ideal S32x1x32x64 .f32) (b : Fin 32) (n : Fin 2048) : fs z (ix2 b n) = z (ix4 b 0 (lg n) (ln n)) := by
  pointwise [fs, lg, ln]

variable (m : (ℓ : Loc nD τ sig) → Buf (Elt Ideal) ℓ) (c : Dev nD)

/-- Argument 0 of the program. -/
abbrev ar0 : FVec Ideal S32x1x1024 .f32 := m ((c.tc : Thread nD τ).loc main_arg0)
/-- Argument 1 of the program. -/
abbrev ar1 : FVec Ideal S1024 .f32 := m ((c.tc : Thread nD τ).loc main_arg1)
/-- Argument 2 of the program. -/
abbrev ar2 : FVec Ideal S1024x8200 .f32 := m ((c.tc : Thread nD τ).loc main_arg2)
/-- Argument 3 of the program. -/
abbrev ar3 : FVec Ideal S8 .f32 := m ((c.tc : Thread nD τ).loc main_arg3)
/-- Argument 4 of the program. -/
abbrev ar4 : FVec Ideal S64 .f32 := m ((c.tc : Thread nD τ).loc main_arg4)
/-- Argument 5 of the program. -/
abbrev ar5 : FVec Ideal S64 .f32 := m ((c.tc : Thread nD τ).loc main_arg5)
/-- Argument 6 of the program. -/
abbrev ar6 : FVec Ideal S32x64 .f32 := m ((c.tc : Thread nD τ).loc main_arg6)
/-- Argument 7 of the program. -/
abbrev ar7 : FVec Ideal S32x64 .f32 := m ((c.tc : Thread nD τ).loc main_arg7)
/-- Argument 8 of the program. -/
abbrev ar8 : FVec Ideal S32 .f32 := m ((c.tc : Thread nD τ).loc main_arg8)
/-- Argument 9 of the program. -/
abbrev ar9 : FVec Ideal S32x64x16 .f32 := m ((c.tc : Thread nD τ).loc main_arg9)
/-- Argument 10 of the program. -/
abbrev ar10 : FVec Ideal S32x64x16 .f32 := m ((c.tc : Thread nD τ).loc main_arg10)
/-- Argument 11 of the program. -/
abbrev ar11 : FVec Ideal S32x16x64 .f32 := m ((c.tc : Thread nD τ).loc main_arg11)
/-- Argument 12 of the program. -/
abbrev ar12 : FVec Ideal S32x16x64 .f32 := m ((c.tc : Thread nD τ).loc main_arg12)
/-- Argument 13 of the program. -/
abbrev ar13 : FVec Ideal S512 .f32 := m ((c.tc : Thread nD τ).loc main_arg13)
/-- Argument 14 of the program. -/
abbrev ar14 : FVec Ideal S512x512 .f32 := m ((c.tc : Thread nD τ).loc main_arg14)
/-- Argument 15 of the program. -/
abbrev ar15 : FVec Ideal S32x32x64 .f32 := m ((c.tc : Thread nD τ).loc main_arg15)
/-- Argument 16 of the program. -/
abbrev ar16 : FVec Ideal S32x32x64 .f32 := m ((c.tc : Thread nD τ).loc main_arg16)

/-- All the columns. -/
def cc : FVec Ideal S32x1x8200 .f32 := cols (hn (ar0 m c) (ar1 m c)) (ar2 m c)

theorem cc_apply (b : Fin 32) (n : Fin 8200) : cc m c (ix3 b 0 n) = dotp (rms (fun k => ar0 m c (ix3 b 0 k)) (fun k => ar1 m c (ix1 k))) (fun k => ar2 m c (ix2 k n)) := by
  unfold cc
  rw [cols_apply]
  exact congrArg (fun f => dotp f _) (funext fun k => hn_apply _ _ b k)

/-- The states after. -/
def sRe : FVec Ideal S32x1x32x64 .f32 := nRe (lR (ar6 m c) (ar7 m c) (ar8 m c)) (lI (ar6 m c) (ar7 m c) (ar8 m c)) (cR (ar6 m c) (ar7 m c) (ar8 m c)) (cI (ar6 m c) (ar7 m c) (ar8 m c)) (sl4104 (cc m c)) (ar9 m c) (ar10 m c) (ar15 m c) (ar16 m c)
def sIm : FVec Ideal S32x1x32x64 .f32 := nIm (lR (ar6 m c) (ar7 m c) (ar8 m c)) (lI (ar6 m c) (ar7 m c) (ar8 m c)) (cR (ar6 m c) (ar7 m c) (ar8 m c)) (cI (ar6 m c) (ar7 m c) (ar8 m c)) (sl4104 (cc m c)) (ar9 m c) (ar10 m c) (ar15 m c) (ar16 m c)

theorem u_eq (b : Fin 32) : (fun i => sl4104 (cc m c) (ix3 b 0 i)) = fun i => pcol (fun k => ar0 m c (ix3 b 0 k)) (fun k => ar1 m c (ix1 k)) (fun n k => ar2 m c (ix2 k n)) 4104 (by omega) i :=
  funext fun i => (sl4104_apply _ b i).trans (cc_apply m c b _)
theorem sRe_apply (b g : Fin 32) (n : Fin 64) : sRe m c (ix4 b 0 g n) = nxR (fun i => pcol (fun k => ar0 m c (ix3 b 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 b g n)) (fun g n => ar16 m c (ix3 b g n)) g n := by
  unfold sRe
  rw [nRe_apply, prj_apply, prj_apply, lR_apply, lI_apply, cR_apply, cI_apply, u_eq]
  rfl
theorem sIm_apply (b g : Fin 32) (n : Fin 64) : sIm m c (ix4 b 0 g n) = nxI (fun i => pcol (fun k => ar0 m c (ix3 b 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 b g n)) (fun g n => ar16 m c (ix3 b g n)) g n := by
  unfold sIm
  rw [nIm_apply, prj_apply, prj_apply, lR_apply, lI_apply, cR_apply, cI_apply, u_eq]
  rfl

/-- Result 0. -/
def r0 : FVec Ideal S32x512 .f32 := scl (fl (nrm (hd (sl0 (cc m c))) (ar4 m c)))
theorem r0_eq : r0 m c = fun j : S32x512.Idx => hnorm (fun i => pcol (fun k => ar0 m c (ix3 (j 0) 0 k)) (fun k => ar1 m c (ix1 k)) (fun n k => ar2 m c (ix2 k n)) 0 (by omega) i) (fun e => ar4 m c (ix1 e)) (j 1) * Ideal.ofBits .f32 1040187392#32 := by
  funext j
  obtain ⟨b, n, rfl⟩ : ∃ (b : Fin 32) (n : Fin 512), j = ix2 b n := ⟨j 0, j 1, eq_ix2 j⟩
  show _ = hnorm (fun i => pcol (fun k => ar0 m c (ix3 b 0 k)) (fun k => ar1 m c (ix1 k)) (fun n k => ar2 m c (ix2 k n)) 0 (by omega) i) (fun e => ar4 m c (ix1 e)) n * Ideal.ofBits .f32 1040187392#32
  unfold r0
  rw [scl_apply, fl_nrm]
  exact congrArg (fun z => hnorm z _ n * _) (funext fun i => (sl0_apply _ b i).trans (cc_apply m c b _))

/-- Result 1. -/
def r1 : FVec Ideal S32x512 .f32 := fl (nrm (hd (sl512 (cc m c))) (ar5 m c))
theorem r1_eq : r1 m c = fun j : S32x512.Idx => hnorm (fun i => pcol (fun k => ar0 m c (ix3 (j 0) 0 k)) (fun k => ar1 m c (ix1 k)) (fun n k => ar2 m c (ix2 k n)) 512 (by omega) i) (fun e => ar5 m c (ix1 e)) (j 1) := by
  funext j
  obtain ⟨b, n, rfl⟩ : ∃ (b : Fin 32) (n : Fin 512), j = ix2 b n := ⟨j 0, j 1, eq_ix2 j⟩
  show _ = hnorm (fun i => pcol (fun k => ar0 m c (ix3 b 0 k)) (fun k => ar1 m c (ix1 k)) (fun n k => ar2 m c (ix2 k n)) 512 (by omega) i) (fun e => ar5 m c (ix1 e)) n
  unfold r1
  rw [fl_nrm]
  exact congrArg (fun z => hnorm z _ n) (funext fun i => (sl512_apply _ b i).trans (cc_apply m c b _))

/-- Result 2. -/
def r2 : FVec Ideal S32x512 .f32 := fl (hd (sl1024 (cc m c)))
theorem r2_eq : r2 m c = fun j : S32x512.Idx => pcol (fun k => ar0 m c (ix3 (j 0) 0 k)) (fun k => ar1 m c (ix1 k)) (fun n k => ar2 m c (ix2 k n)) 1024 (by omega) (j 1) := by
  funext j
  obtain ⟨b, n, rfl⟩ : ∃ (b : Fin 32) (n : Fin 512), j = ix2 b n := ⟨j 0, j 1, eq_ix2 j⟩
  show _ = pcol (fun k => ar0 m c (ix3 b 0 k)) (fun k => ar1 m c (ix1 k)) (fun n k => ar2 m c (ix2 k n)) 1024 (by omega) n
  unfold r2
  rw [fl_hd]
  exact (sl1024_apply _ b n).trans (cc_apply m c b _)

/-- Result 3. -/
def r3 : FVec Ideal S32x8 .f32 := shapeCast S32x8 (lsR (dec (cc m c) (ar3 m c))) shapeCasts_S32x1x8_S32x8
theorem r3_eq : r3 m c = fun j : S32x8.Idx => decay (fun k => ar0 m c (ix3 (j 0) 0 k)) (fun k => ar1 m c (ix1 k)) (fun n k => ar2 m c (ix2 k n)) (fun i => ar3 m c (ix1 i)) (j 1) := by
  funext j
  obtain ⟨b, n, rfl⟩ : ∃ (b : Fin 32) (n : Fin 8), j = ix2 b n := ⟨j 0, j 1, eq_ix2 j⟩
  show _ = decay (fun k => ar0 m c (ix3 b 0 k)) (fun k => ar1 m c (ix1 k)) (fun n k => ar2 m c (ix2 k n)) (fun i => ar3 m c (ix1 i)) n
  unfold r3
  refine Eq.trans (b := lsR (dec (cc m c) (ar3 m c)) (ix3 b 0 n)) (by pointwise) ?_
  rw [lsR_apply, dec_apply, cc_apply]
  rfl

/-- Result 4. -/
def r4 : FVec Ideal S32x512 .f32 := scl (fl (hd (sl2056 (cc m c))))
theorem r4_eq : r4 m c = fun j : S32x512.Idx => pcol (fun k => ar0 m c (ix3 (j 0) 0 k)) (fun k => ar1 m c (ix1 k)) (fun n k => ar2 m c (ix2 k n)) 2056 (by omega) (j 1) * Ideal.ofBits .f32 1040187392#32 := by
  funext j
  obtain ⟨b, n, rfl⟩ : ∃ (b : Fin 32) (n : Fin 512), j = ix2 b n := ⟨j 0, j 1, eq_ix2 j⟩
  show _ = pcol (fun k => ar0 m c (ix3 b 0 k)) (fun k => ar1 m c (ix1 k)) (fun n k => ar2 m c (ix2 k n)) 2056 (by omega) n * Ideal.ofBits .f32 1040187392#32
  unfold r4
  rw [scl_apply, fl_hd]
  exact congrArg (· * _) ((sl2056_apply _ b n).trans (cc_apply m c b _))

/-- Result 5. -/
def r5 : FVec Ideal S32x512 .f32 := fl (hd (sl2568 (cc m c)))
theorem r5_eq : r5 m c = fun j : S32x512.Idx => pcol (fun k => ar0 m c (ix3 (j 0) 0 k)) (fun k => ar1 m c (ix1 k)) (fun n k => ar2 m c (ix2 k n)) 2568 (by omega) (j 1) := by
  funext j
  obtain ⟨b, n, rfl⟩ : ∃ (b : Fin 32) (n : Fin 512), j = ix2 b n := ⟨j 0, j 1, eq_ix2 j⟩
  show _ = pcol (fun k => ar0 m c (ix3 b 0 k)) (fun k => ar1 m c (ix1 k)) (fun n k => ar2 m c (ix2 k n)) 2568 (by omega) n
  unfold r5
  rw [fl_hd]
  exact (sl2568_apply _ b n).trans (cc_apply m c b _)

/-- Result 6. -/
def r6 : FVec Ideal S32x512 .f32 := fl (hd (sl3080 (cc m c)))
theorem r6_eq : r6 m c = fun j : S32x512.Idx => pcol (fun k => ar0 m c (ix3 (j 0) 0 k)) (fun k => ar1 m c (ix1 k)) (fun n k => ar2 m c (ix2 k n)) 3080 (by omega) (j 1) := by
  funext j
  obtain ⟨b, n, rfl⟩ : ∃ (b : Fin 32) (n : Fin 512), j = ix2 b n := ⟨j 0, j 1, eq_ix2 j⟩
  show _ = pcol (fun k => ar0 m c (ix3 b 0 k)) (fun k => ar1 m c (ix1 k)) (fun n k => ar2 m c (ix2 k n)) 3080 (by omega) n
  unfold r6
  rw [fl_hd]
  exact (sl3080_apply _ b n).trans (cc_apply m c b _)

/-- Result 7. -/
def r7 : FVec Ideal S32x512 .f32 := outR (geR (mixR (sRe m c) (sIm m c) (sl4104 (cc m c)) (ar11 m c) (ar12 m c) (ar13 m c))) (ar14 m c)
theorem r7_eq : r7 m c = fun j : S32x512.Idx => gate (ymix (fun i => pcol (fun k => ar0 m c (ix3 (j 0) 0 k)) (fun k => ar1 m c (ix1 k)) (fun n k => ar2 m c (ix2 k n)) 4104 (by omega) i) (nxR (fun i => pcol (fun k => ar0 m c (ix3 (j 0) 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 (j 0) g n)) (fun g n => ar16 m c (ix3 (j 0) g n))) (nxI (fun i => pcol (fun k => ar0 m c (ix3 (j 0) 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 (j 0) g n)) (fun g n => ar16 m c (ix3 (j 0) g n))) (fun g p n => ar11 m c (ix3 g p n)) (fun g p n => ar12 m c (ix3 g p n)) (fun l => ar13 m c (ix1 l))) (fun x => ar14 m c (ix2 x (j 1))) (j 1) := by
  funext j
  obtain ⟨b, n, rfl⟩ : ∃ (b : Fin 32) (n : Fin 512), j = ix2 b n := ⟨j 0, j 1, eq_ix2 j⟩
  show _ = gate (ymix (fun i => pcol (fun k => ar0 m c (ix3 b 0 k)) (fun k => ar1 m c (ix1 k)) (fun n k => ar2 m c (ix2 k n)) 4104 (by omega) i) (nxR (fun i => pcol (fun k => ar0 m c (ix3 b 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 b g n)) (fun g n => ar16 m c (ix3 b g n))) (nxI (fun i => pcol (fun k => ar0 m c (ix3 b 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 b g n)) (fun g n => ar16 m c (ix3 b g n))) (fun g p n => ar11 m c (ix3 g p n)) (fun g p n => ar12 m c (ix3 g p n)) (fun l => ar13 m c (ix1 l))) (fun x => ar14 m c (ix2 x n)) n
  unfold r7
  refine outR_apply _ _ _ b n fun k => (geR_apply _ b k).trans (congrArg gel ?_)
  rw [mixR_apply, u_eq]
  exact congrArg₂ (fun R I => ymix _ R I _ _ _ k) (funext fun g => funext fun n => sRe_apply m c b g n) (funext fun g => funext fun n => sIm_apply m c b g n)

/-- Result 8. -/
def r8 : FVec Ideal S32x2048 .f32 := fs (sRe m c)
theorem r8_eq : r8 m c = fun j : S32x2048.Idx => nxR (fun i => pcol (fun k => ar0 m c (ix3 (j 0) 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 (j 0) g n)) (fun g n => ar16 m c (ix3 (j 0) g n)) (lg (j 1)) (ln (j 1)) := by
  funext j
  obtain ⟨b, n, rfl⟩ : ∃ (b : Fin 32) (n : Fin 2048), j = ix2 b n := ⟨j 0, j 1, eq_ix2 j⟩
  show _ = nxR (fun i => pcol (fun k => ar0 m c (ix3 b 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 b g n)) (fun g n => ar16 m c (ix3 b g n)) (lg n) (ln n)
  unfold r8
  rw [fs_apply, sRe_apply]

/-- Result 9. -/
def r9 : FVec Ideal S32x2048 .f32 := fs (sIm m c)
theorem r9_eq : r9 m c = fun j : S32x2048.Idx => nxI (fun i => pcol (fun k => ar0 m c (ix3 (j 0) 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 (j 0) g n)) (fun g n => ar16 m c (ix3 (j 0) g n)) (lg (j 1)) (ln (j 1)) := by
  funext j
  obtain ⟨b, n, rfl⟩ : ∃ (b : Fin 32) (n : Fin 2048), j = ix2 b n := ⟨j 0, j 1, eq_ix2 j⟩
  show _ = nxI (fun i => pcol (fun k => ar0 m c (ix3 b 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 b g n)) (fun g n => ar16 m c (ix3 b g n)) (lg n) (ln n)
  unfold r9
  rw [fs_apply, sIm_apply]

end Cert.Reference4Ideal.DecodePre

end
-- ==== Proof.DpPay.lean ====
module

public import proofs.«01_k».proof.Proof.DpModel
public import proofs.«01_k».proof.Proof.SsmPay
public import proofs.«01_k».proof.Proof.DpFrame
public import Idealize.ShloMosaic.Lib.Pipeline.ValueKit
public import Idealize.ShloMosaic.Lib.Pointwise

@[expose] public section

set_option maxRecDepth 16384

noncomputable section

/-! The blocks of the launch before the decoding attentions. -/
namespace Cert.Kernel4Ideal.DecodePre

open Cert.Kernel4Ideal.Gen Cert.Layer
open Cert.KernelIdeal.Ssm (lbR lbI cfR cfI gel gate)
open Idealize.ShloMosaic Idealize.ShloMosaic.TcCoe Idealize.ShloMosaic.Tactic
open Idealize.SL Idealize.SL.Sem

theorem h_apply (x : FVec Ideal S32x1024 .f32) (g : FVec Ideal S1x1024 .f32) (r : Fin 32) (l : Fin 1024) :
    k0_pay2 (F := Ideal) x g (ix2 r l) = rms (fun k => x (ix2 r k)) (fun k => g (ix2 0 k)) l := by
  pointwise [k0_pay2, rms]

theorem ld_h (x : FVec Ideal S32x1024 .f32) (g : FVec Ideal S1x1024 .f32) : k0_pay2 (F := Ideal) (View.ld x r0_0) (View.ld g r0_1) = k0_pay2 x g := by
  funext j
  obtain ⟨i, k, rfl⟩ : ∃ (i : Fin 32) (k : Fin 1024), j = ix2 i k := ⟨j 0, j 1, eq_ix2 j⟩
  rw [h_apply]
  pointwise [k0_pay2, rms]

/-- The projected column `a + n` of row `r`. -/
def pj (h : FVec Ideal S32x1024 .bf16) (w : FVec Ideal S3584x1024 .bf16) (a : ℕ) (ha : a ≤ 3072) (r : Fin 32) (n : Fin 512) : EReal := dotp (fun k => h (ix2 r k)) (fun k => w (ix2 ⟨a + n.val, by omega⟩ k))

/-- A head's columns scaled by the root of a weighted sum of squares, times a gain. -/
def hk (z w g : Fin 512 → EReal) (n : Fin 512) : EReal := z n * Ideal.rsqrt ((∑ k, z k * z k * w k) + Ideal.ofBits .f32 897988541#32) * g n

theorem out19_apply (x0 : FVec Ideal S32x1024 .f32) (x1 : FVec Ideal S1x1024 .f32) (x2 : FVec Ideal S3584x1024 .bf16) (x5 : FVec Ideal S1x512 .f32) (x7 : FVec Ideal S512x512 .f32) (r : Fin 32) (n : Fin 512) :
    out0_19 (F := Ideal) x0 x1 x2 x5 x7 (ix2 r n) = hk (fun i => pj (k0_pay2 (F := Ideal) x0 x1) x2 0 (by omega) r i) (fun k => x7 (ix2 k n)) (fun i => x5 (ix2 0 i)) n * Ideal.ofBits .f32 1040187392#32 := by
  unfold out0_19
  canon_tiles y h
  obtain ⟨q, s, rfl⟩ : ∃ (q : Fin 32) (s : Fin 512), y = ix2 q s := ⟨y 0, y 1, eq_ix2 y⟩
  obtain rfl : r = q := Fin.ext h0
  obtain rfl : n = s := Fin.ext h1
  unfold k0_pay3
  rw [ld_h]
  generalize k0_pay2 (F := Ideal) x0 x1 = H
  pointwise [pj, dotp, hk]

theorem out20_apply (x0 : FVec Ideal S32x1024 .f32) (x1 : FVec Ideal S1x1024 .f32) (x2 : FVec Ideal S3584x1024 .bf16) (x6 : FVec Ideal S1x512 .f32) (x7 : FVec Ideal S512x512 .f32) (r : Fin 32) (n : Fin 512) :
    out0_20 (F := Ideal) x0 x1 x2 x6 x7 (ix2 r n) = hk (fun i => pj (k0_pay2 (F := Ideal) x0 x1) x2 512 (by omega) r i) (fun k => x7 (ix2 k n)) (fun i => x6 (ix2 0 i)) n := by
  unfold out0_20 k0_pay32
  canon_tiles y h
  obtain ⟨q, s, rfl⟩ : ∃ (q : Fin 32) (s : Fin 512), y = ix2 q s := ⟨y 0, y 1, eq_ix2 y⟩
  obtain rfl : r = q := Fin.ext h0
  obtain rfl : n = s := Fin.ext h1
  unfold k0_pay5
  rw [ld_h]
  generalize k0_pay2 (F := Ideal) x0 x1 = H
  pointwise [k0_pay4, pj, dotp, hk]

theorem out21_apply (x0 : FVec Ideal S32x1024 .f32) (x1 : FVec Ideal S1x1024 .f32) (x2 : FVec Ideal S3584x1024 .bf16) (r : Fin 32) (n : Fin 512) :
    out0_21 (F := Ideal) x0 x1 x2 (ix2 r n) = pj (k0_pay2 (F := Ideal) x0 x1) x2 1024 (by omega) r n := by
  unfold out0_21 k0_pay32
  canon_tiles y h
  obtain ⟨q, s, rfl⟩ : ∃ (q : Fin 32) (s : Fin 512), y = ix2 q s := ⟨y 0, y 1, eq_ix2 y⟩
  obtain rfl : r = q := Fin.ext h0
  obtain rfl : n = s := Fin.ext h1
  unfold k0_pay6
  rw [ld_h]
  generalize k0_pay2 (F := Ideal) x0 x1 = H
  pointwise [pj, dotp]

theorem out22_apply (x0 : FVec Ideal S32x1024 .f32) (x1 : FVec Ideal S1x1024 .f32) (x3 : FVec Ideal S128x1024 .bf16) (x4 : FVec Ideal S1x8 .f32) (r : Fin 32) (n : Fin 8) :
    out0_22 (F := Ideal) x0 x1 x3 x4 (ix2 r n) = lsig (dotp (fun k => (k0_pay2 (F := Ideal) x0 x1) (ix2 r k)) (fun k => x3 (ix2 ⟨n.val, by omega⟩ k)) + x4 (ix2 0 n)) := by
  unfold out0_22 k0_pay32
  canon_tiles y h
  obtain ⟨q, s, rfl⟩ : ∃ (q : Fin 32) (s : Fin 8), y = ix2 q s := ⟨y 0, y 1, eq_ix2 y⟩
  obtain rfl : r = q := Fin.ext h0
  obtain rfl : n = s := Fin.ext h1
  unfold k0_pay7
  rw [ld_h]
  generalize k0_pay2 (F := Ideal) x0 x1 = H
  pointwise [lsig, dotp]
  rw [zero_sub]
  rfl

theorem out23_apply (x0 : FVec Ideal S32x1024 .f32) (x1 : FVec Ideal S1x1024 .f32) (x2 : FVec Ideal S3584x1024 .bf16) (r : Fin 32) (n : Fin 512) :
    out0_23 (F := Ideal) x0 x1 x2 (ix2 r n) = pj (k0_pay2 (F := Ideal) x0 x1) x2 1536 (by omega) r n * Ideal.ofBits .f32 1040187392#32 := by
  unfold out0_23 k0_pay32
  canon_tiles y h
  obtain ⟨q, s, rfl⟩ : ∃ (q : Fin 32) (s : Fin 512), y = ix2 q s := ⟨y 0, y 1, eq_ix2 y⟩
  obtain rfl : r = q := Fin.ext h0
  obtain rfl : n = s := Fin.ext h1
  unfold k0_pay8
  rw [ld_h]
  generalize k0_pay2 (F := Ideal) x0 x1 = H
  pointwise [pj, dotp]

theorem out24_apply (x0 : FVec Ideal S32x1024 .f32) (x1 : FVec Ideal S1x1024 .f32) (x2 : FVec Ideal S3584x1024 .bf16) (r : Fin 32) (n : Fin 512) :
    out0_24 (F := Ideal) x0 x1 x2 (ix2 r n) = pj (k0_pay2 (F := Ideal) x0 x1) x2 2048 (by omega) r n := by
  unfold out0_24 k0_pay32
  canon_tiles y h
  obtain ⟨q, s, rfl⟩ : ∃ (q : Fin 32) (s : Fin 512), y = ix2 q s := ⟨y 0, y 1, eq_ix2 y⟩
  obtain rfl : r = q := Fin.ext h0
  obtain rfl : n = s := Fin.ext h1
  unfold k0_pay9
  rw [ld_h]
  generalize k0_pay2 (F := Ideal) x0 x1 = H
  pointwise [pj, dotp]

theorem out25_apply (x0 : FVec Ideal S32x1024 .f32) (x1 : FVec Ideal S1x1024 .f32) (x2 : FVec Ideal S3584x1024 .bf16) (r : Fin 32) (n : Fin 512) :
    out0_25 (F := Ideal) x0 x1 x2 (ix2 r n) = pj (k0_pay2 (F := Ideal) x0 x1) x2 2560 (by omega) r n := by
  unfold out0_25 k0_pay32
  canon_tiles y h
  obtain ⟨q, s, rfl⟩ : ∃ (q : Fin 32) (s : Fin 512), y = ix2 q s := ⟨y 0, y 1, eq_ix2 y⟩
  obtain rfl : r = q := Fin.ext h0
  obtain rfl : n = s := Fin.ext h1
  unfold k0_pay10
  rw [ld_h]
  generalize k0_pay2 (F := Ideal) x0 x1 = H
  pointwise [pj, dotp]

theorem u_apply (x0 : FVec Ideal S32x1024 .f32) (x1 : FVec Ideal S1x1024 .f32) (x2 : FVec Ideal S3584x1024 .bf16) (r : Fin 32) (n : Fin 512) : k0_pay33 (F := Ideal) x0 x1 x2 (ix2 r n) = pj (k0_pay2 (F := Ideal) x0 x1) x2 3072 (by omega) r n := by
  unfold k0_pay33 k0_pay32 k0_pay11
  rw [ld_h]
  generalize k0_pay2 (F := Ideal) x0 x1 = H
  pointwise [pj, dotp]

theorem re_apply (x0 : FVec Ideal S32x1024 .f32) (x1 : FVec Ideal S1x1024 .f32) (x2 : FVec Ideal S3584x1024 .bf16) (x8 : FVec Ideal S1x2048 .f32) (x9 : FVec Ideal S1x2048 .f32) (x10 : FVec Ideal S1x2048 .f32) (x11 : FVec Ideal S512x2048 .bf16) (x12 : FVec Ideal S512x2048 .bf16) (x17 : FVec Ideal S32x2048 .f32) (x18 : FVec Ideal S32x2048 .f32) (r : Fin 32) (n : Fin 2048) : k0_pay39 (F := Ideal) x0 x1 x2 x8 x9 x10 x11 x12 x17 x18 (ix2 r n) = cfR (x8 (ix2 0 n)) (x9 (ix2 0 n)) (x10 (ix2 0 n)) * (∑ k, (k0_pay33 (F := Ideal) x0 x1 x2) (ix2 r k) * x11 (ix2 k n)) - cfI (x8 (ix2 0 n)) (x9 (ix2 0 n)) (x10 (ix2 0 n)) * (∑ k, (k0_pay33 (F := Ideal) x0 x1 x2) (ix2 r k) * x12 (ix2 k n)) + lbR (x8 (ix2 0 n)) (x9 (ix2 0 n)) (x10 (ix2 0 n)) * x17 (ix2 r n) - lbI (x8 (ix2 0 n)) (x9 (ix2 0 n)) (x10 (ix2 0 n)) * x18 (ix2 r n) := by
  unfold k0_pay39
  generalize k0_pay33 (F := Ideal) x0 x1 x2 = U
  pointwise [k0_pay28, k0_pay34, k0_pay35, k0_pay36, k0_pay37, k0_pay38, k0_pay12, k0_pay13, k0_pay14, k0_pay15, k0_pay16, k0_pay17, k0_pay18, k0_pay19, k0_pay20, k0_pay21, k0_pay22, k0_pay23, k0_pay24, k0_pay25, k0_pay26, k0_pay27, cfR, cfI, lbR, lbI]

theorem im_apply (x0 : FVec Ideal S32x1024 .f32) (x1 : FVec Ideal S1x1024 .f32) (x2 : FVec Ideal S3584x1024 .bf16) (x8 : FVec Ideal S1x2048 .f32) (x9 : FVec Ideal S1x2048 .f32) (x10 : FVec Ideal S1x2048 .f32) (x11 : FVec Ideal S512x2048 .bf16) (x12 : FVec Ideal S512x2048 .bf16) (x17 : FVec Ideal S32x2048 .f32) (x18 : FVec Ideal S32x2048 .f32) (r : Fin 32) (n : Fin 2048) : k0_pay40 (F := Ideal) x0 x1 x2 x8 x9 x10 x11 x12 x17 x18 (ix2 r n) = cfR (x8 (ix2 0 n)) (x9 (ix2 0 n)) (x10 (ix2 0 n)) * (∑ k, (k0_pay33 (F := Ideal) x0 x1 x2) (ix2 r k) * x12 (ix2 k n)) + cfI (x8 (ix2 0 n)) (x9 (ix2 0 n)) (x10 (ix2 0 n)) * (∑ k, (k0_pay33 (F := Ideal) x0 x1 x2) (ix2 r k) * x11 (ix2 k n)) + lbR (x8 (ix2 0 n)) (x9 (ix2 0 n)) (x10 (ix2 0 n)) * x18 (ix2 r n) + lbI (x8 (ix2 0 n)) (x9 (ix2 0 n)) (x10 (ix2 0 n)) * x17 (ix2 r n) := by
  unfold k0_pay40
  generalize k0_pay33 (F := Ideal) x0 x1 x2 = U
  pointwise [k0_pay29, k0_pay34, k0_pay35, k0_pay36, k0_pay37, k0_pay38, k0_pay12, k0_pay13, k0_pay14, k0_pay15, k0_pay16, k0_pay17, k0_pay18, k0_pay19, k0_pay20, k0_pay21, k0_pay22, k0_pay23, k0_pay24, k0_pay25, k0_pay26, k0_pay27, cfR, cfI, lbR, lbI]

theorem out27_apply (x0 : FVec Ideal S32x1024 .f32) (x1 : FVec Ideal S1x1024 .f32) (x2 : FVec Ideal S3584x1024 .bf16) (x8 : FVec Ideal S1x2048 .f32) (x9 : FVec Ideal S1x2048 .f32) (x10 : FVec Ideal S1x2048 .f32) (x11 : FVec Ideal S512x2048 .bf16) (x12 : FVec Ideal S512x2048 .bf16) (x17 : FVec Ideal S32x2048 .f32) (x18 : FVec Ideal S32x2048 .f32) (r : Fin 32) (n : Fin 2048) : out0_27 (F := Ideal) x0 x1 x2 x8 x9 x10 x11 x12 x17 x18 (ix2 r n) = k0_pay39 (F := Ideal) x0 x1 x2 x8 x9 x10 x11 x12 x17 x18 (ix2 r n) := by
  unfold out0_27
  generalize k0_pay39 (F := Ideal) x0 x1 x2 x8 x9 x10 x11 x12 x17 x18 = R
  canon_tiles y h
  obtain ⟨q, s, rfl⟩ : ∃ (q : Fin 32) (s : Fin 2048), y = ix2 q s := ⟨y 0, y 1, eq_ix2 y⟩
  obtain rfl : r = q := Fin.ext h0
  obtain rfl : n = s := Fin.ext h1
  rfl

theorem out28_apply (x0 : FVec Ideal S32x1024 .f32) (x1 : FVec Ideal S1x1024 .f32) (x2 : FVec Ideal S3584x1024 .bf16) (x8 : FVec Ideal S1x2048 .f32) (x9 : FVec Ideal S1x2048 .f32) (x10 : FVec Ideal S1x2048 .f32) (x11 : FVec Ideal S512x2048 .bf16) (x12 : FVec Ideal S512x2048 .bf16) (x17 : FVec Ideal S32x2048 .f32) (x18 : FVec Ideal S32x2048 .f32) (r : Fin 32) (n : Fin 2048) : out0_28 (F := Ideal) x0 x1 x2 x8 x9 x10 x11 x12 x17 x18 (ix2 r n) = k0_pay40 (F := Ideal) x0 x1 x2 x8 x9 x10 x11 x12 x17 x18 (ix2 r n) := by
  unfold out0_28
  generalize k0_pay40 (F := Ideal) x0 x1 x2 x8 x9 x10 x11 x12 x17 x18 = R
  canon_tiles y h
  obtain ⟨q, s, rfl⟩ : ∃ (q : Fin 32) (s : Fin 2048), y = ix2 q s := ⟨y 0, y 1, eq_ix2 y⟩
  obtain rfl : r = q := Fin.ext h0
  obtain rfl : n = s := Fin.ext h1
  rfl

/-- The mixed output as the body makes it. -/
def zk (U : FVec Ideal S32x512 .f32) (R I : FVec Ideal S32x2048 .f32) (x13 x14 : FVec Ideal S2048x512 .bf16) (x15 : FVec Ideal S1x512 .f32) (r : Fin 32) (l : Fin 512) : EReal :=
  (if l.val < 256 then (∑ k : Fin 1024, R (ix2 r ⟨k.val, by omega⟩) * x13 (ix2 ⟨k.val, by omega⟩ l)) - ∑ k : Fin 1024, I (ix2 r ⟨k.val, by omega⟩) * x14 (ix2 ⟨k.val, by omega⟩ l)
    else (∑ k : Fin 1024, R (ix2 r ⟨1024 + k.val, by omega⟩) * x13 (ix2 ⟨1024 + k.val, by omega⟩ l)) - ∑ k : Fin 1024, I (ix2 r ⟨1024 + k.val, by omega⟩) * x14 (ix2 ⟨1024 + k.val, by omega⟩ l))
  + x15 (ix2 0 l) * U (ix2 r l)

theorem z_apply (U : FVec Ideal S32x512 .f32) (R I : FVec Ideal S32x2048 .f32) (x13 x14 : FVec Ideal S2048x512 .bf16) (x15 : FVec Ideal S1x512 .f32) (r : Fin 32) (l : Fin 512) :
    k0_pay30 (F := Ideal) U R I (View.ld x15 r0_3) (View.ld x13 r0_18) (View.ld x14 r0_18) (View.ld x13 r0_19) (View.ld x14 r0_19) (ix2 r l) = zk U R I x13 x14 x15 r l := by
  unfold zk
  by_cases h : l.val < 256
  · rw [if_pos h]
    pointwise [k0_pay30]
    rw [dif_pos h]
  · rw [if_neg h]
    pointwise [k0_pay30]
    rw [dif_neg h]
    have e : (⟨256 + (l.val - 256), by omega⟩ : Fin 512) = l := Fin.ext (by show 256 + (l.val - 256) = l.val; omega)
    simp only [e]

theorem out26_apply (x0 : FVec Ideal S32x1024 .f32) (x1 : FVec Ideal S1x1024 .f32) (x2 : FVec Ideal S3584x1024 .bf16) (x8 : FVec Ideal S1x2048 .f32) (x9 : FVec Ideal S1x2048 .f32) (x10 : FVec Ideal S1x2048 .f32) (x11 : FVec Ideal S512x2048 .bf16) (x12 : FVec Ideal S512x2048 .bf16) (x13 : FVec Ideal S2048x512 .bf16) (x14 : FVec Ideal S2048x512 .bf16) (x15 : FVec Ideal S1x512 .f32) (x16 : FVec Ideal S512x512 .bf16) (x17 : FVec Ideal S32x2048 .f32) (x18 : FVec Ideal S32x2048 .f32) (r : Fin 32) (n : Fin 512) :
    out0_26 (F := Ideal) x0 x1 x2 x8 x9 x10 x11 x12 x13 x14 x15 x16 x17 x18 (ix2 r n) = gate (zk (k0_pay33 (F := Ideal) x0 x1 x2) (k0_pay39 (F := Ideal) x0 x1 x2 x8 x9 x10 x11 x12 x17 x18) (k0_pay40 (F := Ideal) x0 x1 x2 x8 x9 x10 x11 x12 x17 x18) x13 x14 x15 r) (fun x => x16 (ix2 x n)) n := by
  unfold out0_26
  generalize k0_pay33 (F := Ideal) x0 x1 x2 = U
  generalize k0_pay39 (F := Ideal) x0 x1 x2 x8 x9 x10 x11 x12 x17 x18 = R
  generalize k0_pay40 (F := Ideal) x0 x1 x2 x8 x9 x10 x11 x12 x17 x18 = I
  canon_tiles y h
  obtain ⟨q, s, rfl⟩ : ∃ (q : Fin 32) (s : Fin 512), y = ix2 q s := ⟨y 0, y 1, eq_ix2 y⟩
  obtain rfl : r = q := Fin.ext h0
  obtain rfl : n = s := Fin.ext h1
  have ez : zk U R I x13 x14 x15 r = fun l => k0_pay30 (F := Ideal) U R I (View.ld x15 r0_3) (View.ld x13 r0_18) (View.ld x14 r0_18) (View.ld x13 r0_19) (View.ld x14 r0_19) (ix2 r l) := funext fun l => (z_apply U R I x13 x14 x15 r l).symm
  rw [ez]
  unfold k0_pay31 k0_pay1
  generalize k0_pay30 (F := Ideal) U R I (View.ld x15 r0_3) (View.ld x13 r0_18) (View.ld x14 r0_18) (View.ld x13 r0_19) (View.ld x14 r0_19) = Z
  pointwise [gate, gel]

end Cert.Kernel4Ideal.DecodePre

end
-- ==== Proof.IpPay.lean ====
module

public import proofs.«01_k».proof.Proof.LayerModel
public import proofs.«01_k».proof.Proof.Gen.Kernel3Ideal.Value
public import Idealize.ShloMosaic.Lib.Pipeline.ValueKit
public import Idealize.ShloMosaic.Lib.Pointwise

@[expose] public section

set_option maxRecDepth 16384

noncomputable section

/-! The blocks of the projection launch. -/
namespace Cert.Kernel3Ideal.InProj

open Cert.Kernel3Ideal.Gen Cert.Layer
open Idealize.ShloMosaic Idealize.ShloMosaic.TcCoe Idealize.ShloMosaic.Tactic
open Idealize.SL Idealize.SL.Sem

theorem h_apply (x : FVec Ideal S1x512x1024 .f32) (g : FVec Ideal S1x1024 .f32) (r : Fin 512) (l : Fin 1024) :
    k0_pay5 (F := Ideal) x g (ix2 r l) = rms (fun k => x (ix3 0 r k)) (fun k => g (ix2 0 k)) l := by
  pointwise [k0_pay5, rms]

/-- The projected column `a + n` of row `r`. -/
def pj (h : FVec Ideal S512x1024 .bf16) (w : FVec Ideal S3584x1024 .bf16) (a : ℕ) (ha : a ≤ 3072) (r : Fin 512) (n : Fin 512) : EReal := dotp (fun k => h (ix2 r k)) (fun k => w (ix2 ⟨a + n.val, by omega⟩ k))

theorem out8_apply (x : FVec Ideal S1x512x1024 .f32) (g : FVec Ideal S1x1024 .f32) (w : FVec Ideal S3584x1024 .bf16) (wf : FVec Ideal S128x1024 .bf16) (b1 : FVec Ideal S8x1 .f32) (b2 : FVec Ideal S1x8 .f32) (q1 q2 : FVec Ideal S64x1 .f32) (n : Fin 512) (r : Fin 512) :
    out0_8 (F := Ideal) x g w wf b1 b2 q1 q2 (ix3 0 n r) = hnorm (fun i => pj (k0_pay5 (F := Ideal) x g) w 0 (by omega) r i) (fun e => q1 (ix2 e 0)) n * Ideal.ofBits .f32 1040187392#32 := by
  unfold out0_8 k0_pay6
  canon_tiles y h
  obtain ⟨p, q, s, rfl⟩ : ∃ (p : Fin 1) (q : Fin 512) (s : Fin 512), y = ix3 p q s := ⟨y 0, y 1, y 2, eq_ix3 y⟩
  obtain rfl : n = q := Fin.ext h1
  obtain rfl : r = s := Fin.ext h2
  have e : k0_pay5 (F := Ideal) (View.ld x r0_0) (View.ld g r0_1) = k0_pay5 (F := Ideal) x g := by
    funext j
    obtain ⟨i, k, rfl⟩ : ∃ (i : Fin 512) (k : Fin 1024), j = ix2 i k := ⟨j 0, j 1, eq_ix2 j⟩
    rw [h_apply]
    pointwise [k0_pay5, rms]
  rw [e]
  generalize k0_pay5 (F := Ideal) x g = H
  pointwise [k0_pay7, pj, dotp, hnorm]
  exact congrArg₂ (· * ·) (congrArg₂ (· * ·) (congrArg₂ (· * ·) (Finset.sum_congr rfl fun k _ => mul_comm _ _) (congrArg Ideal.rsqrt (congrArg₂ (· + ·) (congrArg₂ Ideal.div (Finset.sum_congr rfl fun e _ => congrArg₂ (· * ·) (Finset.sum_congr rfl fun k _ => mul_comm _ _) (Finset.sum_congr rfl fun k _ => mul_comm _ _)) rfl) rfl))) rfl) rfl

theorem out9_apply (x : FVec Ideal S1x512x1024 .f32) (g : FVec Ideal S1x1024 .f32) (w : FVec Ideal S3584x1024 .bf16) (wf : FVec Ideal S128x1024 .bf16) (b1 : FVec Ideal S8x1 .f32) (b2 : FVec Ideal S1x8 .f32) (q1 q2 : FVec Ideal S64x1 .f32) (n : Fin 512) (r : Fin 512) :
    out0_9 (F := Ideal) x g w wf b1 b2 q1 q2 (ix3 0 n r) = hnorm (fun i => pj (k0_pay5 (F := Ideal) x g) w 512 (by omega) r i) (fun e => q2 (ix2 e 0)) n := by
  unfold out0_9 k0_pay15
  canon_tiles y h
  obtain ⟨p, q, s, rfl⟩ : ∃ (p : Fin 1) (q : Fin 512) (s : Fin 512), y = ix3 p q s := ⟨y 0, y 1, y 2, eq_ix3 y⟩
  obtain rfl : n = q := Fin.ext h1
  obtain rfl : r = s := Fin.ext h2
  have e : k0_pay5 (F := Ideal) (View.ld x r0_0) (View.ld g r0_1) = k0_pay5 (F := Ideal) x g := by
    funext j
    obtain ⟨i, k, rfl⟩ : ∃ (i : Fin 512) (k : Fin 1024), j = ix2 i k := ⟨j 0, j 1, eq_ix2 j⟩
    rw [h_apply]
    pointwise [k0_pay5, rms]
  rw [e]
  generalize k0_pay5 (F := Ideal) x g = H
  pointwise [k0_pay8, pj, dotp, hnorm]
  exact congrArg₂ (· * ·) (congrArg₂ (· * ·) (Finset.sum_congr rfl fun k _ => mul_comm _ _) (congrArg Ideal.rsqrt (congrArg₂ (· + ·) (congrArg₂ Ideal.div (Finset.sum_congr rfl fun e _ => congrArg₂ (· * ·) (Finset.sum_congr rfl fun k _ => mul_comm _ _) (Finset.sum_congr rfl fun k _ => mul_comm _ _)) rfl) rfl))) rfl

theorem out10_apply (x : FVec Ideal S1x512x1024 .f32) (g : FVec Ideal S1x1024 .f32) (w : FVec Ideal S3584x1024 .bf16) (wf : FVec Ideal S128x1024 .bf16) (b1 : FVec Ideal S8x1 .f32) (b2 : FVec Ideal S1x8 .f32) (q1 q2 : FVec Ideal S64x1 .f32) (n : Fin 512) (r : Fin 512) :
    out0_10 (F := Ideal) x g w wf b1 b2 q1 q2 (ix3 0 n r) = pj (k0_pay5 (F := Ideal) x g) w 1024 (by omega) r n := by
  unfold out0_10 k0_pay15
  canon_tiles y h
  obtain ⟨p, q, s, rfl⟩ : ∃ (p : Fin 1) (q : Fin 512) (s : Fin 512), y = ix3 p q s := ⟨y 0, y 1, y 2, eq_ix3 y⟩
  obtain rfl : n = q := Fin.ext h1
  obtain rfl : r = s := Fin.ext h2
  have e : k0_pay5 (F := Ideal) (View.ld x r0_0) (View.ld g r0_1) = k0_pay5 (F := Ideal) x g := by
    funext j
    obtain ⟨i, k, rfl⟩ : ∃ (i : Fin 512) (k : Fin 1024), j = ix2 i k := ⟨j 0, j 1, eq_ix2 j⟩
    rw [h_apply]
    pointwise [k0_pay5, rms]
  rw [e]
  generalize k0_pay5 (F := Ideal) x g = H
  pointwise [k0_pay9, pj, dotp]
  exact Finset.sum_congr rfl fun k _ => mul_comm _ _

theorem out11_apply (x : FVec Ideal S1x512x1024 .f32) (g : FVec Ideal S1x1024 .f32) (w : FVec Ideal S3584x1024 .bf16) (wf : FVec Ideal S128x1024 .bf16) (b1 : FVec Ideal S8x1 .f32) (b2 : FVec Ideal S1x8 .f32) (q1 q2 : FVec Ideal S64x1 .f32) (n : Fin 8) (r : Fin 512) :
    out0_11 (F := Ideal) x g w wf b1 b2 q1 q2 (ix3 0 n r) = lsig (dotp (fun k => (k0_pay5 (F := Ideal) x g) (ix2 r k)) (fun k => wf (ix2 ⟨n.val, by omega⟩ k)) + b1 (ix2 n 0)) := by
  unfold out0_11 k0_pay15 k0_pay11
  canon_tiles y h
  obtain ⟨p, q, s, rfl⟩ : ∃ (p : Fin 1) (q : Fin 8) (s : Fin 512), y = ix3 p q s := ⟨y 0, y 1, y 2, eq_ix3 y⟩
  obtain rfl : n = q := Fin.ext h1
  obtain rfl : r = s := Fin.ext h2
  have e : k0_pay5 (F := Ideal) (View.ld x r0_0) (View.ld g r0_1) = k0_pay5 (F := Ideal) x g := by
    funext j
    obtain ⟨i, k, rfl⟩ : ∃ (i : Fin 512) (k : Fin 1024), j = ix2 i k := ⟨j 0, j 1, eq_ix2 j⟩
    rw [h_apply]
    pointwise [k0_pay5, rms]
  rw [e]
  generalize k0_pay5 (F := Ideal) x g = H
  pointwise [k0_pay12, k0_pay10, lsig, dotp]
  rw [zero_sub]
  exact congrArg lsig (congrArg₂ (· + ·) (Finset.sum_congr rfl fun k _ => mul_comm _ _) rfl)

theorem out12_apply (x : FVec Ideal S1x512x1024 .f32) (g : FVec Ideal S1x1024 .f32) (w : FVec Ideal S3584x1024 .bf16) (wf : FVec Ideal S128x1024 .bf16) (b1 : FVec Ideal S8x1 .f32) (b2 : FVec Ideal S1x8 .f32) (q1 q2 : FVec Ideal S64x1 .f32) (n : Fin 8) (r : Fin 512) :
    out0_12 (F := Ideal) x g w wf b1 b2 q1 q2 (ix3 0 r n) = lsig (dotp (fun k => (k0_pay5 (F := Ideal) x g) (ix2 r k)) (fun k => wf (ix2 ⟨n.val, by omega⟩ k)) + b2 (ix2 0 n)) := by
  unfold out0_12 k0_pay15
  canon_tiles y h
  obtain ⟨p, q, s, rfl⟩ : ∃ (p : Fin 1) (q : Fin 512) (s : Fin 8), y = ix3 p q s := ⟨y 0, y 1, y 2, eq_ix3 y⟩
  obtain rfl : r = q := Fin.ext h1
  obtain rfl : n = s := Fin.ext h2
  have e : k0_pay5 (F := Ideal) (View.ld x r0_0) (View.ld g r0_1) = k0_pay5 (F := Ideal) x g := by
    funext j
    obtain ⟨i, k, rfl⟩ : ∃ (i : Fin 512) (k : Fin 1024), j = ix2 i k := ⟨j 0, j 1, eq_ix2 j⟩
    rw [h_apply]
    pointwise [k0_pay5, rms]
  rw [e]
  generalize k0_pay5 (F := Ideal) x g = H
  pointwise [k0_pay13, k0_pay10, lsig, dotp]
  rw [zero_sub]
  rfl

theorem out13_apply (x : FVec Ideal S1x512x1024 .f32) (g : FVec Ideal S1x1024 .f32) (w : FVec Ideal S3584x1024 .bf16) (wf : FVec Ideal S128x1024 .bf16) (b1 : FVec Ideal S8x1 .f32) (b2 : FVec Ideal S1x8 .f32) (q1 q2 : FVec Ideal S64x1 .f32) (n : Fin 512) (r : Fin 512) :
    out0_13 (F := Ideal) x g w wf b1 b2 q1 q2 (ix3 0 n r) = pj (k0_pay5 (F := Ideal) x g) w 1536 (by omega) r n * Ideal.ofBits .f32 1040187392#32 := by
  unfold out0_13 k0_pay15
  canon_tiles y h
  obtain ⟨p, q, s, rfl⟩ : ∃ (p : Fin 1) (q : Fin 512) (s : Fin 512), y = ix3 p q s := ⟨y 0, y 1, y 2, eq_ix3 y⟩
  obtain rfl : n = q := Fin.ext h1
  obtain rfl : r = s := Fin.ext h2
  have e : k0_pay5 (F := Ideal) (View.ld x r0_0) (View.ld g r0_1) = k0_pay5 (F := Ideal) x g := by
    funext j
    obtain ⟨i, k, rfl⟩ : ∃ (i : Fin 512) (k : Fin 1024), j = ix2 i k := ⟨j 0, j 1, eq_ix2 j⟩
    rw [h_apply]
    pointwise [k0_pay5, rms]
  rw [e]
  generalize k0_pay5 (F := Ideal) x g = H
  pointwise [k0_pay1, k0_pay14, pj, dotp]
  exact congrArg₂ (· * ·) (Finset.sum_congr rfl fun k _ => mul_comm _ _) rfl

theorem out14_apply (x : FVec Ideal S1x512x1024 .f32) (g : FVec Ideal S1x1024 .f32) (w : FVec Ideal S3584x1024 .bf16) (wf : FVec Ideal S128x1024 .bf16) (b1 : FVec Ideal S8x1 .f32) (b2 : FVec Ideal S1x8 .f32) (q1 q2 : FVec Ideal S64x1 .f32) (n : Fin 512) (r : Fin 512) :
    out0_14 (F := Ideal) x g w wf b1 b2 q1 q2 (ix3 0 n r) = pj (k0_pay5 (F := Ideal) x g) w 2048 (by omega) r n := by
  unfold out0_14 k0_pay15
  canon_tiles y h
  obtain ⟨p, q, s, rfl⟩ : ∃ (p : Fin 1) (q : Fin 512) (s : Fin 512), y = ix3 p q s := ⟨y 0, y 1, y 2, eq_ix3 y⟩
  obtain rfl : n = q := Fin.ext h1
  obtain rfl : r = s := Fin.ext h2
  have e : k0_pay5 (F := Ideal) (View.ld x r0_0) (View.ld g r0_1) = k0_pay5 (F := Ideal) x g := by
    funext j
    obtain ⟨i, k, rfl⟩ : ∃ (i : Fin 512) (k : Fin 1024), j = ix2 i k := ⟨j 0, j 1, eq_ix2 j⟩
    rw [h_apply]
    pointwise [k0_pay5, rms]
  rw [e]
  generalize k0_pay5 (F := Ideal) x g = H
  pointwise [k0_pay2, pj, dotp]
  exact Finset.sum_congr rfl fun k _ => mul_comm _ _

theorem out15_apply (x : FVec Ideal S1x512x1024 .f32) (g : FVec Ideal S1x1024 .f32) (w : FVec Ideal S3584x1024 .bf16) (wf : FVec Ideal S128x1024 .bf16) (b1 : FVec Ideal S8x1 .f32) (b2 : FVec Ideal S1x8 .f32) (q1 q2 : FVec Ideal S64x1 .f32) (n : Fin 512) (r : Fin 512) :
    out0_15 (F := Ideal) x g w wf b1 b2 q1 q2 (ix3 0 n r) = pj (k0_pay5 (F := Ideal) x g) w 2560 (by omega) r n := by
  unfold out0_15 k0_pay15
  canon_tiles y h
  obtain ⟨p, q, s, rfl⟩ : ∃ (p : Fin 1) (q : Fin 512) (s : Fin 512), y = ix3 p q s := ⟨y 0, y 1, y 2, eq_ix3 y⟩
  obtain rfl : n = q := Fin.ext h1
  obtain rfl : r = s := Fin.ext h2
  have e : k0_pay5 (F := Ideal) (View.ld x r0_0) (View.ld g r0_1) = k0_pay5 (F := Ideal) x g := by
    funext j
    obtain ⟨i, k, rfl⟩ : ∃ (i : Fin 512) (k : Fin 1024), j = ix2 i k := ⟨j 0, j 1, eq_ix2 j⟩
    rw [h_apply]
    pointwise [k0_pay5, rms]
  rw [e]
  generalize k0_pay5 (F := Ideal) x g = H
  pointwise [k0_pay3, pj, dotp]
  exact Finset.sum_congr rfl fun k _ => mul_comm _ _

theorem out16_apply (x : FVec Ideal S1x512x1024 .f32) (g : FVec Ideal S1x1024 .f32) (w : FVec Ideal S3584x1024 .bf16) (wf : FVec Ideal S128x1024 .bf16) (b1 : FVec Ideal S8x1 .f32) (b2 : FVec Ideal S1x8 .f32) (q1 q2 : FVec Ideal S64x1 .f32) (n : Fin 512) (r : Fin 512) :
    out0_16 (F := Ideal) x g w wf b1 b2 q1 q2 (ix3 0 r n) = pj (k0_pay5 (F := Ideal) x g) w 3072 (by omega) r n := by
  unfold out0_16 k0_pay15
  canon_tiles y h
  obtain ⟨p, q, s, rfl⟩ : ∃ (p : Fin 1) (q : Fin 512) (s : Fin 512), y = ix3 p q s := ⟨y 0, y 1, y 2, eq_ix3 y⟩
  obtain rfl : r = q := Fin.ext h1
  obtain rfl : n = s := Fin.ext h2
  have e : k0_pay5 (F := Ideal) (View.ld x r0_0) (View.ld g r0_1) = k0_pay5 (F := Ideal) x g := by
    funext j
    obtain ⟨i, k, rfl⟩ : ∃ (i : Fin 512) (k : Fin 1024), j = ix2 i k := ⟨j 0, j 1, eq_ix2 j⟩
    rw [h_apply]
    pointwise [k0_pay5, rms]
  rw [e]
  generalize k0_pay5 (F := Ideal) x g = H
  pointwise [k0_pay4, pj, dotp]

end Cert.Kernel3Ideal.InProj

end
-- ==== Proof.IpRes.lean ====
module

public import proofs.«01_k».proof.Proof.IpPay

@[expose] public section

set_option maxRecDepth 16384

noncomputable section

/-! The arrays the projection launch leaves. -/
namespace Cert.Kernel3Ideal.InProj

open Cert.Kernel3Ideal.Gen Cert.Layer
open Idealize.ShloMosaic Idealize.ShloMosaic.TcCoe Idealize.ShloMosaic.Tactic
open Idealize.SL Idealize.SL.Sem

variable (m : (ℓ : Loc nD τ sig) → Buf (Elt Ideal) ℓ) (c : Dev nD)

/-- Argument 0 of the program. -/
abbrev ar0 : FVec Ideal S8x2048x1024 .f32 := m ((c.tc : Thread nD τ).loc main_arg0)

/-- Argument 1 of the program. -/
abbrev ar1 : FVec Ideal S1024 .f32 := m ((c.tc : Thread nD τ).loc main_arg1)

/-- Argument 2 of the program. -/
abbrev ar2 : FVec Ideal S1024x8200 .f32 := m ((c.tc : Thread nD τ).loc main_arg2)

/-- Argument 3 of the program. -/
abbrev ar3 : FVec Ideal S8 .f32 := m ((c.tc : Thread nD τ).loc main_arg3)

/-- Argument 4 of the program. -/
abbrev ar4 : FVec Ideal S64 .f32 := m ((c.tc : Thread nD τ).loc main_arg4)

/-- Argument 5 of the program. -/
abbrev ar5 : FVec Ideal S64 .f32 := m ((c.tc : Thread nD τ).loc main_arg5)

/-- The projection's weights, as the host gathers them. -/
def wq (x : FVec Ideal S1024x8200 .f32) : FVec Ideal S3584x1024 .bf16 :=
  truncf .bf16 (concatenate S3584x1024 0 [⟨S512x1024, extractStridedSlice S512x1024 ![0, 0] (transpose S8200x1024 [1, 0] x transposes_S1024x8200_S8200x1024_1_0) slices_S8200x1024_S512x1024_0_0⟩, ⟨S512x1024, extractStridedSlice S512x1024 ![512, 0] (transpose S8200x1024 [1, 0] x transposes_S1024x8200_S8200x1024_1_0) slices_S8200x1024_S512x1024_512_0⟩, ⟨S512x1024, extractStridedSlice S512x1024 ![1024, 0] (transpose S8200x1024 [1, 0] x transposes_S1024x8200_S8200x1024_1_0) slices_S8200x1024_S512x1024_1024_0⟩, ⟨S512x1024, extractStridedSlice S512x1024 ![2056, 0] (transpose S8200x1024 [1, 0] x transposes_S1024x8200_S8200x1024_1_0) slices_S8200x1024_S512x1024_2056_0⟩, ⟨S512x1024, extractStridedSlice S512x1024 ![2568, 0] (transpose S8200x1024 [1, 0] x transposes_S1024x8200_S8200x1024_1_0) slices_S8200x1024_S512x1024_2568_0⟩, ⟨S512x1024, extractStridedSlice S512x1024 ![3080, 0] (transpose S8200x1024 [1, 0] x transposes_S1024x8200_S8200x1024_1_0) slices_S8200x1024_S512x1024_3080_0⟩, ⟨S512x1024, extractStridedSlice S512x1024 ![4104, 0] (transpose S8200x1024 [1, 0] x transposes_S1024x8200_S8200x1024_1_0) slices_S8200x1024_S512x1024_4104_0⟩] concatenates_S512x1024_S512x1024_S512x1024_S512x1024_S512x1024_S512x1024_S512x1024_S3584x1024_d0 : FVec Ideal S3584x1024 .f32) bitsLt_bf16_f32

/-- The decay's weights, padded with rows of zeros. -/
def wd (x : FVec Ideal S1024x8200 .f32) : FVec Ideal S128x1024 .bf16 :=
  truncf .bf16 (concatenate S128x1024 0 [⟨S8x1024, extractStridedSlice S8x1024 ![1536, 0] (transpose S8200x1024 [1, 0] x transposes_S1024x8200_S8200x1024_1_0) slices_S8200x1024_S8x1024_1536_0⟩, ⟨S120x1024, broadcastInDim S120x1024 ![] bcast_S_S120x1024 (constant S_ .f32 0x00000000#32)⟩] concatenates_S8x1024_S120x1024_S128x1024_d0 : FVec Ideal S128x1024 .f32) bitsLt_bf16_f32

theorem V_v9 : V m c main_v9 = wq (ar2 m c) := by
  show StableHlo.after hostOps0 (fun b => m (c, b)) (Proc.devRef .tc main_v9) = _
  after_results
  try rfl

theorem V_v13 : V m c main_v13 = wd (ar2 m c) := by
  show StableHlo.after hostOps0 (fun b => m (c, b)) (Proc.devRef .tc main_v13) = _
  after_results
  try rfl

theorem V_v14 : V m c main_v14 = broadcastInDim S1x1024 ![1] bcast_S1024_S1x1024_1 (ar1 m c) := by
  show StableHlo.after hostOps0 (fun b => m (c, b)) (Proc.devRef .tc main_v14) = _
  after_results
  try rfl

theorem V_v15 : V m c main_v15 = broadcastInDim S8x1 ![0] bcast_S8_S8x1_0 (ar3 m c) := by
  show StableHlo.after hostOps0 (fun b => m (c, b)) (Proc.devRef .tc main_v15) = _
  after_results
  try rfl

theorem V_v16 : V m c main_v16 = broadcastInDim S1x8 ![1] bcast_S8_S1x8_1 (ar3 m c) := by
  show StableHlo.after hostOps0 (fun b => m (c, b)) (Proc.devRef .tc main_v16) = _
  after_results
  try rfl

theorem V_v17 : V m c main_v17 = broadcastInDim S64x1 ![0] bcast_S64_S64x1_0 (ar4 m c) := by
  show StableHlo.after hostOps0 (fun b => m (c, b)) (Proc.devRef .tc main_v17) = _
  after_results
  try rfl

theorem V_v18 : V m c main_v18 = broadcastInDim S64x1 ![0] bcast_S64_S64x1_0 (ar5 m c) := by
  show StableHlo.after hostOps0 (fun b => m (c, b)) (Proc.devRef .tc main_v18) = _
  after_results
  try rfl

theorem wq_apply0 (x : FVec Ideal S1024x8200 .f32) (j : Fin 512) (k : Fin 1024) : wq x (ix2 ⟨0 + j.val, by omega⟩ k) = x (ix2 k ⟨0 + j.val, by omega⟩) := by
  unfold wq
  pointwise

theorem wq_apply1 (x : FVec Ideal S1024x8200 .f32) (j : Fin 512) (k : Fin 1024) : wq x (ix2 ⟨512 + j.val, by omega⟩ k) = x (ix2 k ⟨512 + j.val, by omega⟩) := by
  unfold wq
  pointwise

theorem wq_apply2 (x : FVec Ideal S1024x8200 .f32) (j : Fin 512) (k : Fin 1024) : wq x (ix2 ⟨1024 + j.val, by omega⟩ k) = x (ix2 k ⟨1024 + j.val, by omega⟩) := by
  unfold wq
  pointwise
  rw [dif_neg (by omega), dif_neg (by omega), dif_pos (by omega)]
  exact congrArg x (congrArg (ix2 k) (Fin.ext (by show 1024 + (1024 + j.val - 512 - 512) = 1024 + j.val; omega)))

theorem wq_apply3 (x : FVec Ideal S1024x8200 .f32) (j : Fin 512) (k : Fin 1024) : wq x (ix2 ⟨1536 + j.val, by omega⟩ k) = x (ix2 k ⟨2056 + j.val, by omega⟩) := by
  unfold wq
  pointwise
  rw [dif_neg (by omega), dif_neg (by omega), dif_neg (by omega), dif_pos (by omega)]
  exact congrArg x (congrArg (ix2 k) (Fin.ext (by show 2056 + (1536 + j.val - 512 - 512 - 512) = 2056 + j.val; omega)))

theorem wq_apply4 (x : FVec Ideal S1024x8200 .f32) (j : Fin 512) (k : Fin 1024) : wq x (ix2 ⟨2048 + j.val, by omega⟩ k) = x (ix2 k ⟨2568 + j.val, by omega⟩) := by
  unfold wq
  pointwise
  rw [dif_neg (by omega), dif_neg (by omega), dif_neg (by omega), dif_neg (by omega), dif_pos (by omega)]
  exact congrArg x (congrArg (ix2 k) (Fin.ext (by show 2568 + (2048 + j.val - 512 - 512 - 512 - 512) = 2568 + j.val; omega)))

theorem wq_apply5 (x : FVec Ideal S1024x8200 .f32) (j : Fin 512) (k : Fin 1024) : wq x (ix2 ⟨2560 + j.val, by omega⟩ k) = x (ix2 k ⟨3080 + j.val, by omega⟩) := by
  unfold wq
  pointwise
  rw [dif_neg (by omega), dif_neg (by omega), dif_neg (by omega), dif_neg (by omega), dif_neg (by omega), dif_pos (by omega)]
  exact congrArg x (congrArg (ix2 k) (Fin.ext (by show 3080 + (2560 + j.val - 512 - 512 - 512 - 512 - 512) = 3080 + j.val; omega)))

theorem wq_apply6 (x : FVec Ideal S1024x8200 .f32) (j : Fin 512) (k : Fin 1024) : wq x (ix2 ⟨3072 + j.val, by omega⟩ k) = x (ix2 k ⟨4104 + j.val, by omega⟩) := by
  unfold wq
  pointwise
  rw [dif_neg (by omega), dif_neg (by omega), dif_neg (by omega), dif_neg (by omega), dif_neg (by omega), dif_neg (by omega)]
  exact congrArg x (congrArg (ix2 k) (Fin.ext (by show 4104 + (3072 + j.val - 512 - 512 - 512 - 512 - 512 - 512) = 4104 + j.val; omega)))

theorem wd_apply (x : FVec Ideal S1024x8200 .f32) (j : Fin 8) (k : Fin 1024) : wd x (ix2 ⟨j.val, by omega⟩ k) = x (ix2 k ⟨1536 + j.val, by omega⟩) := by
  unfold wd
  pointwise

theorem idx0 : ∀ t : Fin cfg0.N, win0_0.index t = ![t.val / 4, t.val % 4, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 4, 0, t.val % 4] := (by decide +kernel : ∀ t : Fin grid0.N, _)
theorem idx9 : ∀ t : Fin cfg0.N, win0_9.index t = ![t.val / 4, 0, t.val % 4] := (by decide +kernel : ∀ t : Fin grid0.N, _)
theorem idx10 : ∀ t : Fin cfg0.N, win0_10.index t = ![t.val / 4, 0, t.val % 4] := (by decide +kernel : ∀ t : Fin grid0.N, _)
theorem idx11 : ∀ t : Fin cfg0.N, win0_11.index t = ![t.val / 4, 0, t.val % 4] := (by decide +kernel : ∀ t : Fin grid0.N, _)
theorem idx12 : ∀ t : Fin cfg0.N, win0_12.index t = ![t.val / 4, t.val % 4, 0] := (by decide +kernel : ∀ t : Fin grid0.N, _)
theorem idx13 : ∀ t : Fin cfg0.N, win0_13.index t = ![t.val / 4, 0, t.val % 4] := (by decide +kernel : ∀ t : Fin grid0.N, _)
theorem idx14 : ∀ t : Fin cfg0.N, win0_14.index t = ![t.val / 4, 0, t.val % 4] := (by decide +kernel : ∀ t : Fin grid0.N, _)
theorem idx15 : ∀ t : Fin cfg0.N, win0_15.index t = ![t.val / 4, 0, t.val % 4] := (by decide +kernel : ∀ t : Fin grid0.N, _)
theorem idx16 : ∀ t : Fin cfg0.N, win0_16.index t = ![t.val / 4, t.val % 4, 0] := (by decide +kernel : ∀ t : Fin grid0.N, _)
/-- Window 0's block at a point. -/
abbrev in0 (t : Fin cfg0.N) : FVec Ideal S1x512x1024 .f32 := iblk m c 0 t
/-- Window 1's block at a point. -/
abbrev in1 (t : Fin cfg0.N) : FVec Ideal S1x1024 .f32 := iblk m c 1 t
/-- Window 2's block at a point. -/
abbrev in2 (t : Fin cfg0.N) : FVec Ideal S3584x1024 .bf16 := iblk m c 2 t
/-- Window 3's block at a point. -/
abbrev in3 (t : Fin cfg0.N) : FVec Ideal S128x1024 .bf16 := iblk m c 3 t
/-- Window 4's block at a point. -/
abbrev in4 (t : Fin cfg0.N) : FVec Ideal S8x1 .f32 := iblk m c 4 t
/-- Window 5's block at a point. -/
abbrev in5 (t : Fin cfg0.N) : FVec Ideal S1x8 .f32 := iblk m c 5 t
/-- Window 6's block at a point. -/
abbrev in6 (t : Fin cfg0.N) : FVec Ideal S64x1 .f32 := iblk m c 6 t
/-- Window 7's block at a point. -/
abbrev in7 (t : Fin cfg0.N) : FVec Ideal S64x1 .f32 := iblk m c 7 t

theorem in0_apply (t : Fin cfg0.N) (r : Fin 512) (k : Fin 1024) : in0 m c t (ix3 0 r k) = ar0 m c (ix3 ⟨t.val / 4 % 8, by omega⟩ ⟨512 * (t.val % 4) + r.val, by omega⟩ k) := by
  have ht : t.val < 32 := Nat.lt_of_lt_of_eq t.isLt N_0
  refine Eq.trans (show _ = V m c main_arg0 (((cfg0.win 0).blk t).view.emb (ix3 0 r k)) from rfl) ?_
  rw [V_main_arg0]
  refine congrArg (ar0 m c) ?_
  funext a; match a with
  | ⟨0, _⟩ => refine Fin.ext ?_; blk_simp [idx0 t]; show t.val / 4 = t.val / 4 % 8; omega
  | ⟨1, _⟩ => refine Fin.ext ?_; blk_simp [idx0 t]; show t.val % 4 * 512 + r.val = 512 * (t.val % 4) + r.val; omega
  | ⟨2, _⟩ => refine Fin.ext ?_; blk_simp [idx0 t]

theorem in1_eq (t : Fin cfg0.N) : in1 m c t = V m c main_v14 := by
  funext y
  show V m c main_v14 (((cfg0.win 1).blk t).view.emb y) = _
  refine congrArg (V m c main_v14) ?_
  funext a; match a with
  | ⟨0, _⟩ => refine Fin.ext ?_; blk_simp [idx1 t]
  | ⟨1, _⟩ => refine Fin.ext ?_; blk_simp [idx1 t]

theorem in2_eq (t : Fin cfg0.N) : in2 m c t = V m c main_v9 := by
  funext y
  show V m c main_v9 (((cfg0.win 2).blk t).view.emb y) = _
  refine congrArg (V m c main_v9) ?_
  funext a; match a with
  | ⟨0, _⟩ => refine Fin.ext ?_; blk_simp [idx2 t]
  | ⟨1, _⟩ => refine Fin.ext ?_; blk_simp [idx2 t]

theorem in3_eq (t : Fin cfg0.N) : in3 m c t = V m c main_v13 := by
  funext y
  show V m c main_v13 (((cfg0.win 3).blk t).view.emb y) = _
  refine congrArg (V m c main_v13) ?_
  funext a; match a with
  | ⟨0, _⟩ => refine Fin.ext ?_; blk_simp [idx3 t]
  | ⟨1, _⟩ => refine Fin.ext ?_; blk_simp [idx3 t]

theorem in4_eq (t : Fin cfg0.N) : in4 m c t = V m c main_v15 := by
  funext y
  show V m c main_v15 (((cfg0.win 4).blk t).view.emb y) = _
  refine congrArg (V m c main_v15) ?_
  funext a; match a with
  | ⟨0, _⟩ => refine Fin.ext ?_; blk_simp [idx4 t]
  | ⟨1, _⟩ => refine Fin.ext ?_; blk_simp [idx4 t]

theorem in5_eq (t : Fin cfg0.N) : in5 m c t = V m c main_v16 := by
  funext y
  show V m c main_v16 (((cfg0.win 5).blk t).view.emb y) = _
  refine congrArg (V m c main_v16) ?_
  funext a; match a with
  | ⟨0, _⟩ => refine Fin.ext ?_; blk_simp [idx5 t]
  | ⟨1, _⟩ => refine Fin.ext ?_; blk_simp [idx5 t]

theorem in6_eq (t : Fin cfg0.N) : in6 m c t = V m c main_v17 := by
  funext y
  show V m c main_v17 (((cfg0.win 6).blk t).view.emb y) = _
  refine congrArg (V m c main_v17) ?_
  funext a; match a with
  | ⟨0, _⟩ => refine Fin.ext ?_; blk_simp [idx6 t]
  | ⟨1, _⟩ => refine Fin.ext ?_; blk_simp [idx6 t]

theorem in7_eq (t : Fin cfg0.N) : in7 m c t = V m c main_v18 := by
  funext y
  show V m c main_v18 (((cfg0.win 7).blk t).view.emb y) = _
  refine congrArg (V m c main_v18) ?_
  funext a; match a with
  | ⟨0, _⟩ => refine Fin.ext ?_; blk_simp [idx7 t]
  | ⟨1, _⟩ => refine Fin.ext ?_; blk_simp [idx7 t]

/-- Result 0 of the launch. -/
def G8 : FVec Ideal S8x512x2048 .bf16 := fun j => hnorm (fun i => pcol (fun k => ar0 m c (ix3 (j 0) (j 2) k)) (fun k => ar1 m c (ix1 k)) (fun n k => ar2 m c (ix2 k n)) 0 (by omega) i) (fun e => ar4 m c (ix1 e)) (j 1) * Ideal.ofBits .f32 1040187392#32

/-- Result 1 of the launch. -/
def G9 : FVec Ideal S8x512x2048 .f32 := fun j => hnorm (fun i => pcol (fun k => ar0 m c (ix3 (j 0) (j 2) k)) (fun k => ar1 m c (ix1 k)) (fun n k => ar2 m c (ix2 k n)) 512 (by omega) i) (fun e => ar5 m c (ix1 e)) (j 1)

/-- Result 2 of the launch. -/
def G10 : FVec Ideal S8x512x2048 .f32 := fun j => pcol (fun k => ar0 m c (ix3 (j 0) (j 2) k)) (fun k => ar1 m c (ix1 k)) (fun n k => ar2 m c (ix2 k n)) 1024 (by omega) (j 1)

/-- Result 3 of the launch. -/
def G11 : FVec Ideal S8x8x2048 .f32 := fun j => decay (fun k => ar0 m c (ix3 (j 0) (j 2) k)) (fun k => ar1 m c (ix1 k)) (fun n k => ar2 m c (ix2 k n)) (fun i => ar3 m c (ix1 i)) (j 1)

/-- Result 4 of the launch. -/
def G12 : FVec Ideal S8x2048x8 .f32 := fun j => decay (fun k => ar0 m c (ix3 (j 0) (j 1) k)) (fun k => ar1 m c (ix1 k)) (fun n k => ar2 m c (ix2 k n)) (fun i => ar3 m c (ix1 i)) (j 2)

/-- Result 5 of the launch. -/
def G13 : FVec Ideal S8x512x2048 .bf16 := fun j => pcol (fun k => ar0 m c (ix3 (j 0) (j 2) k)) (fun k => ar1 m c (ix1 k)) (fun n k => ar2 m c (ix2 k n)) 2056 (by omega) (j 1) * Ideal.ofBits .f32 1040187392#32

/-- Result 6 of the launch. -/
def G14 : FVec Ideal S8x512x2048 .f32 := fun j => pcol (fun k => ar0 m c (ix3 (j 0) (j 2) k)) (fun k => ar1 m c (ix1 k)) (fun n k => ar2 m c (ix2 k n)) 2568 (by omega) (j 1)

/-- Result 7 of the launch. -/
def G15 : FVec Ideal S8x512x2048 .f32 := fun j => pcol (fun k => ar0 m c (ix3 (j 0) (j 2) k)) (fun k => ar1 m c (ix1 k)) (fun n k => ar2 m c (ix2 k n)) 3080 (by omega) (j 1)

/-- Result 8 of the launch. -/
def G16 : FVec Ideal S8x2048x512 .f32 := fun j => pcol (fun k => ar0 m c (ix3 (j 0) (j 1) k)) (fun k => ar1 m c (ix1 k)) (fun n k => ar2 m c (ix2 k n)) 4104 (by omega) (j 2)

theorem h_row (t : Fin cfg0.N) (r : Fin 512) : (fun k => k0_pay5 (F := Ideal) (in0 m c t) (in1 m c t) (ix2 r k)) = rms (fun k => ar0 m c (ix3 ⟨t.val / 4 % 8, by omega⟩ ⟨512 * (t.val % 4) + r.val, by omega⟩ k)) (fun k => ar1 m c (ix1 k)) := by
  funext k
  refine (h_apply _ _ r k).trans ?_
  have eg : (fun k => in1 m c t (ix2 0 k)) = fun k => ar1 m c (ix1 k) := by
    funext k
    rw [in1_eq, V_v14]
    pointwise
  rw [eg]
  simp only [in0_apply]

theorem pj0 (t : Fin cfg0.N) (r n : Fin 512) : pj (k0_pay5 (F := Ideal) (in0 m c t) (in1 m c t)) (in2 m c t) 0 (by omega) r n = pcol (fun k => ar0 m c (ix3 ⟨t.val / 4 % 8, by omega⟩ ⟨512 * (t.val % 4) + r.val, by omega⟩ k)) (fun k => ar1 m c (ix1 k)) (fun n k => ar2 m c (ix2 k n)) 0 (by omega) n := by
  unfold pj pcol
  rw [h_row, in2_eq, V_v9]
  exact congrArg _ (funext fun k => wq_apply0 _ n k)

theorem pj1 (t : Fin cfg0.N) (r n : Fin 512) : pj (k0_pay5 (F := Ideal) (in0 m c t) (in1 m c t)) (in2 m c t) 512 (by omega) r n = pcol (fun k => ar0 m c (ix3 ⟨t.val / 4 % 8, by omega⟩ ⟨512 * (t.val % 4) + r.val, by omega⟩ k)) (fun k => ar1 m c (ix1 k)) (fun n k => ar2 m c (ix2 k n)) 512 (by omega) n := by
  unfold pj pcol
  rw [h_row, in2_eq, V_v9]
  exact congrArg _ (funext fun k => wq_apply1 _ n k)

theorem pj2 (t : Fin cfg0.N) (r n : Fin 512) : pj (k0_pay5 (F := Ideal) (in0 m c t) (in1 m c t)) (in2 m c t) 1024 (by omega) r n = pcol (fun k => ar0 m c (ix3 ⟨t.val / 4 % 8, by omega⟩ ⟨512 * (t.val % 4) + r.val, by omega⟩ k)) (fun k => ar1 m c (ix1 k)) (fun n k => ar2 m c (ix2 k n)) 1024 (by omega) n := by
  unfold pj pcol
  rw [h_row, in2_eq, V_v9]
  exact congrArg _ (funext fun k => wq_apply2 _ n k)

theorem pj3 (t : Fin cfg0.N) (r n : Fin 512) : pj (k0_pay5 (F := Ideal) (in0 m c t) (in1 m c t)) (in2 m c t) 1536 (by omega) r n = pcol (fun k => ar0 m c (ix3 ⟨t.val / 4 % 8, by omega⟩ ⟨512 * (t.val % 4) + r.val, by omega⟩ k)) (fun k => ar1 m c (ix1 k)) (fun n k => ar2 m c (ix2 k n)) 2056 (by omega) n := by
  unfold pj pcol
  rw [h_row, in2_eq, V_v9]
  exact congrArg _ (funext fun k => wq_apply3 _ n k)

theorem pj4 (t : Fin cfg0.N) (r n : Fin 512) : pj (k0_pay5 (F := Ideal) (in0 m c t) (in1 m c t)) (in2 m c t) 2048 (by omega) r n = pcol (fun k => ar0 m c (ix3 ⟨t.val / 4 % 8, by omega⟩ ⟨512 * (t.val % 4) + r.val, by omega⟩ k)) (fun k => ar1 m c (ix1 k)) (fun n k => ar2 m c (ix2 k n)) 2568 (by omega) n := by
  unfold pj pcol
  rw [h_row, in2_eq, V_v9]
  exact congrArg _ (funext fun k => wq_apply4 _ n k)

theorem pj5 (t : Fin cfg0.N) (r n : Fin 512) : pj (k0_pay5 (F := Ideal) (in0 m c t) (in1 m c t)) (in2 m c t) 2560 (by omega) r n = pcol (fun k => ar0 m c (ix3 ⟨t.val / 4 % 8, by omega⟩ ⟨512 * (t.val % 4) + r.val, by omega⟩ k)) (fun k => ar1 m c (ix1 k)) (fun n k => ar2 m c (ix2 k n)) 3080 (by omega) n := by
  unfold pj pcol
  rw [h_row, in2_eq, V_v9]
  exact congrArg _ (funext fun k => wq_apply5 _ n k)

theorem pj6 (t : Fin cfg0.N) (r n : Fin 512) : pj (k0_pay5 (F := Ideal) (in0 m c t) (in1 m c t)) (in2 m c t) 3072 (by omega) r n = pcol (fun k => ar0 m c (ix3 ⟨t.val / 4 % 8, by omega⟩ ⟨512 * (t.val % 4) + r.val, by omega⟩ k)) (fun k => ar1 m c (ix1 k)) (fun n k => ar2 m c (ix2 k n)) 4104 (by omega) n := by
  unfold pj pcol
  rw [h_row, in2_eq, V_v9]
  exact congrArg _ (funext fun k => wq_apply6 _ n k)

theorem ff (t : Fin cfg0.N) (r : Fin 512) (n : Fin 8) : dotp (fun k => k0_pay5 (F := Ideal) (in0 m c t) (in1 m c t) (ix2 r k)) (fun k => in3 m c t (ix2 ⟨n.val, by omega⟩ k)) = dotp (rms (fun k => ar0 m c (ix3 ⟨t.val / 4 % 8, by omega⟩ ⟨512 * (t.val % 4) + r.val, by omega⟩ k)) (fun k => ar1 m c (ix1 k))) (fun k => ar2 m c (ix2 k ⟨1536 + n.val, by omega⟩)) := by
  rw [h_row, in3_eq, V_v13]
  exact congrArg _ (funext fun k => wd_apply _ n k)
theorem b_col (t : Fin cfg0.N) (n : Fin 8) : in4 m c t (ix2 n 0) = ar3 m c (ix1 n) := by
  rw [in4_eq, V_v15]
  pointwise
theorem b_row (t : Fin cfg0.N) (n : Fin 8) : in5 m c t (ix2 0 n) = ar3 m c (ix1 n) := by
  rw [in5_eq, V_v16]
  pointwise
theorem q_col (t : Fin cfg0.N) (n : Fin 64) : in6 m c t (ix2 n 0) = ar4 m c (ix1 n) := by
  rw [in6_eq, V_v17]
  pointwise
theorem k_col (t : Fin cfg0.N) (n : Fin 64) : in7 m c t (ix2 n 0) = ar5 m c (ix1 n) := by
  rw [in7_eq, V_v18]
  pointwise

theorem o8_apply (t : Fin cfg0.N) (n : Fin 512) (r : Fin 512) :
    out0_8 (F := Ideal) (in0 m c t) (in1 m c t) (in2 m c t) (in3 m c t) (in4 m c t) (in5 m c t) (in6 m c t) (in7 m c t) (ix3 0 n r) = G8 m c (ix3 ⟨t.val / 4 % 8, by omega⟩ n ⟨512 * (t.val % 4) + r.val, by omega⟩) := by
  refine (out8_apply _ _ _ _ _ _ _ _ n r).trans ?_
  exact congrArg₂ (· * ·) (congrArg₂ (fun z g => hnorm z g n) (funext fun i => pj0 m c t r i) (funext fun e => q_col m c t e)) rfl

theorem final8 : (dats m 0 c).arrAt 8 cfg0.N = G8 m c := by
  refine (dats m 0 c).arrAt_eq_of_covers 8 _ (by decide +kernel) fun t hf y => ?_
  have ht : t.val < 32 := Nat.lt_of_lt_of_eq t.isLt N_0
  show (dats m 0 c).after 8 t y = _
  rw [after0_8]
  obtain ⟨p, n, r, rfl⟩ : ∃ (p : Fin 1) (n : Fin 512) (r : Fin 512), y = ix3 p n r := ⟨y 0, y 1, y 2, eq_ix3 y⟩
  obtain rfl : p = 0 := Subsingleton.elim _ _
  refine (o8_apply m c t n r).trans (congrArg (G8 m c) ?_)
  funext a; match a with
  | ⟨0, _⟩ => refine Fin.ext ?_; blk_simp [idx8 t]; show t.val / 4 % 8 = _; omega
  | ⟨1, _⟩ => refine Fin.ext ?_; blk_simp [idx8 t]
  | ⟨2, _⟩ => refine Fin.ext ?_; blk_simp [idx8 t]; show 512 * (t.val % 4) + r.val = _; omega

theorem o9_apply (t : Fin cfg0.N) (n : Fin 512) (r : Fin 512) :
    out0_9 (F := Ideal) (in0 m c t) (in1 m c t) (in2 m c t) (in3 m c t) (in4 m c t) (in5 m c t) (in6 m c t) (in7 m c t) (ix3 0 n r) = G9 m c (ix3 ⟨t.val / 4 % 8, by omega⟩ n ⟨512 * (t.val % 4) + r.val, by omega⟩) := by
  refine (out9_apply _ _ _ _ _ _ _ _ n r).trans ?_
  exact congrArg₂ (fun z g => hnorm z g n) (funext fun i => pj1 m c t r i) (funext fun e => k_col m c t e)

theorem final9 : (dats m 0 c).arrAt 9 cfg0.N = G9 m c := by
  refine (dats m 0 c).arrAt_eq_of_covers 9 _ (by decide +kernel) fun t hf y => ?_
  have ht : t.val < 32 := Nat.lt_of_lt_of_eq t.isLt N_0
  show (dats m 0 c).after 9 t y = _
  rw [after0_9]
  obtain ⟨p, n, r, rfl⟩ : ∃ (p : Fin 1) (n : Fin 512) (r : Fin 512), y = ix3 p n r := ⟨y 0, y 1, y 2, eq_ix3 y⟩
  obtain rfl : p = 0 := Subsingleton.elim _ _
  refine (o9_apply m c t n r).trans (congrArg (G9 m c) ?_)
  funext a; match a with
  | ⟨0, _⟩ => refine Fin.ext ?_; blk_simp [idx9 t]; show t.val / 4 % 8 = _; omega
  | ⟨1, _⟩ => refine Fin.ext ?_; blk_simp [idx9 t]
  | ⟨2, _⟩ => refine Fin.ext ?_; blk_simp [idx9 t]; show 512 * (t.val % 4) + r.val = _; omega

theorem o10_apply (t : Fin cfg0.N) (n : Fin 512) (r : Fin 512) :
    out0_10 (F := Ideal) (in0 m c t) (in1 m c t) (in2 m c t) (in3 m c t) (in4 m c t) (in5 m c t) (in6 m c t) (in7 m c t) (ix3 0 n r) = G10 m c (ix3 ⟨t.val / 4 % 8, by omega⟩ n ⟨512 * (t.val % 4) + r.val, by omega⟩) := by
  refine (out10_apply _ _ _ _ _ _ _ _ n r).trans ?_
  exact pj2 m c t r n

theorem final10 : (dats m 0 c).arrAt 10 cfg0.N = G10 m c := by
  refine (dats m 0 c).arrAt_eq_of_covers 10 _ (by decide +kernel) fun t hf y => ?_
  have ht : t.val < 32 := Nat.lt_of_lt_of_eq t.isLt N_0
  show (dats m 0 c).after 10 t y = _
  rw [after0_10]
  obtain ⟨p, n, r, rfl⟩ : ∃ (p : Fin 1) (n : Fin 512) (r : Fin 512), y = ix3 p n r := ⟨y 0, y 1, y 2, eq_ix3 y⟩
  obtain rfl : p = 0 := Subsingleton.elim _ _
  refine (o10_apply m c t n r).trans (congrArg (G10 m c) ?_)
  funext a; match a with
  | ⟨0, _⟩ => refine Fin.ext ?_; blk_simp [idx10 t]; show t.val / 4 % 8 = _; omega
  | ⟨1, _⟩ => refine Fin.ext ?_; blk_simp [idx10 t]
  | ⟨2, _⟩ => refine Fin.ext ?_; blk_simp [idx10 t]; show 512 * (t.val % 4) + r.val = _; omega

theorem o11_apply (t : Fin cfg0.N) (n : Fin 8) (r : Fin 512) :
    out0_11 (F := Ideal) (in0 m c t) (in1 m c t) (in2 m c t) (in3 m c t) (in4 m c t) (in5 m c t) (in6 m c t) (in7 m c t) (ix3 0 n r) = G11 m c (ix3 ⟨t.val / 4 % 8, by omega⟩ n ⟨512 * (t.val % 4) + r.val, by omega⟩) := by
  refine (out11_apply _ _ _ _ _ _ _ _ n r).trans ?_
  exact congrArg lsig (congrArg₂ (· + ·) (ff m c t r n) (b_col m c t n))

theorem final11 : (dats m 0 c).arrAt 11 cfg0.N = G11 m c := by
  refine (dats m 0 c).arrAt_eq_of_covers 11 _ (by decide +kernel) fun t hf y => ?_
  have ht : t.val < 32 := Nat.lt_of_lt_of_eq t.isLt N_0
  show (dats m 0 c).after 11 t y = _
  rw [after0_11]
  obtain ⟨p, n, r, rfl⟩ : ∃ (p : Fin 1) (n : Fin 8) (r : Fin 512), y = ix3 p n r := ⟨y 0, y 1, y 2, eq_ix3 y⟩
  obtain rfl : p = 0 := Subsingleton.elim _ _
  refine (o11_apply m c t n r).trans (congrArg (G11 m c) ?_)
  funext a; match a with
  | ⟨0, _⟩ => refine Fin.ext ?_; blk_simp [idx11 t]; show t.val / 4 % 8 = _; omega
  | ⟨1, _⟩ => refine Fin.ext ?_; blk_simp [idx11 t]
  | ⟨2, _⟩ => refine Fin.ext ?_; blk_simp [idx11 t]; show 512 * (t.val % 4) + r.val = _; omega

theorem o12_apply (t : Fin cfg0.N) (n : Fin 8) (r : Fin 512) :
    out0_12 (F := Ideal) (in0 m c t) (in1 m c t) (in2 m c t) (in3 m c t) (in4 m c t) (in5 m c t) (in6 m c t) (in7 m c t) (ix3 0 r n) = G12 m c (ix3 ⟨t.val / 4 % 8, by omega⟩ ⟨512 * (t.val % 4) + r.val, by omega⟩ n) := by
  refine (out12_apply _ _ _ _ _ _ _ _ n r).trans ?_
  exact congrArg lsig (congrArg₂ (· + ·) (ff m c t r n) (b_row m c t n))

theorem final12 : (dats m 0 c).arrAt 12 cfg0.N = G12 m c := by
  refine (dats m 0 c).arrAt_eq_of_covers 12 _ (by decide +kernel) fun t hf y => ?_
  have ht : t.val < 32 := Nat.lt_of_lt_of_eq t.isLt N_0
  show (dats m 0 c).after 12 t y = _
  rw [after0_12]
  obtain ⟨p, r, n, rfl⟩ : ∃ (p : Fin 1) (r : Fin 512) (n : Fin 8), y = ix3 p r n := ⟨y 0, y 1, y 2, eq_ix3 y⟩
  obtain rfl : p = 0 := Subsingleton.elim _ _
  refine (o12_apply m c t n r).trans (congrArg (G12 m c) ?_)
  funext a; match a with
  | ⟨0, _⟩ => refine Fin.ext ?_; blk_simp [idx12 t]; show t.val / 4 % 8 = _; omega
  | ⟨1, _⟩ => refine Fin.ext ?_; blk_simp [idx12 t]; show 512 * (t.val % 4) + r.val = _; omega
  | ⟨2, _⟩ => refine Fin.ext ?_; blk_simp [idx12 t]

theorem o13_apply (t : Fin cfg0.N) (n : Fin 512) (r : Fin 512) :
    out0_13 (F := Ideal) (in0 m c t) (in1 m c t) (in2 m c t) (in3 m c t) (in4 m c t) (in5 m c t) (in6 m c t) (in7 m c t) (ix3 0 n r) = G13 m c (ix3 ⟨t.val / 4 % 8, by omega⟩ n ⟨512 * (t.val % 4) + r.val, by omega⟩) := by
  refine (out13_apply _ _ _ _ _ _ _ _ n r).trans ?_
  exact congrArg₂ (· * ·) (pj3 m c t r n) rfl

theorem final13 : (dats m 0 c).arrAt 13 cfg0.N = G13 m c := by
  refine (dats m 0 c).arrAt_eq_of_covers 13 _ (by decide +kernel) fun t hf y => ?_
  have ht : t.val < 32 := Nat.lt_of_lt_of_eq t.isLt N_0
  show (dats m 0 c).after 13 t y = _
  rw [after0_13]
  obtain ⟨p, n, r, rfl⟩ : ∃ (p : Fin 1) (n : Fin 512) (r : Fin 512), y = ix3 p n r := ⟨y 0, y 1, y 2, eq_ix3 y⟩
  obtain rfl : p = 0 := Subsingleton.elim _ _
  refine (o13_apply m c t n r).trans (congrArg (G13 m c) ?_)
  funext a; match a with
  | ⟨0, _⟩ => refine Fin.ext ?_; blk_simp [idx13 t]; show t.val / 4 % 8 = _; omega
  | ⟨1, _⟩ => refine Fin.ext ?_; blk_simp [idx13 t]
  | ⟨2, _⟩ => refine Fin.ext ?_; blk_simp [idx13 t]; show 512 * (t.val % 4) + r.val = _; omega

theorem o14_apply (t : Fin cfg0.N) (n : Fin 512) (r : Fin 512) :
    out0_14 (F := Ideal) (in0 m c t) (in1 m c t) (in2 m c t) (in3 m c t) (in4 m c t) (in5 m c t) (in6 m c t) (in7 m c t) (ix3 0 n r) = G14 m c (ix3 ⟨t.val / 4 % 8, by omega⟩ n ⟨512 * (t.val % 4) + r.val, by omega⟩) := by
  refine (out14_apply _ _ _ _ _ _ _ _ n r).trans ?_
  exact pj4 m c t r n

theorem final14 : (dats m 0 c).arrAt 14 cfg0.N = G14 m c := by
  refine (dats m 0 c).arrAt_eq_of_covers 14 _ (by decide +kernel) fun t hf y => ?_
  have ht : t.val < 32 := Nat.lt_of_lt_of_eq t.isLt N_0
  show (dats m 0 c).after 14 t y = _
  rw [after0_14]
  obtain ⟨p, n, r, rfl⟩ : ∃ (p : Fin 1) (n : Fin 512) (r : Fin 512), y = ix3 p n r := ⟨y 0, y 1, y 2, eq_ix3 y⟩
  obtain rfl : p = 0 := Subsingleton.elim _ _
  refine (o14_apply m c t n r).trans (congrArg (G14 m c) ?_)
  funext a; match a with
  | ⟨0, _⟩ => refine Fin.ext ?_; blk_simp [idx14 t]; show t.val / 4 % 8 = _; omega
  | ⟨1, _⟩ => refine Fin.ext ?_; blk_simp [idx14 t]
  | ⟨2, _⟩ => refine Fin.ext ?_; blk_simp [idx14 t]; show 512 * (t.val % 4) + r.val = _; omega

theorem o15_apply (t : Fin cfg0.N) (n : Fin 512) (r : Fin 512) :
    out0_15 (F := Ideal) (in0 m c t) (in1 m c t) (in2 m c t) (in3 m c t) (in4 m c t) (in5 m c t) (in6 m c t) (in7 m c t) (ix3 0 n r) = G15 m c (ix3 ⟨t.val / 4 % 8, by omega⟩ n ⟨512 * (t.val % 4) + r.val, by omega⟩) := by
  refine (out15_apply _ _ _ _ _ _ _ _ n r).trans ?_
  exact pj5 m c t r n

theorem final15 : (dats m 0 c).arrAt 15 cfg0.N = G15 m c := by
  refine (dats m 0 c).arrAt_eq_of_covers 15 _ (by decide +kernel) fun t hf y => ?_
  have ht : t.val < 32 := Nat.lt_of_lt_of_eq t.isLt N_0
  show (dats m 0 c).after 15 t y = _
  rw [after0_15]
  obtain ⟨p, n, r, rfl⟩ : ∃ (p : Fin 1) (n : Fin 512) (r : Fin 512), y = ix3 p n r := ⟨y 0, y 1, y 2, eq_ix3 y⟩
  obtain rfl : p = 0 := Subsingleton.elim _ _
  refine (o15_apply m c t n r).trans (congrArg (G15 m c) ?_)
  funext a; match a with
  | ⟨0, _⟩ => refine Fin.ext ?_; blk_simp [idx15 t]; show t.val / 4 % 8 = _; omega
  | ⟨1, _⟩ => refine Fin.ext ?_; blk_simp [idx15 t]
  | ⟨2, _⟩ => refine Fin.ext ?_; blk_simp [idx15 t]; show 512 * (t.val % 4) + r.val = _; omega

theorem o16_apply (t : Fin cfg0.N) (n : Fin 512) (r : Fin 512) :
    out0_16 (F := Ideal) (in0 m c t) (in1 m c t) (in2 m c t) (in3 m c t) (in4 m c t) (in5 m c t) (in6 m c t) (in7 m c t) (ix3 0 r n) = G16 m c (ix3 ⟨t.val / 4 % 8, by omega⟩ ⟨512 * (t.val % 4) + r.val, by omega⟩ n) := by
  refine (out16_apply _ _ _ _ _ _ _ _ n r).trans ?_
  exact pj6 m c t r n

theorem final16 : (dats m 0 c).arrAt 16 cfg0.N = G16 m c := by
  refine (dats m 0 c).arrAt_eq_of_covers 16 _ (by decide +kernel) fun t hf y => ?_
  have ht : t.val < 32 := Nat.lt_of_lt_of_eq t.isLt N_0
  show (dats m 0 c).after 16 t y = _
  rw [after0_16]
  obtain ⟨p, r, n, rfl⟩ : ∃ (p : Fin 1) (r : Fin 512) (n : Fin 512), y = ix3 p r n := ⟨y 0, y 1, y 2, eq_ix3 y⟩
  obtain rfl : p = 0 := Subsingleton.elim _ _
  refine (o16_apply m c t n r).trans (congrArg (G16 m c) ?_)
  funext a; match a with
  | ⟨0, _⟩ => refine Fin.ext ?_; blk_simp [idx16 t]; show t.val / 4 % 8 = _; omega
  | ⟨1, _⟩ => refine Fin.ext ?_; blk_simp [idx16 t]; show 512 * (t.val % 4) + r.val = _; omega
  | ⟨2, _⟩ => refine Fin.ext ?_; blk_simp [idx16 t]

end Cert.Kernel3Ideal.InProj

end
-- ==== Proof.DpRes.lean ====
module

public import proofs.«01_k».proof.Proof.DpPay
public import proofs.«01_k».proof.Proof.IpRes

@[expose] public section

set_option maxRecDepth 16384

noncomputable section

/-! The arrays the decoded rows' launch leaves. -/
namespace Cert.Kernel4Ideal.DecodePre

open Cert.Kernel4Ideal.Gen Cert.Layer
open Cert.KernelIdeal.Ssm (lbR lbI cfR cfI gel gate blkB blkC blkB_on blkB_off blkC_on blkC_off sum_block)
open Cert.Kernel3Ideal.InProj (wq wd wq_apply0 wq_apply1 wq_apply2 wq_apply3 wq_apply4 wq_apply5 wq_apply6 wd_apply)
open Idealize.ShloMosaic Idealize.ShloMosaic.TcCoe Idealize.ShloMosaic.Tactic
open Idealize.SL Idealize.SL.Sem

/-- The unit matrix of the heads, as the host makes it. -/
def eye8 : FVec Ideal S8x8 .f32 :=
  uitofp .f32 (cmpi .eq (addi (iotaInDim S8x8 32 0) (broadcastInDim S8x8 ![] bcast_S_S8x8 (constantI S_ 32 0#32))) (iotaInDim S8x8 32 1))

/-- Blocks of sixty-fourths on the diagonal. -/
def hm : FVec Ideal S512x512 .f32 :=
  shapeCast S512x512 (mulf (broadcastInDim S8x64x8x64 ![0, 1, 2, 3] bcast_S8x64x1x64_S8x64x8x64_0_1_2_3 (broadcastInDim S8x64x1x64 ![0, 1, 3] bcast_S8x64x64_S8x64x1x64_0_1_3 (broadcastInDim S8x64x64 ![] bcast_S_S8x64x64 (constant S_ .f32 0x3C800000#32))))
    (broadcastInDim S8x64x8x64 ![0, 1, 2, 3] bcast_S8x1x8x1_S8x64x8x64_0_1_2_3 (broadcastInDim S8x1x8x1 ![0, 2] bcast_S8x8_S8x1x8x1_0_2 eye8))) shapeCasts_S8x64x8x64_S512x512

/-- A head's gains, once a head. -/
def tile (x : FVec Ideal S64 .f32) : FVec Ideal S1x512 .f32 :=
  broadcastInDim S1x512 ![1] bcast_S512_S1x512_1 (shapeCast S512 (broadcastInDim S8x64 ![0, 1] bcast_S1x64_S8x64_0_1 (shapeCast S1x64 x shapeCasts_S64_S1x64)) shapeCasts_S8x64_S512)

theorem eye8_apply (i j : Fin 8) : eye8 (ix2 i j) = if i = j then (1 : EReal) else 0 := by
  pointwise [eye8]
  have h : (IntOp.cmpi CmpIPredicate.eq (IntOp.addi (BitVec.ofNat 32 i.val) 0#32) (BitVec.ofNat 32 j.val)) = if i = j then 1#1 else 0#1 := by
    revert i j; decide +kernel
  rw [h]
  split
  · show ((((1#1 : BitVec 1).toNat : ℕ) : ℝ) : EReal) = 1; simp
  · show ((((0#1 : BitVec 1).toNat : ℕ) : ℝ) : EReal) = 0; simp

theorem hm_apply (k n : Fin 512) : hm (ix2 k n) = Ideal.ofBits .f32 0x3C800000#32 * eye8 (ix2 ⟨k.val / 64, by omega⟩ ⟨n.val / 64, by omega⟩) := by
  pointwise [hm]

theorem tile_apply (x : FVec Ideal S64 .f32) (n : Fin 512) : tile x (ix2 0 n) = x (ix1 ⟨n.val % 64, by omega⟩) := by
  pointwise [tile]

theorem hk_eq (z : Fin 512 → EReal) (g : FVec Ideal S64 .f32) (n : Fin 512) : hk z (fun k => hm (ix2 k n)) (fun i => tile g (ix2 0 i)) n = hnorm z (fun e => g (ix1 e)) n := by
  unfold hk hnorm
  rw [head_mean z _ n (fun k h => by rw [hm_apply, eye8_apply, if_pos (Fin.ext h), mul_one]) (fun k h => by rw [hm_apply, eye8_apply, if_neg (fun e => h (congrArg Fin.val e)), mul_zero])]
  exact congrArg₂ (· * ·) rfl (tile_apply g n)

/-- One group's product collapses. -/
theorem b_sum (u : Fin 512 → EReal) (a : FVec Ideal S32x64x16 .f32) (n : Fin 2048) :
    (∑ k, u k * blkB a (ix2 k n)) = bup u (fun g n p => a (ix3 g n p)) ⟨n.val / 64, by omega⟩ ⟨n.val % 64, by omega⟩ := by
  unfold bup
  rw [sum_block (B := 16) (by omega) (n.val / 64) (by omega)]
  · refine Finset.sum_congr rfl fun p _ => ?_
    rw [blkB_on _ _ _ (by show (16 * (n.val / 64) + p.val) / 16 = n.val / 64; omega)]
    exact congrArg₂ (· * ·) rfl (congrArg a (congrArg (ix3 _ _) (Fin.ext (by show (16 * (n.val / 64) + p.val) % 16 = p.val; omega))))
  · intro k hk
    rw [blkB_off _ _ _ (by omega), mul_zero]

theorem c_lo (R : FVec Ideal S32x2048 .f32) (a : FVec Ideal S32x16x64 .f32) (r : Fin 32) (l : Fin 512) (hl : l.val < 256) :
    (∑ k : Fin 1024, R (ix2 r ⟨k.val, by omega⟩) * blkC a (ix2 ⟨k.val, by omega⟩ l))
      = ∑ n : Fin 64, R (ix2 r ⟨64 * (l.val / 16) + n.val, by omega⟩) * a (ix3 ⟨l.val / 16, by omega⟩ ⟨l.val % 16, by omega⟩ n) := by
  rw [sum_block (B := 64) (by omega) (l.val / 16) (by omega)]
  · refine Finset.sum_congr rfl fun p _ => ?_
    rw [blkC_on _ _ _ (by show (64 * (l.val / 16) + p.val) / 64 = l.val / 16; omega)]
    exact congrArg₂ (· * ·) rfl (congrArg a (congrArg (ix3 _ _) (Fin.ext (by show (64 * (l.val / 16) + p.val) % 64 = p.val; omega))))
  · intro k hk
    rw [blkC_off _ _ _ (by show k.val / 64 ≠ l.val / 16; omega), mul_zero]

theorem c_hi (R : FVec Ideal S32x2048 .f32) (a : FVec Ideal S32x16x64 .f32) (r : Fin 32) (l : Fin 512) (hl : ¬ l.val < 256) :
    (∑ k : Fin 1024, R (ix2 r ⟨1024 + k.val, by omega⟩) * blkC a (ix2 ⟨1024 + k.val, by omega⟩ l))
      = ∑ n : Fin 64, R (ix2 r ⟨64 * (l.val / 16) + n.val, by omega⟩) * a (ix3 ⟨l.val / 16, by omega⟩ ⟨l.val % 16, by omega⟩ n) := by
  rw [sum_block (B := 64) (by omega) (l.val / 16 - 16) (by omega)]
  · refine Finset.sum_congr rfl fun p _ => ?_
    rw [blkC_on _ _ _ (by show (1024 + (64 * (l.val / 16 - 16) + p.val)) / 64 = l.val / 16; omega)]
    exact congrArg₂ (· * ·) (congrArg R (congrArg (ix2 r) (Fin.ext (by show 1024 + (64 * (l.val / 16 - 16) + p.val) = 64 * (l.val / 16) + p.val; omega)))) (congrArg a (congrArg (ix3 _ _) (Fin.ext (by show (1024 + (64 * (l.val / 16 - 16) + p.val)) % 64 = p.val; omega))))
  · intro k hk
    rw [blkC_off _ _ _ (by show (1024 + k.val) / 64 ≠ l.val / 16; omega), mul_zero]

theorem zk_eq (U : FVec Ideal S32x512 .f32) (R I : FVec Ideal S32x2048 .f32) (a b : FVec Ideal S32x16x64 .f32) (d : FVec Ideal S1x512 .f32) (r : Fin 32) (l : Fin 512) (R' I' : Fin 32 → Fin 64 → EReal)
    (hR : ∀ n : Fin 2048, R (ix2 r n) = R' ⟨n.val / 64, by omega⟩ ⟨n.val % 64, by omega⟩) (hI : ∀ n : Fin 2048, I (ix2 r n) = I' ⟨n.val / 64, by omega⟩ ⟨n.val % 64, by omega⟩) :
    zk U R I (blkC a) (blkC b) d r l = ymix (fun i => U (ix2 r i)) R' I' (fun g p n => a (ix3 g p n)) (fun g p n => b (ix3 g p n)) (fun l => d (ix2 0 l)) l := by
  have h : ∀ (A : FVec Ideal S32x2048 .f32) (A' : Fin 32 → Fin 64 → EReal) (w : FVec Ideal S32x16x64 .f32), (∀ n : Fin 2048, A (ix2 r n) = A' ⟨n.val / 64, by omega⟩ ⟨n.val % 64, by omega⟩) →
      (∑ n : Fin 64, A (ix2 r ⟨64 * (l.val / 16) + n.val, by omega⟩) * w (ix3 ⟨l.val / 16, by omega⟩ ⟨l.val % 16, by omega⟩ n)) = ∑ n : Fin 64, A' ⟨l.val / 16, by omega⟩ n * w (ix3 ⟨l.val / 16, by omega⟩ ⟨l.val % 16, by omega⟩ n) := by
    intro A A' w hA
    refine Finset.sum_congr rfl fun n _ => congrArg₂ (· * ·) ((hA _).trans ?_) rfl
    exact congrArg₂ A' (Fin.ext (by show (64 * (l.val / 16) + n.val) / 64 = l.val / 16; omega)) (Fin.ext (by show (64 * (l.val / 16) + n.val) % 64 = n.val; omega))
  unfold zk ymix
  by_cases hl : l.val < 256
  · rw [if_pos hl, c_lo R a r l hl, c_lo I b r l hl, h R R' a hR, h I I' b hI]
  · rw [if_neg hl, c_hi R a r l hl, c_hi I b r l hl, h R R' a hR, h I I' b hI]

variable (m : (ℓ : Loc nD τ sig) → Buf (Elt Ideal) ℓ) (c : Dev nD)

/-- Argument 0 of the program. -/
abbrev ar0 : FVec Ideal S32x1x1024 .f32 := m ((c.tc : Thread nD τ).loc main_arg0)
/-- Argument 1 of the program. -/
abbrev ar1 : FVec Ideal S1024 .f32 := m ((c.tc : Thread nD τ).loc main_arg1)
/-- Argument 2 of the program. -/
abbrev ar2 : FVec Ideal S1024x8200 .f32 := m ((c.tc : Thread nD τ).loc main_arg2)
/-- Argument 3 of the program. -/
abbrev ar3 : FVec Ideal S8 .f32 := m ((c.tc : Thread nD τ).loc main_arg3)
/-- Argument 4 of the program. -/
abbrev ar4 : FVec Ideal S64 .f32 := m ((c.tc : Thread nD τ).loc main_arg4)
/-- Argument 5 of the program. -/
abbrev ar5 : FVec Ideal S64 .f32 := m ((c.tc : Thread nD τ).loc main_arg5)
/-- Argument 6 of the program. -/
abbrev ar6 : FVec Ideal S32x64 .f32 := m ((c.tc : Thread nD τ).loc main_arg6)
/-- Argument 7 of the program. -/
abbrev ar7 : FVec Ideal S32x64 .f32 := m ((c.tc : Thread nD τ).loc main_arg7)
/-- Argument 8 of the program. -/
abbrev ar8 : FVec Ideal S32 .f32 := m ((c.tc : Thread nD τ).loc main_arg8)
/-- Argument 9 of the program. -/
abbrev ar9 : FVec Ideal S32x64x16 .f32 := m ((c.tc : Thread nD τ).loc main_arg9)
/-- Argument 10 of the program. -/
abbrev ar10 : FVec Ideal S32x64x16 .f32 := m ((c.tc : Thread nD τ).loc main_arg10)
/-- Argument 11 of the program. -/
abbrev ar11 : FVec Ideal S32x16x64 .f32 := m ((c.tc : Thread nD τ).loc main_arg11)
/-- Argument 12 of the program. -/
abbrev ar12 : FVec Ideal S32x16x64 .f32 := m ((c.tc : Thread nD τ).loc main_arg12)
/-- Argument 13 of the program. -/
abbrev ar13 : FVec Ideal S512 .f32 := m ((c.tc : Thread nD τ).loc main_arg13)
/-- Argument 14 of the program. -/
abbrev ar14 : FVec Ideal S512x512 .f32 := m ((c.tc : Thread nD τ).loc main_arg14)
/-- Argument 15 of the program. -/
abbrev ar15 : FVec Ideal S32x32x64 .f32 := m ((c.tc : Thread nD τ).loc main_arg15)
/-- Argument 16 of the program. -/
abbrev ar16 : FVec Ideal S32x32x64 .f32 := m ((c.tc : Thread nD τ).loc main_arg16)

set_option maxHeartbeats 1000000 in
theorem V_v27 : V m c main_v27 = shapeCast S32x1024 (ar0 m c) shapeCasts_S32x1x1024_S32x1024 := by
  show StableHlo.after hostOps0 (fun b => m (c, b)) (Proc.devRef .tc main_v27) = _
  after_results
  try rfl

set_option maxHeartbeats 1000000 in
theorem V_v28 : V m c main_v28 = broadcastInDim S1x1024 ![1] bcast_S1024_S1x1024_1 (ar1 m c) := by
  show StableHlo.after hostOps0 (fun b => m (c, b)) (Proc.devRef .tc main_v28) = _
  after_results
  try rfl

set_option maxHeartbeats 1000000 in
theorem V_v9 : V m c main_v9 = wq (ar2 m c) := by
  show StableHlo.after hostOps0 (fun b => m (c, b)) (Proc.devRef .tc main_v9) = _
  after_results
  try rfl

set_option maxHeartbeats 1000000 in
theorem V_v13 : V m c main_v13 = wd (ar2 m c) := by
  show StableHlo.after hostOps0 (fun b => m (c, b)) (Proc.devRef .tc main_v13) = _
  after_results
  try rfl

set_option maxHeartbeats 1000000 in
theorem V_v29 : V m c main_v29 = broadcastInDim S1x8 ![1] bcast_S8_S1x8_1 (ar3 m c) := by
  show StableHlo.after hostOps0 (fun b => m (c, b)) (Proc.devRef .tc main_v29) = _
  after_results
  try rfl

set_option maxHeartbeats 1000000 in
theorem V_v33 : V m c main_v33 = tile (ar4 m c) := by
  show StableHlo.after hostOps0 (fun b => m (c, b)) (Proc.devRef .tc main_v33) = _
  after_results
  try rfl

set_option maxHeartbeats 1000000 in
theorem V_v37 : V m c main_v37 = tile (ar5 m c) := by
  show StableHlo.after hostOps0 (fun b => m (c, b)) (Proc.devRef .tc main_v37) = _
  after_results
  try rfl

set_option maxHeartbeats 1000000 in
theorem V_v26 : V m c main_v26 = hm := by
  show StableHlo.after hostOps0 (fun b => m (c, b)) (Proc.devRef .tc main_v26) = _
  after_results
  try rfl

set_option maxHeartbeats 1000000 in
theorem V_v38 : V m c main_v38 = shapeCast S1x2048 (ar6 m c) shapeCasts_S32x64_S1x2048 := by
  show StableHlo.after hostOps0 (fun b => m (c, b)) (Proc.devRef .tc main_v38) = _
  after_results
  try rfl

set_option maxHeartbeats 1000000 in
theorem V_v39 : V m c main_v39 = shapeCast S1x2048 (ar7 m c) shapeCasts_S32x64_S1x2048 := by
  show StableHlo.after hostOps0 (fun b => m (c, b)) (Proc.devRef .tc main_v39) = _
  after_results
  try rfl

set_option maxHeartbeats 1000000 in
theorem V_v42 : V m c main_v42 = broadcastInDim S1x2048 ![1] bcast_S2048_S1x2048_1 (shapeCast S2048 (broadcastInDim S32x64 ![0] bcast_S32_S32x64_0 (ar8 m c)) shapeCasts_S32x64_S2048) := by
  show StableHlo.after hostOps0 (fun b => m (c, b)) (Proc.devRef .tc main_v42) = _
  after_results
  try rfl

set_option maxHeartbeats 1000000 in
theorem V_v56 : V m c main_v56 = blkB (ar9 m c) := by
  show StableHlo.after hostOps0 (fun b => m (c, b)) (Proc.devRef .tc main_v56) = _
  after_results
  try rfl

set_option maxHeartbeats 1000000 in
theorem V_v70 : V m c main_v70 = blkB (ar10 m c) := by
  show StableHlo.after hostOps0 (fun b => m (c, b)) (Proc.devRef .tc main_v70) = _
  after_results
  try rfl

set_option maxHeartbeats 1000000 in
theorem V_v84 : V m c main_v84 = blkC (ar11 m c) := by
  show StableHlo.after hostOps0 (fun b => m (c, b)) (Proc.devRef .tc main_v84) = _
  after_results
  try rfl

set_option maxHeartbeats 1000000 in
theorem V_v98 : V m c main_v98 = blkC (ar12 m c) := by
  show StableHlo.after hostOps0 (fun b => m (c, b)) (Proc.devRef .tc main_v98) = _
  after_results
  try rfl

set_option maxHeartbeats 1000000 in
theorem V_v99 : V m c main_v99 = broadcastInDim S1x512 ![1] bcast_S512_S1x512_1 (ar13 m c) := by
  show StableHlo.after hostOps0 (fun b => m (c, b)) (Proc.devRef .tc main_v99) = _
  after_results
  try rfl

set_option maxHeartbeats 1000000 in
theorem V_v100 : V m c main_v100 = truncf .bf16 (ar14 m c) bitsLt_bf16_f32 := by
  show StableHlo.after hostOps0 (fun b => m (c, b)) (Proc.devRef .tc main_v100) = _
  after_results
  try rfl

set_option maxHeartbeats 1000000 in
theorem V_v101 : V m c main_v101 = shapeCast S32x2048 (ar15 m c) shapeCasts_S32x32x64_S32x2048 := by
  show StableHlo.after hostOps0 (fun b => m (c, b)) (Proc.devRef .tc main_v101) = _
  after_results
  try rfl

set_option maxHeartbeats 1000000 in
theorem V_v102 : V m c main_v102 = shapeCast S32x2048 (ar16 m c) shapeCasts_S32x32x64_S32x2048 := by
  show StableHlo.after hostOps0 (fun b => m (c, b)) (Proc.devRef .tc main_v102) = _
  after_results
  try rfl

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)
theorem idx21 : ∀ t : Fin cfg0.N, win0_21.index t = ![0, 0] := (by decide +kernel : ∀ t : Fin grid0.N, _)
theorem idx22 : ∀ t : Fin cfg0.N, win0_22.index t = ![0, 0] := (by decide +kernel : ∀ t : Fin grid0.N, _)
theorem idx23 : ∀ t : Fin cfg0.N, win0_23.index t = ![0, 0] := (by decide +kernel : ∀ t : Fin grid0.N, _)
theorem idx24 : ∀ t : Fin cfg0.N, win0_24.index t = ![0, 0] := (by decide +kernel : ∀ t : Fin grid0.N, _)
theorem idx25 : ∀ t : Fin cfg0.N, win0_25.index t = ![0, 0] := (by decide +kernel : ∀ t : Fin grid0.N, _)
theorem idx26 : ∀ t : Fin cfg0.N, win0_26.index t = ![0, 0] := (by decide +kernel : ∀ t : Fin grid0.N, _)
theorem idx27 : ∀ t : Fin cfg0.N, win0_27.index t = ![0, 0] := (by decide +kernel : ∀ t : Fin grid0.N, _)
theorem idx28 : ∀ t : Fin cfg0.N, win0_28.index t = ![0, 0] := (by decide +kernel : ∀ t : Fin grid0.N, _)
/-- Window 0's block. -/
abbrev in0 (t : Fin cfg0.N) : FVec Ideal S32x1024 .f32 := iblk m c 0 t
theorem in0_eq (t : Fin cfg0.N) : in0 m c t = V m c main_v27 := by
  funext y
  show V m c main_v27 (((cfg0.win 0).blk t).view.emb y) = _
  refine congrArg (V m c main_v27) ?_
  funext a; match a with
  | ⟨0, _⟩ => refine Fin.ext ?_; blk_simp [idx0 t]
  | ⟨1, _⟩ => refine Fin.ext ?_; blk_simp [idx0 t]

/-- Window 1's block. -/
abbrev in1 (t : Fin cfg0.N) : FVec Ideal S1x1024 .f32 := iblk m c 1 t
theorem in1_eq (t : Fin cfg0.N) : in1 m c t = V m c main_v28 := by
  funext y
  show V m c main_v28 (((cfg0.win 1).blk t).view.emb y) = _
  refine congrArg (V m c main_v28) ?_
  funext a; match a with
  | ⟨0, _⟩ => refine Fin.ext ?_; blk_simp [idx1 t]
  | ⟨1, _⟩ => refine Fin.ext ?_; blk_simp [idx1 t]

/-- Window 2's block. -/
abbrev in2 (t : Fin cfg0.N) : FVec Ideal S3584x1024 .bf16 := iblk m c 2 t
theorem in2_eq (t : Fin cfg0.N) : in2 m c t = V m c main_v9 := by
  funext y
  show V m c main_v9 (((cfg0.win 2).blk t).view.emb y) = _
  refine congrArg (V m c main_v9) ?_
  funext a; match a with
  | ⟨0, _⟩ => refine Fin.ext ?_; blk_simp [idx2 t]
  | ⟨1, _⟩ => refine Fin.ext ?_; blk_simp [idx2 t]

/-- Window 3's block. -/
abbrev in3 (t : Fin cfg0.N) : FVec Ideal S128x1024 .bf16 := iblk m c 3 t
theorem in3_eq (t : Fin cfg0.N) : in3 m c t = V m c main_v13 := by
  funext y
  show V m c main_v13 (((cfg0.win 3).blk t).view.emb y) = _
  refine congrArg (V m c main_v13) ?_
  funext a; match a with
  | ⟨0, _⟩ => refine Fin.ext ?_; blk_simp [idx3 t]
  | ⟨1, _⟩ => refine Fin.ext ?_; blk_simp [idx3 t]

/-- Window 4's block. -/
abbrev in4 (t : Fin cfg0.N) : FVec Ideal S1x8 .f32 := iblk m c 4 t
theorem in4_eq (t : Fin cfg0.N) : in4 m c t = V m c main_v29 := by
  funext y
  show V m c main_v29 (((cfg0.win 4).blk t).view.emb y) = _
  refine congrArg (V m c main_v29) ?_
  funext a; match a with
  | ⟨0, _⟩ => refine Fin.ext ?_; blk_simp [idx4 t]
  | ⟨1, _⟩ => refine Fin.ext ?_; blk_simp [idx4 t]

/-- Window 5's block. -/
abbrev in5 (t : Fin cfg0.N) : FVec Ideal S1x512 .f32 := iblk m c 5 t
theorem in5_eq (t : Fin cfg0.N) : in5 m c t = V m c main_v33 := by
  funext y
  show V m c main_v33 (((cfg0.win 5).blk t).view.emb y) = _
  refine congrArg (V m c main_v33) ?_
  funext a; match a with
  | ⟨0, _⟩ => refine Fin.ext ?_; blk_simp [idx5 t]
  | ⟨1, _⟩ => refine Fin.ext ?_; blk_simp [idx5 t]

/-- Window 6's block. -/
abbrev in6 (t : Fin cfg0.N) : FVec Ideal S1x512 .f32 := iblk m c 6 t
theorem in6_eq (t : Fin cfg0.N) : in6 m c t = V m c main_v37 := by
  funext y
  show V m c main_v37 (((cfg0.win 6).blk t).view.emb y) = _
  refine congrArg (V m c main_v37) ?_
  funext a; match a with
  | ⟨0, _⟩ => refine Fin.ext ?_; blk_simp [idx6 t]
  | ⟨1, _⟩ => refine Fin.ext ?_; blk_simp [idx6 t]

/-- Window 7's block. -/
abbrev in7 (t : Fin cfg0.N) : FVec Ideal S512x512 .f32 := iblk m c 7 t
theorem in7_eq (t : Fin cfg0.N) : in7 m c t = V m c main_v26 := by
  funext y
  show V m c main_v26 (((cfg0.win 7).blk t).view.emb y) = _
  refine congrArg (V m c main_v26) ?_
  funext a; match a with
  | ⟨0, _⟩ => refine Fin.ext ?_; blk_simp [idx7 t]
  | ⟨1, _⟩ => refine Fin.ext ?_; blk_simp [idx7 t]

/-- Window 8's block. -/
abbrev in8 (t : Fin cfg0.N) : FVec Ideal S1x2048 .f32 := iblk m c 8 t
theorem in8_eq (t : Fin cfg0.N) : in8 m c t = V m c main_v38 := by
  funext y
  show V m c main_v38 (((cfg0.win 8).blk t).view.emb y) = _
  refine congrArg (V m c main_v38) ?_
  funext a; match a with
  | ⟨0, _⟩ => refine Fin.ext ?_; blk_simp [idx8 t]
  | ⟨1, _⟩ => refine Fin.ext ?_; blk_simp [idx8 t]

/-- Window 9's block. -/
abbrev in9 (t : Fin cfg0.N) : FVec Ideal S1x2048 .f32 := iblk m c 9 t
theorem in9_eq (t : Fin cfg0.N) : in9 m c t = V m c main_v39 := by
  funext y
  show V m c main_v39 (((cfg0.win 9).blk t).view.emb y) = _
  refine congrArg (V m c main_v39) ?_
  funext a; match a with
  | ⟨0, _⟩ => refine Fin.ext ?_; blk_simp [idx9 t]
  | ⟨1, _⟩ => refine Fin.ext ?_; blk_simp [idx9 t]

/-- Window 10's block. -/
abbrev in10 (t : Fin cfg0.N) : FVec Ideal S1x2048 .f32 := iblk m c 10 t
theorem in10_eq (t : Fin cfg0.N) : in10 m c t = V m c main_v42 := by
  funext y
  show V m c main_v42 (((cfg0.win 10).blk t).view.emb y) = _
  refine congrArg (V m c main_v42) ?_
  funext a; match a with
  | ⟨0, _⟩ => refine Fin.ext ?_; blk_simp [idx10 t]
  | ⟨1, _⟩ => refine Fin.ext ?_; blk_simp [idx10 t]

/-- Window 11's block. -/
abbrev in11 (t : Fin cfg0.N) : FVec Ideal S512x2048 .bf16 := iblk m c 11 t
theorem in11_eq (t : Fin cfg0.N) : in11 m c t = V m c main_v56 := by
  funext y
  show V m c main_v56 (((cfg0.win 11).blk t).view.emb y) = _
  refine congrArg (V m c main_v56) ?_
  funext a; match a with
  | ⟨0, _⟩ => refine Fin.ext ?_; blk_simp [idx11 t]
  | ⟨1, _⟩ => refine Fin.ext ?_; blk_simp [idx11 t]

/-- Window 12's block. -/
abbrev in12 (t : Fin cfg0.N) : FVec Ideal S512x2048 .bf16 := iblk m c 12 t
theorem in12_eq (t : Fin cfg0.N) : in12 m c t = V m c main_v70 := by
  funext y
  show V m c main_v70 (((cfg0.win 12).blk t).view.emb y) = _
  refine congrArg (V m c main_v70) ?_
  funext a; match a with
  | ⟨0, _⟩ => refine Fin.ext ?_; blk_simp [idx12 t]
  | ⟨1, _⟩ => refine Fin.ext ?_; blk_simp [idx12 t]

/-- Window 13's block. -/
abbrev in13 (t : Fin cfg0.N) : FVec Ideal S2048x512 .bf16 := iblk m c 13 t
theorem in13_eq (t : Fin cfg0.N) : in13 m c t = V m c main_v84 := by
  funext y
  show V m c main_v84 (((cfg0.win 13).blk t).view.emb y) = _
  refine congrArg (V m c main_v84) ?_
  funext a; match a with
  | ⟨0, _⟩ => refine Fin.ext ?_; blk_simp [idx13 t]
  | ⟨1, _⟩ => refine Fin.ext ?_; blk_simp [idx13 t]

/-- Window 14's block. -/
abbrev in14 (t : Fin cfg0.N) : FVec Ideal S2048x512 .bf16 := iblk m c 14 t
theorem in14_eq (t : Fin cfg0.N) : in14 m c t = V m c main_v98 := by
  funext y
  show V m c main_v98 (((cfg0.win 14).blk t).view.emb y) = _
  refine congrArg (V m c main_v98) ?_
  funext a; match a with
  | ⟨0, _⟩ => refine Fin.ext ?_; blk_simp [idx14 t]
  | ⟨1, _⟩ => refine Fin.ext ?_; blk_simp [idx14 t]

/-- Window 15's block. -/
abbrev in15 (t : Fin cfg0.N) : FVec Ideal S1x512 .f32 := iblk m c 15 t
theorem in15_eq (t : Fin cfg0.N) : in15 m c t = V m c main_v99 := by
  funext y
  show V m c main_v99 (((cfg0.win 15).blk t).view.emb y) = _
  refine congrArg (V m c main_v99) ?_
  funext a; match a with
  | ⟨0, _⟩ => refine Fin.ext ?_; blk_simp [idx15 t]
  | ⟨1, _⟩ => refine Fin.ext ?_; blk_simp [idx15 t]

/-- Window 16's block. -/
abbrev in16 (t : Fin cfg0.N) : FVec Ideal S512x512 .bf16 := iblk m c 16 t
theorem in16_eq (t : Fin cfg0.N) : in16 m c t = V m c main_v100 := by
  funext y
  show V m c main_v100 (((cfg0.win 16).blk t).view.emb y) = _
  refine congrArg (V m c main_v100) ?_
  funext a; match a with
  | ⟨0, _⟩ => refine Fin.ext ?_; blk_simp [idx16 t]
  | ⟨1, _⟩ => refine Fin.ext ?_; blk_simp [idx16 t]

/-- Window 17's block. -/
abbrev in17 (t : Fin cfg0.N) : FVec Ideal S32x2048 .f32 := iblk m c 17 t
theorem in17_eq (t : Fin cfg0.N) : in17 m c t = V m c main_v101 := by
  funext y
  show V m c main_v101 (((cfg0.win 17).blk t).view.emb y) = _
  refine congrArg (V m c main_v101) ?_
  funext a; match a with
  | ⟨0, _⟩ => refine Fin.ext ?_; blk_simp [idx17 t]
  | ⟨1, _⟩ => refine Fin.ext ?_; blk_simp [idx17 t]

/-- Window 18's block. -/
abbrev in18 (t : Fin cfg0.N) : FVec Ideal S32x2048 .f32 := iblk m c 18 t
theorem in18_eq (t : Fin cfg0.N) : in18 m c t = V m c main_v102 := by
  funext y
  show V m c main_v102 (((cfg0.win 18).blk t).view.emb y) = _
  refine congrArg (V m c main_v102) ?_
  funext a; match a with
  | ⟨0, _⟩ => refine Fin.ext ?_; blk_simp [idx18 t]
  | ⟨1, _⟩ => refine Fin.ext ?_; blk_simp [idx18 t]

theorem x_row (t : Fin cfg0.N) (r : Fin 32) (k : Fin 1024) : in0 m c t (ix2 r k) = ar0 m c (ix3 r 0 k) := by
  rw [in0_eq, V_v27]
  pointwise

theorem g_row (t : Fin cfg0.N) (k : Fin 1024) : in1 m c t (ix2 0 k) = ar1 m c (ix1 k) := by
  rw [in1_eq, V_v28]
  pointwise

theorem f_row (t : Fin cfg0.N) (n : Fin 8) : in4 m c t (ix2 0 n) = ar3 m c (ix1 n) := by
  rw [in4_eq, V_v29]
  pointwise

theorem a1_row (t : Fin cfg0.N) (n : Fin 2048) : in8 m c t (ix2 0 n) = ar6 m c (ix2 ⟨n.val / 64, by omega⟩ ⟨n.val % 64, by omega⟩) := by
  rw [in8_eq, V_v38]
  pointwise

theorem a2_row (t : Fin cfg0.N) (n : Fin 2048) : in9 m c t (ix2 0 n) = ar7 m c (ix2 ⟨n.val / 64, by omega⟩ ⟨n.val % 64, by omega⟩) := by
  rw [in9_eq, V_v39]
  pointwise

theorem dt_row (t : Fin cfg0.N) (n : Fin 2048) : in10 m c t (ix2 0 n) = ar8 m c (ix1 ⟨n.val / 64, by omega⟩) := by
  rw [in10_eq, V_v42]
  pointwise

theorem d_row (t : Fin cfg0.N) (l : Fin 512) : in15 m c t (ix2 0 l) = ar13 m c (ix1 l) := by
  rw [in15_eq, V_v99]
  pointwise

theorem w_row (t : Fin cfg0.N) (x l : Fin 512) : in16 m c t (ix2 x l) = ar14 m c (ix2 x l) := by
  rw [in16_eq, V_v100]
  pointwise

theorem h1_row (t : Fin cfg0.N) (r : Fin 32) (n : Fin 2048) : in17 m c t (ix2 r n) = ar15 m c (ix3 r ⟨n.val / 64, by omega⟩ ⟨n.val % 64, by omega⟩) := by
  rw [in17_eq, V_v101]
  pointwise

theorem h2_row (t : Fin cfg0.N) (r : Fin 32) (n : Fin 2048) : in18 m c t (ix2 r n) = ar16 m c (ix3 r ⟨n.val / 64, by omega⟩ ⟨n.val % 64, by omega⟩) := by
  rw [in18_eq, V_v102]
  pointwise

theorem h_row (t : Fin cfg0.N) (r : Fin 32) : (fun k => k0_pay2 (F := Ideal) (in0 m c t) (in1 m c t) (ix2 r k)) = rms (fun k => ar0 m c (ix3 r 0 k)) (fun k => ar1 m c (ix1 k)) := by
  funext k
  rw [h_apply]
  exact congrArg₂ (fun x g => rms x g k) (funext fun k => x_row m c t r k) (funext fun k => g_row m c t k)

theorem pj0 (t : Fin cfg0.N) (r : Fin 32) (n : Fin 512) : pj (k0_pay2 (F := Ideal) (in0 m c t) (in1 m c t)) (in2 m c t) 0 (by omega) r n = pcol (fun k => ar0 m c (ix3 r 0 k)) (fun k => ar1 m c (ix1 k)) (fun n k => ar2 m c (ix2 k n)) 0 (by omega) n := by
  unfold pj pcol
  rw [h_row, in2_eq, V_v9]
  exact congrArg _ (funext fun k => wq_apply0 _ n k)

theorem pj1 (t : Fin cfg0.N) (r : Fin 32) (n : Fin 512) : pj (k0_pay2 (F := Ideal) (in0 m c t) (in1 m c t)) (in2 m c t) 512 (by omega) r n = pcol (fun k => ar0 m c (ix3 r 0 k)) (fun k => ar1 m c (ix1 k)) (fun n k => ar2 m c (ix2 k n)) 512 (by omega) n := by
  unfold pj pcol
  rw [h_row, in2_eq, V_v9]
  exact congrArg _ (funext fun k => wq_apply1 _ n k)

theorem pj2 (t : Fin cfg0.N) (r : Fin 32) (n : Fin 512) : pj (k0_pay2 (F := Ideal) (in0 m c t) (in1 m c t)) (in2 m c t) 1024 (by omega) r n = pcol (fun k => ar0 m c (ix3 r 0 k)) (fun k => ar1 m c (ix1 k)) (fun n k => ar2 m c (ix2 k n)) 1024 (by omega) n := by
  unfold pj pcol
  rw [h_row, in2_eq, V_v9]
  exact congrArg _ (funext fun k => wq_apply2 _ n k)

theorem pj3 (t : Fin cfg0.N) (r : Fin 32) (n : Fin 512) : pj (k0_pay2 (F := Ideal) (in0 m c t) (in1 m c t)) (in2 m c t) 1536 (by omega) r n = pcol (fun k => ar0 m c (ix3 r 0 k)) (fun k => ar1 m c (ix1 k)) (fun n k => ar2 m c (ix2 k n)) 2056 (by omega) n := by
  unfold pj pcol
  rw [h_row, in2_eq, V_v9]
  exact congrArg _ (funext fun k => wq_apply3 _ n k)

theorem pj4 (t : Fin cfg0.N) (r : Fin 32) (n : Fin 512) : pj (k0_pay2 (F := Ideal) (in0 m c t) (in1 m c t)) (in2 m c t) 2048 (by omega) r n = pcol (fun k => ar0 m c (ix3 r 0 k)) (fun k => ar1 m c (ix1 k)) (fun n k => ar2 m c (ix2 k n)) 2568 (by omega) n := by
  unfold pj pcol
  rw [h_row, in2_eq, V_v9]
  exact congrArg _ (funext fun k => wq_apply4 _ n k)

theorem pj5 (t : Fin cfg0.N) (r : Fin 32) (n : Fin 512) : pj (k0_pay2 (F := Ideal) (in0 m c t) (in1 m c t)) (in2 m c t) 2560 (by omega) r n = pcol (fun k => ar0 m c (ix3 r 0 k)) (fun k => ar1 m c (ix1 k)) (fun n k => ar2 m c (ix2 k n)) 3080 (by omega) n := by
  unfold pj pcol
  rw [h_row, in2_eq, V_v9]
  exact congrArg _ (funext fun k => wq_apply5 _ n k)

theorem pj6 (t : Fin cfg0.N) (r : Fin 32) (n : Fin 512) : pj (k0_pay2 (F := Ideal) (in0 m c t) (in1 m c t)) (in2 m c t) 3072 (by omega) r n = pcol (fun k => ar0 m c (ix3 r 0 k)) (fun k => ar1 m c (ix1 k)) (fun n k => ar2 m c (ix2 k n)) 4104 (by omega) n := by
  unfold pj pcol
  rw [h_row, in2_eq, V_v9]
  exact congrArg _ (funext fun k => wq_apply6 _ n k)

theorem ff (t : Fin cfg0.N) (r : Fin 32) (n : Fin 8) : dotp (fun k => k0_pay2 (F := Ideal) (in0 m c t) (in1 m c t) (ix2 r k)) (fun k => in3 m c t (ix2 ⟨n.val, by omega⟩ k)) = dotp (rms (fun k => ar0 m c (ix3 r 0 k)) (fun k => ar1 m c (ix1 k))) (fun k => ar2 m c (ix2 k ⟨1536 + n.val, by omega⟩)) := by
  rw [h_row, in3_eq, V_v13]
  exact congrArg _ (funext fun k => wd_apply _ n k)

/-- Result 0. -/
def G19 : FVec Ideal S32x512 .f32 := fun j => hnorm (fun i => pcol (fun k => ar0 m c (ix3 (j 0) 0 k)) (fun k => ar1 m c (ix1 k)) (fun n k => ar2 m c (ix2 k n)) 0 (by omega) i) (fun e => ar4 m c (ix1 e)) (j 1) * Ideal.ofBits .f32 1040187392#32
/-- Result 1. -/
def G20 : FVec Ideal S32x512 .f32 := fun j => hnorm (fun i => pcol (fun k => ar0 m c (ix3 (j 0) 0 k)) (fun k => ar1 m c (ix1 k)) (fun n k => ar2 m c (ix2 k n)) 512 (by omega) i) (fun e => ar5 m c (ix1 e)) (j 1)
/-- Result 2. -/
def G21 : FVec Ideal S32x512 .f32 := fun j => pcol (fun k => ar0 m c (ix3 (j 0) 0 k)) (fun k => ar1 m c (ix1 k)) (fun n k => ar2 m c (ix2 k n)) 1024 (by omega) (j 1)
/-- Result 3. -/
def G22 : FVec Ideal S32x8 .f32 := fun j => decay (fun k => ar0 m c (ix3 (j 0) 0 k)) (fun k => ar1 m c (ix1 k)) (fun n k => ar2 m c (ix2 k n)) (fun i => ar3 m c (ix1 i)) (j 1)
/-- Result 4. -/
def G23 : FVec Ideal S32x512 .f32 := fun j => pcol (fun k => ar0 m c (ix3 (j 0) 0 k)) (fun k => ar1 m c (ix1 k)) (fun n k => ar2 m c (ix2 k n)) 2056 (by omega) (j 1) * Ideal.ofBits .f32 1040187392#32
/-- Result 5. -/
def G24 : FVec Ideal S32x512 .f32 := fun j => pcol (fun k => ar0 m c (ix3 (j 0) 0 k)) (fun k => ar1 m c (ix1 k)) (fun n k => ar2 m c (ix2 k n)) 2568 (by omega) (j 1)
/-- Result 6. -/
def G25 : FVec Ideal S32x512 .f32 := fun j => pcol (fun k => ar0 m c (ix3 (j 0) 0 k)) (fun k => ar1 m c (ix1 k)) (fun n k => ar2 m c (ix2 k n)) 3080 (by omega) (j 1)
/-- Result 7. -/
def G26 : FVec Ideal S32x512 .f32 := fun j => gate (ymix (fun i => pcol (fun k => ar0 m c (ix3 (j 0) 0 k)) (fun k => ar1 m c (ix1 k)) (fun n k => ar2 m c (ix2 k n)) 4104 (by omega) i) (nxR (fun i => pcol (fun k => ar0 m c (ix3 (j 0) 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 (j 0) g n)) (fun g n => ar16 m c (ix3 (j 0) g n))) (nxI (fun i => pcol (fun k => ar0 m c (ix3 (j 0) 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 (j 0) g n)) (fun g n => ar16 m c (ix3 (j 0) g n))) (fun g p n => ar11 m c (ix3 g p n)) (fun g p n => ar12 m c (ix3 g p n)) (fun l => ar13 m c (ix1 l))) (fun x => ar14 m c (ix2 x (j 1))) (j 1)
/-- Result 8. -/
def G27 : FVec Ideal S32x2048 .f32 := fun j => nxR (fun i => pcol (fun k => ar0 m c (ix3 (j 0) 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 (j 0) g n)) (fun g n => ar16 m c (ix3 (j 0) g n)) (lg (j 1)) (ln (j 1))
/-- Result 9. -/
def G28 : FVec Ideal S32x2048 .f32 := fun j => nxI (fun i => pcol (fun k => ar0 m c (ix3 (j 0) 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 (j 0) g n)) (fun g n => ar16 m c (ix3 (j 0) g n)) (lg (j 1)) (ln (j 1))

theorem u_row (t : Fin cfg0.N) (r : Fin 32) : (fun n => k0_pay33 (F := Ideal) (in0 m c t) (in1 m c t) (in2 m c t) (ix2 r n)) = fun n => pcol (fun k => ar0 m c (ix3 r 0 k)) (fun k => ar1 m c (ix1 k)) (fun n k => ar2 m c (ix2 k n)) 4104 (by omega) n :=
  funext fun n => (u_apply _ _ _ r n).trans (pj6 m c t r n)

theorem re_row (t : Fin cfg0.N) (r : Fin 32) (n : Fin 2048) : k0_pay39 (F := Ideal) (in0 m c t) (in1 m c t) (in2 m c t) (in8 m c t) (in9 m c t) (in10 m c t) (in11 m c t) (in12 m c t) (in17 m c t) (in18 m c t) (ix2 r n) = nxR (fun i => pcol (fun k => ar0 m c (ix3 r 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 r g n)) (fun g n => ar16 m c (ix3 r g n)) ⟨n.val / 64, by omega⟩ ⟨n.val % 64, by omega⟩ := by
  refine (re_apply _ _ _ _ _ _ _ _ _ _ r n).trans ?_
  rw [in11_eq, in12_eq, V_v56, V_v70, b_sum (fun k => k0_pay33 (F := Ideal) (in0 m c t) (in1 m c t) (in2 m c t) (ix2 r k)) (ar9 m c), b_sum (fun k => k0_pay33 (F := Ideal) (in0 m c t) (in1 m c t) (in2 m c t) (ix2 r k)) (ar10 m c), u_row, a1_row, a2_row, dt_row, h1_row, h2_row]
  rfl

theorem im_row (t : Fin cfg0.N) (r : Fin 32) (n : Fin 2048) : k0_pay40 (F := Ideal) (in0 m c t) (in1 m c t) (in2 m c t) (in8 m c t) (in9 m c t) (in10 m c t) (in11 m c t) (in12 m c t) (in17 m c t) (in18 m c t) (ix2 r n) = nxI (fun i => pcol (fun k => ar0 m c (ix3 r 0 k)) (fun k => ar1 m c (ix1 k)) (fun n k => ar2 m c (ix2 k n)) 4104 (by omega) i) (fun g n => ar6 m c (ix2 g n)) (fun g n => ar7 m c (ix2 g n)) (fun g => ar8 m c (ix1 g)) (fun g n p => ar9 m c (ix3 g n p)) (fun g n p => ar10 m c (ix3 g n p)) (fun g n => ar15 m c (ix3 r g n)) (fun g n => ar16 m c (ix3 r g n)) ⟨n.val / 64, by omega⟩ ⟨n.val % 64, by omega⟩ := by
  refine (im_apply _ _ _ _ _ _ _ _ _ _ r n).trans ?_
  rw [in11_eq, in12_eq, V_v56, V_v70, b_sum (fun k => k0_pay33 (F := Ideal) (in0 m c t) (in1 m c t) (in2 m c t) (ix2 r k)) (ar9 m c), b_sum (fun k => k0_pay33 (F := Ideal) (in0 m c t) (in1 m c t) (in2 m c t) (ix2 r k)) (ar10 m c), u_row, a1_row, a2_row, dt_row, h1_row, h2_row]
  rfl

theorem o19_apply (t : Fin cfg0.N) (r : Fin 32) (n : Fin 512) : out0_19 (F := Ideal) (in0 m c t) (in1 m c t) (in2 m c t) (in5 m c t) (in7 m c t) (ix2 r n) = G19 m c (ix2 r n) := by
  show _ = hnorm _ _ n * _
  refine (out19_apply _ _ _ _ _ r n).trans ?_
  refine congrArg₂ (· * ·) ?_ rfl
  rw [in7_eq, in5_eq, V_v26, V_v33]
  exact (hk_eq _ _ n).trans (congrArg (fun z => hnorm z _ n) (funext fun i => pj0 m c t r i))

theorem final19 : (dats m 0 c).arrAt 19 cfg0.N = G19 m c := by
  refine (dats m 0 c).arrAt_eq_of_covers 19 _ (by decide +kernel) fun t hf y => ?_
  show (dats m 0 c).after 19 t y = _
  rw [after0_19]
  obtain ⟨r, n, rfl⟩ : ∃ (r : Fin 32) (n : Fin 512), y = ix2 r n := ⟨y 0, y 1, eq_ix2 y⟩
  refine (o19_apply m c t r n).trans (congrArg (G19 m c) ?_)
  funext a; match a with
  | ⟨0, _⟩ => refine Fin.ext ?_; blk_simp [idx19 t]
  | ⟨1, _⟩ => refine Fin.ext ?_; blk_simp [idx19 t]

theorem o20_apply (t : Fin cfg0.N) (r : Fin 32) (n : Fin 512) : out0_20 (F := Ideal) (in0 m c t) (in1 m c t) (in2 m c t) (in6 m c t) (in7 m c t) (ix2 r n) = G20 m c (ix2 r n) := by
  show _ = hnorm _ _ n
  refine (out20_apply _ _ _ _ _ r n).trans ?_
  rw [in7_eq, in6_eq, V_v26, V_v37]
  exact (hk_eq _ _ n).trans (congrArg (fun z => hnorm z _ n) (funext fun i => pj1 m c t r i))

theorem final20 : (dats m 0 c).arrAt 20 cfg0.N = G20 m c := by
  refine (dats m 0 c).arrAt_eq_of_covers 20 _ (by decide +kernel) fun t hf y => ?_
  show (dats m 0 c).after 20 t y = _
  rw [after0_20]
  obtain ⟨r, n, rfl⟩ : ∃ (r : Fin 32) (n : Fin 512), y = ix2 r n := ⟨y 0, y 1, eq_ix2 y⟩
  refine (o20_apply m c t r n).trans (congrArg (G20 m c) ?_)
  funext a; match a with
  | ⟨0, _⟩ => refine Fin.ext ?_; blk_simp [idx20 t]
  | ⟨1, _⟩ => refine Fin.ext ?_; blk_simp [idx20 t]

theorem o21_apply (t : Fin cfg0.N) (r : Fin 32) (n : Fin 512) : out0_21 (F := Ideal) (in0 m c t) (in1 m c t) (in2 m c t) (ix2 r n) = G21 m c (ix2 r n) := by
  refine (out21_apply _ _ _ r n).trans ?_
  exact pj2 m c t r n

theorem final21 : (dats m 0 c).arrAt 21 cfg0.N = G21 m c := by
  refine (dats m 0 c).arrAt_eq_of_covers 21 _ (by decide +kernel) fun t hf y => ?_
  show (dats m 0 c).after 21 t y = _
  rw [after0_21]
  obtain ⟨r, n, rfl⟩ : ∃ (r : Fin 32) (n : Fin 512), y = ix2 r n := ⟨y 0, y 1, eq_ix2 y⟩
  refine (o21_apply m c t r n).trans (congrArg (G21 m c) ?_)
  funext a; match a with
  | ⟨0, _⟩ => refine Fin.ext ?_; blk_simp [idx21 t]
  | ⟨1, _⟩ => refine Fin.ext ?_; blk_simp [idx21 t]

theorem o22_apply (t : Fin cfg0.N) (r : Fin 32) (n : Fin 8) : out0_22 (F := Ideal) (in0 m c t) (in1 m c t) (in3 m c t) (in4 m c t) (ix2 r n) = G22 m c (ix2 r n) := by
  show _ = lsig (_ + _)
  refine (out22_apply _ _ _ _ r n).trans ?_
  exact congrArg lsig (congrArg₂ (· + ·) (ff m c t r n) (f_row m c t n))

theorem final22 : (dats m 0 c).arrAt 22 cfg0.N = G22 m c := by
  refine (dats m 0 c).arrAt_eq_of_covers 22 _ (by decide +kernel) fun t hf y => ?_
  show (dats m 0 c).after 22 t y = _
  rw [after0_22]
  obtain ⟨r, n, rfl⟩ : ∃ (r : Fin 32) (n : Fin 8), y = ix2 r n := ⟨y 0, y 1, eq_ix2 y⟩
  refine (o22_apply m c t r n).trans (congrArg (G22 m c) ?_)
  funext a; match a with
  | ⟨0, _⟩ => refine Fin.ext ?_; blk_simp [idx22 t]
  | ⟨1, _⟩ => refine Fin.ext ?_; blk_simp [idx22 t]

theorem o23_apply (t : Fin cfg0.N) (r : Fin 32) (n : Fin 512) : out0_23 (F := Ideal) (in0 m c t) (in1 m c t) (in2 m c t) (ix2 r n) = G23 m c (ix2 r n) := by
  show _ = _ * _
  refine (out23_apply _ _ _ r n).trans ?_
  exact congrArg₂ (· * ·) (pj3 m c t r n) rfl

theorem final23 : (dats m 0 c).arrAt 23 cfg0.N = G23 m c := by
  refine (dats m 0 c).arrAt_eq_of_covers 23 _ (by decide +kernel) fun t hf y => ?_
  show (dats m 0 c).after 23 t y = _
  rw [after0_23]
  obtain ⟨r, n, rfl⟩ : ∃ (r : Fin 32) (n : Fin 512), y = ix2 r n := ⟨y 0, y 1, eq_ix2 y⟩
  refine (o23_apply m c t r n).trans (congrArg (G23 m c) ?_)
  funext a; match a with
  | ⟨0, _⟩ => refine Fin.ext ?_; blk_simp [idx23 t]
  | ⟨1, _⟩ => refine Fin.ext ?_; blk_simp [idx23 t]

theorem o24_apply (t : Fin cfg0.N) (r : Fin 32) (n : Fin 512) : out0_24 (F := Ideal) (in0 m c t) (in1 m c t) (in2 m c t) (ix2 r n) = G24 m c (ix2 r n) := by
  refine (out24_apply _ _ _ r n).trans ?_
  exact pj4 m c t r n

theorem final24 : (dats m 0 c).arrAt 24 cfg0.N = G24 m c := by
  refine (dats m 0 c).arrAt_eq_of_covers 24 _ (by decide +kernel) fun t hf y => ?_
  show (dats m 0 c).after 24 t y = _
  rw [after0_24]
  obtain ⟨r, n, rfl⟩ : ∃ (r : Fin 32) (n : Fin 512), y = ix2 r n := ⟨y 0, y 1, eq_ix2 y⟩
  refine (o24_apply m c t r n).trans (congrArg (G24 m c) ?_)
  funext a; match a with
  | ⟨0, _⟩ => refine Fin.ext ?_; blk_simp [idx24 t]
  | ⟨1, _⟩ => refine Fin.ext ?_; blk_simp [idx24 t]

theorem o25_apply (t : Fin cfg0.N) (r : Fin 32) (n : Fin 512) : out0_25 (F := Ideal) (in0 m c t) (in1 m c t) (in2 m c t) (ix2 r n) = G25 m c (ix2 r n) := by
  refine (out25_apply _ _ _ r n).trans ?_
  exact pj5 m c t r n

theorem final25 : (dats m 0 c).arrAt 25 cfg0.N = G25 m c := by
  refine (dats m 0 c).arrAt_eq_of_covers 25 _ (by decide +kernel) fun t hf y => ?_
  show (dats m 0 c).after 25 t y = _
  rw [after0_25]
  obtain ⟨r, n, rfl⟩ : ∃ (r : Fin 32) (n : Fin 512), y = ix2 r n := ⟨y 0, y 1, eq_ix2 y⟩
  refine (o25_apply m c t r n).trans (congrArg (G25 m c) ?_)
  funext a; match a with
  | ⟨0, _⟩ => refine Fin.ext ?_; blk_simp [idx25 t]
  | ⟨1, _⟩ => refine Fin.ext ?_; blk_simp [idx25 t]

theorem o26_apply (t : Fin cfg0.N) (r : Fin 32) (n : Fin 512) : out0_26 (F := Ideal) (in0 m c t) (in1 m c t) (in2 m c t) (in8 m c t) (in9 m c t) (in10 m c t) (in11 m c t) (in12 m c t) (in13 m c t) (in14 m c t) (in15 m c t) (in16 m c t) (in17 m c t) (in18 m c t) (ix2 r n) = G26 m c (ix2 r n) := by
  show _ = gate _ (fun x => ar14 m c (ix2 x n)) n
  refine (out26_apply _ _ _ _ _ _ _ _ _ _ _ _ _ _ r n).trans ?_
  refine congrArg₂ (fun z w => gate z w n) (funext fun l => ?_) (funext fun x => w_row m c t x n)
  rw [in13_eq, in14_eq, V_v84, V_v98]
  refine (zk_eq _ _ _ _ _ _ r l _ _ (fun n => re_row m c t r n) (fun n => im_row m c t r n)).trans ?_
  rw [u_row m c t r]
  exact congrArg (fun d => ymix _ _ _ _ _ d l) (funext fun l => d_row m c t l)

theorem final26 : (dats m 0 c).arrAt 26 cfg0.N = G26 m c := by
  refine (dats m 0 c).arrAt_eq_of_covers 26 _ (by decide +kernel) fun t hf y => ?_
  show (dats m 0 c).after 26 t y = _
  rw [after0_26]
  obtain ⟨r, n, rfl⟩ : ∃ (r : Fin 32) (n : Fin 512), y = ix2 r n := ⟨y 0, y 1, eq_ix2 y⟩
  refine (o26_apply m c t r n).trans (congrArg (G26 m c) ?_)
  funext a; match a with
  | ⟨0, _⟩ => refine Fin.ext ?_; blk_simp [idx26 t]
  | ⟨1, _⟩ => refine Fin.ext ?_; blk_simp [idx26 t]

theorem o27_apply (t : Fin cfg0.N) (r : Fin 32) (n : Fin 2048) : out0_27 (F := Ideal) (in0 m c t) (in1 m c t) (in2 m c t) (in8 m c t) (in9 m c t) (in10 m c t) (in11 m c t) (in12 m c t) (in17 m c t) (in18 m c t) (ix2 r n) = G27 m c (ix2 r n) := by
  refine (out27_apply _ _ _ _ _ _ _ _ _ _ r n).trans ?_
  exact re_row m c t r n

theorem final27 : (dats m 0 c).arrAt 27 cfg0.N = G27 m c := by
  refine (dats m 0 c).arrAt_eq_of_covers 27 _ (by decide +kernel) fun t hf y => ?_
  show (dats m 0 c).after 27 t y = _
  rw [after0_27]
  obtain ⟨r, n, rfl⟩ : ∃ (r : Fin 32) (n : Fin 2048), y = ix2 r n := ⟨y 0, y 1, eq_ix2 y⟩
  refine (o27_apply m c t r n).trans (congrArg (G27 m c) ?_)
  funext a; match a with
  | ⟨0, _⟩ => refine Fin.ext ?_; blk_simp [idx27 t]
  | ⟨1, _⟩ => refine Fin.ext ?_; blk_simp [idx27 t]

theorem o28_apply (t : Fin cfg0.N) (r : Fin 32) (n : Fin 2048) : out0_28 (F := Ideal) (in0 m c t) (in1 m c t) (in2 m c t) (in8 m c t) (in9 m c t) (in10 m c t) (in11 m c t) (in12 m c t) (in17 m c t) (in18 m c t) (ix2 r n) = G28 m c (ix2 r n) := by
  refine (out28_apply _ _ _ _ _ _ _ _ _ _ r n).trans ?_
  exact im_row m c t r n

theorem final28 : (dats m 0 c).arrAt 28 cfg0.N = G28 m c := by
  refine (dats m 0 c).arrAt_eq_of_covers 28 _ (by decide +kernel) fun t hf y => ?_
  show (dats m 0 c).after 28 t y = _
  rw [after0_28]
  obtain ⟨r, n, rfl⟩ : ∃ (r : Fin 32) (n : Fin 2048), y = ix2 r n := ⟨y 0, y 1, eq_ix2 y⟩
  refine (o28_apply m c t r n).trans (congrArg (G28 m c) ?_)
  funext a; match a with
  | ⟨0, _⟩ => refine Fin.ext ?_; blk_simp [idx28 t]
  | ⟨1, _⟩ => refine Fin.ext ?_; blk_simp [idx28 t]

end Cert.Kernel4Ideal.DecodePre

end
-- ==== Proof.MdRef.lean ====
module

public import proofs.«01_k».proof.Proof.LayerModel
public import proofs.«01_k».proof.Proof.Gen.Reference5Ideal.Run

@[expose] public section

set_option maxRecDepth 16384

noncomputable section

/-! The reference of the merge of the decoded rows, as the layer's result. -/
namespace Cert.Reference5Ideal.Merge

open Cert.Reference5Ideal.Gen Cert.Reference5Ideal.Value Cert.Layer
open Idealize.ShloMosaic Idealize.ShloMosaic.TcCoe Idealize.ShloMosaic.Tactic Idealize.ShloMosaic.StableHlo
open Idealize.SL Idealize.SL.Sem

/-- The normalised rows. -/
def hn (x : FVec Ideal S32x1x1024 .f32) (g : FVec Ideal S1024 .f32) : FVec Ideal S32x1x1024 .f32 :=
  mulf (mulf x (broadcastInDim S32x1x1024 ![0, 1, 2] bcast_S32x1x1_S32x1x1024_0_1_2 (Host.rsqrt (addf (Host.divf (broadcastInDim S32x1x1 ![0, 1] bcast_S32x1_S32x1x1_0_1 (Host.reduceAdd (mulf x x) (constant S_ .f32 0x00000000#32) reducesTo_S32x1x1024_S32x1_d2 h_S_)) (broadcastInDim S32x1x1 ![] bcast_S_S32x1x1 (constant S_ .f32 0x44800000#32))) (broadcastInDim S32x1x1 ![] bcast_S_S32x1x1 (constant S_ .f32 0x358637BD#32))))))
    (broadcastInDim S32x1x1024 ![0, 1, 2] bcast_S1x1x1024_S32x1x1024_0_1_2 (broadcastInDim S1x1x1024 ![2] bcast_S1024_S1x1x1024_2 g))
/-- The projected columns. -/
def cols (h : FVec Ideal S32x1x1024 .f32) (w : FVec Ideal S1024x8200 .f32) : FVec Ideal S32x1x8200 .f32 := Host.dotGeneral dot_S32x1x1024_S1024x8200_S32x1x8200_2_0_01_1_n_n none h w
/-- A gate. -/
def sg (z : FVec Ideal S32x1x1024 .f32) : FVec Ideal S32x1x1024 .f32 :=
  Host.divf (broadcastInDim S32x1x1024 ![] bcast_S_S32x1x1024 (constant S_ .f32 0x3F800000#32)) (addf (broadcastInDim S32x1x1024 ![] bcast_S_S32x1x1024 (constant S_ .f32 0x3F800000#32)) (Host.exp (Host.negf z)))
/-- A branch, weighted by its unit and projected. -/
def brn (a z : FVec Ideal S32x1x512 .f32) (w : FVec Ideal S512x1024 .f32) : FVec Ideal S32x1x1024 .f32 :=
  Host.dotGeneral dot_S32x1x512_S512x1024_S32x1x1024_2_0_01_1_n_n none (mulf a (mulf z (Host.divf (broadcastInDim S32x1x512 ![] bcast_S_S32x1x512 (constant S_ .f32 0x3F800000#32)) (addf (broadcastInDim S32x1x512 ![] bcast_S_S32x1x512 (constant S_ .f32 0x3F800000#32)) (Host.exp (Host.negf z)))))) w
/-- The three branches of the projected columns. -/
def mixR (C : FVec Ideal S32x1x8200 .f32) (a1 a2 a3 : FVec Ideal S32x512 .f32) (a6 a7 a8 : FVec Ideal S512x1024 .f32) : FVec Ideal S32x1x1024 .f32 :=
  addf (addf (mulf (sg (extractStridedSlice S32x1x1024 ![0, 0, 5128] C slices_S32x1x8200_S32x1x1024_0_0_5128)) (brn (broadcastInDim S32x1x512 ![0, 2] bcast_S32x512_S32x1x512_0_2 a1) (extractStridedSlice S32x1x512 ![0, 0, 1544] C slices_S32x1x8200_S32x1x512_0_0_1544) a6))
    (mulf (sg (extractStridedSlice S32x1x1024 ![0, 0, 6152] C slices_S32x1x8200_S32x1x1024_0_0_6152)) (brn (broadcastInDim S32x1x512 ![0, 2] bcast_S32x512_S32x1x512_0_2 a2) (extractStridedSlice S32x1x512 ![0, 0, 3592] C slices_S32x1x8200_S32x1x512_0_0_3592) a7)))
    (mulf (sg (extractStridedSlice S32x1x1024 ![0, 0, 7176] C slices_S32x1x8200_S32x1x1024_0_0_7176)) (brn (broadcastInDim S32x1x512 ![0, 2] bcast_S32x512_S32x1x512_0_2 a3) (extractStridedSlice S32x1x512 ![0, 0, 4616] C slices_S32x1x8200_S32x1x512_0_0_4616) a8))

theorem hn_apply (x : FVec Ideal S32x1x1024 .f32) (g : FVec Ideal S1024 .f32) (b : Fin 32) (t : Fin 1) (l : Fin 1024) : hn x g (ix3 b t l) = rms (fun k => x (ix3 b t k)) (fun k => g (ix1 k)) l := by
  obtain rfl : t = 0 := Subsingleton.elim _ _
  pointwise [hn, rms]
theorem cols_apply (h : FVec Ideal S32x1x1024 .f32) (w : FVec Ideal S1024x8200 .f32) (b : Fin 32) (t : Fin 1) (l : Fin 8200) : cols h w (ix3 b t l) = dotp (fun k => h (ix3 b t k)) (fun k => w (ix2 k l)) := by
  pointwise [cols, dotp]
theorem sg_apply (z : FVec Ideal S32x1x1024 .f32) (b : Fin 32) (t : Fin 1) (l : Fin 1024) : sg z (ix3 b t l) = Ideal.logistic (z (ix3 b t l)) := by
  pointwise [sg]
  try rfl
theorem brn_apply (a z : FVec Ideal S32x1x512 .f32) (w : FVec Ideal S512x1024 .f32) (b : Fin 32) (t : Fin 1) (l : Fin 1024) : brn a z w (ix3 b t l) = branch (fun k => a (ix3 b t k)) (fun k => z (ix3 b t k)) (fun k => w (ix2 k l)) := by
  pointwise [brn, branch]
  try rfl
theorem mixR_apply (C : FVec Ideal S32x1x8200 .f32) (h : Fin 1024 → EReal) (w : Fin 8200 → Fin 1024 → EReal) (a1 a2 a3 : FVec Ideal S32x512 .f32) (a6 a7 a8 : FVec Ideal S512x1024 .f32) (b : Fin 32) (t : Fin 1)
    (hC : ∀ n, C (ix3 b t n) = dotp h (w n)) (l : Fin 1024) :
    mixR C a1 a2 a3 a6 a7 a8 (ix3 b t l) = mixed h w (fun k => a1 (ix2 b k)) (fun k => a2 (ix2 b k)) (fun k => a3 (ix2 b k)) (fun k l => a6 (ix2 k l)) (fun k l => a7 (ix2 k l)) (fun k l => a8 (ix2 k l)) l := by
  obtain rfl : t = 0 := Subsingleton.elim _ _
  unfold mixed
  simp only [← hC]
  refine Eq.trans (b := (sg _ _) * brn _ _ _ _ + (sg _ _) * brn _ _ _ _ + (sg _ _) * brn _ _ _ _) rfl ?_
  rw [sg_apply, sg_apply, sg_apply, brn_apply, brn_apply, brn_apply]
  pointwise

variable (m : (ℓ : Loc nD τ sig) → Buf (Elt Ideal) ℓ) (c : Dev nD)

/-- Argument 0 of the program. -/
abbrev ar0 : FVec Ideal S32x1x1024 .f32 := m ((c.tc : Thread nD τ).loc main_arg0)

/-- Argument 1 of the program. -/
abbrev ar1 : FVec Ideal S32x512 .f32 := m ((c.tc : Thread nD τ).loc main_arg1)

/-- Argument 2 of the program. -/
abbrev ar2 : FVec Ideal S32x512 .f32 := m ((c.tc : Thread nD τ).loc main_arg2)

/-- Argument 3 of the program. -/
abbrev ar3 : FVec Ideal S32x512 .f32 := m ((c.tc : Thread nD τ).loc main_arg3)

/-- Argument 4 of the program. -/
abbrev ar4 : FVec Ideal S1024 .f32 := m ((c.tc : Thread nD τ).loc main_arg4)

/-- Argument 5 of the program. -/
abbrev ar5 : FVec Ideal S1024x8200 .f32 := m ((c.tc : Thread nD τ).loc main_arg5)

/-- Argument 6 of the program. -/
abbrev ar6 : FVec Ideal S512x1024 .f32 := m ((c.tc : Thread nD τ).loc main_arg6)

/-- Argument 7 of the program. -/
abbrev ar7 : FVec Ideal S512x1024 .f32 := m ((c.tc : Thread nD τ).loc main_arg7)

/-- Argument 8 of the program. -/
abbrev ar8 : FVec Ideal S512x1024 .f32 := m ((c.tc : Thread nD τ).loc main_arg8)

/-- Argument 9 of the program. -/
abbrev ar9 : FVec Ideal S1024x1024 .f32 := m ((c.tc : Thread nD τ).loc main_arg9)

theorem res_eq : res_main_v65 m c = transpose S1x32x1024 [1, 0, 2] (addf (ar0 m c) (Host.dotGeneral dot_S32x1x1024_S1024x1024_S32x1x1024_2_0_01_1_n_n none (mixR (cols (hn (ar0 m c) (ar4 m c)) (ar5 m c)) (ar1 m c) (ar2 m c) (ar3 m c) (ar6 m c) (ar7 m c) (ar8 m c)) (ar9 m c))) transposes_S32x1x1024_S1x32x1024_1_0_2 := rfl

theorem out0 : res_main_v65 m c = fun j : S1x32x1024.Idx =>
    merged (fun k => ar0 m c (ix3 (j 1) 0 k)) (fun k => ar4 m c (ix1 k)) (fun n k => ar5 m c (ix2 k n)) (fun k => ar1 m c (ix2 (j 1) k)) (fun k => ar2 m c (ix2 (j 1) k)) (fun k => ar3 m c (ix2 (j 1) k))
      (fun k l => ar6 m c (ix2 k l)) (fun k l => ar7 m c (ix2 k l)) (fun k l => ar8 m c (ix2 k l)) (fun k l => ar9 m c (ix2 k l)) (j 2) := by
  funext j
  obtain ⟨t, b, l, rfl⟩ : ∃ (t : Fin 1) (b : Fin 32) (l : Fin 1024), j = ix3 t b l := ⟨j 0, j 1, j 2, eq_ix3 j⟩
  obtain rfl : t = 0 := Subsingleton.elim _ _
  show _ = merged _ _ _ _ _ _ _ _ _ _ l
  rw [res_eq]
  unfold merged
  have hX := mixR_apply (cols (hn (ar0 m c) (ar4 m c)) (ar5 m c)) (rms (fun k => ar0 m c (ix3 b 0 k)) (fun k => ar4 m c (ix1 k))) (fun n k => ar5 m c (ix2 k n)) (ar1 m c) (ar2 m c) (ar3 m c) (ar6 m c) (ar7 m c) (ar8 m c) b 0
    (fun n => (cols_apply _ _ b 0 n).trans (congrArg (fun f => dotp f _) (funext fun k => hn_apply _ _ b 0 k)))
  generalize mixR (cols (hn (ar0 m c) (ar4 m c)) (ar5 m c)) (ar1 m c) (ar2 m c) (ar3 m c) (ar6 m c) (ar7 m c) (ar8 m c) = X at hX ⊢
  pointwise
  exact congrArg₂ (· + ·) rfl (Finset.sum_congr rfl fun k _ => congrArg₂ (· * ·) (hX k) rfl)

end Cert.Reference5Ideal.Merge

end
-- ==== Proof.MdPay.lean ====
module

public import proofs.«01_k».proof.Proof.LayerModel
public import proofs.«01_k».proof.Proof.Gen.Kernel5Ideal.Value
public import Idealize.ShloMosaic.Lib.Pipeline.ValueKit
public import Idealize.ShloMosaic.Lib.Pointwise

@[expose] public section

set_option maxRecDepth 16384

noncomputable section

/-! The merge launch of the decoded rows, as the layer's result. -/
namespace Cert.Kernel5Ideal.Merge

open Cert.Kernel5Ideal.Gen Cert.Layer
open Idealize.ShloMosaic Idealize.ShloMosaic.TcCoe Idealize.ShloMosaic.Tactic
open Idealize.SL Idealize.SL.Sem

theorem h_apply (x : FVec Ideal S1x32x1024 .f32) (g : FVec Ideal S1x1024 .f32) (r : Fin 32) (l : Fin 1024) :
    k0_pay3 (F := Ideal) x g (ix2 r l) = rms (fun k => x (ix3 0 r k)) (fun k => g (ix2 0 k)) l := by
  pointwise [k0_pay3, k0_pay2, rms]

/-- The mix of a block. -/
def mx (h : FVec Ideal S32x1024 .bf16) (o₁ o₂ o₃ : FVec Ideal S1x32x512 .f32) (w : FVec Ideal S4608x1024 .bf16) (b : FVec Ideal S3x512x1024 .bf16) (r : Fin 32) (l : Fin 1024) : EReal :=
  Ideal.logistic (dotp (fun k => h (ix2 r k)) (fun k => w (ix2 ⟨1536 + l.val, by omega⟩ k))) * branch (fun k => o₁ (ix3 0 r k)) (fun k => dotp (fun x => h (ix2 r x)) (fun x => w (ix2 ⟨k.val, by omega⟩ x))) (fun k => b (ix3 0 k l))
  + Ideal.logistic (dotp (fun k => h (ix2 r k)) (fun k => w (ix2 ⟨2560 + l.val, by omega⟩ k))) * branch (fun k => o₂ (ix3 0 r k)) (fun k => dotp (fun x => h (ix2 r x)) (fun x => w (ix2 ⟨512 + k.val, by omega⟩ x))) (fun k => b (ix3 1 k l))
  + Ideal.logistic (dotp (fun k => h (ix2 r k)) (fun k => w (ix2 ⟨3584 + l.val, by omega⟩ k))) * branch (fun k => o₃ (ix3 0 r k)) (fun k => dotp (fun x => h (ix2 r x)) (fun x => w (ix2 ⟨1024 + k.val, by omega⟩ x))) (fun k => b (ix3 2 k l))

theorem out_apply (x : FVec Ideal S1x32x1024 .f32) (o₁ o₂ o₃ : FVec Ideal S1x32x512 .f32) (g : FVec Ideal S1x1024 .f32) (w : FVec Ideal S4608x1024 .bf16) (b : FVec Ideal S3x512x1024 .bf16) (wo : FVec Ideal S1024x1024 .bf16) (r : Fin 32) (l : Fin 1024) :
    out0_8 (F := Ideal) x o₁ o₂ o₃ g w b wo (ix3 0 r l) = x (ix3 0 r l) + ∑ k, mx (k0_pay3 (F := Ideal) x g) o₁ o₂ o₃ w b r k * wo (ix2 k l) := by
  unfold out0_8 k0_pay6 k0_pay5
  canon_tiles y h
  obtain ⟨p, q, s, rfl⟩ : ∃ (p : Fin 1) (q : Fin 32) (s : Fin 1024), y = ix3 p q s := ⟨y 0, y 1, y 2, eq_ix3 y⟩
  obtain rfl : r = q := Fin.ext h1
  obtain rfl : l = s := Fin.ext h2
  have e : k0_pay3 (F := Ideal) (View.ld x r0_0) (View.ld g r0_1) = k0_pay3 (F := Ideal) x g := by
    funext j
    obtain ⟨i, k, rfl⟩ : ∃ (i : Fin 32) (k : Fin 1024), j = ix2 i k := ⟨j 0, j 1, eq_ix2 j⟩
    rw [h_apply]
    pointwise [k0_pay3, k0_pay2, rms]
  rw [e]
  generalize k0_pay3 (F := Ideal) x g = H
  pointwise [k0_pay1, k0_pay2, k0_pay7, k0_pay4, mx, branch, dotp]

end Cert.Kernel5Ideal.Merge

end
-- ==== Proof.MdRes.lean ====
module

public import proofs.«01_k».proof.Proof.MdPay

@[expose] public section

set_option maxRecDepth 16384

noncomputable section

/-! The array the merge launch of the decoded rows leaves. -/
namespace Cert.Kernel5Ideal.Merge

open Cert.Kernel5Ideal.Gen Cert.Layer
open Idealize.ShloMosaic Idealize.ShloMosaic.TcCoe Idealize.ShloMosaic.Tactic
open Idealize.SL Idealize.SL.Sem

variable (m : (ℓ : Loc nD τ sig) → Buf (Elt Ideal) ℓ) (c : Dev nD)

/-- Argument 0 of the program. -/
abbrev ar0 : FVec Ideal S32x1x1024 .f32 := m ((c.tc : Thread nD τ).loc main_arg0)

/-- Argument 1 of the program. -/
abbrev ar1 : FVec Ideal S32x512 .f32 := m ((c.tc : Thread nD τ).loc main_arg1)

/-- Argument 2 of the program. -/
abbrev ar2 : FVec Ideal S32x512 .f32 := m ((c.tc : Thread nD τ).loc main_arg2)

/-- Argument 3 of the program. -/
abbrev ar3 : FVec Ideal S32x512 .f32 := m ((c.tc : Thread nD τ).loc main_arg3)

/-- Argument 4 of the program. -/
abbrev ar4 : FVec Ideal S1024 .f32 := m ((c.tc : Thread nD τ).loc main_arg4)

/-- Argument 5 of the program. -/
abbrev ar5 : FVec Ideal S1024x8200 .f32 := m ((c.tc : Thread nD τ).loc main_arg5)

/-- Argument 6 of the program. -/
abbrev ar6 : FVec Ideal S512x1024 .f32 := m ((c.tc : Thread nD τ).loc main_arg6)

/-- Argument 7 of the program. -/
abbrev ar7 : FVec Ideal S512x1024 .f32 := m ((c.tc : Thread nD τ).loc main_arg7)

/-- Argument 8 of the program. -/
abbrev ar8 : FVec Ideal S512x1024 .f32 := m ((c.tc : Thread nD τ).loc main_arg8)

/-- Argument 9 of the program. -/
abbrev ar9 : FVec Ideal S1024x1024 .f32 := m ((c.tc : Thread nD τ).loc main_arg9)

/-- The gates' weights, as the host gathers them. -/
def wg (x : FVec Ideal S1024x8200 .f32) : FVec Ideal S4608x1024 .bf16 :=
  truncf .bf16 (concatenate S4608x1024 0 [⟨S512x1024, extractStridedSlice S512x1024 ![1544, 0] (transpose S8200x1024 [1, 0] x transposes_S1024x8200_S8200x1024_1_0) slices_S8200x1024_S512x1024_1544_0⟩, ⟨S512x1024, extractStridedSlice S512x1024 ![3592, 0] (transpose S8200x1024 [1, 0] x transposes_S1024x8200_S8200x1024_1_0) slices_S8200x1024_S512x1024_3592_0⟩, ⟨S512x1024, extractStridedSlice S512x1024 ![4616, 0] (transpose S8200x1024 [1, 0] x transposes_S1024x8200_S8200x1024_1_0) slices_S8200x1024_S512x1024_4616_0⟩, ⟨S1024x1024, extractStridedSlice S1024x1024 ![5128, 0] (transpose S8200x1024 [1, 0] x transposes_S1024x8200_S8200x1024_1_0) slices_S8200x1024_S1024x1024_5128_0⟩, ⟨S1024x1024, extractStridedSlice S1024x1024 ![6152, 0] (transpose S8200x1024 [1, 0] x transposes_S1024x8200_S8200x1024_1_0) slices_S8200x1024_S1024x1024_6152_0⟩, ⟨S1024x1024, extractStridedSlice S1024x1024 ![7176, 0] (transpose S8200x1024 [1, 0] x transposes_S1024x8200_S8200x1024_1_0) slices_S8200x1024_S1024x1024_7176_0⟩] concatenates_S512x1024_S512x1024_S512x1024_S1024x1024_S1024x1024_S1024x1024_S4608x1024_d0 : FVec Ideal S4608x1024 .f32) bitsLt_bf16_f32

/-- The branches' projections, stacked. -/
def wb (a b d : FVec Ideal S512x1024 .f32) : FVec Ideal S3x512x1024 .bf16 :=
  truncf .bf16 (concatenate S3x512x1024 0 [⟨S1x512x1024, broadcastInDim S1x512x1024 ![1, 2] bcast_S512x1024_S1x512x1024_1_2 a⟩, ⟨S1x512x1024, broadcastInDim S1x512x1024 ![1, 2] bcast_S512x1024_S1x512x1024_1_2 b⟩, ⟨S1x512x1024, broadcastInDim S1x512x1024 ![1, 2] bcast_S512x1024_S1x512x1024_1_2 d⟩] concatenates_S1x512x1024_S1x512x1024_S1x512x1024_S3x512x1024_d0 : FVec Ideal S3x512x1024 .f32) bitsLt_bf16_f32

theorem V_v8 : V m c main_v8 = wg (ar5 m c) := by
  show StableHlo.after hostOps0 (fun b => m (c, b)) (Proc.devRef .tc main_v8) = _
  after_results
  try rfl

theorem V_v13 : V m c main_v13 = wb (ar6 m c) (ar7 m c) (ar8 m c) := by
  show StableHlo.after hostOps0 (fun b => m (c, b)) (Proc.devRef .tc main_v13) = _
  after_results
  try rfl

theorem V_v15 : V m c main_v15 = broadcastInDim S1x32x1024 ![1, 2] bcast_S32x1024_S1x32x1024_1_2 (shapeCast S32x1024 (ar0 m c) shapeCasts_S32x1x1024_S32x1024) := by
  show StableHlo.after hostOps0 (fun b => m (c, b)) (Proc.devRef .tc main_v15) = _
  after_results
  try rfl

theorem V_v16 : V m c main_v16 = broadcastInDim S1x32x512 ![1, 2] bcast_S32x512_S1x32x512_1_2 (ar1 m c) := by
  show StableHlo.after hostOps0 (fun b => m (c, b)) (Proc.devRef .tc main_v16) = _
  after_results
  try rfl

theorem V_v17 : V m c main_v17 = broadcastInDim S1x32x512 ![1, 2] bcast_S32x512_S1x32x512_1_2 (ar2 m c) := by
  show StableHlo.after hostOps0 (fun b => m (c, b)) (Proc.devRef .tc main_v17) = _
  after_results
  try rfl

theorem V_v18 : V m c main_v18 = broadcastInDim S1x32x512 ![1, 2] bcast_S32x512_S1x32x512_1_2 (ar3 m c) := by
  show StableHlo.after hostOps0 (fun b => m (c, b)) (Proc.devRef .tc main_v18) = _
  after_results
  try rfl

theorem V_v19 : V m c main_v19 = broadcastInDim S1x1024 ![1] bcast_S1024_S1x1024_1 (ar4 m c) := by
  show StableHlo.after hostOps0 (fun b => m (c, b)) (Proc.devRef .tc main_v19) = _
  after_results
  try rfl

theorem V_v20 : V m c main_v20 = (truncf .bf16 (ar9 m c) bitsLt_bf16_f32 : FVec Ideal S1024x1024 .bf16) := by
  show StableHlo.after hostOps0 (fun b => m (c, b)) (Proc.devRef .tc main_v20) = _
  after_results
  try rfl

theorem wg_apply0 (x : FVec Ideal S1024x8200 .f32) (j : Fin 512) (k : Fin 1024) : wg x (ix2 ⟨0 + j.val, by omega⟩ k) = x (ix2 k ⟨1544 + j.val, by omega⟩) := by
  unfold wg
  pointwise

theorem wg_apply1 (x : FVec Ideal S1024x8200 .f32) (j : Fin 512) (k : Fin 1024) : wg x (ix2 ⟨512 + j.val, by omega⟩ k) = x (ix2 k ⟨3592 + j.val, by omega⟩) := by
  unfold wg
  pointwise

theorem wg_apply2 (x : FVec Ideal S1024x8200 .f32) (j : Fin 512) (k : Fin 1024) : wg x (ix2 ⟨1024 + j.val, by omega⟩ k) = x (ix2 k ⟨4616 + j.val, by omega⟩) := by
  unfold wg
  pointwise
  rw [dif_neg (by omega), dif_neg (by omega), dif_pos (by omega)]
  exact congrArg x (congrArg (ix2 k) (Fin.ext (by show 4616 + (1024 + j.val - 512 - 512) = 4616 + j.val; omega)))

theorem wg_apply3 (x : FVec Ideal S1024x8200 .f32) (j : Fin 1024) (k : Fin 1024) : wg x (ix2 ⟨1536 + j.val, by omega⟩ k) = x (ix2 k ⟨5128 + j.val, by omega⟩) := by
  unfold wg
  pointwise
  rw [dif_neg (by omega), dif_neg (by omega), dif_neg (by omega), dif_pos (by omega)]
  exact congrArg x (congrArg (ix2 k) (Fin.ext (by show 5128 + (1536 + j.val - 512 - 512 - 512) = 5128 + j.val; omega)))

theorem wg_apply4 (x : FVec Ideal S1024x8200 .f32) (j : Fin 1024) (k : Fin 1024) : wg x (ix2 ⟨2560 + j.val, by omega⟩ k) = x (ix2 k ⟨6152 + j.val, by omega⟩) := by
  unfold wg
  pointwise
  rw [dif_neg (by omega), dif_neg (by omega), dif_neg (by omega), dif_neg (by omega), dif_pos (by omega)]
  exact congrArg x (congrArg (ix2 k) (Fin.ext (by show 6152 + (2560 + j.val - 512 - 512 - 512 - 1024) = 6152 + j.val; omega)))

theorem wg_apply5 (x : FVec Ideal S1024x8200 .f32) (j : Fin 1024) (k : Fin 1024) : wg x (ix2 ⟨3584 + j.val, by omega⟩ k) = x (ix2 k ⟨7176 + j.val, by omega⟩) := by
  unfold wg
  pointwise
  rw [dif_neg (by omega), dif_neg (by omega), dif_neg (by omega), dif_neg (by omega), dif_neg (by omega)]
  exact congrArg x (congrArg (ix2 k) (Fin.ext (by show 7176 + (3584 + j.val - 512 - 512 - 512 - 1024 - 1024) = 7176 + j.val; omega)))

theorem wb_apply0 (a b d : FVec Ideal S512x1024 .f32) (j : Fin 512) (l : Fin 1024) : wb a b d (ix3 0 j l) = a (ix2 j l) := by
  pointwise [wb]

theorem wb_apply1 (a b d : FVec Ideal S512x1024 .f32) (j : Fin 512) (l : Fin 1024) : wb a b d (ix3 1 j l) = b (ix2 j l) := by
  pointwise [wb]

theorem wb_apply2 (a b d : FVec Ideal S512x1024 .f32) (j : Fin 512) (l : Fin 1024) : wb a b d (ix3 2 j l) = d (ix2 j l) := by
  pointwise [wb]

theorem wg_first (x : FVec Ideal S1024x8200 .f32) (j : Fin 512) (k : Fin 1024) : wg x (ix2 ⟨j.val, by omega⟩ k) = x (ix2 k ⟨1544 + j.val, by omega⟩) := by
  refine Eq.trans (congrArg (fun i => wg x (ix2 i k)) (Fin.ext (by show j.val = 0 + j.val; omega))) (wg_apply0 x j k)

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0, 0] := (by decide +kernel : ∀ t : Fin grid0.N, _)
/-- Window 0's block at a point. -/
abbrev in0 (t : Fin cfg0.N) : FVec Ideal S1x32x1024 .f32 := iblk m c 0 t
/-- Window 1's block at a point. -/
abbrev in1 (t : Fin cfg0.N) : FVec Ideal S1x32x512 .f32 := iblk m c 1 t
/-- Window 2's block at a point. -/
abbrev in2 (t : Fin cfg0.N) : FVec Ideal S1x32x512 .f32 := iblk m c 2 t
/-- Window 3's block at a point. -/
abbrev in3 (t : Fin cfg0.N) : FVec Ideal S1x32x512 .f32 := iblk m c 3 t
/-- Window 4's block at a point. -/
abbrev in4 (t : Fin cfg0.N) : FVec Ideal S1x1024 .f32 := iblk m c 4 t
/-- Window 5's block at a point. -/
abbrev in5 (t : Fin cfg0.N) : FVec Ideal S4608x1024 .bf16 := iblk m c 5 t
/-- Window 6's block at a point. -/
abbrev in6 (t : Fin cfg0.N) : FVec Ideal S3x512x1024 .bf16 := iblk m c 6 t
/-- Window 7's block at a point. -/
abbrev in7 (t : Fin cfg0.N) : FVec Ideal S1024x1024 .bf16 := iblk m c 7 t

theorem in0_eq (t : Fin cfg0.N) : in0 m c t = V m c main_v15 := by
  funext y
  show V m c main_v15 (((cfg0.win 0).blk t).view.emb y) = _
  refine congrArg (V m c main_v15) ?_
  funext a; match a with
  | ⟨0, _⟩ => refine Fin.ext ?_; blk_simp [idx0 t]
  | ⟨1, _⟩ => refine Fin.ext ?_; blk_simp [idx0 t]
  | ⟨2, _⟩ => refine Fin.ext ?_; blk_simp [idx0 t]

theorem in1_eq (t : Fin cfg0.N) : in1 m c t = V m c main_v16 := by
  funext y
  show V m c main_v16 (((cfg0.win 1).blk t).view.emb y) = _
  refine congrArg (V m c main_v16) ?_
  funext a; match a with
  | ⟨0, _⟩ => refine Fin.ext ?_; blk_simp [idx1 t]
  | ⟨1, _⟩ => refine Fin.ext ?_; blk_simp [idx1 t]
  | ⟨2, _⟩ => refine Fin.ext ?_; blk_simp [idx1 t]

theorem in2_eq (t : Fin cfg0.N) : in2 m c t = V m c main_v17 := by
  funext y
  show V m c main_v17 (((cfg0.win 2).blk t).view.emb y) = _
  refine congrArg (V m c main_v17) ?_
  funext a; match a with
  | ⟨0, _⟩ => refine Fin.ext ?_; blk_simp [idx2 t]
  | ⟨1, _⟩ => refine Fin.ext ?_; blk_simp [idx2 t]
  | ⟨2, _⟩ => refine Fin.ext ?_; blk_simp [idx2 t]

theorem in3_eq (t : Fin cfg0.N) : in3 m c t = V m c main_v18 := by
  funext y
  show V m c main_v18 (((cfg0.win 3).blk t).view.emb y) = _
  refine congrArg (V m c main_v18) ?_
  funext a; match a with
  | ⟨0, _⟩ => refine Fin.ext ?_; blk_simp [idx3 t]
  | ⟨1, _⟩ => refine Fin.ext ?_; blk_simp [idx3 t]
  | ⟨2, _⟩ => refine Fin.ext ?_; blk_simp [idx3 t]

theorem in4_eq (t : Fin cfg0.N) : in4 m c t = V m c main_v19 := by
  funext y
  show V m c main_v19 (((cfg0.win 4).blk t).view.emb y) = _
  refine congrArg (V m c main_v19) ?_
  funext a; match a with
  | ⟨0, _⟩ => refine Fin.ext ?_; blk_simp [idx4 t]
  | ⟨1, _⟩ => refine Fin.ext ?_; blk_simp [idx4 t]

theorem in5_eq (t : Fin cfg0.N) : in5 m c t = V m c main_v8 := by
  funext y
  show V m c main_v8 (((cfg0.win 5).blk t).view.emb y) = _
  refine congrArg (V m c main_v8) ?_
  funext a; match a with
  | ⟨0, _⟩ => refine Fin.ext ?_; blk_simp [idx5 t]
  | ⟨1, _⟩ => refine Fin.ext ?_; blk_simp [idx5 t]

theorem in6_eq (t : Fin cfg0.N) : in6 m c t = V m c main_v13 := by
  funext y
  show V m c main_v13 (((cfg0.win 6).blk t).view.emb y) = _
  refine congrArg (V m c main_v13) ?_
  funext a; match a with
  | ⟨0, _⟩ => refine Fin.ext ?_; blk_simp [idx6 t]
  | ⟨1, _⟩ => refine Fin.ext ?_; blk_simp [idx6 t]
  | ⟨2, _⟩ => refine Fin.ext ?_; blk_simp [idx6 t]

theorem in7_eq (t : Fin cfg0.N) : in7 m c t = V m c main_v20 := by
  funext y
  show V m c main_v20 (((cfg0.win 7).blk t).view.emb y) = _
  refine congrArg (V m c main_v20) ?_
  funext a; match a with
  | ⟨0, _⟩ => refine Fin.ext ?_; blk_simp [idx7 t]
  | ⟨1, _⟩ => refine Fin.ext ?_; blk_simp [idx7 t]

/-- The result. -/
def G : FVec Ideal S1x32x1024 .f32 := fun j =>
  merged (fun k => ar0 m c (ix3 (j 1) 0 k)) (fun k => ar4 m c (ix1 k)) (fun n k => ar5 m c (ix2 k n)) (fun k => ar1 m c (ix2 (j 1) k)) (fun k => ar2 m c (ix2 (j 1) k)) (fun k => ar3 m c (ix2 (j 1) k))
    (fun k l => ar6 m c (ix2 k l)) (fun k l => ar7 m c (ix2 k l)) (fun k l => ar8 m c (ix2 k l)) (fun k l => ar9 m c (ix2 k l)) (j 2)

theorem in0_apply (t : Fin cfg0.N) (r : Fin 32) (k : Fin 1024) : in0 m c t (ix3 0 r k) = ar0 m c (ix3 r 0 k) := by
  rw [in0_eq, V_v15]
  pointwise
theorem in1_apply (t : Fin cfg0.N) (r : Fin 32) (k : Fin 512) : in1 m c t (ix3 0 r k) = ar1 m c (ix2 r k) := by
  rw [in1_eq, V_v16]
  pointwise
theorem in2_apply (t : Fin cfg0.N) (r : Fin 32) (k : Fin 512) : in2 m c t (ix3 0 r k) = ar2 m c (ix2 r k) := by
  rw [in2_eq, V_v17]
  pointwise
theorem in3_apply (t : Fin cfg0.N) (r : Fin 32) (k : Fin 512) : in3 m c t (ix3 0 r k) = ar3 m c (ix2 r k) := by
  rw [in3_eq, V_v18]
  pointwise
theorem g_row (t : Fin cfg0.N) (k : Fin 1024) : in4 m c t (ix2 0 k) = ar4 m c (ix1 k) := by
  rw [in4_eq, V_v19]
  pointwise
theorem wo_row (t : Fin cfg0.N) (k l : Fin 1024) : in7 m c t (ix2 k l) = ar9 m c (ix2 k l) := by
  rw [in7_eq, V_v20]
  pointwise

theorem o8_apply (t : Fin cfg0.N) (r : Fin 32) (l : Fin 1024) :
    out0_8 (F := Ideal) (in0 m c t) (in1 m c t) (in2 m c t) (in3 m c t) (in4 m c t) (in5 m c t) (in6 m c t) (in7 m c t) (ix3 0 r l)
      = G m c (ix3 0 r l) := by
  refine (out_apply _ _ _ _ _ _ _ _ r l).trans ?_
  show _ = merged _ _ _ _ _ _ _ _ _ _ _
  unfold merged
  refine congrArg₂ (· + ·) (in0_apply m c t r l) (Finset.sum_congr rfl fun k _ => congrArg₂ (· * ·) ?_ (wo_row m c t k l))
  unfold mx mixed
  have eh : (fun k => k0_pay3 (F := Ideal) (in0 m c t) (in4 m c t) (ix2 r k)) = rms (fun k => ar0 m c (ix3 r 0 k)) (fun k => ar4 m c (ix1 k)) := by
    funext k
    refine (h_apply _ _ r k).trans ?_
    simp only [in0_apply, g_row]
  rw [eh, in5_eq, in6_eq, V_v8, V_v13]
  simp only [in1_apply, in2_apply, in3_apply, wg_apply1, wg_apply2, wg_apply3, wg_apply4, wg_apply5, wb_apply0, wb_apply1, wb_apply2, wg_first]
  rfl

theorem final8 : (dats m 0 c).arrAt 8 cfg0.N = G m c := by
  refine (dats m 0 c).arrAt_eq_of_covers 8 _ (by decide +kernel) fun t hf y => ?_
  show (dats m 0 c).after 8 t y = _
  rw [after0_8]
  obtain ⟨p, r, l, rfl⟩ : ∃ (p : Fin 1) (r : Fin 32) (l : Fin 1024), y = ix3 p r l := ⟨y 0, y 1, y 2, eq_ix3 y⟩
  obtain rfl : p = 0 := Subsingleton.elim _ _
  refine (o8_apply m c t r l).trans (congrArg (G m c) ?_)
  funext a; match a with
  | ⟨0, _⟩ => refine Fin.ext ?_; blk_simp [idx8 t]
  | ⟨1, _⟩ => refine Fin.ext ?_; blk_simp [idx8 t]
  | ⟨2, _⟩ => refine Fin.ext ?_; blk_simp [idx8 t]

end Cert.Kernel5Ideal.Merge

end
-- ==== Proof.IpRef.lean ====
module

public import proofs.«01_k».proof.Proof.LayerModel
public import proofs.«01_k».proof.Proof.Gen.Reference3Ideal.Run

@[expose] public section

set_option maxRecDepth 16384

noncomputable section

/-! The reference of the projections, as columns of the layer. -/
namespace Cert.Reference3Ideal.InProj

open Cert.Reference3Ideal.Gen Cert.Reference3Ideal.Value Cert.Layer
open Idealize.ShloMosaic Idealize.ShloMosaic.TcCoe Idealize.ShloMosaic.Tactic Idealize.ShloMosaic.StableHlo
open Idealize.SL Idealize.SL.Sem

/-- The normalised rows. -/
def hn (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))
/-- The projected columns. -/
def cols (h : FVec Ideal S8x2048x1024 .f32) (w : FVec Ideal S1024x8200 .f32) : FVec Ideal S8x2048x8200 .f32 := Host.dotGeneral dot_S8x2048x1024_S1024x8200_S8x2048x8200_2_0_01_1_n_n none h w
/-- Heads of columns. -/
def hd (z : FVec Ideal S8x2048x512 .f32) : FVec Ideal S8x2048x8x64 .f32 := shapeCast _ z shapeCasts_S8x2048x512_S8x2048x8x64
/-- Columns before time. -/
def hb (z : FVec Ideal S8x2048x8x64 .f32) : FVec Ideal S8x512x2048 .f32 := shapeCast _ (transpose S8x8x64x2048 [0, 2, 3, 1] z transposes_S8x2048x8x64_S8x8x64x2048_0_2_3_1) shapeCasts_S8x8x64x2048_S8x512x2048
/-- Each head scaled to unit mean square. -/
def nrm (z : FVec Ideal S8x2048x8x64 .f32) (g : FVec Ideal S64 .f32) : FVec Ideal S8x2048x8x64 .f32 := (mulf (mulf z (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf z z) (constant S_ .f32 0x00000000#32) reducesTo_S8x2048x8x64_S8x2048x8_d3 h_S_)) (broadcastInDim S8x2048x8x1 ![] bcast_S_S8x2048x8x1 (constant S_ .f32 0x42800000#32))) (broadcastInDim S8x2048x8x1 ![] bcast_S_S8x2048x8x1 (constant S_ .f32 0x358637BD#32)))))) (broadcastInDim S8x2048x8x64 ![0, 1, 2, 3] bcast_S1x1x1x64_S8x2048x8x64_0_1_2_3 (broadcastInDim S1x1x1x64 ![3] bcast_S64_S1x1x1x64_3 g)))
/-- The logarithm of the sigmoid. -/
def lsR (z : FVec Ideal S8x2048x8 .f32) : FVec Ideal S8x2048x8 .f32 := Host.negf (select (cmpf .une (subf (Host.negf z) (broadcastInDim S8x2048x8 ![] bcast_S_S8x2048x8 (constant S_ .f32 0x00000000#32))) (subf (Host.negf z) (broadcastInDim S8x2048x8 ![] bcast_S_S8x2048x8 (constant S_ .f32 0x00000000#32)))) (addf (Host.negf z) (broadcastInDim S8x2048x8 ![] bcast_S_S8x2048x8 (constant S_ .f32 0x00000000#32))) (addf (maximumf (Host.negf z) (broadcastInDim S8x2048x8 ![] bcast_S_S8x2048x8 (constant S_ .f32 0x00000000#32))) (Host.log1p (Host.exp (Host.negf (Host.absf (subf (Host.negf z) (broadcastInDim S8x2048x8 ![] bcast_S_S8x2048x8 (constant S_ .f32 0x00000000#32)))))))))
/-- The columns of the decay. -/
def dec (C : FVec Ideal S8x2048x8200 .f32) (a3 : FVec Ideal S8 .f32) : FVec Ideal S8x2048x8 .f32 := (addf (extractStridedSlice S8x2048x8 ![0, 0, 1536] C slices_S8x2048x8200_S8x2048x8_0_0_1536) (broadcastInDim S8x2048x8 ![0, 1, 2] bcast_S1x1x8_S8x2048x8_0_1_2 (broadcastInDim S1x1x8 ![2] bcast_S8_S1x1x8_2 a3)))
/-- Scaled. -/
def scl (z : FVec Ideal S8x512x2048 .f32) : FVec Ideal S8x512x2048 .bf16 := truncf .bf16 (mulf z (broadcastInDim S8x512x2048 ![] bcast_S_S8x512x2048 (constant S_ .f32 0x3E000000#32))) bitsLt_bf16_f32

theorem hn_apply (x : FVec Ideal S8x2048x1024 .f32) (g : FVec Ideal S1024 .f32) (b : Fin 8) (t : Fin 2048) (l : Fin 1024) : hn x g (ix3 b t l) = rms (fun k => x (ix3 b t k)) (fun k => g (ix1 k)) l := by
  pointwise [hn, rms]
theorem cols_apply (h : FVec Ideal S8x2048x1024 .f32) (w : FVec Ideal S1024x8200 .f32) (b : Fin 8) (t : Fin 2048) (l : Fin 8200) : cols h w (ix3 b t l) = dotp (fun k => h (ix3 b t k)) (fun k => w (ix2 k l)) := by
  pointwise [cols, dotp]
theorem hb_hd (z : FVec Ideal S8x2048x512 .f32) (b : Fin 8) (n : Fin 512) (t : Fin 2048) : hb (hd z) (ix3 b n t) = z (ix3 b t n) := by
  pointwise [hb, hd]
theorem hb_nrm (z : FVec Ideal S8x2048x512 .f32) (g : FVec Ideal S64 .f32) (b : Fin 8) (n : Fin 512) (t : Fin 2048) : hb (nrm (hd z) g) (ix3 b n t) = hnorm (fun i => z (ix3 b t i)) (fun e => g (ix1 e)) n := by
  pointwise [hb, hd, nrm, hnorm]
theorem lsR_apply (z : FVec Ideal S8x2048x8 .f32) (b : Fin 8) (t : Fin 2048) (n : Fin 8) : lsR z (ix3 b t n) = lsig (z (ix3 b t n)) := by
  rw [← neg_softplus]
  pointwise [lsR]
  rw [if_neg (fun h => h rfl)]
  generalize z (ix3 b t n) = Z
  show -(max (-Z) 0 + Ideal.log (1 + Ideal.exp (-(max (-Z) (- -Z))))) = _
  rw [neg_neg]
theorem dec_apply (C : FVec Ideal S8x2048x8200 .f32) (a : FVec Ideal S8 .f32) (b : Fin 8) (t : Fin 2048) (n : Fin 8) : dec C a (ix3 b t n) = C (ix3 b t ⟨1536 + n.val, by omega⟩) + a (ix1 n) := by
  pointwise [dec]
theorem scl_apply (z : FVec Ideal S8x512x2048 .f32) (b : Fin 8) (n : Fin 512) (t : Fin 2048) : scl z (ix3 b n t) = z (ix3 b n t) * Ideal.ofBits .f32 1040187392#32 := by
  pointwise [scl]
/-- The columns from 0. -/
def sl0 (C : FVec Ideal S8x2048x8200 .f32) : FVec Ideal S8x2048x512 .f32 := extractStridedSlice S8x2048x512 ![0, 0, 0] C slices_S8x2048x8200_S8x2048x512_0_0_0
theorem sl0_apply (C : FVec Ideal S8x2048x8200 .f32) (b : Fin 8) (t : Fin 2048) (n : Fin 512) : sl0 C (ix3 b t n) = C (ix3 b t ⟨0 + n.val, by omega⟩) := by
  pointwise [sl0]
/-- The columns from 512. -/
def sl512 (C : FVec Ideal S8x2048x8200 .f32) : FVec Ideal S8x2048x512 .f32 := extractStridedSlice S8x2048x512 ![0, 0, 512] C slices_S8x2048x8200_S8x2048x512_0_0_512
theorem sl512_apply (C : FVec Ideal S8x2048x8200 .f32) (b : Fin 8) (t : Fin 2048) (n : Fin 512) : sl512 C (ix3 b t n) = C (ix3 b t ⟨512 + n.val, by omega⟩) := by
  pointwise [sl512]
/-- The columns from 1024. -/
def sl1024 (C : FVec Ideal S8x2048x8200 .f32) : FVec Ideal S8x2048x512 .f32 := extractStridedSlice S8x2048x512 ![0, 0, 1024] C slices_S8x2048x8200_S8x2048x512_0_0_1024
theorem sl1024_apply (C : FVec Ideal S8x2048x8200 .f32) (b : Fin 8) (t : Fin 2048) (n : Fin 512) : sl1024 C (ix3 b t n) = C (ix3 b t ⟨1024 + n.val, by omega⟩) := by
  pointwise [sl1024]
/-- The columns from 2056. -/
def sl2056 (C : FVec Ideal S8x2048x8200 .f32) : FVec Ideal S8x2048x512 .f32 := extractStridedSlice S8x2048x512 ![0, 0, 2056] C slices_S8x2048x8200_S8x2048x512_0_0_2056
theorem sl2056_apply (C : FVec Ideal S8x2048x8200 .f32) (b : Fin 8) (t : Fin 2048) (n : Fin 512) : sl2056 C (ix3 b t n) = C (ix3 b t ⟨2056 + n.val, by omega⟩) := by
  pointwise [sl2056]
/-- The columns from 2568. -/
def sl2568 (C : FVec Ideal S8x2048x8200 .f32) : FVec Ideal S8x2048x512 .f32 := extractStridedSlice S8x2048x512 ![0, 0, 2568] C slices_S8x2048x8200_S8x2048x512_0_0_2568
theorem sl2568_apply (C : FVec Ideal S8x2048x8200 .f32) (b : Fin 8) (t : Fin 2048) (n : Fin 512) : sl2568 C (ix3 b t n) = C (ix3 b t ⟨2568 + n.val, by omega⟩) := by
  pointwise [sl2568]
/-- The columns from 3080. -/
def sl3080 (C : FVec Ideal S8x2048x8200 .f32) : FVec Ideal S8x2048x512 .f32 := extractStridedSlice S8x2048x512 ![0, 0, 3080] C slices_S8x2048x8200_S8x2048x512_0_0_3080
theorem sl3080_apply (C : FVec Ideal S8x2048x8200 .f32) (b : Fin 8) (t : Fin 2048) (n : Fin 512) : sl3080 C (ix3 b t n) = C (ix3 b t ⟨3080 + n.val, by omega⟩) := by
  pointwise [sl3080]
/-- The columns from 4104. -/
def sl4104 (C : FVec Ideal S8x2048x8200 .f32) : FVec Ideal S8x2048x512 .f32 := extractStridedSlice S8x2048x512 ![0, 0, 4104] C slices_S8x2048x8200_S8x2048x512_0_0_4104
theorem sl4104_apply (C : FVec Ideal S8x2048x8200 .f32) (b : Fin 8) (t : Fin 2048) (n : Fin 512) : sl4104 C (ix3 b t n) = C (ix3 b t ⟨4104 + n.val, by omega⟩) := by
  pointwise [sl4104]

variable (m : (ℓ : Loc nD τ sig) → Buf (Elt Ideal) ℓ) (c : Dev nD)

/-- Argument 0 of the program. -/
abbrev ar0 : FVec Ideal S8x2048x1024 .f32 := m ((c.tc : Thread nD τ).loc main_arg0)

/-- Argument 1 of the program. -/
abbrev ar1 : FVec Ideal S1024 .f32 := m ((c.tc : Thread nD τ).loc main_arg1)

/-- Argument 2 of the program. -/
abbrev ar2 : FVec Ideal S1024x8200 .f32 := m ((c.tc : Thread nD τ).loc main_arg2)

/-- Argument 3 of the program. -/
abbrev ar3 : FVec Ideal S8 .f32 := m ((c.tc : Thread nD τ).loc main_arg3)

/-- Argument 4 of the program. -/
abbrev ar4 : FVec Ideal S64 .f32 := m ((c.tc : Thread nD τ).loc main_arg4)

/-- Argument 5 of the program. -/
abbrev ar5 : FVec Ideal S64 .f32 := m ((c.tc : Thread nD τ).loc main_arg5)

/-- All the columns. -/
def cc : FVec Ideal S8x2048x8200 .f32 := cols (hn (ar0 m c) (ar1 m c)) (ar2 m c)

theorem cc_apply (b : Fin 8) (t : Fin 2048) (n : Fin 8200) : cc m c (ix3 b t n) = dotp (rms (fun k => ar0 m c (ix3 b t k)) (fun k => ar1 m c (ix1 k))) (fun k => ar2 m c (ix2 k n)) := by
  unfold cc
  rw [cols_apply]
  exact congrArg (fun f => dotp f _) (funext fun k => hn_apply _ _ b t k)

/-- Result 0. -/
def r0 : FVec Ideal S8x512x2048 .bf16 := scl (hb (nrm (hd (sl0 (cc m c))) (ar4 m c)))
theorem r0_eq : r0 m c = fun j : S8x512x2048.Idx => hnorm (fun i => pcol (fun k => ar0 m c (ix3 (j 0) (j 2) k)) (fun k => ar1 m c (ix1 k)) (fun n k => ar2 m c (ix2 k n)) 0 (by omega) i) (fun e => ar4 m c (ix1 e)) (j 1) * Ideal.ofBits .f32 1040187392#32 := by
  funext j
  obtain ⟨b, n, t, rfl⟩ : ∃ (b : Fin 8) (n : Fin 512) (t : Fin 2048), j = ix3 b n t := ⟨j 0, j 1, j 2, eq_ix3 j⟩
  show _ = hnorm (fun i => pcol (fun k => ar0 m c (ix3 b t k)) (fun k => ar1 m c (ix1 k)) (fun n k => ar2 m c (ix2 k n)) 0 (by omega) i) (fun e => ar4 m c (ix1 e)) n * Ideal.ofBits .f32 1040187392#32
  unfold r0
  rw [scl_apply, hb_nrm]
  exact congrArg (fun z => hnorm z _ n * _) (funext fun i => (sl0_apply _ b t i).trans (cc_apply m c b t _))

/-- Result 1. -/
def r1 : FVec Ideal S8x512x2048 .f32 := hb (nrm (hd (sl512 (cc m c))) (ar5 m c))
theorem r1_eq : r1 m c = fun j : S8x512x2048.Idx => hnorm (fun i => pcol (fun k => ar0 m c (ix3 (j 0) (j 2) k)) (fun k => ar1 m c (ix1 k)) (fun n k => ar2 m c (ix2 k n)) 512 (by omega) i) (fun e => ar5 m c (ix1 e)) (j 1) := by
  funext j
  obtain ⟨b, n, t, rfl⟩ : ∃ (b : Fin 8) (n : Fin 512) (t : Fin 2048), j = ix3 b n t := ⟨j 0, j 1, j 2, eq_ix3 j⟩
  show _ = hnorm (fun i => pcol (fun k => ar0 m c (ix3 b t k)) (fun k => ar1 m c (ix1 k)) (fun n k => ar2 m c (ix2 k n)) 512 (by omega) i) (fun e => ar5 m c (ix1 e)) n
  unfold r1
  rw [hb_nrm]
  exact congrArg (fun z => hnorm z _ n) (funext fun i => (sl512_apply _ b t i).trans (cc_apply m c b t _))

/-- Result 2. -/
def r2 : FVec Ideal S8x512x2048 .f32 := hb (hd (sl1024 (cc m c)))
theorem r2_eq : r2 m c = fun j : S8x512x2048.Idx => pcol (fun k => ar0 m c (ix3 (j 0) (j 2) k)) (fun k => ar1 m c (ix1 k)) (fun n k => ar2 m c (ix2 k n)) 1024 (by omega) (j 1) := by
  funext j
  obtain ⟨b, n, t, rfl⟩ : ∃ (b : Fin 8) (n : Fin 512) (t : Fin 2048), j = ix3 b n t := ⟨j 0, j 1, j 2, eq_ix3 j⟩
  show _ = pcol (fun k => ar0 m c (ix3 b t k)) (fun k => ar1 m c (ix1 k)) (fun n k => ar2 m c (ix2 k n)) 1024 (by omega) n
  unfold r2
  rw [hb_hd]
  exact (sl1024_apply _ b t n).trans (cc_apply m c b t _)

/-- Result 3. -/
def r3 : FVec Ideal S8x8x2048 .f32 := transpose S8x8x2048 [0, 2, 1] (lsR (dec (cc m c) (ar3 m c))) transposes_S8x2048x8_S8x8x2048_0_2_1
theorem r3_eq : r3 m c = fun j : S8x8x2048.Idx => decay (fun k => ar0 m c (ix3 (j 0) (j 2) k)) (fun k => ar1 m c (ix1 k)) (fun n k => ar2 m c (ix2 k n)) (fun i => ar3 m c (ix1 i)) (j 1) := by
  funext j
  obtain ⟨b, n, t, rfl⟩ : ∃ (b : Fin 8) (n : Fin 8) (t : Fin 2048), j = ix3 b n t := ⟨j 0, j 1, j 2, eq_ix3 j⟩
  show _ = decay (fun k => ar0 m c (ix3 b t k)) (fun k => ar1 m c (ix1 k)) (fun n k => ar2 m c (ix2 k n)) (fun i => ar3 m c (ix1 i)) n
  unfold r3
  refine Eq.trans (b := lsR (dec (cc m c) (ar3 m c)) (ix3 b t n)) (by pointwise) ?_
  rw [lsR_apply, dec_apply, cc_apply]
  rfl

/-- Result 4. -/
def r4 : FVec Ideal S8x2048x8 .f32 := lsR (dec (cc m c) (ar3 m c))
theorem r4_eq : r4 m c = fun j : S8x2048x8.Idx => decay (fun k => ar0 m c (ix3 (j 0) (j 1) k)) (fun k => ar1 m c (ix1 k)) (fun n k => ar2 m c (ix2 k n)) (fun i => ar3 m c (ix1 i)) (j 2) := by
  funext j
  obtain ⟨b, t, n, rfl⟩ : ∃ (b : Fin 8) (t : Fin 2048) (n : Fin 8), j = ix3 b t n := ⟨j 0, j 1, j 2, eq_ix3 j⟩
  show _ = decay (fun k => ar0 m c (ix3 b t k)) (fun k => ar1 m c (ix1 k)) (fun n k => ar2 m c (ix2 k n)) (fun i => ar3 m c (ix1 i)) n
  unfold r4
  rw [lsR_apply, dec_apply, cc_apply]
  rfl

/-- Result 5. -/
def r5 : FVec Ideal S8x512x2048 .bf16 := scl (hb (hd (sl2056 (cc m c))))
theorem r5_eq : r5 m c = fun j : S8x512x2048.Idx => pcol (fun k => ar0 m c (ix3 (j 0) (j 2) k)) (fun k => ar1 m c (ix1 k)) (fun n k => ar2 m c (ix2 k n)) 2056 (by omega) (j 1) * Ideal.ofBits .f32 1040187392#32 := by
  funext j
  obtain ⟨b, n, t, rfl⟩ : ∃ (b : Fin 8) (n : Fin 512) (t : Fin 2048), j = ix3 b n t := ⟨j 0, j 1, j 2, eq_ix3 j⟩
  show _ = pcol (fun k => ar0 m c (ix3 b t k)) (fun k => ar1 m c (ix1 k)) (fun n k => ar2 m c (ix2 k n)) 2056 (by omega) n * Ideal.ofBits .f32 1040187392#32
  unfold r5
  rw [scl_apply, hb_hd]
  exact congrArg (· * _) ((sl2056_apply _ b t n).trans (cc_apply m c b t _))

/-- Result 6. -/
def r6 : FVec Ideal S8x512x2048 .f32 := hb (hd (sl2568 (cc m c)))
theorem r6_eq : r6 m c = fun j : S8x512x2048.Idx => pcol (fun k => ar0 m c (ix3 (j 0) (j 2) k)) (fun k => ar1 m c (ix1 k)) (fun n k => ar2 m c (ix2 k n)) 2568 (by omega) (j 1) := by
  funext j
  obtain ⟨b, n, t, rfl⟩ : ∃ (b : Fin 8) (n : Fin 512) (t : Fin 2048), j = ix3 b n t := ⟨j 0, j 1, j 2, eq_ix3 j⟩
  show _ = pcol (fun k => ar0 m c (ix3 b t k)) (fun k => ar1 m c (ix1 k)) (fun n k => ar2 m c (ix2 k n)) 2568 (by omega) n
  unfold r6
  rw [hb_hd]
  exact (sl2568_apply _ b t n).trans (cc_apply m c b t _)

/-- Result 7. -/
def r7 : FVec Ideal S8x512x2048 .f32 := hb (hd (sl3080 (cc m c)))
theorem r7_eq : r7 m c = fun j : S8x512x2048.Idx => pcol (fun k => ar0 m c (ix3 (j 0) (j 2) k)) (fun k => ar1 m c (ix1 k)) (fun n k => ar2 m c (ix2 k n)) 3080 (by omega) (j 1) := by
  funext j
  obtain ⟨b, n, t, rfl⟩ : ∃ (b : Fin 8) (n : Fin 512) (t : Fin 2048), j = ix3 b n t := ⟨j 0, j 1, j 2, eq_ix3 j⟩
  show _ = pcol (fun k => ar0 m c (ix3 b t k)) (fun k => ar1 m c (ix1 k)) (fun n k => ar2 m c (ix2 k n)) 3080 (by omega) n
  unfold r7
  rw [hb_hd]
  exact (sl3080_apply _ b t n).trans (cc_apply m c b t _)

/-- Result 8. -/
def r8 : FVec Ideal S8x2048x512 .f32 := sl4104 (cc m c)
theorem r8_eq : r8 m c = fun j : S8x2048x512.Idx => pcol (fun k => ar0 m c (ix3 (j 0) (j 1) k)) (fun k => ar1 m c (ix1 k)) (fun n k => ar2 m c (ix2 k n)) 4104 (by omega) (j 2) := by
  funext j
  obtain ⟨b, t, n, rfl⟩ : ∃ (b : Fin 8) (t : Fin 2048) (n : Fin 512), j = ix3 b t n := ⟨j 0, j 1, j 2, eq_ix3 j⟩
  show _ = pcol (fun k => ar0 m c (ix3 b t k)) (fun k => ar1 m c (ix1 k)) (fun n k => ar2 m c (ix2 k n)) 4104 (by omega) n
  unfold r8
  exact (sl4104_apply _ b t n).trans (cc_apply m c b t _)

end Cert.Reference3Ideal.InProj

end
-- ==== Proof.MgRef.lean ====
module

public import proofs.«01_k».proof.Proof.LayerModel
public import proofs.«01_k».proof.Proof.Gen.Reference2Ideal.Run

@[expose] public section

set_option maxRecDepth 16384

noncomputable section

/-! The reference of the merge, as the layer's result. -/
namespace Cert.Reference2Ideal.Merge

open Cert.Reference2Ideal.Gen Cert.Reference2Ideal.Value Cert.Layer
open Idealize.ShloMosaic Idealize.ShloMosaic.TcCoe Idealize.ShloMosaic.Tactic Idealize.ShloMosaic.StableHlo
open Idealize.SL Idealize.SL.Sem

/-- The normalised rows. -/
def hn (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))
/-- The projected columns. -/
def cols (h : FVec Ideal S8x2048x1024 .f32) (w : FVec Ideal S1024x8200 .f32) : FVec Ideal S8x2048x8200 .f32 := Host.dotGeneral dot_S8x2048x1024_S1024x8200_S8x2048x8200_2_0_01_1_n_n none h w
/-- A gate. -/
def sg (z : FVec Ideal S8x2048x1024 .f32) : FVec Ideal S8x2048x1024 .f32 :=
  Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf z)))
/-- A branch, weighted by its unit and projected. -/
def brn (a z : FVec Ideal S8x2048x512 .f32) (w : FVec Ideal S512x1024 .f32) : FVec Ideal S8x2048x1024 .f32 :=
  Host.dotGeneral dot_S8x2048x512_S512x1024_S8x2048x1024_2_0_01_1_n_n none (mulf a (mulf z (Host.divf (broadcastInDim S8x2048x512 ![] bcast_S_S8x2048x512 (constant S_ .f32 0x3F800000#32)) (addf (broadcastInDim S8x2048x512 ![] bcast_S_S8x2048x512 (constant S_ .f32 0x3F800000#32)) (Host.exp (Host.negf z)))))) w
/-- The three branches of the projected columns. -/
def mixR (C : FVec Ideal S8x2048x8200 .f32) (a1 a2 : FVec Ideal S8x512x2048 .f32) (a3 : FVec Ideal S8x2048x512 .f32) (a6 a7 a8 : FVec Ideal S512x1024 .f32) : FVec Ideal S8x2048x1024 .f32 :=
  addf (addf (mulf (sg (extractStridedSlice S8x2048x1024 ![0, 0, 5128] C slices_S8x2048x8200_S8x2048x1024_0_0_5128)) (brn (transpose S8x2048x512 [0, 2, 1] a1 transposes_S8x512x2048_S8x2048x512_0_2_1) (extractStridedSlice S8x2048x512 ![0, 0, 1544] C slices_S8x2048x8200_S8x2048x512_0_0_1544) a6))
    (mulf (sg (extractStridedSlice S8x2048x1024 ![0, 0, 6152] C slices_S8x2048x8200_S8x2048x1024_0_0_6152)) (brn (transpose S8x2048x512 [0, 2, 1] a2 transposes_S8x512x2048_S8x2048x512_0_2_1) (extractStridedSlice S8x2048x512 ![0, 0, 3592] C slices_S8x2048x8200_S8x2048x512_0_0_3592) a7)))
    (mulf (sg (extractStridedSlice S8x2048x1024 ![0, 0, 7176] C slices_S8x2048x8200_S8x2048x1024_0_0_7176)) (brn a3 (extractStridedSlice S8x2048x512 ![0, 0, 4616] C slices_S8x2048x8200_S8x2048x512_0_0_4616) a8))

theorem hn_apply (x : FVec Ideal S8x2048x1024 .f32) (g : FVec Ideal S1024 .f32) (b : Fin 8) (t : Fin 2048) (l : Fin 1024) : hn x g (ix3 b t l) = rms (fun k => x (ix3 b t k)) (fun k => g (ix1 k)) l := by
  pointwise [hn, rms]
theorem cols_apply (h : FVec Ideal S8x2048x1024 .f32) (w : FVec Ideal S1024x8200 .f32) (b : Fin 8) (t : Fin 2048) (l : Fin 8200) : cols h w (ix3 b t l) = dotp (fun k => h (ix3 b t k)) (fun k => w (ix2 k l)) := by
  pointwise [cols, dotp]
theorem sg_apply (z : FVec Ideal S8x2048x1024 .f32) (b : Fin 8) (t : Fin 2048) (l : Fin 1024) : sg z (ix3 b t l) = Ideal.logistic (z (ix3 b t l)) := by
  pointwise [sg]
  try rfl
theorem brn_apply (a z : FVec Ideal S8x2048x512 .f32) (w : FVec Ideal S512x1024 .f32) (b : Fin 8) (t : Fin 2048) (l : Fin 1024) : brn a z w (ix3 b t l) = branch (fun k => a (ix3 b t k)) (fun k => z (ix3 b t k)) (fun k => w (ix2 k l)) := by
  pointwise [brn, branch]
  try rfl
theorem mixR_apply (C : FVec Ideal S8x2048x8200 .f32) (h : Fin 1024 → EReal) (w : Fin 8200 → Fin 1024 → EReal) (a1 a2 : FVec Ideal S8x512x2048 .f32) (a3 : FVec Ideal S8x2048x512 .f32) (a6 a7 a8 : FVec Ideal S512x1024 .f32) (b : Fin 8) (t : Fin 2048)
    (hC : ∀ n, C (ix3 b t n) = dotp h (w n)) (l : Fin 1024) :
    mixR C a1 a2 a3 a6 a7 a8 (ix3 b t l) = mixed h w (fun k => a1 (ix3 b k t)) (fun k => a2 (ix3 b k t)) (fun k => a3 (ix3 b t k)) (fun k l => a6 (ix2 k l)) (fun k l => a7 (ix2 k l)) (fun k l => a8 (ix2 k l)) l := by
  unfold mixed
  simp only [← hC]
  refine Eq.trans (b := (sg _ _) * brn _ _ _ _ + (sg _ _) * brn _ _ _ _ + (sg _ _) * brn _ _ _ _) rfl ?_
  rw [sg_apply, sg_apply, sg_apply, brn_apply, brn_apply, brn_apply]
  pointwise

variable (m : (ℓ : Loc nD τ sig) → Buf (Elt Ideal) ℓ) (c : Dev nD)

/-- Argument 0 of the program. -/
abbrev ar0 : FVec Ideal S8x2048x1024 .f32 := m ((c.tc : Thread nD τ).loc main_arg0)

/-- Argument 1 of the program. -/
abbrev ar1 : FVec Ideal S8x512x2048 .f32 := m ((c.tc : Thread nD τ).loc main_arg1)

/-- Argument 2 of the program. -/
abbrev ar2 : FVec Ideal S8x512x2048 .f32 := m ((c.tc : Thread nD τ).loc main_arg2)

/-- Argument 3 of the program. -/
abbrev ar3 : FVec Ideal S8x2048x512 .f32 := m ((c.tc : Thread nD τ).loc main_arg3)

/-- Argument 4 of the program. -/
abbrev ar4 : FVec Ideal S1024 .f32 := m ((c.tc : Thread nD τ).loc main_arg4)

/-- Argument 5 of the program. -/
abbrev ar5 : FVec Ideal S1024x8200 .f32 := m ((c.tc : Thread nD τ).loc main_arg5)

/-- Argument 6 of the program. -/
abbrev ar6 : FVec Ideal S512x1024 .f32 := m ((c.tc : Thread nD τ).loc main_arg6)

/-- Argument 7 of the program. -/
abbrev ar7 : FVec Ideal S512x1024 .f32 := m ((c.tc : Thread nD τ).loc main_arg7)

/-- Argument 8 of the program. -/
abbrev ar8 : FVec Ideal S512x1024 .f32 := m ((c.tc : Thread nD τ).loc main_arg8)

/-- Argument 9 of the program. -/
abbrev ar9 : FVec Ideal S1024x1024 .f32 := m ((c.tc : Thread nD τ).loc main_arg9)

theorem res_eq : res_main_v63 m c = addf (ar0 m c) (Host.dotGeneral dot_S8x2048x1024_S1024x1024_S8x2048x1024_2_0_01_1_n_n none (mixR (cols (hn (ar0 m c) (ar4 m c)) (ar5 m c)) (ar1 m c) (ar2 m c) (ar3 m c) (ar6 m c) (ar7 m c) (ar8 m c)) (ar9 m c)) := rfl

theorem out0 : res_main_v63 m c = fun j : S8x2048x1024.Idx =>
    merged (fun k => ar0 m c (ix3 (j 0) (j 1) k)) (fun k => ar4 m c (ix1 k)) (fun n k => ar5 m c (ix2 k n)) (fun k => ar1 m c (ix3 (j 0) k (j 1))) (fun k => ar2 m c (ix3 (j 0) k (j 1))) (fun k => ar3 m c (ix3 (j 0) (j 1) k))
      (fun k l => ar6 m c (ix2 k l)) (fun k l => ar7 m c (ix2 k l)) (fun k l => ar8 m c (ix2 k l)) (fun k l => ar9 m c (ix2 k l)) (j 2) := by
  funext j
  obtain ⟨b, t, l, rfl⟩ : ∃ (b : Fin 8) (t : Fin 2048) (l : Fin 1024), j = ix3 b t l := ⟨j 0, j 1, j 2, eq_ix3 j⟩
  show _ = merged _ _ _ _ _ _ _ _ _ _ l
  rw [res_eq]
  unfold merged
  have hX := mixR_apply (cols (hn (ar0 m c) (ar4 m c)) (ar5 m c)) (rms (fun k => ar0 m c (ix3 b t k)) (fun k => ar4 m c (ix1 k))) (fun n k => ar5 m c (ix2 k n)) (ar1 m c) (ar2 m c) (ar3 m c) (ar6 m c) (ar7 m c) (ar8 m c) b t
    (fun n => (cols_apply _ _ b t n).trans (congrArg (fun f => dotp f _) (funext fun k => hn_apply _ _ b t k)))
  generalize mixR (cols (hn (ar0 m c) (ar4 m c)) (ar5 m c)) (ar1 m c) (ar2 m c) (ar3 m c) (ar6 m c) (ar7 m c) (ar8 m c) = X at hX ⊢
  pointwise
  exact congrArg₂ (· + ·) rfl (Finset.sum_congr rfl fun k _ => congrArg₂ (· * ·) (hX k) rfl)

end Cert.Reference2Ideal.Merge

end
-- ==== Proof.MgPay.lean ====
module

public import proofs.«01_k».proof.Proof.LayerModel
public import proofs.«01_k».proof.Proof.Gen.Kernel2Ideal.Value
public import Idealize.ShloMosaic.Lib.Pipeline.ValueKit
public import Idealize.ShloMosaic.Lib.Pointwise

@[expose] public section

set_option maxRecDepth 16384

noncomputable section

/-! The merge launch, as the layer's result. -/
namespace Cert.Kernel2Ideal.Merge

open Cert.Kernel2Ideal.Gen Cert.Layer
open Idealize.ShloMosaic Idealize.ShloMosaic.TcCoe Idealize.ShloMosaic.Tactic
open Idealize.SL Idealize.SL.Sem

theorem h_apply (x : FVec Ideal S1x512x1024 .f32) (g : FVec Ideal S1x1024 .f32) (r : Fin 512) (l : Fin 1024) :
    k0_pay3 (F := Ideal) x g (ix2 r l) = rms (fun k => x (ix3 0 r k)) (fun k => g (ix2 0 k)) l := by
  pointwise [k0_pay3, k0_pay2, rms]

/-- The mix of a block. -/
def mx (h : FVec Ideal S512x1024 .bf16) (o₁ o₂ o₃ : FVec Ideal S1x512x512 .f32) (w : FVec Ideal S4608x1024 .bf16) (b : FVec Ideal S3x512x1024 .bf16) (r : Fin 512) (l : Fin 1024) : EReal :=
  Ideal.logistic (dotp (fun k => h (ix2 r k)) (fun k => w (ix2 ⟨1536 + l.val, by omega⟩ k))) * branch (fun k => o₁ (ix3 0 k r)) (fun k => dotp (fun x => h (ix2 r x)) (fun x => w (ix2 ⟨k.val, by omega⟩ x))) (fun k => b (ix3 0 k l))
  + Ideal.logistic (dotp (fun k => h (ix2 r k)) (fun k => w (ix2 ⟨2560 + l.val, by omega⟩ k))) * branch (fun k => o₂ (ix3 0 k r)) (fun k => dotp (fun x => h (ix2 r x)) (fun x => w (ix2 ⟨512 + k.val, by omega⟩ x))) (fun k => b (ix3 1 k l))
  + Ideal.logistic (dotp (fun k => h (ix2 r k)) (fun k => w (ix2 ⟨3584 + l.val, by omega⟩ k))) * branch (fun k => o₃ (ix3 0 r k)) (fun k => dotp (fun x => h (ix2 r x)) (fun x => w (ix2 ⟨1024 + k.val, by omega⟩ x))) (fun k => b (ix3 2 k l))

theorem out_apply (x : FVec Ideal S1x512x1024 .f32) (o₁ o₂ o₃ : FVec Ideal S1x512x512 .f32) (g : FVec Ideal S1x1024 .f32) (w : FVec Ideal S4608x1024 .bf16) (b : FVec Ideal S3x512x1024 .bf16) (wo : FVec Ideal S1024x1024 .bf16) (r : Fin 512) (l : Fin 1024) :
    out0_8 (F := Ideal) x o₁ o₂ o₃ g w b wo (ix3 0 r l) = x (ix3 0 r l) + ∑ k, mx (k0_pay3 (F := Ideal) x g) o₁ o₂ o₃ w b r k * wo (ix2 k l) := by
  unfold out0_8 k0_pay9 k0_pay5
  canon_tiles y h
  obtain ⟨p, q, s, rfl⟩ : ∃ (p : Fin 1) (q : Fin 512) (s : Fin 1024), y = ix3 p q s := ⟨y 0, y 1, y 2, eq_ix3 y⟩
  obtain rfl : r = q := Fin.ext h1
  obtain rfl : l = s := Fin.ext h2
  have e : k0_pay3 (F := Ideal) (View.ld x r0_0) (View.ld g r0_1) = k0_pay3 (F := Ideal) x g := by
    funext j
    obtain ⟨i, k, rfl⟩ : ∃ (i : Fin 512) (k : Fin 1024), j = ix2 i k := ⟨j 0, j 1, eq_ix2 j⟩
    rw [h_apply]
    pointwise [k0_pay3, k0_pay2, rms]
  rw [e]
  generalize k0_pay3 (F := Ideal) x g = H
  pointwise [k0_pay1, k0_pay2, k0_pay7, k0_pay8, k0_pay4, k0_pay6, mx, branch, dotp]

end Cert.Kernel2Ideal.Merge

end
-- ==== Proof.MgRes.lean ====
module

public import proofs.«01_k».proof.Proof.MgPay

@[expose] public section

set_option maxRecDepth 16384

noncomputable section

/-! The array the merge launch leaves. -/
namespace Cert.Kernel2Ideal.Merge

open Cert.Kernel2Ideal.Gen Cert.Layer
open Idealize.ShloMosaic Idealize.ShloMosaic.TcCoe Idealize.ShloMosaic.Tactic
open Idealize.SL Idealize.SL.Sem

variable (m : (ℓ : Loc nD τ sig) → Buf (Elt Ideal) ℓ) (c : Dev nD)

/-- Argument 0 of the program. -/
abbrev ar0 : FVec Ideal S8x2048x1024 .f32 := m ((c.tc : Thread nD τ).loc main_arg0)

/-- Argument 1 of the program. -/
abbrev ar1 : FVec Ideal S8x512x2048 .f32 := m ((c.tc : Thread nD τ).loc main_arg1)

/-- Argument 2 of the program. -/
abbrev ar2 : FVec Ideal S8x512x2048 .f32 := m ((c.tc : Thread nD τ).loc main_arg2)

/-- Argument 3 of the program. -/
abbrev ar3 : FVec Ideal S8x2048x512 .f32 := m ((c.tc : Thread nD τ).loc main_arg3)

/-- Argument 4 of the program. -/
abbrev ar4 : FVec Ideal S1024 .f32 := m ((c.tc : Thread nD τ).loc main_arg4)

/-- Argument 5 of the program. -/
abbrev ar5 : FVec Ideal S1024x8200 .f32 := m ((c.tc : Thread nD τ).loc main_arg5)

/-- Argument 6 of the program. -/
abbrev ar6 : FVec Ideal S512x1024 .f32 := m ((c.tc : Thread nD τ).loc main_arg6)

/-- Argument 7 of the program. -/
abbrev ar7 : FVec Ideal S512x1024 .f32 := m ((c.tc : Thread nD τ).loc main_arg7)

/-- Argument 8 of the program. -/
abbrev ar8 : FVec Ideal S512x1024 .f32 := m ((c.tc : Thread nD τ).loc main_arg8)

/-- Argument 9 of the program. -/
abbrev ar9 : FVec Ideal S1024x1024 .f32 := m ((c.tc : Thread nD τ).loc main_arg9)

/-- The gates' weights, as the host gathers them. -/
def wg (x : FVec Ideal S1024x8200 .f32) : FVec Ideal S4608x1024 .bf16 :=
  truncf .bf16 (concatenate S4608x1024 0 [⟨S512x1024, extractStridedSlice S512x1024 ![1544, 0] (transpose S8200x1024 [1, 0] x transposes_S1024x8200_S8200x1024_1_0) slices_S8200x1024_S512x1024_1544_0⟩, ⟨S512x1024, extractStridedSlice S512x1024 ![3592, 0] (transpose S8200x1024 [1, 0] x transposes_S1024x8200_S8200x1024_1_0) slices_S8200x1024_S512x1024_3592_0⟩, ⟨S512x1024, extractStridedSlice S512x1024 ![4616, 0] (transpose S8200x1024 [1, 0] x transposes_S1024x8200_S8200x1024_1_0) slices_S8200x1024_S512x1024_4616_0⟩, ⟨S1024x1024, extractStridedSlice S1024x1024 ![5128, 0] (transpose S8200x1024 [1, 0] x transposes_S1024x8200_S8200x1024_1_0) slices_S8200x1024_S1024x1024_5128_0⟩, ⟨S1024x1024, extractStridedSlice S1024x1024 ![6152, 0] (transpose S8200x1024 [1, 0] x transposes_S1024x8200_S8200x1024_1_0) slices_S8200x1024_S1024x1024_6152_0⟩, ⟨S1024x1024, extractStridedSlice S1024x1024 ![7176, 0] (transpose S8200x1024 [1, 0] x transposes_S1024x8200_S8200x1024_1_0) slices_S8200x1024_S1024x1024_7176_0⟩] concatenates_S512x1024_S512x1024_S512x1024_S1024x1024_S1024x1024_S1024x1024_S4608x1024_d0 : FVec Ideal S4608x1024 .f32) bitsLt_bf16_f32

/-- The branches' projections, stacked. -/
def wb (a b d : FVec Ideal S512x1024 .f32) : FVec Ideal S3x512x1024 .bf16 :=
  truncf .bf16 (concatenate S3x512x1024 0 [⟨S1x512x1024, broadcastInDim S1x512x1024 ![1, 2] bcast_S512x1024_S1x512x1024_1_2 a⟩, ⟨S1x512x1024, broadcastInDim S1x512x1024 ![1, 2] bcast_S512x1024_S1x512x1024_1_2 b⟩, ⟨S1x512x1024, broadcastInDim S1x512x1024 ![1, 2] bcast_S512x1024_S1x512x1024_1_2 d⟩] concatenates_S1x512x1024_S1x512x1024_S1x512x1024_S3x512x1024_d0 : FVec Ideal S3x512x1024 .f32) bitsLt_bf16_f32

theorem V_v8 : V m c main_v8 = wg (ar5 m c) := by
  show StableHlo.after hostOps0 (fun b => m (c, b)) (Proc.devRef .tc main_v8) = _
  after_results
  try rfl

theorem V_v13 : V m c main_v13 = wb (ar6 m c) (ar7 m c) (ar8 m c) := by
  show StableHlo.after hostOps0 (fun b => m (c, b)) (Proc.devRef .tc main_v13) = _
  after_results
  try rfl

theorem V_v14 : V m c main_v14 = broadcastInDim S1x1024 ![1] bcast_S1024_S1x1024_1 (ar4 m c) := by
  show StableHlo.after hostOps0 (fun b => m (c, b)) (Proc.devRef .tc main_v14) = _
  after_results
  try rfl

theorem V_v15 : V m c main_v15 = (truncf .bf16 (ar9 m c) bitsLt_bf16_f32 : FVec Ideal S1024x1024 .bf16) := by
  show StableHlo.after hostOps0 (fun b => m (c, b)) (Proc.devRef .tc main_v15) = _
  after_results
  try rfl

theorem wg_apply0 (x : FVec Ideal S1024x8200 .f32) (j : Fin 512) (k : Fin 1024) : wg x (ix2 ⟨0 + j.val, by omega⟩ k) = x (ix2 k ⟨1544 + j.val, by omega⟩) := by
  unfold wg
  pointwise

theorem wg_apply1 (x : FVec Ideal S1024x8200 .f32) (j : Fin 512) (k : Fin 1024) : wg x (ix2 ⟨512 + j.val, by omega⟩ k) = x (ix2 k ⟨3592 + j.val, by omega⟩) := by
  unfold wg
  pointwise

theorem wg_apply2 (x : FVec Ideal S1024x8200 .f32) (j : Fin 512) (k : Fin 1024) : wg x (ix2 ⟨1024 + j.val, by omega⟩ k) = x (ix2 k ⟨4616 + j.val, by omega⟩) := by
  unfold wg
  pointwise
  rw [dif_neg (by omega), dif_neg (by omega), dif_pos (by omega)]
  exact congrArg x (congrArg (ix2 k) (Fin.ext (by show 4616 + (1024 + j.val - 512 - 512) = 4616 + j.val; omega)))

theorem wg_apply3 (x : FVec Ideal S1024x8200 .f32) (j : Fin 1024) (k : Fin 1024) : wg x (ix2 ⟨1536 + j.val, by omega⟩ k) = x (ix2 k ⟨5128 + j.val, by omega⟩) := by
  unfold wg
  pointwise
  rw [dif_neg (by omega), dif_neg (by omega), dif_neg (by omega), dif_pos (by omega)]
  exact congrArg x (congrArg (ix2 k) (Fin.ext (by show 5128 + (1536 + j.val - 512 - 512 - 512) = 5128 + j.val; omega)))

theorem wg_apply4 (x : FVec Ideal S1024x8200 .f32) (j : Fin 1024) (k : Fin 1024) : wg x (ix2 ⟨2560 + j.val, by omega⟩ k) = x (ix2 k ⟨6152 + j.val, by omega⟩) := by
  unfold wg
  pointwise
  rw [dif_neg (by omega), dif_neg (by omega), dif_neg (by omega), dif_neg (by omega), dif_pos (by omega)]
  exact congrArg x (congrArg (ix2 k) (Fin.ext (by show 6152 + (2560 + j.val - 512 - 512 - 512 - 1024) = 6152 + j.val; omega)))

theorem wg_apply5 (x : FVec Ideal S1024x8200 .f32) (j : Fin 1024) (k : Fin 1024) : wg x (ix2 ⟨3584 + j.val, by omega⟩ k) = x (ix2 k ⟨7176 + j.val, by omega⟩) := by
  unfold wg
  pointwise
  rw [dif_neg (by omega), dif_neg (by omega), dif_neg (by omega), dif_neg (by omega), dif_neg (by omega)]
  exact congrArg x (congrArg (ix2 k) (Fin.ext (by show 7176 + (3584 + j.val - 512 - 512 - 512 - 1024 - 1024) = 7176 + j.val; omega)))

theorem wb_apply0 (a b d : FVec Ideal S512x1024 .f32) (j : Fin 512) (l : Fin 1024) : wb a b d (ix3 0 j l) = a (ix2 j l) := by
  pointwise [wb]

theorem wb_apply1 (a b d : FVec Ideal S512x1024 .f32) (j : Fin 512) (l : Fin 1024) : wb a b d (ix3 1 j l) = b (ix2 j l) := by
  pointwise [wb]

theorem wb_apply2 (a b d : FVec Ideal S512x1024 .f32) (j : Fin 512) (l : Fin 1024) : wb a b d (ix3 2 j l) = d (ix2 j l) := by
  pointwise [wb]

theorem wg_first (x : FVec Ideal S1024x8200 .f32) (j : Fin 512) (k : Fin 1024) : wg x (ix2 ⟨j.val, by omega⟩ k) = x (ix2 k ⟨1544 + j.val, by omega⟩) := by
  refine Eq.trans (congrArg (fun i => wg x (ix2 i k)) (Fin.ext (by show j.val = 0 + j.val; omega))) (wg_apply0 x j k)

theorem idx0 : ∀ t : Fin cfg0.N, win0_0.index t = ![t.val / 4, t.val % 4, 0] := (by decide +kernel : ∀ t : Fin grid0.N, _)
theorem idx1 : ∀ t : Fin cfg0.N, win0_1.index t = ![t.val / 4, 0, t.val % 4] := (by decide +kernel : ∀ t : Fin grid0.N, _)
theorem idx2 : ∀ t : Fin cfg0.N, win0_2.index t = ![t.val / 4, 0, t.val % 4] := (by decide +kernel : ∀ t : Fin grid0.N, _)
theorem idx3 : ∀ t : Fin cfg0.N, win0_3.index t = ![t.val / 4, t.val % 4, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val / 4, t.val % 4, 0] := (by decide +kernel : ∀ t : Fin grid0.N, _)
/-- Window 0's block at a point. -/
abbrev in0 (t : Fin cfg0.N) : FVec Ideal S1x512x1024 .f32 := iblk m c 0 t
/-- Window 1's block at a point. -/
abbrev in1 (t : Fin cfg0.N) : FVec Ideal S1x512x512 .f32 := iblk m c 1 t
/-- Window 2's block at a point. -/
abbrev in2 (t : Fin cfg0.N) : FVec Ideal S1x512x512 .f32 := iblk m c 2 t
/-- Window 3's block at a point. -/
abbrev in3 (t : Fin cfg0.N) : FVec Ideal S1x512x512 .f32 := iblk m c 3 t
/-- Window 4's block at a point. -/
abbrev in4 (t : Fin cfg0.N) : FVec Ideal S1x1024 .f32 := iblk m c 4 t
/-- Window 5's block at a point. -/
abbrev in5 (t : Fin cfg0.N) : FVec Ideal S4608x1024 .bf16 := iblk m c 5 t
/-- Window 6's block at a point. -/
abbrev in6 (t : Fin cfg0.N) : FVec Ideal S3x512x1024 .bf16 := iblk m c 6 t
/-- Window 7's block at a point. -/
abbrev in7 (t : Fin cfg0.N) : FVec Ideal S1024x1024 .bf16 := iblk m c 7 t

theorem in0_apply (t : Fin cfg0.N) (r : Fin 512) (k : Fin 1024) : in0 m c t (ix3 0 r k) = ar0 m c (ix3 ⟨t.val / 4 % 8, by omega⟩ ⟨512 * (t.val % 4) + r.val, by omega⟩ k) := by
  have ht : t.val < 32 := Nat.lt_of_lt_of_eq t.isLt N_0
  refine Eq.trans (show _ = V m c main_arg0 (((cfg0.win 0).blk t).view.emb (ix3 0 r k)) from rfl) ?_
  rw [V_main_arg0]
  refine congrArg (ar0 m c) ?_
  funext a; match a with
  | ⟨0, _⟩ => refine Fin.ext ?_; blk_simp [idx0 t]; show t.val / 4 = t.val / 4 % 8; omega
  | ⟨1, _⟩ => refine Fin.ext ?_; blk_simp [idx0 t]; show t.val % 4 * 512 + r.val = 512 * (t.val % 4) + r.val; omega
  | ⟨2, _⟩ => refine Fin.ext ?_; blk_simp [idx0 t]

theorem in3_apply (t : Fin cfg0.N) (r : Fin 512) (k : Fin 512) : in3 m c t (ix3 0 r k) = ar3 m c (ix3 ⟨t.val / 4 % 8, by omega⟩ ⟨512 * (t.val % 4) + r.val, by omega⟩ k) := by
  have ht : t.val < 32 := Nat.lt_of_lt_of_eq t.isLt N_0
  refine Eq.trans (show _ = V m c main_arg3 (((cfg0.win 3).blk t).view.emb (ix3 0 r k)) from rfl) ?_
  rw [V_main_arg3]
  refine congrArg (ar3 m c) ?_
  funext a; match a with
  | ⟨0, _⟩ => refine Fin.ext ?_; blk_simp [idx3 t]; show t.val / 4 = t.val / 4 % 8; omega
  | ⟨1, _⟩ => refine Fin.ext ?_; blk_simp [idx3 t]; show t.val % 4 * 512 + r.val = 512 * (t.val % 4) + r.val; omega
  | ⟨2, _⟩ => refine Fin.ext ?_; blk_simp [idx3 t]

theorem in1_apply (t : Fin cfg0.N) (k : Fin 512) (r : Fin 512) : in1 m c t (ix3 0 k r) = ar1 m c (ix3 ⟨t.val / 4 % 8, by omega⟩ k ⟨512 * (t.val % 4) + r.val, by omega⟩) := by
  have ht : t.val < 32 := Nat.lt_of_lt_of_eq t.isLt N_0
  refine Eq.trans (show _ = V m c main_arg1 (((cfg0.win 1).blk t).view.emb (ix3 0 k r)) from rfl) ?_
  rw [V_main_arg1]
  refine congrArg (ar1 m c) ?_
  funext a; match a with
  | ⟨0, _⟩ => refine Fin.ext ?_; blk_simp [idx1 t]; show t.val / 4 = t.val / 4 % 8; omega
  | ⟨1, _⟩ => refine Fin.ext ?_; blk_simp [idx1 t]
  | ⟨2, _⟩ => refine Fin.ext ?_; blk_simp [idx1 t]; show t.val % 4 * 512 + r.val = 512 * (t.val % 4) + r.val; omega

theorem in2_apply (t : Fin cfg0.N) (k : Fin 512) (r : Fin 512) : in2 m c t (ix3 0 k r) = ar2 m c (ix3 ⟨t.val / 4 % 8, by omega⟩ k ⟨512 * (t.val % 4) + r.val, by omega⟩) := by
  have ht : t.val < 32 := Nat.lt_of_lt_of_eq t.isLt N_0
  refine Eq.trans (show _ = V m c main_arg2 (((cfg0.win 2).blk t).view.emb (ix3 0 k r)) from rfl) ?_
  rw [V_main_arg2]
  refine congrArg (ar2 m c) ?_
  funext a; match a with
  | ⟨0, _⟩ => refine Fin.ext ?_; blk_simp [idx2 t]; show t.val / 4 = t.val / 4 % 8; omega
  | ⟨1, _⟩ => refine Fin.ext ?_; blk_simp [idx2 t]
  | ⟨2, _⟩ => refine Fin.ext ?_; blk_simp [idx2 t]; show t.val % 4 * 512 + r.val = 512 * (t.val % 4) + r.val; omega

theorem in4_eq (t : Fin cfg0.N) : in4 m c t = V m c main_v14 := by
  funext y
  show V m c main_v14 (((cfg0.win 4).blk t).view.emb y) = _
  refine congrArg (V m c main_v14) ?_
  funext a; match a with
  | ⟨0, _⟩ => refine Fin.ext ?_; blk_simp [idx4 t]
  | ⟨1, _⟩ => refine Fin.ext ?_; blk_simp [idx4 t]

theorem in5_eq (t : Fin cfg0.N) : in5 m c t = V m c main_v8 := by
  funext y
  show V m c main_v8 (((cfg0.win 5).blk t).view.emb y) = _
  refine congrArg (V m c main_v8) ?_
  funext a; match a with
  | ⟨0, _⟩ => refine Fin.ext ?_; blk_simp [idx5 t]
  | ⟨1, _⟩ => refine Fin.ext ?_; blk_simp [idx5 t]

theorem in6_eq (t : Fin cfg0.N) : in6 m c t = V m c main_v13 := by
  funext y
  show V m c main_v13 (((cfg0.win 6).blk t).view.emb y) = _
  refine congrArg (V m c main_v13) ?_
  funext a; match a with
  | ⟨0, _⟩ => refine Fin.ext ?_; blk_simp [idx6 t]
  | ⟨1, _⟩ => refine Fin.ext ?_; blk_simp [idx6 t]
  | ⟨2, _⟩ => refine Fin.ext ?_; blk_simp [idx6 t]

theorem in7_eq (t : Fin cfg0.N) : in7 m c t = V m c main_v15 := by
  funext y
  show V m c main_v15 (((cfg0.win 7).blk t).view.emb y) = _
  refine congrArg (V m c main_v15) ?_
  funext a; match a with
  | ⟨0, _⟩ => refine Fin.ext ?_; blk_simp [idx7 t]
  | ⟨1, _⟩ => refine Fin.ext ?_; blk_simp [idx7 t]

/-- The result. -/
def G : FVec Ideal S8x2048x1024 .f32 := fun j =>
  merged (fun k => ar0 m c (ix3 (j 0) (j 1) k)) (fun k => ar4 m c (ix1 k)) (fun n k => ar5 m c (ix2 k n)) (fun k => ar1 m c (ix3 (j 0) k (j 1))) (fun k => ar2 m c (ix3 (j 0) k (j 1))) (fun k => ar3 m c (ix3 (j 0) (j 1) k))
    (fun k l => ar6 m c (ix2 k l)) (fun k l => ar7 m c (ix2 k l)) (fun k l => ar8 m c (ix2 k l)) (fun k l => ar9 m c (ix2 k l)) (j 2)

theorem g_row (t : Fin cfg0.N) (k : Fin 1024) : in4 m c t (ix2 0 k) = ar4 m c (ix1 k) := by
  rw [in4_eq, V_v14]
  pointwise
theorem wo_row (t : Fin cfg0.N) (k l : Fin 1024) : in7 m c t (ix2 k l) = ar9 m c (ix2 k l) := by
  rw [in7_eq, V_v15]
  pointwise

theorem o8_apply (t : Fin cfg0.N) (r : Fin 512) (l : Fin 1024) :
    out0_8 (F := Ideal) (in0 m c t) (in1 m c t) (in2 m c t) (in3 m c t) (in4 m c t) (in5 m c t) (in6 m c t) (in7 m c t) (ix3 0 r l)
      = G m c (ix3 ⟨t.val / 4 % 8, by omega⟩ ⟨512 * (t.val % 4) + r.val, by omega⟩ l) := by
  refine (out_apply _ _ _ _ _ _ _ _ r l).trans ?_
  show _ = merged _ _ _ _ _ _ _ _ _ _ _
  unfold merged
  refine congrArg₂ (· + ·) (in0_apply m c t r l) (Finset.sum_congr rfl fun k _ => congrArg₂ (· * ·) ?_ (wo_row m c t k l))
  unfold mx mixed
  have eh : (fun k => k0_pay3 (F := Ideal) (in0 m c t) (in4 m c t) (ix2 r k)) = rms (fun k => ar0 m c (ix3 ⟨t.val / 4 % 8, by omega⟩ ⟨512 * (t.val % 4) + r.val, by omega⟩ k)) (fun k => ar4 m c (ix1 k)) := by
    funext k
    refine (h_apply _ _ r k).trans ?_
    simp only [in0_apply, g_row]
  rw [eh, in5_eq, in6_eq, V_v8, V_v13]
  simp only [in1_apply, in2_apply, in3_apply, wg_apply1, wg_apply2, wg_apply3, wg_apply4, wg_apply5, wb_apply0, wb_apply1, wb_apply2, wg_first]
  rfl

theorem final8 : (dats m 0 c).arrAt 8 cfg0.N = G m c := by
  refine (dats m 0 c).arrAt_eq_of_covers 8 _ (by decide +kernel) fun t hf y => ?_
  have ht : t.val < 32 := Nat.lt_of_lt_of_eq t.isLt N_0
  show (dats m 0 c).after 8 t y = _
  rw [after0_8]
  obtain ⟨p, r, l, rfl⟩ : ∃ (p : Fin 1) (r : Fin 512) (l : Fin 1024), y = ix3 p r l := ⟨y 0, y 1, y 2, eq_ix3 y⟩
  obtain rfl : p = 0 := Subsingleton.elim _ _
  refine (o8_apply m c t r l).trans (congrArg (G m c) ?_)
  funext a; match a with
  | ⟨0, _⟩ => refine Fin.ext ?_; blk_simp [idx8 t]; show t.val / 4 % 8 = _; omega
  | ⟨1, _⟩ => refine Fin.ext ?_; blk_simp [idx8 t]; show 512 * (t.val % 4) + r.val = _; omega
  | ⟨2, _⟩ => refine Fin.ext ?_; blk_simp [idx8 t]

end Cert.Kernel2Ideal.Merge

end
-- ==== Proof.lean ====
module

public import proofs.«01_k».proof.Proof.Gen.Reference5Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference3Ideal.Run
public import proofs.«01_k».proof.Proof.Gen.Reference2Ideal.Run
public import proofs.«01_k».proof.Proof.Gen.Kernel3.Frame
public import proofs.«01_k».proof.Proof.Gen.Kernel2.Frame
public import proofs.«01_k».proof.Proof.Gen.Kernel3Ideal.Value
public import proofs.«01_k».proof.Proof.Gen.Kernel2Ideal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.SsmBits
public import proofs.«01_k».proof.Proof.SsmRes
public import proofs.«01_k».proof.Proof.SsmRef
public import proofs.«01_k».proof.Proof.DpBits
public import proofs.«01_k».proof.Proof.DpRef
public import proofs.«01_k».proof.Proof.DpRes
public import proofs.«01_k».proof.Proof.MdRef
public import proofs.«01_k».proof.Proof.MdRes
public import proofs.«01_k».proof.Proof.IpRef
public import proofs.«01_k».proof.Proof.IpRes
public import proofs.«01_k».proof.Proof.MgRef
public import proofs.«01_k».proof.Proof.MgRes
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ => Cert.KernelIdeal.Ssm.frame m ρ

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

theorem value : Cert.algebraic_KernelIdeal_ReferenceIdeal := by
  intro m g m' g' _ hagree
  refine ⟨Cert.KernelIdeal.Ssm.G0 m, Cert.KernelIdeal.Ssm.G1 m, Cert.KernelIdeal.Ssm.G2 m, ?_, ?_⟩
  · refine (θ_run Cert.KernelIdeal.defs _ _).mono (fun r h c => ⟨(h.1 c).1, (h.1 c).2.1, (h.1 c).2.2, h.2 c⟩)
      (θ_run_and (Cert.KernelIdeal.Ssm.run_value m g) (Cert.KernelIdeal.Ssm.unchanged m g))
  · refine (θ_run Cert.ReferenceIdeal.defs _ _).mono (fun r h c => ?_) (Cert.ReferenceIdeal.Value.run m' g')
    obtain ⟨h0, h1, h2, hrest⟩ := h c
    obtain ⟨a0, a1, a2, a3, a4, a5, a6, a7, a8, a9⟩ := hagree c
    refine ⟨h0.trans ?_, h1.trans ?_, h2.trans ?_, hrest⟩
    · rw [Cert.ReferenceIdeal.Ssm.out0]
      unfold Cert.ReferenceIdeal.Ssm.ar0 Cert.ReferenceIdeal.Ssm.ar1 Cert.ReferenceIdeal.Ssm.ar2 Cert.ReferenceIdeal.Ssm.ar3 Cert.ReferenceIdeal.Ssm.ar4 Cert.ReferenceIdeal.Ssm.ar5 Cert.ReferenceIdeal.Ssm.ar6 Cert.ReferenceIdeal.Ssm.ar7 Cert.ReferenceIdeal.Ssm.ar8 Cert.ReferenceIdeal.Ssm.ar9
      rw [a0, a1, a2, a3, a4, a5, a6, a7, a8, a9]
    · rw [Cert.ReferenceIdeal.Ssm.out1]
      unfold Cert.ReferenceIdeal.Ssm.ar0 Cert.ReferenceIdeal.Ssm.ar1 Cert.ReferenceIdeal.Ssm.ar2 Cert.ReferenceIdeal.Ssm.ar3 Cert.ReferenceIdeal.Ssm.ar4 Cert.ReferenceIdeal.Ssm.ar5
      rw [a0, a1, a2, a3, a4, a5]
    · rw [Cert.ReferenceIdeal.Ssm.out2]
      unfold Cert.ReferenceIdeal.Ssm.ar0 Cert.ReferenceIdeal.Ssm.ar1 Cert.ReferenceIdeal.Ssm.ar2 Cert.ReferenceIdeal.Ssm.ar3 Cert.ReferenceIdeal.Ssm.ar4 Cert.ReferenceIdeal.Ssm.ar5
      rw [a0, a1, a2, a3, a4, a5]

/-! The merge of the branches, and the projections before them. -/

theorem frame_bits2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem value2 : Cert.algebraic_Kernel2Ideal_Reference2Ideal := by
  intro m g m' g' _ hagree
  refine ⟨Cert.Kernel2Ideal.Merge.G m, ?_, ?_⟩
  · refine (θ_run Cert.Kernel2Ideal.defs _ _).mono (fun r h c => ?_) (Cert.Kernel2Ideal.Value.run_blocks m g)
    obtain ⟨h0, hrest⟩ := h c
    exact ⟨h0.trans (Cert.Kernel2Ideal.Merge.final8 m c), hrest⟩
  · refine (θ_run Cert.Reference2Ideal.defs _ _).mono (fun r h c => ?_) (Cert.Reference2Ideal.Value.run m' g')
    obtain ⟨h0, hrest⟩ := h c
    obtain ⟨a0, a1, a2, a3, a4, a5, a6, a7, a8, a9⟩ := hagree c
    refine ⟨h0.trans ?_, hrest⟩
    · refine (Cert.Reference2Ideal.Merge.out0 m' c).trans ?_
      simp only [Cert.Reference2Ideal.Merge.ar0, Cert.Reference2Ideal.Merge.ar1, Cert.Reference2Ideal.Merge.ar2, Cert.Reference2Ideal.Merge.ar3, Cert.Reference2Ideal.Merge.ar4, Cert.Reference2Ideal.Merge.ar5, Cert.Reference2Ideal.Merge.ar6, Cert.Reference2Ideal.Merge.ar7, Cert.Reference2Ideal.Merge.ar8, Cert.Reference2Ideal.Merge.ar9, a0, a1, a2, a3, a4, a5, a6, a7, a8, a9]
      rfl

theorem frame_bits3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2.2.2.2.2.2.2.2.2, sem_eq_zero_of_no_sems (by decide) r.2⟩)
    (Cert.Reference3Ideal.Value.run m ρ)

theorem value3 : Cert.algebraic_Kernel3Ideal_Reference3Ideal := by
  intro m g m' g' _ hagree
  refine ⟨Cert.Kernel3Ideal.InProj.G8 m, Cert.Kernel3Ideal.InProj.G9 m, Cert.Kernel3Ideal.InProj.G10 m, Cert.Kernel3Ideal.InProj.G11 m, Cert.Kernel3Ideal.InProj.G12 m, Cert.Kernel3Ideal.InProj.G13 m, Cert.Kernel3Ideal.InProj.G14 m, Cert.Kernel3Ideal.InProj.G15 m, Cert.Kernel3Ideal.InProj.G16 m, ?_, ?_⟩
  · refine (θ_run Cert.Kernel3Ideal.defs _ _).mono (fun r h c => ?_) (Cert.Kernel3Ideal.Value.run_blocks m g)
    obtain ⟨h0, h1, h2, h3, h4, h5, h6, h7, h8, hrest⟩ := h c
    exact ⟨h0.trans (Cert.Kernel3Ideal.InProj.final8 m c), h1.trans (Cert.Kernel3Ideal.InProj.final9 m c), h2.trans (Cert.Kernel3Ideal.InProj.final10 m c), h3.trans (Cert.Kernel3Ideal.InProj.final11 m c), h4.trans (Cert.Kernel3Ideal.InProj.final12 m c), h5.trans (Cert.Kernel3Ideal.InProj.final13 m c), h6.trans (Cert.Kernel3Ideal.InProj.final14 m c), h7.trans (Cert.Kernel3Ideal.InProj.final15 m c), h8.trans (Cert.Kernel3Ideal.InProj.final16 m c), hrest⟩
  · refine (θ_run Cert.Reference3Ideal.defs _ _).mono (fun r h c => ?_) (Cert.Reference3Ideal.Value.run m' g')
    obtain ⟨h0, h1, h2, h3, h4, h5, h6, h7, h8, hrest⟩ := h c
    obtain ⟨a0, a1, a2, a3, a4, a5⟩ := hagree c
    refine ⟨h0.trans ?_, h1.trans ?_, h2.trans ?_, h3.trans ?_, h4.trans ?_, h5.trans ?_, h6.trans ?_, h7.trans ?_, h8.trans ?_, hrest⟩
    · refine (Cert.Reference3Ideal.InProj.r0_eq m' c).trans ?_
      simp only [Cert.Reference3Ideal.InProj.ar0, Cert.Reference3Ideal.InProj.ar1, Cert.Reference3Ideal.InProj.ar2, Cert.Reference3Ideal.InProj.ar3, Cert.Reference3Ideal.InProj.ar4, Cert.Reference3Ideal.InProj.ar5, a0, a1, a2, a3, a4, a5]
      rfl
    · refine (Cert.Reference3Ideal.InProj.r1_eq m' c).trans ?_
      simp only [Cert.Reference3Ideal.InProj.ar0, Cert.Reference3Ideal.InProj.ar1, Cert.Reference3Ideal.InProj.ar2, Cert.Reference3Ideal.InProj.ar3, Cert.Reference3Ideal.InProj.ar4, Cert.Reference3Ideal.InProj.ar5, a0, a1, a2, a3, a4, a5]
      rfl
    · refine (Cert.Reference3Ideal.InProj.r2_eq m' c).trans ?_
      simp only [Cert.Reference3Ideal.InProj.ar0, Cert.Reference3Ideal.InProj.ar1, Cert.Reference3Ideal.InProj.ar2, Cert.Reference3Ideal.InProj.ar3, Cert.Reference3Ideal.InProj.ar4, Cert.Reference3Ideal.InProj.ar5, a0, a1, a2, a3, a4, a5]
      rfl
    · refine (Cert.Reference3Ideal.InProj.r3_eq m' c).trans ?_
      simp only [Cert.Reference3Ideal.InProj.ar0, Cert.Reference3Ideal.InProj.ar1, Cert.Reference3Ideal.InProj.ar2, Cert.Reference3Ideal.InProj.ar3, Cert.Reference3Ideal.InProj.ar4, Cert.Reference3Ideal.InProj.ar5, a0, a1, a2, a3, a4, a5]
      rfl
    · refine (Cert.Reference3Ideal.InProj.r4_eq m' c).trans ?_
      simp only [Cert.Reference3Ideal.InProj.ar0, Cert.Reference3Ideal.InProj.ar1, Cert.Reference3Ideal.InProj.ar2, Cert.Reference3Ideal.InProj.ar3, Cert.Reference3Ideal.InProj.ar4, Cert.Reference3Ideal.InProj.ar5, a0, a1, a2, a3, a4, a5]
      rfl
    · refine (Cert.Reference3Ideal.InProj.r5_eq m' c).trans ?_
      simp only [Cert.Reference3Ideal.InProj.ar0, Cert.Reference3Ideal.InProj.ar1, Cert.Reference3Ideal.InProj.ar2, Cert.Reference3Ideal.InProj.ar3, Cert.Reference3Ideal.InProj.ar4, Cert.Reference3Ideal.InProj.ar5, a0, a1, a2, a3, a4, a5]
      rfl
    · refine (Cert.Reference3Ideal.InProj.r6_eq m' c).trans ?_
      simp only [Cert.Reference3Ideal.InProj.ar0, Cert.Reference3Ideal.InProj.ar1, Cert.Reference3Ideal.InProj.ar2, Cert.Reference3Ideal.InProj.ar3, Cert.Reference3Ideal.InProj.ar4, Cert.Reference3Ideal.InProj.ar5, a0, a1, a2, a3, a4, a5]
      rfl
    · refine (Cert.Reference3Ideal.InProj.r7_eq m' c).trans ?_
      simp only [Cert.Reference3Ideal.InProj.ar0, Cert.Reference3Ideal.InProj.ar1, Cert.Reference3Ideal.InProj.ar2, Cert.Reference3Ideal.InProj.ar3, Cert.Reference3Ideal.InProj.ar4, Cert.Reference3Ideal.InProj.ar5, a0, a1, a2, a3, a4, a5]
      rfl
    · refine (Cert.Reference3Ideal.InProj.r8_eq m' c).trans ?_
      simp only [Cert.Reference3Ideal.InProj.ar0, Cert.Reference3Ideal.InProj.ar1, Cert.Reference3Ideal.InProj.ar2, Cert.Reference3Ideal.InProj.ar3, Cert.Reference3Ideal.InProj.ar4, Cert.Reference3Ideal.InProj.ar5, a0, a1, a2, a3, a4, a5]
      rfl

theorem frame_ideal4 : Cert.quiescent_Kernel4Ideal := fun m ρ _ => Cert.Kernel4Ideal.DecodePre.frame m ρ

theorem frame_reference4 : Cert.quiescent_Reference4Ideal := fun m ρ _ =>
  (θ_run Cert.Reference4Ideal.defs _ _).mono (fun r h => ⟨fun c => (h c).2.2.2.2.2.2.2.2.2.2, sem_eq_zero_of_no_sems (by decide) r.2⟩)
    (Cert.Reference4Ideal.Value.run m ρ)

theorem value4 : Cert.algebraic_Kernel4Ideal_Reference4Ideal := by
  intro m g m' g' _ hagree
  refine ⟨Cert.Kernel4Ideal.DecodePre.G19 m, Cert.Kernel4Ideal.DecodePre.G20 m, Cert.Kernel4Ideal.DecodePre.G21 m, Cert.Kernel4Ideal.DecodePre.G22 m, Cert.Kernel4Ideal.DecodePre.G23 m, Cert.Kernel4Ideal.DecodePre.G24 m, Cert.Kernel4Ideal.DecodePre.G25 m, Cert.Kernel4Ideal.DecodePre.G26 m, Cert.Kernel4Ideal.DecodePre.G27 m, Cert.Kernel4Ideal.DecodePre.G28 m, ?_, ?_⟩
  · refine (θ_run Cert.Kernel4Ideal.defs _ _).mono (fun r h c => ?_) (Cert.Kernel4Ideal.DecodePre.run_blocks m g)
    obtain ⟨h0, h1, h2, h3, h4, h5, h6, h7, h8, h9, hrest⟩ := h c
    exact ⟨h0.trans (Cert.Kernel4Ideal.DecodePre.final19 m c), h1.trans (Cert.Kernel4Ideal.DecodePre.final20 m c), h2.trans (Cert.Kernel4Ideal.DecodePre.final21 m c), h3.trans (Cert.Kernel4Ideal.DecodePre.final22 m c), h4.trans (Cert.Kernel4Ideal.DecodePre.final23 m c), h5.trans (Cert.Kernel4Ideal.DecodePre.final24 m c), h6.trans (Cert.Kernel4Ideal.DecodePre.final25 m c), h7.trans (Cert.Kernel4Ideal.DecodePre.final26 m c), h8.trans (Cert.Kernel4Ideal.DecodePre.final27 m c), h9.trans (Cert.Kernel4Ideal.DecodePre.final28 m c), hrest⟩
  · refine (θ_run Cert.Reference4Ideal.defs _ _).mono (fun r h c => ?_) (Cert.Reference4Ideal.Value.run m' g')
    obtain ⟨h0, h1, h2, h3, h4, h5, h6, h7, h8, h9, hrest⟩ := h c
    obtain ⟨a0, a1, a2, a3, a4, a5, a6, a7, a8, a9, a10, a11, a12, a13, a14, a15, a16⟩ := hagree c
    refine ⟨h0.trans ?_, h1.trans ?_, h2.trans ?_, h3.trans ?_, h4.trans ?_, h5.trans ?_, h6.trans ?_, h7.trans ?_, h8.trans ?_, h9.trans ?_, hrest⟩
    · refine (Cert.Reference4Ideal.DecodePre.r0_eq m' c).trans ?_
      simp only [Cert.Reference4Ideal.DecodePre.ar0, Cert.Reference4Ideal.DecodePre.ar1, Cert.Reference4Ideal.DecodePre.ar2, Cert.Reference4Ideal.DecodePre.ar3, Cert.Reference4Ideal.DecodePre.ar4, Cert.Reference4Ideal.DecodePre.ar5, Cert.Reference4Ideal.DecodePre.ar6, Cert.Reference4Ideal.DecodePre.ar7, Cert.Reference4Ideal.DecodePre.ar8, Cert.Reference4Ideal.DecodePre.ar9, Cert.Reference4Ideal.DecodePre.ar10, Cert.Reference4Ideal.DecodePre.ar11, Cert.Reference4Ideal.DecodePre.ar12, Cert.Reference4Ideal.DecodePre.ar13, Cert.Reference4Ideal.DecodePre.ar14, Cert.Reference4Ideal.DecodePre.ar15, Cert.Reference4Ideal.DecodePre.ar16, a0, a1, a2, a3, a4, a5, a6, a7, a8, a9, a10, a11, a12, a13, a14, a15, a16]
      rfl
    · refine (Cert.Reference4Ideal.DecodePre.r1_eq m' c).trans ?_
      simp only [Cert.Reference4Ideal.DecodePre.ar0, Cert.Reference4Ideal.DecodePre.ar1, Cert.Reference4Ideal.DecodePre.ar2, Cert.Reference4Ideal.DecodePre.ar3, Cert.Reference4Ideal.DecodePre.ar4, Cert.Reference4Ideal.DecodePre.ar5, Cert.Reference4Ideal.DecodePre.ar6, Cert.Reference4Ideal.DecodePre.ar7, Cert.Reference4Ideal.DecodePre.ar8, Cert.Reference4Ideal.DecodePre.ar9, Cert.Reference4Ideal.DecodePre.ar10, Cert.Reference4Ideal.DecodePre.ar11, Cert.Reference4Ideal.DecodePre.ar12, Cert.Reference4Ideal.DecodePre.ar13, Cert.Reference4Ideal.DecodePre.ar14, Cert.Reference4Ideal.DecodePre.ar15, Cert.Reference4Ideal.DecodePre.ar16, a0, a1, a2, a3, a4, a5, a6, a7, a8, a9, a10, a11, a12, a13, a14, a15, a16]
      rfl
    · refine (Cert.Reference4Ideal.DecodePre.r2_eq m' c).trans ?_
      simp only [Cert.Reference4Ideal.DecodePre.ar0, Cert.Reference4Ideal.DecodePre.ar1, Cert.Reference4Ideal.DecodePre.ar2, Cert.Reference4Ideal.DecodePre.ar3, Cert.Reference4Ideal.DecodePre.ar4, Cert.Reference4Ideal.DecodePre.ar5, Cert.Reference4Ideal.DecodePre.ar6, Cert.Reference4Ideal.DecodePre.ar7, Cert.Reference4Ideal.DecodePre.ar8, Cert.Reference4Ideal.DecodePre.ar9, Cert.Reference4Ideal.DecodePre.ar10, Cert.Reference4Ideal.DecodePre.ar11, Cert.Reference4Ideal.DecodePre.ar12, Cert.Reference4Ideal.DecodePre.ar13, Cert.Reference4Ideal.DecodePre.ar14, Cert.Reference4Ideal.DecodePre.ar15, Cert.Reference4Ideal.DecodePre.ar16, a0, a1, a2, a3, a4, a5, a6, a7, a8, a9, a10, a11, a12, a13, a14, a15, a16]
      rfl
    · refine (Cert.Reference4Ideal.DecodePre.r3_eq m' c).trans ?_
      simp only [Cert.Reference4Ideal.DecodePre.ar0, Cert.Reference4Ideal.DecodePre.ar1, Cert.Reference4Ideal.DecodePre.ar2, Cert.Reference4Ideal.DecodePre.ar3, Cert.Reference4Ideal.DecodePre.ar4, Cert.Reference4Ideal.DecodePre.ar5, Cert.Reference4Ideal.DecodePre.ar6, Cert.Reference4Ideal.DecodePre.ar7, Cert.Reference4Ideal.DecodePre.ar8, Cert.Reference4Ideal.DecodePre.ar9, Cert.Reference4Ideal.DecodePre.ar10, Cert.Reference4Ideal.DecodePre.ar11, Cert.Reference4Ideal.DecodePre.ar12, Cert.Reference4Ideal.DecodePre.ar13, Cert.Reference4Ideal.DecodePre.ar14, Cert.Reference4Ideal.DecodePre.ar15, Cert.Reference4Ideal.DecodePre.ar16, a0, a1, a2, a3, a4, a5, a6, a7, a8, a9, a10, a11, a12, a13, a14, a15, a16]
      rfl
    · refine (Cert.Reference4Ideal.DecodePre.r4_eq m' c).trans ?_
      simp only [Cert.Reference4Ideal.DecodePre.ar0, Cert.Reference4Ideal.DecodePre.ar1, Cert.Reference4Ideal.DecodePre.ar2, Cert.Reference4Ideal.DecodePre.ar3, Cert.Reference4Ideal.DecodePre.ar4, Cert.Reference4Ideal.DecodePre.ar5, Cert.Reference4Ideal.DecodePre.ar6, Cert.Reference4Ideal.DecodePre.ar7, Cert.Reference4Ideal.DecodePre.ar8, Cert.Reference4Ideal.DecodePre.ar9, Cert.Reference4Ideal.DecodePre.ar10, Cert.Reference4Ideal.DecodePre.ar11, Cert.Reference4Ideal.DecodePre.ar12, Cert.Reference4Ideal.DecodePre.ar13, Cert.Reference4Ideal.DecodePre.ar14, Cert.Reference4Ideal.DecodePre.ar15, Cert.Reference4Ideal.DecodePre.ar16, a0, a1, a2, a3, a4, a5, a6, a7, a8, a9, a10, a11, a12, a13, a14, a15, a16]
      rfl
    · refine (Cert.Reference4Ideal.DecodePre.r5_eq m' c).trans ?_
      simp only [Cert.Reference4Ideal.DecodePre.ar0, Cert.Reference4Ideal.DecodePre.ar1, Cert.Reference4Ideal.DecodePre.ar2, Cert.Reference4Ideal.DecodePre.ar3, Cert.Reference4Ideal.DecodePre.ar4, Cert.Reference4Ideal.DecodePre.ar5, Cert.Reference4Ideal.DecodePre.ar6, Cert.Reference4Ideal.DecodePre.ar7, Cert.Reference4Ideal.DecodePre.ar8, Cert.Reference4Ideal.DecodePre.ar9, Cert.Reference4Ideal.DecodePre.ar10, Cert.Reference4Ideal.DecodePre.ar11, Cert.Reference4Ideal.DecodePre.ar12, Cert.Reference4Ideal.DecodePre.ar13, Cert.Reference4Ideal.DecodePre.ar14, Cert.Reference4Ideal.DecodePre.ar15, Cert.Reference4Ideal.DecodePre.ar16, a0, a1, a2, a3, a4, a5, a6, a7, a8, a9, a10, a11, a12, a13, a14, a15, a16]
      rfl
    · refine (Cert.Reference4Ideal.DecodePre.r6_eq m' c).trans ?_
      simp only [Cert.Reference4Ideal.DecodePre.ar0, Cert.Reference4Ideal.DecodePre.ar1, Cert.Reference4Ideal.DecodePre.ar2, Cert.Reference4Ideal.DecodePre.ar3, Cert.Reference4Ideal.DecodePre.ar4, Cert.Reference4Ideal.DecodePre.ar5, Cert.Reference4Ideal.DecodePre.ar6, Cert.Reference4Ideal.DecodePre.ar7, Cert.Reference4Ideal.DecodePre.ar8, Cert.Reference4Ideal.DecodePre.ar9, Cert.Reference4Ideal.DecodePre.ar10, Cert.Reference4Ideal.DecodePre.ar11, Cert.Reference4Ideal.DecodePre.ar12, Cert.Reference4Ideal.DecodePre.ar13, Cert.Reference4Ideal.DecodePre.ar14, Cert.Reference4Ideal.DecodePre.ar15, Cert.Reference4Ideal.DecodePre.ar16, a0, a1, a2, a3, a4, a5, a6, a7, a8, a9, a10, a11, a12, a13, a14, a15, a16]
      rfl
    · refine (Cert.Reference4Ideal.DecodePre.r7_eq m' c).trans ?_
      simp only [Cert.Reference4Ideal.DecodePre.ar0, Cert.Reference4Ideal.DecodePre.ar1, Cert.Reference4Ideal.DecodePre.ar2, Cert.Reference4Ideal.DecodePre.ar3, Cert.Reference4Ideal.DecodePre.ar4, Cert.Reference4Ideal.DecodePre.ar5, Cert.Reference4Ideal.DecodePre.ar6, Cert.Reference4Ideal.DecodePre.ar7, Cert.Reference4Ideal.DecodePre.ar8, Cert.Reference4Ideal.DecodePre.ar9, Cert.Reference4Ideal.DecodePre.ar10, Cert.Reference4Ideal.DecodePre.ar11, Cert.Reference4Ideal.DecodePre.ar12, Cert.Reference4Ideal.DecodePre.ar13, Cert.Reference4Ideal.DecodePre.ar14, Cert.Reference4Ideal.DecodePre.ar15, Cert.Reference4Ideal.DecodePre.ar16, a0, a1, a2, a3, a4, a5, a6, a7, a8, a9, a10, a11, a12, a13, a14, a15, a16]
      rfl
    · refine (Cert.Reference4Ideal.DecodePre.r8_eq m' c).trans ?_
      simp only [Cert.Reference4Ideal.DecodePre.ar0, Cert.Reference4Ideal.DecodePre.ar1, Cert.Reference4Ideal.DecodePre.ar2, Cert.Reference4Ideal.DecodePre.ar3, Cert.Reference4Ideal.DecodePre.ar4, Cert.Reference4Ideal.DecodePre.ar5, Cert.Reference4Ideal.DecodePre.ar6, Cert.Reference4Ideal.DecodePre.ar7, Cert.Reference4Ideal.DecodePre.ar8, Cert.Reference4Ideal.DecodePre.ar9, Cert.Reference4Ideal.DecodePre.ar10, Cert.Reference4Ideal.DecodePre.ar11, Cert.Reference4Ideal.DecodePre.ar12, Cert.Reference4Ideal.DecodePre.ar13, Cert.Reference4Ideal.DecodePre.ar14, Cert.Reference4Ideal.DecodePre.ar15, Cert.Reference4Ideal.DecodePre.ar16, a0, a1, a2, a3, a4, a5, a6, a7, a8, a9, a10, a11, a12, a13, a14, a15, a16]
      rfl
    · refine (Cert.Reference4Ideal.DecodePre.r9_eq m' c).trans ?_
      simp only [Cert.Reference4Ideal.DecodePre.ar0, Cert.Reference4Ideal.DecodePre.ar1, Cert.Reference4Ideal.DecodePre.ar2, Cert.Reference4Ideal.DecodePre.ar3, Cert.Reference4Ideal.DecodePre.ar4, Cert.Reference4Ideal.DecodePre.ar5, Cert.Reference4Ideal.DecodePre.ar6, Cert.Reference4Ideal.DecodePre.ar7, Cert.Reference4Ideal.DecodePre.ar8, Cert.Reference4Ideal.DecodePre.ar9, Cert.Reference4Ideal.DecodePre.ar10, Cert.Reference4Ideal.DecodePre.ar11, Cert.Reference4Ideal.DecodePre.ar12, Cert.Reference4Ideal.DecodePre.ar13, Cert.Reference4Ideal.DecodePre.ar14, Cert.Reference4Ideal.DecodePre.ar15, Cert.Reference4Ideal.DecodePre.ar16, a0, a1, a2, a3, a4, a5, a6, a7, a8, a9, a10, a11, a12, a13, a14, a15, a16]
      rfl

theorem frame_bits5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem value5 : Cert.algebraic_Kernel5Ideal_Reference5Ideal := by
  intro m g m' g' _ hagree
  refine ⟨Cert.Kernel5Ideal.Merge.G m, ?_, ?_⟩
  · refine (θ_run Cert.Kernel5Ideal.defs _ _).mono (fun r h c => ?_) (Cert.Kernel5Ideal.Value.run_blocks m g)
    obtain ⟨h0, hrest⟩ := h c
    exact ⟨h0.trans (Cert.Kernel5Ideal.Merge.final8 m c), hrest⟩
  · refine (θ_run Cert.Reference5Ideal.defs _ _).mono (fun r h c => ?_) (Cert.Reference5Ideal.Value.run m' g')
    obtain ⟨h0, hrest⟩ := h c
    obtain ⟨a0, a1, a2, a3, a4, a5, a6, a7, a8, a9⟩ := hagree c
    refine ⟨h0.trans ?_, hrest⟩
    · refine (Cert.Reference5Ideal.Merge.out0 m' c).trans ?_
      simp only [Cert.Reference5Ideal.Merge.ar0, Cert.Reference5Ideal.Merge.ar1, Cert.Reference5Ideal.Merge.ar2, Cert.Reference5Ideal.Merge.ar3, Cert.Reference5Ideal.Merge.ar4, Cert.Reference5Ideal.Merge.ar5, Cert.Reference5Ideal.Merge.ar6, Cert.Reference5Ideal.Merge.ar7, Cert.Reference5Ideal.Merge.ar8, Cert.Reference5Ideal.Merge.ar9, a0, a1, a2, a3, a4, a5, a6, a7, a8, a9]
      rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.KernelIdeal.Ssm.frame_bits, frame_ideal, frame_reference, frame_bits2, frame_ideal2, frame_reference2, frame_bits3, frame_ideal3, frame_reference3, Cert.Kernel4Ideal.DecodePre.frame_bits4, frame_ideal4, frame_reference4, frame_bits5, frame_ideal5, frame_reference5,
  trivial, value, trivial, value2, trivial, value3, trivial, value4, trivial, value5⟩

end Cert.Proof

end
